-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_visits : Cert.Pre_visits.Facts] (m : (ℓ : Loc Cert.Kernel5.nD Cert.Kernel5.τ Cert.Kernel5.sig) → Buf (Elt Bits) ℓ) : Prop :=
  ∀ c : Dev Cert.Kernel5.nD,
    (Cert.Pre_visits.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7))) = (fun _ => 1#1)

def Pre_Kernel5Ideal [hPre_visits : Cert.Pre_visits.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_visits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_visits [hPre_visits : Cert.Pre_visits.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_visits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel8 [hPre_visits : Cert.Pre_visits.Facts] (m : (ℓ : Loc Cert.Kernel8.nD Cert.Kernel8.τ Cert.Kernel8.sig) → Buf (Elt Bits) ℓ) : Prop :=
  ∀ c : Dev Cert.Kernel8.nD,
    (Cert.Pre_visits.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7))) = (fun _ => 1#1)

def Pre_Kernel8Ideal [hPre_visits : Cert.Pre_visits.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_visits.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_visits [hPre_visits : Cert.Pre_visits.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_visits.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 [hPre_visits : Cert.Pre_visits.Facts] (m : (ℓ : Loc Cert.Kernel9.nD Cert.Kernel9.τ Cert.Kernel9.sig) → Buf (Elt Bits) ℓ) : Prop :=
  ∀ c : Dev Cert.Kernel9.nD,
    (Cert.Pre_visits.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6)) (m ((c.tc : Thread Cert.Kernel9.nD Cert.Kernel9.τ).loc Cert.Kernel9.main_arg7))) = (fun _ => 1#1)

def Pre_Kernel9Ideal [hPre_visits : Cert.Pre_visits.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_visits.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_visits [hPre_visits : Cert.Pre_visits.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_visits.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 [hPre_visits : Cert.Pre_visits.Facts] (m : (ℓ : Loc Cert.Kernel10.nD Cert.Kernel10.τ Cert.Kernel10.sig) → Buf (Elt Bits) ℓ) : Prop :=
  ∀ c : Dev Cert.Kernel10.nD,
    (Cert.Pre_visits.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6)) (m ((c.tc : Thread Cert.Kernel10.nD Cert.Kernel10.τ).loc Cert.Kernel10.main_arg7))) = (fun _ => 1#1)

def Pre_Kernel10Ideal [hPre_visits : Cert.Pre_visits.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_visits.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_visits [hPre_visits : Cert.Pre_visits.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_visits.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] [hPre_visits : Cert.Pre_visits.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] [hPre_visits : Cert.Pre_visits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_visits [hReference5Ideal : Cert.Reference5Ideal.Facts] [hPre_visits : Cert.Pre_visits.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_visits m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel8 [hKernel8 : Cert.Kernel8.Facts] [hPre_visits : Cert.Pre_visits.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] [hPre_visits : Cert.Pre_visits.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_visits [hReference8Ideal : Cert.Reference8Ideal.Facts] [hPre_visits : Cert.Pre_visits.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_visits m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] [hPre_visits : Cert.Pre_visits.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] [hPre_visits : Cert.Pre_visits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_visits [hReference9Ideal : Cert.Reference9Ideal.Facts] [hPre_visits : Cert.Pre_visits.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_visits m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] [hPre_visits : Cert.Pre_visits.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] [hPre_visits : Cert.Pre_visits.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Reference10Ideal_pre_visits [hReference10Ideal : Cert.Reference10Ideal.Facts] [hPre_visits : Cert.Pre_visits.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_visits m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.bf16_pair.PackStatement Cert.Kernel5Ideal.S256x512
  ∧ IdealRules.bf16_pair.Statement Cert.Kernel5Ideal.S512x512 Cert.Kernel5Ideal.S256x512

def algebraic_Kernel5Ideal_Reference5Ideal [hKernel5Ideal : Cert.Kernel5Ideal.Facts] [hReference5Ideal : Cert.Reference5Ideal.Facts] [hPre_visits : Cert.Pre_visits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def preserves_Kernel8_Kernel8Ideal : Prop :=
  IdealRules.bf16_pair.PackStatement Cert.Kernel8Ideal.S256x512
  ∧ IdealRules.bf16_pair.Statement Cert.Kernel8Ideal.S512x512 Cert.Kernel8Ideal.S256x512

def algebraic_Kernel8Ideal_Reference8Ideal [hKernel8Ideal : Cert.Kernel8Ideal.Facts] [hReference8Ideal : Cert.Reference8Ideal.Facts] [hPre_visits : Cert.Pre_visits.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  IdealRules.bf16_pair.PackStatement Cert.Kernel9Ideal.S256x512
  ∧ IdealRules.bf16_pair.Statement Cert.Kernel9Ideal.S512x512 Cert.Kernel9Ideal.S256x512

def algebraic_Kernel9Ideal_Reference9Ideal [hKernel9Ideal : Cert.Kernel9Ideal.Facts] [hReference9Ideal : Cert.Reference9Ideal.Facts] [hPre_visits : Cert.Pre_visits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  IdealRules.bf16_pair.PackStatement Cert.Kernel10Ideal.S256x512
  ∧ IdealRules.bf16_pair.Statement Cert.Kernel10Ideal.S512x512 Cert.Kernel10Ideal.S256x512

def algebraic_Kernel10Ideal_Reference10Ideal [hKernel10Ideal : Cert.Kernel10Ideal.Facts] [hReference10Ideal : Cert.Reference10Ideal.Facts] [hPre_visits : Cert.Pre_visits.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v54) = v0 c
          ∧ r.2.mem ((c.tc : Thread Cert.Reference20Ideal.nD Cert.Reference20Ideal.τ).loc Cert.Reference20Ideal.main_v55) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)) →
    ∃ (v0 : (c : Dev Cert.Kernel21Ideal.nD) → Buf (Elt Ideal) ((c.tc : Thread Cert.Kernel21Ideal.nD Cert.Kernel21Ideal.τ).loc Cert.Kernel21Ideal.main_v8_0)) (v1 : (c : Dev Cert.Kernel21Ideal.nD) → Buf (Elt Ideal) ((c.tc : Thread Cert.Kernel21Ideal.nD Cert.Kernel21Ideal.τ).loc Cert.Kernel21Ideal.main_v8_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v8_0) = v0 c
          ∧ r.2.mem ((c.tc : Thread Cert.Kernel21Ideal.nD Cert.Kernel21Ideal.τ).loc Cert.Kernel21Ideal.main_v8_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v54) = v0 c
          ∧ r.2.mem ((c.tc : Thread Cert.Reference21Ideal.nD Cert.Reference21Ideal.τ).loc Cert.Reference21Ideal.main_v55) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)) →
    ∃ (v0 : (c : Dev Cert.Kernel22Ideal.nD) → Buf (Elt Ideal) ((c.tc : Thread Cert.Kernel22Ideal.nD Cert.Kernel22Ideal.τ).loc Cert.Kernel22Ideal.main_v8_0)) (v1 : (c : Dev Cert.Kernel22Ideal.nD) → Buf (Elt Ideal) ((c.tc : Thread Cert.Kernel22Ideal.nD Cert.Kernel22Ideal.τ).loc Cert.Kernel22Ideal.main_v8_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v8_0) = v0 c
          ∧ r.2.mem ((c.tc : Thread Cert.Kernel22Ideal.nD Cert.Kernel22Ideal.τ).loc Cert.Kernel22Ideal.main_v8_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v54) = v0 c
          ∧ r.2.mem ((c.tc : Thread Cert.Reference22Ideal.nD Cert.Reference22Ideal.τ).loc Cert.Reference22Ideal.main_v55) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_visits : Cert.Pre_visits.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_visits := hPre_visits)
    ∧ quiescent_Kernel5Ideal (hKernel5Ideal := hKernel5Ideal) (hPre_visits := hPre_visits)
    ∧ quiescent_Reference5Ideal (hReference5Ideal := hReference5Ideal)
    ∧ quiescent_Reference5Ideal_pre_visits (hReference5Ideal := hReference5Ideal) (hPre_visits := hPre_visits)
    ∧ quiescent_Kernel6 (hKernel6 := hKernel6)
    ∧ quiescent_Kernel6Ideal (hKernel6Ideal := hKernel6Ideal)
    ∧ quiescent_Kernel7 (hKernel7 := hKernel7)
    ∧ quiescent_Kernel8 (hKernel8 := hKernel8) (hPre_visits := hPre_visits)
    ∧ quiescent_Kernel8Ideal (hKernel8Ideal := hKernel8Ideal) (hPre_visits := hPre_visits)
    ∧ quiescent_Reference8Ideal (hReference8Ideal := hReference8Ideal)
    ∧ quiescent_Reference8Ideal_pre_visits (hReference8Ideal := hReference8Ideal) (hPre_visits := hPre_visits)
    ∧ quiescent_Kernel9 (hKernel9 := hKernel9) (hPre_visits := hPre_visits)
    ∧ quiescent_Kernel9Ideal (hKernel9Ideal := hKernel9Ideal) (hPre_visits := hPre_visits)
    ∧ quiescent_Reference9Ideal (hReference9Ideal := hReference9Ideal)
    ∧ quiescent_Reference9Ideal_pre_visits (hReference9Ideal := hReference9Ideal) (hPre_visits := hPre_visits)
    ∧ quiescent_Kernel10 (hKernel10 := hKernel10) (hPre_visits := hPre_visits)
    ∧ quiescent_Kernel10Ideal (hKernel10Ideal := hKernel10Ideal) (hPre_visits := hPre_visits)
    ∧ quiescent_Reference10Ideal (hReference10Ideal := hReference10Ideal)
    ∧ quiescent_Reference10Ideal_pre_visits (hReference10Ideal := hReference10Ideal) (hPre_visits := hPre_visits)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_visits := hPre_visits)
    ∧ preserves_Kernel6_Kernel6Ideal
    ∧ preserves_Kernel8_Kernel8Ideal
    ∧ algebraic_Kernel8Ideal_Reference8Ideal (hKernel8Ideal := hKernel8Ideal) (hReference8Ideal := hReference8Ideal) (hPre_visits := hPre_visits)
    ∧ preserves_Kernel9_Kernel9Ideal
    ∧ algebraic_Kernel9Ideal_Reference9Ideal (hKernel9Ideal := hKernel9Ideal) (hReference9Ideal := hReference9Ideal) (hPre_visits := hPre_visits)
    ∧ preserves_Kernel10_Kernel10Ideal
    ∧ algebraic_Kernel10Ideal_Reference10Ideal (hKernel10Ideal := hKernel10Ideal) (hReference10Ideal := hReference10Ideal) (hPre_visits := hPre_visits)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_visits.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S_ : Shape := ⟨0, ![]⟩
abbrev S126 : Shape := ⟨1, ![126]⟩
abbrev S1 : Shape := ⟨1, ![1]⟩

class Facts : Prop where
  bcast_S_S127 : S_.BroadcastsInDim S127 (![] : Fin 0 → Fin S127.rank)
  reducesTo_S127_S_d0 : S127.ReducesTo [0] S_
  h_S_ : 0 < S_.numel
  slices_S127_S126_0 : S127.Slices ![0] S126
  slices_S127_S126_1 : S127.Slices ![1] S126
  bcast_S_S126 : S_.BroadcastsInDim S126 (![] : Fin 0 → Fin S126.rank)
  slices_S127_S1_0 : S127.Slices ![0] S1
  shapeCasts_S1_S_ : S1.ShapeCasts S_
  reducesTo_S126_S_d0 : S126.ReducesTo [0] S_
  slices_S127_S1_126 : S127.Slices ![126] S1

variable [Facts]

def fn_where {F : FTy → Type} [FloatOps F] (arg0 : IVec S126 1) (arg1 : IVec S126 1) (arg2 : IVec S126 1) : IVec S126 1 :=
  let v0 : IVec S126 1 := select arg0 arg1 arg2
  v0

def fn_part3 {F : FTy → Type} [FloatOps F] (main_v52 : IVec S_ 1) (main_v55 : IVec S_ 1) (main_v57 : IVec S_ 32) (main_c_12 : IVec S_ 32) : IVec S_ 1 :=
  let main_v58 : IVec S_ 1 := cmpi .eq main_v57 main_c_12
  let main_v59 : IVec S_ 1 := ori main_v55 main_v58
  let main_v60 : IVec S_ 1 := andi main_v52 main_v59
  main_v60

def fn_part2 {F : FTy → Type} [FloatOps F] (main_v0 : IVec S127 1) (main_v3 : IVec S127 32) (main_v6 : IVec S127 32) (main_v26 : IVec S_ 1) (main_v31 : IVec S126 1) (main_v34 : IVec S126 1) (main_v36 : IVec S126 1) (main_v37 : IVec S126 32) : IVec S_ 1 :=
  let main_c_9 : IVec S_ 32 := constantI S_ 32 131072#32
  let main_v38 : IVec S126 32 := broadcastInDim S126 ![] bcast_S_S126 main_c_9
  let main_v39 : IVec S126 1 := cmpi .eq main_v37 main_v38
  let main_v40 : IVec S126 1 := ori main_v36 main_v39
  let main_v41 : IVec S126 1 := andi main_v34 main_v40
  let main_v42 : IVec S1 1 := (extractStridedSlice S1 ![0] · slices_S127_S1_0) main_v0
  let main_v43 : IVec S_ 1 := shapeCast S_ main_v42 shapeCasts_S1_S_
  let main_v44 : IVec S_ 1 := andi main_v26 main_v43
  let main_v45 : IVec S1 32 := (extractStridedSlice S1 ![0] · slices_S127_S1_0) main_v3
  let main_v46 : IVec S_ 32 := shapeCast S_ main_v45 shapeCasts_S1_S_
  let main_c_10 : IVec S_ 32 := constantI S_ 32 0#32
  let main_v47 : IVec S_ 1 := cmpi .eq main_v46 main_c_10
  let main_v48 : IVec S_ 1 := andi main_v44 main_v47
  let main_v49 : IVec S126 1 := (extractStridedSlice S126 ![1] · slices_S127_S126_1) main_v0
  let main_v50 : IVec S126 1 := fn_where (F := F) main_v49 main_v31 main_v41
  let main_c_11 : IVec S_ 1 := constantI S_ 1 1#1
  let main_v51 : IVec S_ 1 := (fun x v => Host.reduce IntOp.andi x v reducesTo_S126_S_d0 h_S_) main_v50 main_c_11
  let main_v52 : IVec S_ 1 := andi main_v48 main_v51
  let main_v53 : IVec S1 1 := (extractStridedSlice S1 ![126] · slices_S127_S1_126) main_v0
  let main_v54 : IVec S_ 1 := shapeCast S_ main_v53 shapeCasts_S1_S_
  let main_v55 : IVec S_ 1 := noti main_v54
  let main_v56 : IVec S1 32 := (extractStridedSlice S1 ![126] · slices_S127_S1_126) main_v6
  let main_v57 : IVec S_ 32 := shapeCast S_ main_v56 shapeCasts_S1_S_
  let main_c_12 : IVec S_ 32 := constantI S_ 32 131072#32
  fn_part3 (F := F) main_v52 main_v55 main_v57 main_c_12

def fn_part1 {F : FTy → Type} [FloatOps F] (main_arg2 : IVec S127 32) (main_arg3 : IVec S127 32) (main_arg4 : IVec S127 32) (main_v0 : IVec S127 1) (main_v3 : IVec S127 32) (main_v6 : IVec S127 32) (main_v17 : IVec S127 1) : IVec S_ 1 :=
  let main_c_5 : IVec S_ 32 := constantI S_ 32 0#32
  let main_v18 : IVec S127 32 := broadcastInDim S127 ![] bcast_S_S127 main_c_5
  let main_v19 : IVec S127 1 := cmpi .sge main_arg3 main_v18
  let main_v20 : IVec S127 1 := andi main_v17 main_v19
  let main_v21 : IVec S127 1 := cmpi .sle main_arg3 main_arg4
  let main_v22 : IVec S127 1 := andi main_v20 main_v21
  let main_c_6 : IVec S_ 32 := constantI S_ 32 2048#32
  let main_v23 : IVec S127 32 := broadcastInDim S127 ![] bcast_S_S127 main_c_6
  let main_v24 : IVec S127 1 := cmpi .sle main_arg4 main_v23
  let main_v25 : IVec S127 1 := andi main_v22 main_v24
  let main_c_7 : IVec S_ 1 := constantI S_ 1 1#1
  let main_v26 : IVec S_ 1 := (fun x v => Host.reduce IntOp.andi x v reducesTo_S127_S_d0 h_S_) main_v25 main_c_7
  let main_v27 : IVec S126 1 := (extractStridedSlice S126 ![0] · slices_S127_S126_0) main_v0
  let main_v28 : IVec S126 32 := (extractStridedSlice S126 ![1] · slices_S127_S126_1) main_v3
  let main_v29 : IVec S126 32 := (extractStridedSlice S126 ![0] · slices_S127_S126_0) main_v6
  let main_v30 : IVec S126 1 := cmpi .eq main_v28 main_v29
  let main_v31 : IVec S126 1 := andi main_v27 main_v30
  let main_v32 : IVec S126 32 := (extractStridedSlice S126 ![1] · slices_S127_S126_1) main_arg2
  let main_c_8 : IVec S_ 32 := constantI S_ 32 63#32
  let main_v33 : IVec S126 32 := broadcastInDim S126 ![] bcast_S_S126 main_c_8
  let main_v34 : IVec S126 1 := cmpi .eq main_v32 main_v33
  let main_v35 : IVec S126 1 := (extractStridedSlice S126 ![0] · slices_S127_S126_0) main_v0
  let main_v36 : IVec S126 1 := noti main_v35
  let main_v37 : IVec S126 32 := (extractStridedSlice S126 ![0] · slices_S127_S126_0) main_v6
  fn_part2 (F := F) main_v0 main_v3 main_v6 main_v26 main_v31 main_v34 main_v36 main_v37

def fn {F : FTy → Type} [FloatOps F] (main_arg0 : IVec S131072x512 32) (main_arg1 : IVec S127 32) (main_arg2 : IVec S127 32) (main_arg3 : IVec S127 32) (main_arg4 : IVec S127 32) (main_arg5 : FVec F S4x64x1024x256 .f32) (main_arg6 : FVec F S4x64x1024x256 .f32) (main_arg7 : FVec F S4x64x256x1024 .f32) : IVec S_ 1 :=
  let main_v0 : IVec S127 1 := cmpi .slt main_arg3 main_arg4
  let main_c : IVec S_ 32 := constantI S_ 32 2048#32
  let main_v1 : IVec S127 32 := broadcastInDim S127 ![] bcast_S_S127 main_c
  let main_v2 : IVec S127 32 := muli main_arg2 main_v1
  let main_v3 : IVec S127 32 := addi main_v2 main_arg3
  let main_c_0 : IVec S_ 32 := constantI S_ 32 2048#32
  let main_v4 : IVec S127 32 := broadcastInDim S127 ![] bcast_S_S127 main_c_0
  let main_v5 : IVec S127 32 := muli main_arg2 main_v4
  let main_v6 : IVec S127 32 := addi main_v5 main_arg4
  let main_c_1 : IVec S_ 32 := constantI S_ 32 0#32
  let main_v7 : IVec S127 32 := broadcastInDim S127 ![] bcast_S_S127 main_c_1
  let main_v8 : IVec S127 1 := cmpi .sge main_arg1 main_v7
  let main_c_2 : IVec S_ 32 := constantI S_ 32 64#32
  let main_v9 : IVec S127 32 := broadcastInDim S127 ![] bcast_S_S127 main_c_2
  let main_v10 : IVec S127 1 := cmpi .slt main_arg1 main_v9
  let main_v11 : IVec S127 1 := andi main_v8 main_v10
  let main_c_3 : IVec S_ 32 := constantI S_ 32 0#32
  let main_v12 : IVec S127 32 := broadcastInDim S127 ![] bcast_S_S127 main_c_3
  let main_v13 : IVec S127 1 := cmpi .sge main_arg2 main_v12
  let main_v14 : IVec S127 1 := andi main_v11 main_v13
  let main_c_4 : IVec S_ 32 := constantI S_ 32 64#32
  let main_v15 : IVec S127 32 := broadcastInDim S127 ![] bcast_S_S127 main_c_4
  let main_v16 : IVec S127 1 := cmpi .slt main_arg2 main_v15
  let main_v17 : IVec S127 1 := andi main_v14 main_v16
  fn_part1 (F := F) main_arg2 main_arg3 main_arg4 main_v0 main_v3 main_v6 main_v17
-- ==== Kernel.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S8x16384x512 : Shape := ⟨3, ![8, 16384, 512]⟩
abbrev S8x512x512 : Shape := ⟨3, ![8, 512, 512]⟩
abbrev S512x1024 : Shape := ⟨2, ![512, 1024]⟩
abbrev S512x128 : Shape := ⟨2, ![512, 128]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 21
  | .vmem => 19
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1024x1024, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S8x16384x512, .i32⟩
  | .hbm, ⟨19, _⟩ => ⟨S16384x1024, .f32⟩
  | .hbm, ⟨20, _⟩ => ⟨S16384x1024, .bf16⟩
  | .local _ .vmem, ⟨0, _⟩ => ⟨S8x512x512, .i32⟩
  | .local _ .vmem, ⟨1, _⟩ => ⟨S8x512x512, .i32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x512x256, .f32⟩
  | .local _ .vmem, ⟨7, _⟩ => ⟨S1x512x256, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S131072x1024 : Shape := ⟨2, ![131072, 1024]⟩
abbrev S8x16384x1024 : Shape := ⟨3, ![8, 16384, 1024]⟩
abbrev S16384x8 : Shape := ⟨2, ![16384, 8]⟩
abbrev S16384x256 : Shape := ⟨2, ![16384, 256]⟩
abbrev S1x16384x256 : Shape := ⟨3, ![1, 16384, 256]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S_, .i32⟩
  | .hbm, ⟨12, _⟩ => ⟨S131072x512, .i32⟩
  | .hbm, ⟨13, _⟩ => ⟨S131072x512, .i32⟩
  | .hbm, ⟨14, _⟩ => ⟨S131072x512, .f32⟩
  | .hbm, ⟨15, _⟩ => ⟨S_, .i32⟩
  | .hbm, ⟨16, _⟩ => ⟨S131072x512, .i32⟩
  | .hbm, ⟨17, _⟩ => ⟨S131072x512, .i32⟩
  | .hbm, ⟨18, _⟩ => ⟨S131072x512, .f32⟩
  | .hbm, ⟨19, _⟩ => ⟨S131072x1024, .f32⟩
  | .hbm, ⟨20, _⟩ => ⟨S8x16384x1024, .f32⟩
  | .hbm, ⟨21, _⟩ => ⟨S16384x8, .f32⟩
  | .hbm, ⟨22, _⟩ => ⟨S16384x1024, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S1x16384x256, .f32⟩
  | .hbm, ⟨46, _⟩ => ⟨S16384x256, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Kernel2.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x2048 : Shape := ⟨2, ![16384, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c7184_i32 : BitVec 32 := 7184#32
  let arg1 : BitVec 32 := BitVec.ofNat 32 (i 1).val
  let c1024_i32 : BitVec 32 := 1024#32
  let v0 : BitVec 32 := Scalar.muli arg1 c1024_i32
  let v1 : BitVec 32 := Scalar.addi c7184_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c7184_i32 : BitVec 32 := 7184#32
  let v1 : BitVec 32 := Scalar.addi c7184_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x2048, .f32⟩
  | .hbm, ⟨6, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x7168 : Shape := ⟨2, ![16384, 7168]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x7168 : Shape := ⟨2, ![16384, 7168]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x7168, .f32⟩
  | .hbm, ⟨6, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x128 : Shape := ⟨2, ![16384, 128]⟩
abbrev S2048x1024 : Shape := ⟨2, ![2048, 1024]⟩
abbrev S1x128x1024 : Shape := ⟨3, ![1, 128, 1024]⟩
abbrev S2048x128 : Shape := ⟨2, ![2048, 128]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1x128x1024, .f32⟩
  | .local _ .vmem, ⟨3, _⟩ => ⟨S2048x128, .f32⟩
  | .local _ .vmem, ⟨4, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S262144x512 : Shape := ⟨2, ![262144, 512]⟩
abbrev S2048x512 : Shape := ⟨2, ![2048, 512]⟩
abbrev S1 : Shape := ⟨1, ![1]⟩
abbrev S1x1x1024x256 : Shape := ⟨4, ![1, 1, 1024, 256]⟩
abbrev S1x1x256x1024 : Shape := ⟨4, ![1, 1, 256, 1024]⟩
abbrev S4096x512 : Shape := ⟨2, ![4096, 512]⟩
abbrev S1024x512 : Shape := ⟨2, ![1024, 512]⟩
abbrev S256x1024 : Shape := ⟨2, ![256, 1024]⟩
abbrev S1024x256 : Shape := ⟨2, ![1024, 256]⟩
abbrev S256x512 : Shape := ⟨2, ![256, 512]⟩
abbrev S256x256 : Shape := ⟨2, ![256, 256]⟩
abbrev S512x512 : Shape := ⟨2, ![512, 512]⟩

abbrev nBuf : Space → Nat
  | .hbm => 5
  | .vmem => 12
  | .smem => 4
  | _ => 0

abbrev bufTy : (tb : Table) → Fin (tcTables nBuf tb) → BufTy
  | .hbm, ⟨0, _⟩ => ⟨S131072x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S262144x512, .bf16⟩
  | .local _ .vmem, ⟨0, _⟩ => ⟨S2048x512, .i32⟩
  | .local _ .vmem, ⟨1, _⟩ => ⟨S2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S256x1024, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![127], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v21 : BitVec 1 := Scalar.cmpi .sgt v20 v17
  let c0_i32_7 : BitVec 32 := 0#32
  let v22 : BitVec 1 := Scalar.cmpi .eq v17 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v26 : BitVec 1 := Scalar.cmpi .sgt v20 v17
  let c0_i32_9 : BitVec 32 := 0#32
  let v27 : BitVec 1 := Scalar.cmpi .sgt v17 c0_i32_9
  let v28 : BitVec 1 := Scalar.andi v26 v27
  let v29 : BitVec 32 := Scalar.extui v28
  let c0_i32_10 : BitVec 32 := 0#32
  let v30 : BitVec 1 := Scalar.cmpi .ne v29 c0_i32_10
  v30

def k0_cond4 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v37 : BitVec 1 := Scalar.cmpi .sgt v36 v33
  let c0_i32_17 : BitVec 32 := 0#32
  let v38 : BitVec 1 := Scalar.cmpi .eq v33 c0_i32_17
  let v39 : BitVec 1 := Scalar.andi v37 v38
  let v40 : BitVec 32 := Scalar.extui v39
  let c0_i32_18 : BitVec 32 := 0#32
  let v41 : BitVec 1 := Scalar.cmpi .ne v40 c0_i32_18
  v41

def k0_cond5 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v42 : BitVec 1 := Scalar.cmpi .sgt v36 v33
  let c0_i32_19 : BitVec 32 := 0#32
  let v43 : BitVec 1 := Scalar.cmpi .sgt v33 c0_i32_19
  let v44 : BitVec 1 := Scalar.andi v42 v43
  let v45 : BitVec 32 := Scalar.extui v44
  let c0_i32_20 : BitVec 32 := 0#32
  let v46 : BitVec 1 := Scalar.cmpi .ne v45 c0_i32_20
  v46

def k0_cond6 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v53 : BitVec 1 := Scalar.cmpi .sgt v52 v49
  let c0_i32_26 : BitVec 32 := 0#32
  let v54 : BitVec 1 := Scalar.cmpi .eq v49 c0_i32_26
  let v55 : BitVec 1 := Scalar.andi v53 v54
  let v56 : BitVec 32 := Scalar.extui v55
  let c0_i32_27 : BitVec 32 := 0#32
  let v57 : BitVec 1 := Scalar.cmpi .ne v56 c0_i32_27
  v57

def k0_cond7 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v58 : BitVec 1 := Scalar.cmpi .sgt v52 v49
  let c0_i32_28 : BitVec 32 := 0#32
  let v59 : BitVec 1 := Scalar.cmpi .sgt v49 c0_i32_28
  let v60 : BitVec 1 := Scalar.andi v58 v59
  let v61 : BitVec 32 := Scalar.extui v60
  let c0_i32_29 : BitVec 32 := 0#32
  let v62 : BitVec 1 := Scalar.cmpi .ne v61 c0_i32_29
  v62

def k0_cond8 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v69 : BitVec 1 := Scalar.cmpi .sgt v68 v65
  let c0_i32_35 : BitVec 32 := 0#32
  let v70 : BitVec 1 := Scalar.cmpi .eq v65 c0_i32_35
  let v71 : BitVec 1 := Scalar.andi v69 v70
  let v72 : BitVec 32 := Scalar.extui v71
  let c0_i32_36 : BitVec 32 := 0#32
  let v73 : BitVec 1 := Scalar.cmpi .ne v72 c0_i32_36
  v73

def k0_cond9 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v74 : BitVec 1 := Scalar.cmpi .sgt v68 v65
  let c0_i32_37 : BitVec 32 := 0#32
  let v75 : BitVec 1 := Scalar.cmpi .sgt v65 c0_i32_37
  let v76 : BitVec 1 := Scalar.andi v74 v75
  let v77 : BitVec 32 := Scalar.extui v76
  let c0_i32_38 : BitVec 32 := 0#32
  let v78 : BitVec 1 := Scalar.cmpi .ne v77 c0_i32_38
  v78

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel5Ideal.lean ====
variable {F : FTy → Type} [FloatOps F]
-- ==== Reference5Ideal.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S_ : Shape := ⟨0, ![]⟩
abbrev S131072x1024 : Shape := ⟨2, ![131072, 1024]⟩
abbrev S131072 : Shape := ⟨1, ![131072]⟩
abbrev S131072x1 : Shape := ⟨2, ![131072, 1]⟩
abbrev S1x127 : Shape := ⟨2, ![1, 127]⟩
abbrev S131072x127 : Shape := ⟨2, ![131072, 127]⟩
abbrev S1x64 : Shape := ⟨2, ![1, 64]⟩
abbrev S131072x64 : Shape := ⟨2, ![131072, 64]⟩
abbrev S1x64x1024x256 : Shape := ⟨4, ![1, 64, 1024, 256]⟩
abbrev S64x1024x256 : Shape := ⟨3, ![64, 1024, 256]⟩
abbrev S131072x64x256 : Shape := ⟨3, ![131072, 64, 256]⟩
abbrev S131072x64x1 : Shape := ⟨3, ![131072, 64, 1]⟩
abbrev S1x64x256x1024 : Shape := ⟨4, ![1, 64, 256, 1024]⟩
abbrev S64x256x1024 : Shape := ⟨3, ![64, 256, 1024]⟩
abbrev S262144x512 : Shape := ⟨2, ![262144, 512]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S127, .i32⟩
  | .hbm, ⟨2, _⟩ => ⟨S127, .i32⟩
  | .hbm, ⟨3, _⟩ => ⟨S127, .i32⟩
  | .hbm, ⟨4, _⟩ => ⟨S127, .i32⟩
  | .hbm, ⟨5, _⟩ => ⟨S4x64x1024x256, .f32⟩
  | .hbm, ⟨6, _⟩ => ⟨S4x64x1024x256, .f32⟩
  | .hbm, ⟨7, _⟩ => ⟨S4x64x256x1024, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S_, .i32⟩
  | .hbm, ⟨13, _⟩ => ⟨S131072x512, .i32⟩
  | .hbm, ⟨14, _⟩ => ⟨S131072x512, .i32⟩
  | .hbm, ⟨15, _⟩ => ⟨S131072x512, .f32⟩
  | .hbm, ⟨16, _⟩ => ⟨S131072x1024, .f32⟩
  | .hbm, ⟨17, _⟩ => ⟨S131072, .i32⟩
  | .hbm, ⟨18, _⟩ => ⟨S131072x1, .i32⟩
  | .hbm, ⟨19, _⟩ => ⟨S_, .i32⟩
  | .hbm, ⟨20, _⟩ => ⟨S127, .i32⟩
  | .hbm, ⟨21, _⟩ => ⟨S127, .i32⟩
  | .hbm, ⟨22, _⟩ => ⟨S127, .i32⟩
  | .hbm, ⟨23, _⟩ => ⟨S1x127, .i32⟩
  | .hbm, ⟨24, _⟩ => ⟨S131072x127, .i32⟩
  | .hbm, ⟨25, _⟩ => ⟨S131072x127, .i32⟩
  | .hbm, ⟨26, _⟩ => ⟨S131072x127, .i1⟩
  | .hbm, ⟨27, _⟩ => ⟨S_, .i32⟩
  | .hbm, ⟨28, _⟩ => ⟨S127, .i32⟩
  | .hbm, ⟨29, _⟩ => ⟨S127, .i32⟩
  | .hbm, ⟨30, _⟩ => ⟨S127, .i32⟩
  | .hbm, ⟨31, _⟩ => ⟨S1x127, .i32⟩
  | .hbm, ⟨32, _⟩ => ⟨S131072x127, .i32⟩
  | .hbm, ⟨33, _⟩ => ⟨S131072x127, .i32⟩
  | .hbm, ⟨34, _⟩ => ⟨S131072x127, .i1⟩
  | .hbm, ⟨35, _⟩ => ⟨S131072x127, .i1⟩
  | .hbm, ⟨36, _⟩ => ⟨S_, .i32⟩
  | .hbm, ⟨37, _⟩ => ⟨S_, .i32⟩
  | .hbm, ⟨38, _⟩ => ⟨S131072x127, .i32⟩
  | .hbm, ⟨39, _⟩ => ⟨S131072x127, .i32⟩
  | .hbm, ⟨40, _⟩ => ⟨S131072x127, .i32⟩
  | .hbm, ⟨41, _⟩ => ⟨S_, .i32⟩
  | .hbm, ⟨42, _⟩ => ⟨S131072, .i32⟩
  | .hbm, ⟨43, _⟩ => ⟨S131072x1, .i32⟩
  | .hbm, ⟨44, _⟩ => ⟨S1x64, .i32⟩
  | .hbm, ⟨45, _⟩ => ⟨S131072x64, .i32⟩
  | .hbm, ⟨46, _⟩ => ⟨S131072x64, .i32⟩
  | .hbm, ⟨47, _⟩ => ⟨S131072x64, .i1⟩
  | .hbm, ⟨48, _⟩ => ⟨S131072x64, .f32⟩
  | .hbm, ⟨49, _⟩ => ⟨S1x64x1024x256, .f32⟩
  | .hbm, ⟨50, _⟩ => ⟨S64x1024x256, .f32⟩
  | .hbm, ⟨51, _⟩ => ⟨S131072x64x256, .f32⟩
  | .hbm, ⟨52, _⟩ => ⟨S1x64x1024x256, .f32⟩
  | .hbm, ⟨53, _⟩ => ⟨S64x1024x256, .f32⟩
  | .hbm, ⟨54, _⟩ => ⟨S131072x64x256, .f32⟩
  | .hbm, ⟨55, _⟩ => ⟨S131072x64x256, .f32⟩
  | .hbm, ⟨56, _⟩ => ⟨S131072x64x256, .f32⟩
  | .hbm, ⟨57, _⟩ => ⟨S_, .f32⟩
  | .hbm, ⟨58, _⟩ => ⟨S131072x64x256, .f32⟩
  | .hbm, ⟨59, _⟩ => ⟨S131072x64x256, .f32⟩
  | .hbm, ⟨60, _⟩ => ⟨S_, .f32⟩
  | .hbm, ⟨61, _⟩ => ⟨S131072x64x256, .f32⟩
  | .hbm, ⟨62, _⟩ => ⟨S131072x64x256, .f32⟩
  | .hbm, ⟨63, _⟩ => ⟨S131072x64x256, .f32⟩
  | .hbm, ⟨64, _⟩ => ⟨S131072x64x256, .f32⟩
  | .hbm, ⟨65, _⟩ => ⟨S131072x64x1, .f32⟩
  | .hbm, ⟨66, _⟩ => ⟨S131072x64x256, .f32⟩
  | .hbm, ⟨67, _⟩ => ⟨S131072x64x256, .f32⟩
  | .hbm, ⟨68, _⟩ => ⟨S1x64x256x1024, .f32⟩
  | .hbm, ⟨69, _⟩ => ⟨S64x256x1024, .f32⟩
  | .hbm, ⟨70, _⟩ => ⟨S131072x1024, .f32⟩
  | .hbm, ⟨71, _⟩ => ⟨S262144x512, .f32⟩
  | .hbm, ⟨72, _⟩ => ⟨S262144x512, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Kernel6.lean ====
abbrev S16384x1024 : Shape := ⟨2, ![16384, 1024]⟩
abbrev S4x1024x64 : Shape := ⟨3, ![4, 1024, 64]⟩
abbrev S4x64 : Shape := ⟨2, ![4, 64]⟩
abbrev S1x1024x64 : Shape := ⟨3, ![1, 1024, 64]⟩
abbrev S1024x64 : Shape := ⟨2, ![1024, 64]⟩
abbrev S64x1024 : Shape := ⟨2, ![64, 1024]⟩
abbrev S8x8x1024 : Shape := ⟨3, ![8, 8, 1024]⟩
abbrev S1x64 : Shape := ⟨2, ![1, 64]⟩
abbrev S64 : Shape := ⟨1, ![64]⟩
abbrev S8x8 : Shape := ⟨2, ![8, 8]⟩
abbrev S64x1 : Shape := ⟨2, ![64, 1]⟩
abbrev S8x16384 : Shape := ⟨2, ![8, 16384]⟩
abbrev S16384x128 : Shape := ⟨2, ![16384, 128]⟩
abbrev S64x128 : Shape := ⟨2, ![64, 128]⟩
abbrev S512x1024 : Shape := ⟨2, ![512, 1024]⟩
abbrev S8x512 : Shape := ⟨2, ![8, 512]⟩
abbrev S512x128 : Shape := ⟨2, ![512, 128]⟩
abbrev S64x512 : Shape := ⟨2, ![64, 512]⟩
abbrev S512x512 : Shape := ⟨2, ![512, 512]⟩
abbrev S8x8x512 : Shape := ⟨3, ![8, 8, 512]⟩
abbrev S1x8x512 : Shape := ⟨3, ![1, 8, 512]⟩
abbrev S1x512 : Shape := ⟨2, ![1, 512]⟩
abbrev S1x1x512 : Shape := ⟨3, ![1, 1, 512]⟩
abbrev S120x512 : Shape := ⟨2, ![120, 512]⟩
abbrev S128x512 : Shape := ⟨2, ![128, 512]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4x1024x64, .f32⟩
  | .hbm, ⟨2, _⟩ => ⟨S4x64, .f32⟩
  | .hbm, ⟨3, _⟩ => ⟨S1x1024x64, .f32⟩
  | .hbm, ⟨4, _⟩ => ⟨S1024x64, .f32⟩
  | .hbm, ⟨5, _⟩ => ⟨S64x1024, .f32⟩
  | .hbm, ⟨6, _⟩ => ⟨S8x8x1024, .f32⟩
  | .hbm, ⟨7, _⟩ => ⟨S8x8x1024, .f32⟩
  | .hbm, ⟨8, _⟩ => ⟨S64x1024, .f32⟩
  | .hbm, ⟨9, _⟩ => ⟨S1x64, .f32⟩
  | .hbm, ⟨10, _⟩ => ⟨S64, .f32⟩
  | .hbm, ⟨11, _⟩ => ⟨S8x8, .f32⟩
  | .hbm, ⟨12, _⟩ => ⟨S8x8, .f32⟩
  | .hbm, ⟨13, _⟩ => ⟨S64x1, .f32⟩
  | .hbm, ⟨14, _⟩ => ⟨S8x16384, .i32⟩
  | .hbm, ⟨15, _⟩ => ⟨S8x16384, .i32⟩
  | .hbm, ⟨16, _⟩ => ⟨S16384x128, .f32⟩
  | .hbm, ⟨17, _⟩ => ⟨S64x128, .f32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1, .f32⟩
  | .local _ .vmem, ⟨4, _⟩ => ⟨S8x512, .i32⟩
  | .local _ .vmem, ⟨5, _⟩ => ⟨S8x512, .i32⟩
  | .local _ .vmem, ⟨6, _⟩ => ⟨S8x512, .i32⟩
  | .local _ .vmem, ⟨7, _⟩ => ⟨S8x512, .i32⟩
  | .local _ .vmem, ⟨8, _⟩ => ⟨S512x128, .f32⟩
  | .local _ .vmem, ⟨9, _⟩ => ⟨S512x128, .f32⟩
  | .local _ .vmem, ⟨10, _⟩ => ⟨S64x128, .f32⟩
  | .local _ .vmem, ⟨11, _⟩ => ⟨S64x512, .f32⟩
  | .local _ .vmem, ⟨12, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel7.lean ====
abbrev S8x2048x7168 : Shape := ⟨3, ![8, 2048, 7168]⟩
abbrev S8x2048x2048 : Shape := ⟨3, ![8, 2048, 2048]⟩
abbrev S8x2048x128 : Shape := ⟨3, ![8, 2048, 128]⟩
abbrev S1x128 : Shape := ⟨2, ![1, 128]⟩
abbrev S1x1024 : Shape := ⟨2, ![1, 1024]⟩
abbrev S8x2048x1024 : Shape := ⟨3, ![8, 2048, 1024]⟩
abbrev S3x1024 : Shape := ⟨2, ![3, 1024]⟩
abbrev S1024x1024 : Shape := ⟨2, ![1024, 1024]⟩
abbrev S8x2048x512 : Shape := ⟨3, ![8, 2048, 512]⟩
abbrev S1x512x1024 : Shape := ⟨3, ![1, 512, 1024]⟩
abbrev S1x512x128 : Shape := ⟨3, ![1, 512, 128]⟩
abbrev S1x512x512 : Shape := ⟨3, ![1, 512, 512]⟩
abbrev S8x128x256 : Shape := ⟨3, ![8, 128, 256]⟩
abbrev S8x1024 : Shape := ⟨2, ![8, 1024]⟩
abbrev S1x256x1024 : Shape := ⟨3, ![1, 256, 1024]⟩
abbrev S256x1024 : Shape := ⟨2, ![256, 1024]⟩
abbrev S248x1024 : Shape := ⟨2, ![248, 1024]⟩
abbrev S512x128 : Shape := ⟨2, ![512, 128]⟩
abbrev S256x256 : Shape := ⟨2, ![256, 256]⟩
abbrev S256x128 : Shape := ⟨2, ![256, 128]⟩
abbrev S128 : Shape := ⟨1, ![128]⟩
abbrev S128x256 : Shape := ⟨2, ![128, 256]⟩
abbrev S1x256x128 : Shape := ⟨3, ![1, 256, 128]⟩
abbrev S256x1 : Shape := ⟨2, ![256, 1]⟩
abbrev S1x128x256 : Shape := ⟨3, ![1, 128, 256]⟩
abbrev S1x1 : Shape := ⟨2, ![1, 1]⟩
abbrev S1x256 : Shape := ⟨2, ![1, 256]⟩
abbrev S256 : Shape := ⟨1, ![256]⟩
abbrev S256x512 : Shape := ⟨2, ![256, 512]⟩
abbrev S1x256x512 : Shape := ⟨3, ![1, 256, 512]⟩

abbrev nBuf : Space → Nat
  | .hbm => 14
  | .vmem => 37
  | .smem => 0
  | _ => 0

abbrev bufTy : (tb : Table) → Fin (tcTables nBuf tb) → BufTy
  | .hbm, ⟨0, _⟩ => ⟨S8x2048x7168, .bf16⟩
  | .hbm, ⟨1, _⟩ => ⟨S8x2048x2048, .bf16⟩
  | .hbm, ⟨2, _⟩ => ⟨S8x2048x128, .f32⟩
  | .hbm, ⟨3, _⟩ => ⟨S1x128, .f32⟩
  | .hbm, ⟨4, _⟩ => ⟨S1x1024, .f32⟩
  | .hbm, ⟨5, _⟩ => ⟨S8x2048x1024, .f32⟩
  | .hbm, ⟨6, _⟩ => ⟨S3x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .hbm, ⟨13, _⟩ => ⟨S8x2048x512, .i32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x128, .f32⟩
  | .local _ .vmem, ⟨9, _⟩ => ⟨S1x512x128, .f32⟩
  | .local _ .vmem, ⟨10, _⟩ => ⟨S1x128, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .f32⟩
  | .local _ .vmem, ⟨23, _⟩ => ⟨S1x512x1024, .f32⟩
  | .local _ .vmem, ⟨24, _⟩ => ⟨S3x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1x1024, .f32⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S1x512x512, .i32⟩
  | .local _ .vmem, ⟨33, _⟩ => ⟨S1x512x512, .i32⟩
  | .local _ .vmem, ⟨34, _⟩ => ⟨S8x128x256, .f32⟩
  | .local _ .vmem, ⟨35, _⟩ => ⟨S1x128, .f32⟩
  | .local _ .vmem, ⟨36, _⟩ => ⟨S8x1024, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [BitOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel8.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S262144x512 : Shape := ⟨2, ![262144, 512]⟩
abbrev S2048x512 : Shape := ⟨2, ![2048, 512]⟩
abbrev S1 : Shape := ⟨1, ![1]⟩
abbrev S1x1x1024x256 : Shape := ⟨4, ![1, 1, 1024, 256]⟩
abbrev S1x1x256x1024 : Shape := ⟨4, ![1, 1, 256, 1024]⟩
abbrev S4096x512 : Shape := ⟨2, ![4096, 512]⟩
abbrev S1024x512 : Shape := ⟨2, ![1024, 512]⟩
abbrev S256x1024 : Shape := ⟨2, ![256, 1024]⟩
abbrev S1024x256 : Shape := ⟨2, ![1024, 256]⟩
abbrev S256x512 : Shape := ⟨2, ![256, 512]⟩
abbrev S256x256 : Shape := ⟨2, ![256, 256]⟩
abbrev S512x512 : Shape := ⟨2, ![512, 512]⟩

abbrev nBuf : Space → Nat
  | .hbm => 5
  | .vmem => 12
  | .smem => 4
  | _ => 0

abbrev bufTy : (tb : Table) → Fin (tcTables nBuf tb) → BufTy
  | .hbm, ⟨0, _⟩ => ⟨S131072x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S262144x512, .bf16⟩
  | .local _ .vmem, ⟨0, _⟩ => ⟨S2048x512, .i32⟩
  | .local _ .vmem, ⟨1, _⟩ => ⟨S2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S256x1024, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![127], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v21 : BitVec 1 := Scalar.cmpi .sgt v20 v17
  let c0_i32_7 : BitVec 32 := 0#32
  let v22 : BitVec 1 := Scalar.cmpi .eq v17 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v26 : BitVec 1 := Scalar.cmpi .sgt v20 v17
  let c0_i32_9 : BitVec 32 := 0#32
  let v27 : BitVec 1 := Scalar.cmpi .sgt v17 c0_i32_9
  let v28 : BitVec 1 := Scalar.andi v26 v27
  let v29 : BitVec 32 := Scalar.extui v28
  let c0_i32_10 : BitVec 32 := 0#32
  let v30 : BitVec 1 := Scalar.cmpi .ne v29 c0_i32_10
  v30

def k0_cond4 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v37 : BitVec 1 := Scalar.cmpi .sgt v36 v33
  let c0_i32_17 : BitVec 32 := 0#32
  let v38 : BitVec 1 := Scalar.cmpi .eq v33 c0_i32_17
  let v39 : BitVec 1 := Scalar.andi v37 v38
  let v40 : BitVec 32 := Scalar.extui v39
  let c0_i32_18 : BitVec 32 := 0#32
  let v41 : BitVec 1 := Scalar.cmpi .ne v40 c0_i32_18
  v41

def k0_cond5 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v42 : BitVec 1 := Scalar.cmpi .sgt v36 v33
  let c0_i32_19 : BitVec 32 := 0#32
  let v43 : BitVec 1 := Scalar.cmpi .sgt v33 c0_i32_19
  let v44 : BitVec 1 := Scalar.andi v42 v43
  let v45 : BitVec 32 := Scalar.extui v44
  let c0_i32_20 : BitVec 32 := 0#32
  let v46 : BitVec 1 := Scalar.cmpi .ne v45 c0_i32_20
  v46

def k0_cond6 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v53 : BitVec 1 := Scalar.cmpi .sgt v52 v49
  let c0_i32_26 : BitVec 32 := 0#32
  let v54 : BitVec 1 := Scalar.cmpi .eq v49 c0_i32_26
  let v55 : BitVec 1 := Scalar.andi v53 v54
  let v56 : BitVec 32 := Scalar.extui v55
  let c0_i32_27 : BitVec 32 := 0#32
  let v57 : BitVec 1 := Scalar.cmpi .ne v56 c0_i32_27
  v57

def k0_cond7 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v58 : BitVec 1 := Scalar.cmpi .sgt v52 v49
  let c0_i32_28 : BitVec 32 := 0#32
  let v59 : BitVec 1 := Scalar.cmpi .sgt v49 c0_i32_28
  let v60 : BitVec 1 := Scalar.andi v58 v59
  let v61 : BitVec 32 := Scalar.extui v60
  let c0_i32_29 : BitVec 32 := 0#32
  let v62 : BitVec 1 := Scalar.cmpi .ne v61 c0_i32_29
  v62

def k0_cond8 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v69 : BitVec 1 := Scalar.cmpi .sgt v68 v65
  let c0_i32_35 : BitVec 32 := 0#32
  let v70 : BitVec 1 := Scalar.cmpi .eq v65 c0_i32_35
  let v71 : BitVec 1 := Scalar.andi v69 v70
  let v72 : BitVec 32 := Scalar.extui v71
  let c0_i32_36 : BitVec 32 := 0#32
  let v73 : BitVec 1 := Scalar.cmpi .ne v72 c0_i32_36
  v73

def k0_cond9 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v74 : BitVec 1 := Scalar.cmpi .sgt v68 v65
  let c0_i32_37 : BitVec 32 := 0#32
  let v75 : BitVec 1 := Scalar.cmpi .sgt v65 c0_i32_37
  let v76 : BitVec 1 := Scalar.andi v74 v75
  let v77 : BitVec 32 := Scalar.extui v76
  let c0_i32_38 : BitVec 32 := 0#32
  let v78 : BitVec 1 := Scalar.cmpi .ne v77 c0_i32_38
  v78

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel8Ideal.lean ====
variable {F : FTy → Type} [FloatOps F]
-- ==== Reference8Ideal.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S_ : Shape := ⟨0, ![]⟩
abbrev S131072x1024 : Shape := ⟨2, ![131072, 1024]⟩
abbrev S131072 : Shape := ⟨1, ![131072]⟩
abbrev S131072x1 : Shape := ⟨2, ![131072, 1]⟩
abbrev S1x127 : Shape := ⟨2, ![1, 127]⟩
abbrev S131072x127 : Shape := ⟨2, ![131072, 127]⟩
abbrev S1x64 : Shape := ⟨2, ![1, 64]⟩
abbrev S131072x64 : Shape := ⟨2, ![131072, 64]⟩
abbrev S1x64x1024x256 : Shape := ⟨4, ![1, 64, 1024, 256]⟩
abbrev S64x1024x256 : Shape := ⟨3, ![64, 1024, 256]⟩
abbrev S131072x64x256 : Shape := ⟨3, ![131072, 64, 256]⟩
abbrev S131072x64x1 : Shape := ⟨3, ![131072, 64, 1]⟩
abbrev S1x64x256x1024 : Shape := ⟨4, ![1, 64, 256, 1024]⟩
abbrev S64x256x1024 : Shape := ⟨3, ![64, 256, 1024]⟩
abbrev S262144x512 : Shape := ⟨2, ![262144, 512]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S127, .i32⟩
  | .hbm, ⟨2, _⟩ => ⟨S127, .i32⟩
  | .hbm, ⟨3, _⟩ => ⟨S127, .i32⟩
  | .hbm, ⟨4, _⟩ => ⟨S127, .i32⟩
  | .hbm, ⟨5, _⟩ => ⟨S4x64x1024x256, .f32⟩
  | .hbm, ⟨6, _⟩ => ⟨S4x64x1024x256, .f32⟩
  | .hbm, ⟨7, _⟩ => ⟨S4x64x256x1024, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S_, .i32⟩
  | .hbm, ⟨13, _⟩ => ⟨S131072x512, .i32⟩
  | .hbm, ⟨14, _⟩ => ⟨S131072x512, .i32⟩
  | .hbm, ⟨15, _⟩ => ⟨S131072x512, .f32⟩
  | .hbm, ⟨16, _⟩ => ⟨S131072x1024, .f32⟩
  | .hbm, ⟨17, _⟩ => ⟨S131072, .i32⟩
  | .hbm, ⟨18, _⟩ => ⟨S131072x1, .i32⟩
  | .hbm, ⟨19, _⟩ => ⟨S_, .i32⟩
  | .hbm, ⟨20, _⟩ => ⟨S127, .i32⟩
  | .hbm, ⟨21, _⟩ => ⟨S127, .i32⟩
  | .hbm, ⟨22, _⟩ => ⟨S127, .i32⟩
  | .hbm, ⟨23, _⟩ => ⟨S1x127, .i32⟩
  | .hbm, ⟨24, _⟩ => ⟨S131072x127, .i32⟩
  | .hbm, ⟨25, _⟩ => ⟨S131072x127, .i32⟩
  | .hbm, ⟨26, _⟩ => ⟨S131072x127, .i1⟩
  | .hbm, ⟨27, _⟩ => ⟨S_, .i32⟩
  | .hbm, ⟨28, _⟩ => ⟨S127, .i32⟩
  | .hbm, ⟨29, _⟩ => ⟨S127, .i32⟩
  | .hbm, ⟨30, _⟩ => ⟨S127, .i32⟩
  | .hbm, ⟨31, _⟩ => ⟨S1x127, .i32⟩
  | .hbm, ⟨32, _⟩ => ⟨S131072x127, .i32⟩
  | .hbm, ⟨33, _⟩ => ⟨S131072x127, .i32⟩
  | .hbm, ⟨34, _⟩ => ⟨S131072x127, .i1⟩
  | .hbm, ⟨35, _⟩ => ⟨S131072x127, .i1⟩
  | .hbm, ⟨36, _⟩ => ⟨S_, .i32⟩
  | .hbm, ⟨37, _⟩ => ⟨S_, .i32⟩
  | .hbm, ⟨38, _⟩ => ⟨S131072x127, .i32⟩
  | .hbm, ⟨39, _⟩ => ⟨S131072x127, .i32⟩
  | .hbm, ⟨40, _⟩ => ⟨S131072x127, .i32⟩
  | .hbm, ⟨41, _⟩ => ⟨S_, .i32⟩
  | .hbm, ⟨42, _⟩ => ⟨S131072, .i32⟩
  | .hbm, ⟨43, _⟩ => ⟨S131072x1, .i32⟩
  | .hbm, ⟨44, _⟩ => ⟨S1x64, .i32⟩
  | .hbm, ⟨45, _⟩ => ⟨S131072x64, .i32⟩
  | .hbm, ⟨46, _⟩ => ⟨S131072x64, .i32⟩
  | .hbm, ⟨47, _⟩ => ⟨S131072x64, .i1⟩
  | .hbm, ⟨48, _⟩ => ⟨S131072x64, .f32⟩
  | .hbm, ⟨49, _⟩ => ⟨S1x64x1024x256, .f32⟩
  | .hbm, ⟨50, _⟩ => ⟨S64x1024x256, .f32⟩
  | .hbm, ⟨51, _⟩ => ⟨S131072x64x256, .f32⟩
  | .hbm, ⟨52, _⟩ => ⟨S1x64x1024x256, .f32⟩
  | .hbm, ⟨53, _⟩ => ⟨S64x1024x256, .f32⟩
  | .hbm, ⟨54, _⟩ => ⟨S131072x64x256, .f32⟩
  | .hbm, ⟨55, _⟩ => ⟨S131072x64x256, .f32⟩
  | .hbm, ⟨56, _⟩ => ⟨S131072x64x256, .f32⟩
  | .hbm, ⟨57, _⟩ => ⟨S_, .f32⟩
  | .hbm, ⟨58, _⟩ => ⟨S131072x64x256, .f32⟩
  | .hbm, ⟨59, _⟩ => ⟨S131072x64x256, .f32⟩
  | .hbm, ⟨60, _⟩ => ⟨S_, .f32⟩
  | .hbm, ⟨61, _⟩ => ⟨S131072x64x256, .f32⟩
  | .hbm, ⟨62, _⟩ => ⟨S131072x64x256, .f32⟩
  | .hbm, ⟨63, _⟩ => ⟨S131072x64x256, .f32⟩
  | .hbm, ⟨64, _⟩ => ⟨S131072x64x256, .f32⟩
  | .hbm, ⟨65, _⟩ => ⟨S131072x64x1, .f32⟩
  | .hbm, ⟨66, _⟩ => ⟨S131072x64x256, .f32⟩
  | .hbm, ⟨67, _⟩ => ⟨S131072x64x256, .f32⟩
  | .hbm, ⟨68, _⟩ => ⟨S1x64x256x1024, .f32⟩
  | .hbm, ⟨69, _⟩ => ⟨S64x256x1024, .f32⟩
  | .hbm, ⟨70, _⟩ => ⟨S131072x1024, .f32⟩
  | .hbm, ⟨71, _⟩ => ⟨S262144x512, .f32⟩
  | .hbm, ⟨72, _⟩ => ⟨S262144x512, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Kernel9.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S262144x512 : Shape := ⟨2, ![262144, 512]⟩
abbrev S2048x512 : Shape := ⟨2, ![2048, 512]⟩
abbrev S1 : Shape := ⟨1, ![1]⟩
abbrev S1x1x1024x256 : Shape := ⟨4, ![1, 1, 1024, 256]⟩
abbrev S1x1x256x1024 : Shape := ⟨4, ![1, 1, 256, 1024]⟩
abbrev S4096x512 : Shape := ⟨2, ![4096, 512]⟩
abbrev S1024x512 : Shape := ⟨2, ![1024, 512]⟩
abbrev S256x1024 : Shape := ⟨2, ![256, 1024]⟩
abbrev S1024x256 : Shape := ⟨2, ![1024, 256]⟩
abbrev S256x512 : Shape := ⟨2, ![256, 512]⟩
abbrev S256x256 : Shape := ⟨2, ![256, 256]⟩
abbrev S512x512 : Shape := ⟨2, ![512, 512]⟩

abbrev nBuf : Space → Nat
  | .hbm => 5
  | .vmem => 12
  | .smem => 4
  | _ => 0

abbrev bufTy : (tb : Table) → Fin (tcTables nBuf tb) → BufTy
  | .hbm, ⟨0, _⟩ => ⟨S131072x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S262144x512, .bf16⟩
  | .local _ .vmem, ⟨0, _⟩ => ⟨S2048x512, .i32⟩
  | .local _ .vmem, ⟨1, _⟩ => ⟨S2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S256x1024, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![127], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v21 : BitVec 1 := Scalar.cmpi .sgt v20 v17
  let c0_i32_7 : BitVec 32 := 0#32
  let v22 : BitVec 1 := Scalar.cmpi .eq v17 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v26 : BitVec 1 := Scalar.cmpi .sgt v20 v17
  let c0_i32_9 : BitVec 32 := 0#32
  let v27 : BitVec 1 := Scalar.cmpi .sgt v17 c0_i32_9
  let v28 : BitVec 1 := Scalar.andi v26 v27
  let v29 : BitVec 32 := Scalar.extui v28
  let c0_i32_10 : BitVec 32 := 0#32
  let v30 : BitVec 1 := Scalar.cmpi .ne v29 c0_i32_10
  v30

def k0_cond4 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v37 : BitVec 1 := Scalar.cmpi .sgt v36 v33
  let c0_i32_17 : BitVec 32 := 0#32
  let v38 : BitVec 1 := Scalar.cmpi .eq v33 c0_i32_17
  let v39 : BitVec 1 := Scalar.andi v37 v38
  let v40 : BitVec 32 := Scalar.extui v39
  let c0_i32_18 : BitVec 32 := 0#32
  let v41 : BitVec 1 := Scalar.cmpi .ne v40 c0_i32_18
  v41

def k0_cond5 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v42 : BitVec 1 := Scalar.cmpi .sgt v36 v33
  let c0_i32_19 : BitVec 32 := 0#32
  let v43 : BitVec 1 := Scalar.cmpi .sgt v33 c0_i32_19
  let v44 : BitVec 1 := Scalar.andi v42 v43
  let v45 : BitVec 32 := Scalar.extui v44
  let c0_i32_20 : BitVec 32 := 0#32
  let v46 : BitVec 1 := Scalar.cmpi .ne v45 c0_i32_20
  v46

def k0_cond6 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v53 : BitVec 1 := Scalar.cmpi .sgt v52 v49
  let c0_i32_26 : BitVec 32 := 0#32
  let v54 : BitVec 1 := Scalar.cmpi .eq v49 c0_i32_26
  let v55 : BitVec 1 := Scalar.andi v53 v54
  let v56 : BitVec 32 := Scalar.extui v55
  let c0_i32_27 : BitVec 32 := 0#32
  let v57 : BitVec 1 := Scalar.cmpi .ne v56 c0_i32_27
  v57

def k0_cond7 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v58 : BitVec 1 := Scalar.cmpi .sgt v52 v49
  let c0_i32_28 : BitVec 32 := 0#32
  let v59 : BitVec 1 := Scalar.cmpi .sgt v49 c0_i32_28
  let v60 : BitVec 1 := Scalar.andi v58 v59
  let v61 : BitVec 32 := Scalar.extui v60
  let c0_i32_29 : BitVec 32 := 0#32
  let v62 : BitVec 1 := Scalar.cmpi .ne v61 c0_i32_29
  v62

def k0_cond8 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v69 : BitVec 1 := Scalar.cmpi .sgt v68 v65
  let c0_i32_35 : BitVec 32 := 0#32
  let v70 : BitVec 1 := Scalar.cmpi .eq v65 c0_i32_35
  let v71 : BitVec 1 := Scalar.andi v69 v70
  let v72 : BitVec 32 := Scalar.extui v71
  let c0_i32_36 : BitVec 32 := 0#32
  let v73 : BitVec 1 := Scalar.cmpi .ne v72 c0_i32_36
  v73

def k0_cond9 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v74 : BitVec 1 := Scalar.cmpi .sgt v68 v65
  let c0_i32_37 : BitVec 32 := 0#32
  let v75 : BitVec 1 := Scalar.cmpi .sgt v65 c0_i32_37
  let v76 : BitVec 1 := Scalar.andi v74 v75
  let v77 : BitVec 32 := Scalar.extui v76
  let c0_i32_38 : BitVec 32 := 0#32
  let v78 : BitVec 1 := Scalar.cmpi .ne v77 c0_i32_38
  v78

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_3 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel9Ideal.lean ====
variable {F : FTy → Type} [FloatOps F]
-- ==== Reference9Ideal.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S_ : Shape := ⟨0, ![]⟩
abbrev S131072x1024 : Shape := ⟨2, ![131072, 1024]⟩
abbrev S131072 : Shape := ⟨1, ![131072]⟩
abbrev S131072x1 : Shape := ⟨2, ![131072, 1]⟩
abbrev S1x127 : Shape := ⟨2, ![1, 127]⟩
abbrev S131072x127 : Shape := ⟨2, ![131072, 127]⟩
abbrev S1x64 : Shape := ⟨2, ![1, 64]⟩
abbrev S131072x64 : Shape := ⟨2, ![131072, 64]⟩
abbrev S1x64x1024x256 : Shape := ⟨4, ![1, 64, 1024, 256]⟩
abbrev S64x1024x256 : Shape := ⟨3, ![64, 1024, 256]⟩
abbrev S131072x64x256 : Shape := ⟨3, ![131072, 64, 256]⟩
abbrev S131072x64x1 : Shape := ⟨3, ![131072, 64, 1]⟩
abbrev S1x64x256x1024 : Shape := ⟨4, ![1, 64, 256, 1024]⟩
abbrev S64x256x1024 : Shape := ⟨3, ![64, 256, 1024]⟩
abbrev S262144x512 : Shape := ⟨2, ![262144, 512]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S127, .i32⟩
  | .hbm, ⟨2, _⟩ => ⟨S127, .i32⟩
  | .hbm, ⟨3, _⟩ => ⟨S127, .i32⟩
  | .hbm, ⟨4, _⟩ => ⟨S127, .i32⟩
  | .hbm, ⟨5, _⟩ => ⟨S4x64x1024x256, .f32⟩
  | .hbm, ⟨6, _⟩ => ⟨S4x64x1024x256, .f32⟩
  | .hbm, ⟨7, _⟩ => ⟨S4x64x256x1024, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S_, .i32⟩
  | .hbm, ⟨13, _⟩ => ⟨S131072x512, .i32⟩
  | .hbm, ⟨14, _⟩ => ⟨S131072x512, .i32⟩
  | .hbm, ⟨15, _⟩ => ⟨S131072x512, .f32⟩
  | .hbm, ⟨16, _⟩ => ⟨S131072x1024, .f32⟩
  | .hbm, ⟨17, _⟩ => ⟨S131072, .i32⟩
  | .hbm, ⟨18, _⟩ => ⟨S131072x1, .i32⟩
  | .hbm, ⟨19, _⟩ => ⟨S_, .i32⟩
  | .hbm, ⟨20, _⟩ => ⟨S127, .i32⟩
  | .hbm, ⟨21, _⟩ => ⟨S127, .i32⟩
  | .hbm, ⟨22, _⟩ => ⟨S127, .i32⟩
  | .hbm, ⟨23, _⟩ => ⟨S1x127, .i32⟩
  | .hbm, ⟨24, _⟩ => ⟨S131072x127, .i32⟩
  | .hbm, ⟨25, _⟩ => ⟨S131072x127, .i32⟩
  | .hbm, ⟨26, _⟩ => ⟨S131072x127, .i1⟩
  | .hbm, ⟨27, _⟩ => ⟨S_, .i32⟩
  | .hbm, ⟨28, _⟩ => ⟨S127, .i32⟩
  | .hbm, ⟨29, _⟩ => ⟨S127, .i32⟩
  | .hbm, ⟨30, _⟩ => ⟨S127, .i32⟩
  | .hbm, ⟨31, _⟩ => ⟨S1x127, .i32⟩
  | .hbm, ⟨32, _⟩ => ⟨S131072x127, .i32⟩
  | .hbm, ⟨33, _⟩ => ⟨S131072x127, .i32⟩
  | .hbm, ⟨34, _⟩ => ⟨S131072x127, .i1⟩
  | .hbm, ⟨35, _⟩ => ⟨S131072x127, .i1⟩
  | .hbm, ⟨36, _⟩ => ⟨S_, .i32⟩
  | .hbm, ⟨37, _⟩ => ⟨S_, .i32⟩
  | .hbm, ⟨38, _⟩ => ⟨S131072x127, .i32⟩
  | .hbm, ⟨39, _⟩ => ⟨S131072x127, .i32⟩
  | .hbm, ⟨40, _⟩ => ⟨S131072x127, .i32⟩
  | .hbm, ⟨41, _⟩ => ⟨S_, .i32⟩
  | .hbm, ⟨42, _⟩ => ⟨S131072, .i32⟩
  | .hbm, ⟨43, _⟩ => ⟨S131072x1, .i32⟩
  | .hbm, ⟨44, _⟩ => ⟨S1x64, .i32⟩
  | .hbm, ⟨45, _⟩ => ⟨S131072x64, .i32⟩
  | .hbm, ⟨46, _⟩ => ⟨S131072x64, .i32⟩
  | .hbm, ⟨47, _⟩ => ⟨S131072x64, .i1⟩
  | .hbm, ⟨48, _⟩ => ⟨S131072x64, .f32⟩
  | .hbm, ⟨49, _⟩ => ⟨S1x64x1024x256, .f32⟩
  | .hbm, ⟨50, _⟩ => ⟨S64x1024x256, .f32⟩
  | .hbm, ⟨51, _⟩ => ⟨S131072x64x256, .f32⟩
  | .hbm, ⟨52, _⟩ => ⟨S1x64x1024x256, .f32⟩
  | .hbm, ⟨53, _⟩ => ⟨S64x1024x256, .f32⟩
  | .hbm, ⟨54, _⟩ => ⟨S131072x64x256, .f32⟩
  | .hbm, ⟨55, _⟩ => ⟨S131072x64x256, .f32⟩
  | .hbm, ⟨56, _⟩ => ⟨S131072x64x256, .f32⟩
  | .hbm, ⟨57, _⟩ => ⟨S_, .f32⟩
  | .hbm, ⟨58, _⟩ => ⟨S131072x64x256, .f32⟩
  | .hbm, ⟨59, _⟩ => ⟨S131072x64x256, .f32⟩
  | .hbm, ⟨60, _⟩ => ⟨S_, .f32⟩
  | .hbm, ⟨61, _⟩ => ⟨S131072x64x256, .f32⟩
  | .hbm, ⟨62, _⟩ => ⟨S131072x64x256, .f32⟩
  | .hbm, ⟨63, _⟩ => ⟨S131072x64x256, .f32⟩
  | .hbm, ⟨64, _⟩ => ⟨S131072x64x256, .f32⟩
  | .hbm, ⟨65, _⟩ => ⟨S131072x64x1, .f32⟩
  | .hbm, ⟨66, _⟩ => ⟨S131072x64x256, .f32⟩
  | .hbm, ⟨67, _⟩ => ⟨S131072x64x256, .f32⟩
  | .hbm, ⟨68, _⟩ => ⟨S1x64x256x1024, .f32⟩
  | .hbm, ⟨69, _⟩ => ⟨S64x256x1024, .f32⟩
  | .hbm, ⟨70, _⟩ => ⟨S131072x1024, .f32⟩
  | .hbm, ⟨71, _⟩ => ⟨S262144x512, .f32⟩
  | .hbm, ⟨72, _⟩ => ⟨S262144x512, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Kernel10.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S262144x512 : Shape := ⟨2, ![262144, 512]⟩
abbrev S2048x512 : Shape := ⟨2, ![2048, 512]⟩
abbrev S1 : Shape := ⟨1, ![1]⟩
abbrev S1x1x1024x256 : Shape := ⟨4, ![1, 1, 1024, 256]⟩
abbrev S1x1x256x1024 : Shape := ⟨4, ![1, 1, 256, 1024]⟩
abbrev S4096x512 : Shape := ⟨2, ![4096, 512]⟩
abbrev S1024x512 : Shape := ⟨2, ![1024, 512]⟩
abbrev S256x1024 : Shape := ⟨2, ![256, 1024]⟩
abbrev S1024x256 : Shape := ⟨2, ![1024, 256]⟩
abbrev S256x512 : Shape := ⟨2, ![256, 512]⟩
abbrev S256x256 : Shape := ⟨2, ![256, 256]⟩
abbrev S512x512 : Shape := ⟨2, ![512, 512]⟩

abbrev nBuf : Space → Nat
  | .hbm => 5
  | .vmem => 12
  | .smem => 4
  | _ => 0

abbrev bufTy : (tb : Table) → Fin (tcTables nBuf tb) → BufTy
  | .hbm, ⟨0, _⟩ => ⟨S131072x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S262144x512, .bf16⟩
  | .local _ .vmem, ⟨0, _⟩ => ⟨S2048x512, .i32⟩
  | .local _ .vmem, ⟨1, _⟩ => ⟨S2048x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S256x1024, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![127], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v21 : BitVec 1 := Scalar.cmpi .sgt v20 v17
  let c0_i32_7 : BitVec 32 := 0#32
  let v22 : BitVec 1 := Scalar.cmpi .eq v17 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (v1 : BitVec 32) (v3 : BitVec 32) : BitVec 1 :=
  let c512_i32_6 : BitVec 32 := 512#32
  let c0_i32_5 : BitVec 32 := 0#32
  let c0_i32_4 : BitVec 32 := 0#32
  let v18 : BitVec 32 := Scalar.subi v3 c0_i32_4
  let v19 : BitVec 32 := Scalar.maxsi c0_i32_5 v18
  let v20 : BitVec 32 := Scalar.minsi c512_i32_6 v19
  let c512_i32 : BitVec 32 := 512#32
  let c0_i32_3 : BitVec 32 := 0#32
  let c0_i32_2 : BitVec 32 := 0#32
  let v15 : BitVec 32 := Scalar.subi v1 c0_i32_2
  let v16 : BitVec 32 := Scalar.maxsi c0_i32_3 v15
  let v17 : BitVec 32 := Scalar.minsi c512_i32 v16
  let v26 : BitVec 1 := Scalar.cmpi .sgt v20 v17
  let c0_i32_9 : BitVec 32 := 0#32
  let v27 : BitVec 1 := Scalar.cmpi .sgt v17 c0_i32_9
  let v28 : BitVec 1 := Scalar.andi v26 v27
  let v29 : BitVec 32 := Scalar.extui v28
  let c0_i32_10 : BitVec 32 := 0#32
  let v30 : BitVec 1 := Scalar.cmpi .ne v29 c0_i32_10
  v30

def k0_cond4 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v37 : BitVec 1 := Scalar.cmpi .sgt v36 v33
  let c0_i32_17 : BitVec 32 := 0#32
  let v38 : BitVec 1 := Scalar.cmpi .eq v33 c0_i32_17
  let v39 : BitVec 1 := Scalar.andi v37 v38
  let v40 : BitVec 32 := Scalar.extui v39
  let c0_i32_18 : BitVec 32 := 0#32
  let v41 : BitVec 1 := Scalar.cmpi .ne v40 c0_i32_18
  v41

def k0_cond5 (v1 : BitVec 32) (v3 : BitVec 32) : BitVec 1 :=
  let c512_i32_16 : BitVec 32 := 512#32
  let c0_i32_15 : BitVec 32 := 0#32
  let c512_i32_14 : BitVec 32 := 512#32
  let v34 : BitVec 32 := Scalar.subi v3 c512_i32_14
  let v35 : BitVec 32 := Scalar.maxsi c0_i32_15 v34
  let v36 : BitVec 32 := Scalar.minsi c512_i32_16 v35
  let c512_i32_13 : BitVec 32 := 512#32
  let c0_i32_12 : BitVec 32 := 0#32
  let c512_i32_11 : BitVec 32 := 512#32
  let v31 : BitVec 32 := Scalar.subi v1 c512_i32_11
  let v32 : BitVec 32 := Scalar.maxsi c0_i32_12 v31
  let v33 : BitVec 32 := Scalar.minsi c512_i32_13 v32
  let v42 : BitVec 1 := Scalar.cmpi .sgt v36 v33
  let c0_i32_19 : BitVec 32 := 0#32
  let v43 : BitVec 1 := Scalar.cmpi .sgt v33 c0_i32_19
  let v44 : BitVec 1 := Scalar.andi v42 v43
  let v45 : BitVec 32 := Scalar.extui v44
  let c0_i32_20 : BitVec 32 := 0#32
  let v46 : BitVec 1 := Scalar.cmpi .ne v45 c0_i32_20
  v46

def k0_cond6 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v53 : BitVec 1 := Scalar.cmpi .sgt v52 v49
  let c0_i32_26 : BitVec 32 := 0#32
  let v54 : BitVec 1 := Scalar.cmpi .eq v49 c0_i32_26
  let v55 : BitVec 1 := Scalar.andi v53 v54
  let v56 : BitVec 32 := Scalar.extui v55
  let c0_i32_27 : BitVec 32 := 0#32
  let v57 : BitVec 1 := Scalar.cmpi .ne v56 c0_i32_27
  v57

def k0_cond7 (v1 : BitVec 32) (v3 : BitVec 32) : BitVec 1 :=
  let c512_i32_25 : BitVec 32 := 512#32
  let c0_i32_24 : BitVec 32 := 0#32
  let c1024_i32_23 : BitVec 32 := 1024#32
  let v50 : BitVec 32 := Scalar.subi v3 c1024_i32_23
  let v51 : BitVec 32 := Scalar.maxsi c0_i32_24 v50
  let v52 : BitVec 32 := Scalar.minsi c512_i32_25 v51
  let c512_i32_22 : BitVec 32 := 512#32
  let c0_i32_21 : BitVec 32 := 0#32
  let c1024_i32 : BitVec 32 := 1024#32
  let v47 : BitVec 32 := Scalar.subi v1 c1024_i32
  let v48 : BitVec 32 := Scalar.maxsi c0_i32_21 v47
  let v49 : BitVec 32 := Scalar.minsi c512_i32_22 v48
  let v58 : BitVec 1 := Scalar.cmpi .sgt v52 v49
  let c0_i32_28 : BitVec 32 := 0#32
  let v59 : BitVec 1 := Scalar.cmpi .sgt v49 c0_i32_28
  let v60 : BitVec 1 := Scalar.andi v58 v59
  let v61 : BitVec 32 := Scalar.extui v60
  let c0_i32_29 : BitVec 32 := 0#32
  let v62 : BitVec 1 := Scalar.cmpi .ne v61 c0_i32_29
  v62

def k0_cond8 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v69 : BitVec 1 := Scalar.cmpi .sgt v68 v65
  let c0_i32_35 : BitVec 32 := 0#32
  let v70 : BitVec 1 := Scalar.cmpi .eq v65 c0_i32_35
  let v71 : BitVec 1 := Scalar.andi v69 v70
  let v72 : BitVec 32 := Scalar.extui v71
  let c0_i32_36 : BitVec 32 := 0#32
  let v73 : BitVec 1 := Scalar.cmpi .ne v72 c0_i32_36
  v73

def k0_cond9 (v1 : BitVec 32) (v3 : BitVec 32) : BitVec 1 :=
  let c512_i32_34 : BitVec 32 := 512#32
  let c0_i32_33 : BitVec 32 := 0#32
  let c1536_i32_32 : BitVec 32 := 1536#32
  let v66 : BitVec 32 := Scalar.subi v3 c1536_i32_32
  let v67 : BitVec 32 := Scalar.maxsi c0_i32_33 v66
  let v68 : BitVec 32 := Scalar.minsi c512_i32_34 v67
  let c512_i32_31 : BitVec 32 := 512#32
  let c0_i32_30 : BitVec 32 := 0#32
  let c1536_i32 : BitVec 32 := 1536#32
  let v63 : BitVec 32 := Scalar.subi v1 c1536_i32
  let v64 : BitVec 32 := Scalar.maxsi c0_i32_30 v63
  let v65 : BitVec 32 := Scalar.minsi c512_i32_31 v64
  let v74 : BitVec 1 := Scalar.cmpi .sgt v68 v65
  let c0_i32_37 : BitVec 32 := 0#32
  let v75 : BitVec 1 := Scalar.cmpi .sgt v65 c0_i32_37
  let v76 : BitVec 1 := Scalar.andi v74 v75
  let v77 : BitVec 32 := Scalar.extui v76
  let c0_i32_38 : BitVec 32 := 0#32
  let v78 : BitVec 1 := Scalar.cmpi .ne v77 c0_i32_38
  v78

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S127.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel10Ideal.lean ====
variable {F : FTy → Type} [FloatOps F]
-- ==== Reference10Ideal.lean ====
abbrev S131072x512 : Shape := ⟨2, ![131072, 512]⟩
abbrev S127 : Shape := ⟨1, ![127]⟩
abbrev S4x64x1024x256 : Shape := ⟨4, ![4, 64, 1024, 256]⟩
abbrev S4x64x256x1024 : Shape := ⟨4, ![4, 64, 256, 1024]⟩
abbrev S_ : Shape := ⟨0, ![]⟩
abbrev S131072x1024 : Shape := ⟨2, ![131072, 1024]⟩
abbrev S131072 : Shape := ⟨1, ![131072]⟩
abbrev S131072x1 : Shape := ⟨2, ![131072, 1]⟩
abbrev S1x127 : Shape := ⟨2, ![1, 127]⟩
abbrev S131072x127 : Shape := ⟨2, ![131072, 127]⟩
abbrev S1x64 : Shape := ⟨2, ![1, 64]⟩
abbrev S131072x64 : Shape := ⟨2, ![131072, 64]⟩
abbrev S1x64x1024x256 : Shape := ⟨4, ![1, 64, 1024, 256]⟩
abbrev S64x1024x256 : Shape := ⟨3, ![64, 1024, 256]⟩
abbrev S131072x64x256 : Shape := ⟨3, ![131072, 64, 256]⟩
abbrev S131072x64x1 : Shape := ⟨3, ![131072, 64, 1]⟩
abbrev S1x64x256x1024 : Shape := ⟨4, ![1, 64, 256, 1024]⟩
abbrev S64x256x1024 : Shape := ⟨3, ![64, 256, 1024]⟩
abbrev S262144x512 : Shape := ⟨2, ![262144, 512]⟩

abbrev nBuf : Space → Nat
  | .hbm => 73
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S127, .i32⟩
  | .hbm, ⟨2, _⟩ => ⟨S127, .i32⟩
  | .hbm, ⟨3, _⟩ => ⟨S127, .i32⟩
  | .hbm, ⟨4, _⟩ => ⟨S127, .i32⟩
  | .hbm, ⟨5, _⟩ => ⟨S4x64x1024x256, .f32⟩
  | .hbm, ⟨6, _⟩ => ⟨S4x64x1024x256, .f32⟩
  | .hbm, ⟨7, _⟩ => ⟨S4x64x256x1024, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S_, .i32⟩
  | .hbm, ⟨13, _⟩ => ⟨S131072x512, .i32⟩
  | .hbm, ⟨14, _⟩ => ⟨S131072x512, .i32⟩
  | .hbm, ⟨15, _⟩ => ⟨S131072x512, .f32⟩
  | .hbm, ⟨16, _⟩ => ⟨S131072x1024, .f32⟩
  | .hbm, ⟨17, _⟩ => ⟨S131072, .i32⟩
  | .hbm, ⟨18, _⟩ => ⟨S131072x1, .i32⟩
  | .hbm, ⟨19, _⟩ => ⟨S_, .i32⟩
  | .hbm, ⟨20, _⟩ => ⟨S127, .i32⟩
  | .hbm, ⟨21, _⟩ => ⟨S127, .i32⟩
  | .hbm, ⟨22, _⟩ => ⟨S127, .i32⟩
  | .hbm, ⟨23, _⟩ => ⟨S1x127, .i32⟩
  | .hbm, ⟨24, _⟩ => ⟨S131072x127, .i32⟩
  | .hbm, ⟨25, _⟩ => ⟨S131072x127, .i32⟩
  | .hbm, ⟨26, _⟩ => ⟨S131072x127, .i1⟩
  | .hbm, ⟨27, _⟩ => ⟨S_, .i32⟩
  | .hbm, ⟨28, _⟩ => ⟨S127, .i32⟩
  | .hbm, ⟨29, _⟩ => ⟨S127, .i32⟩
  | .hbm, ⟨30, _⟩ => ⟨S127, .i32⟩
  | .hbm, ⟨31, _⟩ => ⟨S1x127, .i32⟩
  | .hbm, ⟨32, _⟩ => ⟨S131072x127, .i32⟩
  | .hbm, ⟨33, _⟩ => ⟨S131072x127, .i32⟩
  | .hbm, ⟨34, _⟩ => ⟨S131072x127, .i1⟩
  | .hbm, ⟨35, _⟩ => ⟨S131072x127, .i1⟩
  | .hbm, ⟨36, _⟩ => ⟨S_, .i32⟩
  | .hbm, ⟨37, _⟩ => ⟨S_, .i32⟩
  | .hbm, ⟨38, _⟩ => ⟨S131072x127, .i32⟩
  | .hbm, ⟨39, _⟩ => ⟨S131072x127, .i32⟩
  | .hbm, ⟨40, _⟩ => ⟨S131072x127, .i32⟩
  | .hbm, ⟨41, _⟩ => ⟨S_, .i32⟩
  | .hbm, ⟨42, _⟩ => ⟨S131072, .i32⟩
  | .hbm, ⟨43, _⟩ => ⟨S131072x1, .i32⟩
  | .hbm, ⟨44, _⟩ => ⟨S1x64, .i32⟩
  | .hbm, ⟨45, _⟩ => ⟨S131072x64, .i32⟩
  | .hbm, ⟨46, _⟩ => ⟨S131072x64, .i32⟩
  | .hbm, ⟨47, _⟩ => ⟨S131072x64, .i1⟩
  | .hbm, ⟨48, _⟩ => ⟨S131072x64, .f32⟩
  | .hbm, ⟨49, _⟩ => ⟨S1x64x1024x256, .f32⟩
  | .hbm, ⟨50, _⟩ => ⟨S64x1024x256, .f32⟩
  | .hbm, ⟨51, _⟩ => ⟨S131072x64x256, .f32⟩
  | .hbm, ⟨52, _⟩ => ⟨S1x64x1024x256, .f32⟩
  | .hbm, ⟨53, _⟩ => ⟨S64x1024x256, .f32⟩
  | .hbm, ⟨54, _⟩ => ⟨S131072x64x256, .f32⟩
  | .hbm, ⟨55, _⟩ => ⟨S131072x64x256, .f32⟩
  | .hbm, ⟨56, _⟩ => ⟨S131072x64x256, .f32⟩
  | .hbm, ⟨57, _⟩ => ⟨S_, .f32⟩
  | .hbm, ⟨58, _⟩ => ⟨S131072x64x256, .f32⟩
  | .hbm, ⟨59, _⟩ => ⟨S131072x64x256, .f32⟩
  | .hbm, ⟨60, _⟩ => ⟨S_, .f32⟩
  | .hbm, ⟨61, _⟩ => ⟨S131072x64x256, .f32⟩
  | .hbm, ⟨62, _⟩ => ⟨S131072x64x256, .f32⟩
  | .hbm, ⟨63, _⟩ => ⟨S131072x64x256, .f32⟩
  | .hbm, ⟨64, _⟩ => ⟨S131072x64x256, .f32⟩
  | .hbm, ⟨65, _⟩ => ⟨S131072x64x1, .f32⟩
  | .hbm, ⟨66, _⟩ => ⟨S131072x64x256, .f32⟩
  | .hbm, ⟨67, _⟩ => ⟨S131072x64x256, .f32⟩
  | .hbm, ⟨68, _⟩ => ⟨S1x64x256x1024, .f32⟩
  | .hbm, ⟨69, _⟩ => ⟨S64x256x1024, .f32⟩
  | .hbm, ⟨70, _⟩ => ⟨S131072x1024, .f32⟩
  | .hbm, ⟨71, _⟩ => ⟨S262144x512, .f32⟩
  | .hbm, ⟨72, _⟩ => ⟨S262144x512, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Kernel11.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x2048 : Shape := ⟨2, ![16384, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c7184_i32 : BitVec 32 := 7184#32
  let arg1 : BitVec 32 := BitVec.ofNat 32 (i 1).val
  let c1024_i32 : BitVec 32 := 1024#32
  let v0 : BitVec 32 := Scalar.muli arg1 c1024_i32
  let v1 : BitVec 32 := Scalar.addi c7184_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c7184_i32 : BitVec 32 := 7184#32
  let v1 : BitVec 32 := Scalar.addi c7184_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x2048, .f32⟩
  | .hbm, ⟨6, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x7168 : Shape := ⟨2, ![16384, 7168]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x7168 : Shape := ⟨2, ![16384, 7168]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x7168, .f32⟩
  | .hbm, ⟨6, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x128 : Shape := ⟨2, ![16384, 128]⟩
abbrev S2048x1024 : Shape := ⟨2, ![2048, 1024]⟩
abbrev S1x128x1024 : Shape := ⟨3, ![1, 128, 1024]⟩
abbrev S2048x128 : Shape := ⟨2, ![2048, 128]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1x128x1024, .f32⟩
  | .local _ .vmem, ⟨3, _⟩ => ⟨S2048x128, .f32⟩
  | .local _ .vmem, ⟨4, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x2048 : Shape := ⟨2, ![16384, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c7184_i32 : BitVec 32 := 7184#32
  let arg1 : BitVec 32 := BitVec.ofNat 32 (i 1).val
  let c1024_i32 : BitVec 32 := 1024#32
  let v0 : BitVec 32 := Scalar.muli arg1 c1024_i32
  let v1 : BitVec 32 := Scalar.addi c7184_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c7184_i32 : BitVec 32 := 7184#32
  let v1 : BitVec 32 := Scalar.addi c7184_i32 v0
  let v2 : BitVec 32 := v1
  let c2_i32 : BitVec 32 := 2#32
  let c0_i32 : BitVec 32 := 0#32
  let c0_i32_0 : BitVec 32 := 0#32
  ![c2_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x2048, .f32⟩
  | .hbm, ⟨6, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x7168 : Shape := ⟨2, ![16384, 7168]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x7168 : Shape := ⟨2, ![16384, 7168]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x7168, .f32⟩
  | .hbm, ⟨6, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x128 : Shape := ⟨2, ![16384, 128]⟩
abbrev S2048x1024 : Shape := ⟨2, ![2048, 1024]⟩
abbrev S1x128x1024 : Shape := ⟨3, ![1, 128, 1024]⟩
abbrev S2048x128 : Shape := ⟨2, ![2048, 128]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1x128x1024, .f32⟩
  | .local _ .vmem, ⟨3, _⟩ => ⟨S2048x128, .f32⟩
  | .local _ .vmem, ⟨4, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c2_i32 : BitVec 32 := 2#32
  let c0_i32 : BitVec 32 := 0#32
  let c0_i32_0 : BitVec 32 := 0#32
  ![c2_i32.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x2048 : Shape := ⟨2, ![16384, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c7184_i32 : BitVec 32 := 7184#32
  let arg1 : BitVec 32 := BitVec.ofNat 32 (i 1).val
  let c1024_i32 : BitVec 32 := 1024#32
  let v0 : BitVec 32 := Scalar.muli arg1 c1024_i32
  let v1 : BitVec 32 := Scalar.addi c7184_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c7184_i32 : BitVec 32 := 7184#32
  let v1 : BitVec 32 := Scalar.addi c7184_i32 v0
  let v2 : BitVec 32 := v1
  let c3_i32 : BitVec 32 := 3#32
  let c0_i32 : BitVec 32 := 0#32
  let c0_i32_0 : BitVec 32 := 0#32
  ![c3_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x2048, .f32⟩
  | .hbm, ⟨6, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x7168 : Shape := ⟨2, ![16384, 7168]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x7168 : Shape := ⟨2, ![16384, 7168]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x7168, .f32⟩
  | .hbm, ⟨6, _⟩ => ⟨S16384x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S16384x1024 : Shape := ⟨2, ![16384, 1024]⟩
abbrev S4x1024x9232 : Shape := ⟨3, ![4, 1024, 9232]⟩
abbrev S4x9232x1024 : Shape := ⟨3, ![4, 9232, 1024]⟩
abbrev S16384x128 : Shape := ⟨2, ![16384, 128]⟩
abbrev S2048x1024 : Shape := ⟨2, ![2048, 1024]⟩
abbrev S1x128x1024 : Shape := ⟨3, ![1, 128, 1024]⟩
abbrev S2048x128 : Shape := ⟨2, ![2048, 128]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S16384x1024, .bf16⟩
  | .hbm, ⟨3, _⟩ => ⟨S4x9232x1024, .f32⟩
  | .hbm, ⟨4, _⟩ => ⟨S16384x128, .f32⟩
  | .local _ .vmem, ⟨0, _⟩ => ⟨S2048x1024, .bf16⟩
  | .local _ .vmem, ⟨1, _⟩ => ⟨S2048x1024, .bf16⟩
  | .local _ .vmem, ⟨2, _⟩ => ⟨S1x128x1024, .f32⟩
  | .local _ .vmem, ⟨3, _⟩ => ⟨S2048x128, .f32⟩
  | .local _ .vmem, ⟨4, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c3_i32 : BitVec 32 := 3#32
  let c0_i32 : BitVec 32 := 0#32
  let c0_i32_0 : BitVec 32 := 0#32
  ![c3_i32.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S16384x1024 : Shape := ⟨2, ![16384, 1024]⟩
abbrev S4x1024x9232 : Shape := ⟨3, ![4, 1024, 9232]⟩
abbrev S1x1024x9232 : Shape := ⟨3, ![1, 1024, 9232]⟩
abbrev S1024x9232 : Shape := ⟨2, ![1024, 9232]⟩
abbrev S16384x9232 : Shape := ⟨2, ![16384, 9232]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x9232, .f32⟩
  | .hbm, ⟨2, _⟩ => ⟨S1x1024x9232, .f32⟩
  | .hbm, ⟨3, _⟩ => ⟨S1024x9232, .f32⟩
  | .hbm, ⟨4, _⟩ => ⟨S16384x9232, .f32⟩
  | .hbm, ⟨5, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S8x16384x512 : Shape := ⟨3, ![8, 16384, 512]⟩
abbrev S8x512x512 : Shape := ⟨3, ![8, 512, 512]⟩
abbrev S512x1024 : Shape := ⟨2, ![512, 1024]⟩
abbrev S512x128 : Shape := ⟨2, ![512, 128]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 21
  | .vmem => 19
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1024x1024, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S8x16384x512, .i32⟩
  | .hbm, ⟨19, _⟩ => ⟨S16384x1024, .f32⟩
  | .hbm, ⟨20, _⟩ => ⟨S16384x1024, .bf16⟩
  | .local _ .vmem, ⟨0, _⟩ => ⟨S8x512x512, .i32⟩
  | .local _ .vmem, ⟨1, _⟩ => ⟨S8x512x512, .i32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x512x256, .f32⟩
  | .local _ .vmem, ⟨7, _⟩ => ⟨S1x512x256, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference20Ideal.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S131072x1024 : Shape := ⟨2, ![131072, 1024]⟩
abbrev S8x16384x1024 : Shape := ⟨3, ![8, 16384, 1024]⟩
abbrev S16384x8 : Shape := ⟨2, ![16384, 8]⟩
abbrev S16384x256 : Shape := ⟨2, ![16384, 256]⟩
abbrev S1x16384x256 : Shape := ⟨3, ![1, 16384, 256]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S_, .i32⟩
  | .hbm, ⟨12, _⟩ => ⟨S131072x512, .i32⟩
  | .hbm, ⟨13, _⟩ => ⟨S131072x512, .i32⟩
  | .hbm, ⟨14, _⟩ => ⟨S131072x512, .f32⟩
  | .hbm, ⟨15, _⟩ => ⟨S_, .i32⟩
  | .hbm, ⟨16, _⟩ => ⟨S131072x512, .i32⟩
  | .hbm, ⟨17, _⟩ => ⟨S131072x512, .i32⟩
  | .hbm, ⟨18, _⟩ => ⟨S131072x512, .f32⟩
  | .hbm, ⟨19, _⟩ => ⟨S131072x1024, .f32⟩
  | .hbm, ⟨20, _⟩ => ⟨S8x16384x1024, .f32⟩
  | .hbm, ⟨21, _⟩ => ⟨S16384x8, .f32⟩
  | .hbm, ⟨22, _⟩ => ⟨S16384x1024, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S1x16384x256, .f32⟩
  | .hbm, ⟨46, _⟩ => ⟨S16384x256, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Kernel21.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S8x16384x512 : Shape := ⟨3, ![8, 16384, 512]⟩
abbrev S8x512x512 : Shape := ⟨3, ![8, 512, 512]⟩
abbrev S512x1024 : Shape := ⟨2, ![512, 1024]⟩
abbrev S512x128 : Shape := ⟨2, ![512, 128]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 21
  | .vmem => 19
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1024x1024, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S8x16384x512, .i32⟩
  | .hbm, ⟨19, _⟩ => ⟨S16384x1024, .f32⟩
  | .hbm, ⟨20, _⟩ => ⟨S16384x1024, .bf16⟩
  | .local _ .vmem, ⟨0, _⟩ => ⟨S8x512x512, .i32⟩
  | .local _ .vmem, ⟨1, _⟩ => ⟨S8x512x512, .i32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x512x256, .f32⟩
  | .local _ .vmem, ⟨7, _⟩ => ⟨S1x512x256, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference21Ideal.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S131072x1024 : Shape := ⟨2, ![131072, 1024]⟩
abbrev S8x16384x1024 : Shape := ⟨3, ![8, 16384, 1024]⟩
abbrev S16384x8 : Shape := ⟨2, ![16384, 8]⟩
abbrev S16384x256 : Shape := ⟨2, ![16384, 256]⟩
abbrev S1x16384x256 : Shape := ⟨3, ![1, 16384, 256]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S_, .i32⟩
  | .hbm, ⟨12, _⟩ => ⟨S131072x512, .i32⟩
  | .hbm, ⟨13, _⟩ => ⟨S131072x512, .i32⟩
  | .hbm, ⟨14, _⟩ => ⟨S131072x512, .f32⟩
  | .hbm, ⟨15, _⟩ => ⟨S_, .i32⟩
  | .hbm, ⟨16, _⟩ => ⟨S131072x512, .i32⟩
  | .hbm, ⟨17, _⟩ => ⟨S131072x512, .i32⟩
  | .hbm, ⟨18, _⟩ => ⟨S131072x512, .f32⟩
  | .hbm, ⟨19, _⟩ => ⟨S131072x1024, .f32⟩
  | .hbm, ⟨20, _⟩ => ⟨S8x16384x1024, .f32⟩
  | .hbm, ⟨21, _⟩ => ⟨S16384x8, .f32⟩
  | .hbm, ⟨22, _⟩ => ⟨S16384x1024, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S1x16384x256, .f32⟩
  | .hbm, ⟨46, _⟩ => ⟨S16384x256, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Kernel22.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S8x16384x512 : Shape := ⟨3, ![8, 16384, 512]⟩
abbrev S8x512x512 : Shape := ⟨3, ![8, 512, 512]⟩
abbrev S512x1024 : Shape := ⟨2, ![512, 1024]⟩
abbrev S512x128 : Shape := ⟨2, ![512, 128]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 21
  | .vmem => 19
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1024x1024, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S8x16384x512, .i32⟩
  | .hbm, ⟨19, _⟩ => ⟨S16384x1024, .f32⟩
  | .hbm, ⟨20, _⟩ => ⟨S16384x1024, .bf16⟩
  | .local _ .vmem, ⟨0, _⟩ => ⟨S8x512x512, .i32⟩
  | .local _ .vmem, ⟨1, _⟩ => ⟨S8x512x512, .i32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x512x256, .f32⟩
  | .local _ .vmem, ⟨7, _⟩ => ⟨S1x512x256, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference22Ideal.lean ====
abbrev S131072x512 : Shape := ⟨2, ![131072, 512]⟩
abbrev S16384x1024 : Shape := ⟨2, ![16384, 1024]⟩
abbrev S16384x128 : Shape := ⟨2, ![16384, 128]⟩
abbrev S4x16384x256 : Shape := ⟨3, ![4, 16384, 256]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S131072x1024 : Shape := ⟨2, ![131072, 1024]⟩
abbrev S8x16384x1024 : Shape := ⟨3, ![8, 16384, 1024]⟩
abbrev S16384x8 : Shape := ⟨2, ![16384, 8]⟩
abbrev S16384x256 : Shape := ⟨2, ![16384, 256]⟩
abbrev S1x16384x256 : Shape := ⟨3, ![1, 16384, 256]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S16384x1024, .f32⟩
  | .hbm, ⟨2, _⟩ => ⟨S16384x128, .f32⟩
  | .hbm, ⟨3, _⟩ => ⟨S4x16384x256, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S1024, .f32⟩
  | .hbm, ⟨11, _⟩ => ⟨S_, .i32⟩
  | .hbm, ⟨12, _⟩ => ⟨S131072x512, .i32⟩
  | .hbm, ⟨13, _⟩ => ⟨S131072x512, .i32⟩
  | .hbm, ⟨14, _⟩ => ⟨S131072x512, .f32⟩
  | .hbm, ⟨15, _⟩ => ⟨S_, .i32⟩
  | .hbm, ⟨16, _⟩ => ⟨S131072x512, .i32⟩
  | .hbm, ⟨17, _⟩ => ⟨S131072x512, .i32⟩
  | .hbm, ⟨18, _⟩ => ⟨S131072x512, .f32⟩
  | .hbm, ⟨19, _⟩ => ⟨S131072x1024, .f32⟩
  | .hbm, ⟨20, _⟩ => ⟨S8x16384x1024, .f32⟩
  | .hbm, ⟨21, _⟩ => ⟨S16384x8, .f32⟩
  | .hbm, ⟨22, _⟩ => ⟨S16384x1024, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S1x16384x256, .f32⟩
  | .hbm, ⟨46, _⟩ => ⟨S16384x256, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Proof.Row.lean ====
/- One token's row of the mixing step that closes the layer, over the extended reals. Both programs' results are read
   down to these functions. -/
module

public import Idealize.ShloMosaic.Lib.Pointwise
public import Idealize.ShloMosaic.Lib.IdealHost

@[expose] public section

set_option maxRecDepth 16384

noncomputable section

namespace Cert.Row

open Idealize.ShloMosaic

/-- The number in a word's low half. -/
def low (w : BitVec 32) : EReal := Ideal.ofBits .bf16 (w.extractLsb' 0 16)

/-- The number in a word's high half. -/
def high (w : BitVec 32) : EReal := Ideal.ofBits .bf16 (w.extractLsb' 16 16)

/-- Reading a short float's bits followed by sixteen zero bits as the wide float gives the same number: the sign and
    the exponent are the same bits, and the fraction is the same one times `2 ^ 16`. -/
theorem ofBits_f32_of_bf16 (b : BitVec 32) (s : BitVec 16) (hs : b.extractLsb' 31 1 = s.extractLsb' 15 1)
    (he : (b.extractLsb' 23 8) = s.extractLsb' 7 8) (hf : (b.extractLsb' 0 23).toNat = (s.extractLsb' 0 7).toNat * 2 ^ 16) :
    Ideal.ofBits .f32 b = Ideal.ofBits .bf16 s := by
  simp only [Ideal.ofBits, Ideal.ieee]
  rw [hs, he, hf]
  have e1 : ((s.extractLsb' 0 7).toNat * 2 ^ 16 = 0) ↔ (s.extractLsb' 0 7).toNat = 0 := by omega
  have z1 : (2 : ℝ) ^ (1 - (2 ^ (8 - 1) - 1) - (23 : ℕ) : ℤ) * 2 ^ 16 = (2 : ℝ) ^ (1 - (2 ^ (8 - 1) - 1) - (7 : ℕ) : ℤ) := by
    rw [← zpow_natCast, ← zpow_add₀ (by norm_num)]; norm_num
  simp only [e1]
  split
  · rfl
  split
  · congr 1
    rw [← z1]; push_cast; ring
  · congr 1
    have z2 : ∀ n : ℤ, (2 : ℝ) ^ (n - (2 ^ (8 - 1) - 1) - (23 : ℕ) : ℤ) * 2 ^ 16 = (2 : ℝ) ^ (n - (2 ^ (8 - 1) - 1) - (7 : ℕ) : ℤ) := by
      intro n
      rw [← zpow_natCast, ← zpow_add₀ (by norm_num)]; congr 1; norm_num
      ring
    rw [← z2]; push_cast; ring

/-- A word shifted left by sixteen, read as a wide float, is the number in its low half. -/
theorem ofBits_shift (w : BitVec 32) : Ideal.ofBits .f32 (w <<< 16) = low w := by
  have hw := w.isLt
  refine ofBits_f32_of_bf16 _ _ (BitVec.eq_of_toNat_eq ?_) (BitVec.eq_of_toNat_eq ?_) ?_
  all_goals
    simp only [BitVec.extractLsb'_toNat, BitVec.toNat_shiftLeft, Nat.shiftRight_eq_div_pow, Nat.shiftLeft_eq]
    omega

/-- Clearing a word's low half is shifting it down and up again. -/
theorem and_high (w : BitVec 32) : w &&& 4294901760#32 = (w >>> 16) <<< 16 := by
  ext i hi
  interval_cases i <;> simp

/-- A word with its low half cleared, read as a wide float, is the number in its high half. -/
theorem ofBits_mask (w : BitVec 32) : Ideal.ofBits .f32 (w &&& 4294901760#32) = high w := by
  have hw := w.isLt
  rw [and_high]
  refine ofBits_f32_of_bf16 _ _ (BitVec.eq_of_toNat_eq ?_) (BitVec.eq_of_toNat_eq ?_) ?_
  all_goals
    simp only [BitVec.extractLsb'_toNat, BitVec.toNat_shiftLeft, BitVec.toNat_ushiftRight, Nat.shiftRight_eq_div_pow, Nat.shiftLeft_eq]
    omega

/-- One row times a matrix. -/
def mulRow {K N : Nat} (x : Fin K → EReal) (W : Fin K → Fin N → EReal) (j : Fin N) : EReal := ∑ k : Fin K, x k * W k j

/-- The logistic function as both programs spell it. -/
def sigma (z : EReal) : EReal := Ideal.div 1 (1 + Ideal.exp (-z))

/-- The shared expert's hidden row. -/
def innerRow (x : Fin 1024 → EReal) (sg su : Fin 1024 → Fin 256 → EReal) (j : Fin 256) : EReal :=
  mulRow x sg j * sigma (mulRow x sg j) * mulRow x su j

/-- The weighted sum of the row's eight expert outputs. -/
def routed (w : Fin 8 → EReal) (y : Fin 8 → Fin 1024 → EReal) (d : Fin 1024) : EReal := ∑ k : Fin 8, w k * y k d

/-- An expert output row out of its 512 words: the low halves, then the high halves. -/
def halves (y : Fin 512 → BitVec 32) (d : Fin 1024) : EReal :=
  if h : d.val < 512 then low (y ⟨d.val, h⟩) else high (y ⟨d.val - 512, by have := d.isLt; omega⟩)

/-- The row before its normalisation. -/
def before (x : Fin 1024 → EReal) (w : Fin 8 → EReal) (y : Fin 8 → Fin 512 → BitVec 32) (p : Fin 256 → EReal)
    (sg su : Fin 1024 → Fin 256 → EReal) (sd : Fin 256 → Fin 1024 → EReal) (pg : Fin 1024 → Fin 1024 → EReal)
    (pp : Fin 256 → Fin 1024 → EReal) (d : Fin 1024) : EReal :=
  Ideal.ofBits .f32 0x3FD744FD#32 * x d + (routed w (fun k => halves (y k)) d + mulRow (innerRow x sg su) sd d)
    + sigma (mulRow x pg d) * mulRow p pp d

/-- A row's mean. -/
def mean (z : Fin 1024 → EReal) : EReal := Ideal.div (∑ k : Fin 1024, z k) (Ideal.ofBits .f32 0x44800000#32)

/-- A row normalised, scaled and shifted. -/
def norm (z g b : Fin 1024 → EReal) (d : Fin 1024) : EReal :=
  (z d - mean z) * Ideal.rsqrt (mean (fun k => (z k - mean z) * (z k - mean z)) + Ideal.ofBits .f32 0x3727C5AC#32) * g d + b d

end Cert.Row

end
-- ==== Proof.Block.lean ====
/- What the kernel leaves for one tile of 512 tokens, read at an index: row `r` of the tile is `Row.norm` of `Row.before`
   of row `r` of the tile's operands. -/
module

public import proofs.«01_k».proof.Proof.Row
public import proofs.«01_k».proof.Proof.Gen.KernelIdeal.Frame
public import Idealize.ShloMosaic.Lib.Pipeline.Value

@[expose] public section

set_option maxRecDepth 16384

noncomputable section

namespace Cert.BlockRow

open Cert.KernelIdeal Cert.KernelIdeal.Gen Idealize.ShloMosaic Cert.Row

variable (X0 : Vec Ideal S8x512x512 .i32) (X1 : Vec Ideal S512x1024 .f32) (X2 : Vec Ideal S512x128 .f32)
  (X3 : Vec Ideal S1x512x256 .f32) (X4 X5 : Vec Ideal S1024x256 .bf16) (X6 : Vec Ideal S256x1024 .bf16)
  (X7 : Vec Ideal S1024x1024 .bf16) (X8 : Vec Ideal S256x1024 .bf16) (X9 X10 : Vec Ideal S1x1024 .f32)

/-- Row `r` of the tile before its normalisation. -/
def tbefore (r : Fin 512) (d : Fin 1024) : EReal :=
  before (fun k => X1 (ix2 r k)) (fun k => X2 (ix2 r ⟨k.val, by omega⟩)) (fun k c => X0 (ix3 k r c)) (fun j => X3 (ix3 0 r j))
    (fun k j => X4 (ix2 k j)) (fun k j => X5 (ix2 k j)) (fun k j => X6 (ix2 k j)) (fun k j => X7 (ix2 k j))
    (fun k j => X8 (ix2 k j)) d

/-- The shared expert's output, row by row. -/
theorem shared_eq (r : Fin 512) (d : Fin 1024) : k0_pay4 X1 X4 X5 X6 (ix2 r d)
    = mulRow (innerRow (fun k => X1 (ix2 r k)) (fun k j => X4 (ix2 k j)) (fun k j => X5 (ix2 k j))) (fun k j => X6 (ix2 k j)) d := by
  pointwise [k0_pay4, k0_pay3]
  simp only [mulRow, innerRow, sigma, zero_sub]

/-- The gate of the embedding. -/
theorem gatep_eq (r : Fin 512) (d : Fin 1024) : k0_pay5 X1 X7 (ix2 r d)
    = sigma (mulRow (fun k => X1 (ix2 r k)) (fun k j => X7 (ix2 k j)) d) := by
  pointwise [k0_pay5, k0_pay3]
  simp only [mulRow, sigma, zero_sub]

/-- The part of the row that no expert gives. -/
theorem pay7_eq (u v : FVec Ideal S512x1024 .f32) (r : Fin 512) (d : Fin 1024) : k0_pay7 u v (k0_pay6 X3) X8 X1 (ix2 r d)
    = Ideal.ofBits .f32 0x3FD744FD#32 * X1 (ix2 r d) + u (ix2 r d)
      + v (ix2 r d) * mulRow (fun j => X3 (ix3 0 r j)) (fun k j => X8 (ix2 k j)) d := by
  pointwise [k0_pay7, k0_pay6]
  simp only [mulRow]

/-- The low halves' weighted sum over the eight experts. -/
theorem low_eq (W : Vec Ideal S512x128 .f32) (Y0 Y1 Y2 Y3 Y4 Y5 Y6 : Vec Ideal S1x512x512 .i32) (r c : Fin 512) :
    k0_pay26 W (k0_pay16 W Y0 Y1 Y2) Y3 Y4 Y5 Y6 (ix2 r c)
      = W (ix2 r 0) * low (Y0 (ix3 0 r c)) + W (ix2 r 1) * low (Y1 (ix3 0 r c)) + W (ix2 r 2) * low (Y2 (ix3 0 r c))
        + W (ix2 r 3) * low (Y3 (ix3 0 r c)) + W (ix2 r 4) * low (Y4 (ix3 0 r c)) + W (ix2 r 5) * low (Y5 (ix3 0 r c))
        + W (ix2 r 6) * low (Y6 (ix3 0 r c)) := by
  pointwise [k0_pay26, k0_pay16, k0_pay8, k0_pay9, k0_pay10, k0_pay11, k0_pay13, k0_pay15, k0_pay18, k0_pay19, k0_pay20, k0_pay21,
    k0_pay22, k0_pay23, k0_pay24, k0_pay25]
  simp only [low, zero_add]

/-- The high halves' weighted sum over the eight experts. -/
theorem high_eq (W : Vec Ideal S512x128 .f32) (Y0 Y1 Y2 Y3 Y4 Y5 Y6 : Vec Ideal S1x512x512 .i32) (r c : Fin 512) :
    k0_pay27 W (k0_pay12 W Y0 Y1) (k0_pay14 Y2) (k0_pay17 W) Y3 Y4 Y5 Y6 (ix2 r c)
      = W (ix2 r 0) * high (Y0 (ix3 0 r c)) + W (ix2 r 1) * high (Y1 (ix3 0 r c)) + W (ix2 r 2) * high (Y2 (ix3 0 r c))
        + W (ix2 r 3) * high (Y3 (ix3 0 r c)) + W (ix2 r 4) * high (Y4 (ix3 0 r c)) + W (ix2 r 5) * high (Y5 (ix3 0 r c))
        + W (ix2 r 6) * high (Y6 (ix3 0 r c)) := by
  pointwise [k0_pay27, k0_pay12, k0_pay14, k0_pay17, k0_pay8, k0_pay9, k0_pay10, k0_pay11, k0_pay13, k0_pay15, k0_pay18, k0_pay19,
    k0_pay20, k0_pay21, k0_pay22, k0_pay23, k0_pay24, k0_pay25]
  simp only [high, zero_add]

/-- The last part of the body, from the part of the row no expert gives and the two halves' sums over seven experts:
    the row before its normalisation at one index, ... -/
def joined (v : FVec Ideal S512x1024 .f32) (W : Vec Ideal S512x128 .f32) (L H : FVec Ideal S512x512 .f32)
    (Y : Vec Ideal S1x512x512 .i32) (r : Fin 512) (d : Fin 1024) : EReal :=
  v (ix2 r d) + if h : d.val < 512 then L (ix2 r ⟨d.val, h⟩) + W (ix2 r 7) * low (Y (ix3 0 r ⟨d.val, h⟩))
    else H (ix2 r ⟨d.val - 512, by have := d.isLt; omega⟩) + W (ix2 r 7) * high (Y (ix3 0 r ⟨d.val - 512, by have := d.isLt; omega⟩))

/-- The same as a vector. -/
def joinedVec (v : FVec Ideal S512x1024 .f32) (W : Vec Ideal S512x128 .f32) (L H : FVec Ideal S512x512 .f32)
    (Y : Vec Ideal S1x512x512 .i32) : FVec Ideal S512x1024 .f32 :=
  addf v (concatenate S512x1024 1
    [⟨S512x512, addf L (mulf (broadcastTo S512x512 (extractStridedSlice S512x1 ![0, 7] W slices_S512x128_o0_7_S512x1) broadcasts_S512x1_S512x512)
      (unpackElementwise 0 (shapeCast S512x512 Y shapeCasts_S1x512x512_S512x512)))⟩,
     ⟨S512x512, addf H (mulf (broadcastTo S512x512 (extractStridedSlice S512x1 ![0, 7] W slices_S512x128_o0_7_S512x1) broadcasts_S512x1_S512x512)
      (unpackElementwise 1 (shapeCast S512x512 Y shapeCasts_S1x512x512_S512x512)))⟩] concatenates_S512x512_S512x512_S512x1024_d1)

/-- The vector summed before the second norm, at an index. -/
theorem joinedVec_apply (v : FVec Ideal S512x1024 .f32) (W : Vec Ideal S512x128 .f32) (L H : FVec Ideal S512x512 .f32)
    (Y : Vec Ideal S1x512x512 .i32) (r : Fin 512) (d : Fin 1024) : joinedVec v W L H Y (ix2 r d) = joined v W L H Y r d := by
  unfold joinedVec joined
  rw [ValueIdx.addf_apply]
  refine congrArg (v (ix2 r d) + ·) ?_
  split
  · rename_i h
    refine (concatenate_pair_apply_left (s₁ := S512x512) (s₂ := S512x512) 1 _ _ _ (ix2 r d) rfl (ix2 r ⟨d.val, h⟩)
      (fun b => by match b with | ⟨0, _⟩ => rfl | ⟨1, _⟩ => rfl)).trans ?_
    pointwise
    rfl
  · rename_i h
    have hd := d.isLt
    refine (concatenate_pair_apply_right (s₁ := S512x512) (s₂ := S512x512) 1 _ _ _ (ix2 r d) rfl rfl (ix2 r ⟨d.val - 512, by omega⟩)
      (fun b hb => by match b, hb with | ⟨0, _⟩, _ => rfl | ⟨1, _⟩, hb => exact absurd rfl hb)
      (by show d.val - 512 + 512 = d.val; omega)).trans ?_
    pointwise
    rfl

/-- The normalisation of every row of a vector. -/
def normVec (z : FVec Ideal S512x1024 .f32) : FVec Ideal S512x1024 .f32 :=
  have v143 : FVec Ideal S512x1 .f32 := divf (shapeCast S512x1 (multiReduction .add [1] S512 z 0x00000000#32 reduces_S512x1024_S512 (.inl rfl) rfl) shapeCasts_S512_S512x1)
    (broadcast S512x1 (Scalar.ofBits .f32 0x44800000#32))
  have v145 : FVec Ideal S512x1024 .f32 := subf z (broadcastTo S512x1024 v143 broadcasts_S512x1_S512x1024)
  have v150 : FVec Ideal S512x1 .f32 := divf (shapeCast S512x1 (multiReduction .add [1] S512 (mulf v145 v145) 0x00000000#32 reduces_S512x1024_S512 (.inl rfl) rfl) shapeCasts_S512_S512x1)
    (broadcast S512x1 (Scalar.ofBits .f32 0x44800000#32))
  have v153 : FVec Ideal S512x1 .f32 := rsqrt (addf v150 (broadcast S512x1 (Scalar.ofBits .f32 0x3727C5AC#32)))
  addf (mulf (mulf v145 (broadcastTo S512x1024 v153 broadcasts_S512x1_S512x1024))
    (broadcastTo S512x1024 (shapeCast S1x1024 X9 shapeCasts_S1x1024_S1x1024) broadcasts_S1x1024_S512x1024))
    (broadcastTo S512x1024 (shapeCast S1x1024 X10 shapeCasts_S1x1024_S1x1024) broadcasts_S1x1024_S512x1024)

/-- The norm of a tile's rows, at an index. -/
theorem normVec_apply (z : FVec Ideal S512x1024 .f32) (r : Fin 512) (d : Fin 1024) :
    normVec X9 X10 z (ix2 r d) = Row.norm (fun k => z (ix2 r k)) (fun k => X9 (ix2 0 k)) (fun k => X10 (ix2 0 k)) d := by
  pointwise [normVec]
  simp only [Row.norm, mean]

/-- ... and the normalised one. -/
theorem pay1_eq (v : FVec Ideal S512x1024 .f32) (W : Vec Ideal S512x128 .f32) (L H : FVec Ideal S512x512 .f32)
    (Y : Vec Ideal S1x512x512 .i32) (r : Fin 512) (d : Fin 1024) :
    k0_pay1 v W L H Y X9 X10 (ix2 r d)
      = Row.norm (joined v W L H Y r) (fun k => X9 (ix2 0 k)) (fun k => X10 (ix2 0 k)) d := by
  have e : k0_pay1 v W L H Y X9 X10 = normVec X9 X10 (joinedVec v W L H Y) := rfl
  rw [e, normVec_apply]
  simp only [joinedVec_apply]

/-- What the tile's rows are before their normalisation. -/
theorem before_eq (r : Fin 512) (d : Fin 1024) :
    joined (k0_pay28 X0 X1 X2 X3 X4 X5 X6 X7 X8 X9 X10) (View.ld X2 r0_5) (k0_pay29 X0 X1 X2 X3 X4 X5 X6 X7 X8 X9 X10)
        (k0_pay30 X0 X1 X2 X3 X4 X5 X6 X7 X8 X9 X10) (View.ld X0 r0_13) r d
      = tbefore X0 X1 X2 X3 X4 X5 X6 X7 X8 r d := by
  unfold joined k0_pay28 k0_pay29 k0_pay30 tbefore before
  have z2 : (![0, 0] : Fin 2 → Nat) = fun _ => 0 := funext fun a => by match a with | ⟨0, _⟩ => rfl | ⟨1, _⟩ => rfl
  have z3 : (![0, 0, 0] : Fin 3 → Nat) = fun _ => 0 := funext fun a => by match a with | ⟨0, _⟩ => rfl | ⟨1, _⟩ => rfl | ⟨2, _⟩ => rfl
  have l0 : View.ld X1 r0_0 = X1 := View.ld_unit_zero z2 _ X1
  have l1 : View.ld X4 r0_1 = X4 := View.ld_unit_zero z2 _ X4
  have l2 : View.ld X5 r0_1 = X5 := View.ld_unit_zero z2 _ X5
  have l3 : View.ld X6 r0_2 = X6 := View.ld_unit_zero z2 _ X6
  have l4 : View.ld X7 r0_3 = X7 := View.ld_unit_zero z2 _ X7
  have l5 : View.ld X3 r0_4 = X3 := View.ld_unit_zero z3 _ X3
  have l6 : View.ld X8 r0_2 = X8 := View.ld_unit_zero z2 _ X8
  have l7 : View.ld X2 r0_5 = X2 := View.ld_unit_zero z2 _ X2
  rw [l0, l1, l2, l3, l4, l5, l6, l7, pay7_eq, shared_eq, gatep_eq]
  have y0 : ∀ c : Fin 512, View.ld X0 r0_6 (ix3 0 r c) = X0 (ix3 0 r c) := fun c => by pointwise
  have y1 : ∀ c : Fin 512, View.ld X0 r0_7 (ix3 0 r c) = X0 (ix3 1 r c) := fun c => by pointwise
  have y2 : ∀ c : Fin 512, View.ld X0 r0_8 (ix3 0 r c) = X0 (ix3 2 r c) := fun c => by pointwise
  have y3 : ∀ c : Fin 512, View.ld X0 r0_9 (ix3 0 r c) = X0 (ix3 3 r c) := fun c => by pointwise
  have y4 : ∀ c : Fin 512, View.ld X0 r0_10 (ix3 0 r c) = X0 (ix3 4 r c) := fun c => by pointwise
  have y5 : ∀ c : Fin 512, View.ld X0 r0_11 (ix3 0 r c) = X0 (ix3 5 r c) := fun c => by pointwise
  have y6 : ∀ c : Fin 512, View.ld X0 r0_12 (ix3 0 r c) = X0 (ix3 6 r c) := fun c => by pointwise
  have y7 : ∀ c : Fin 512, View.ld X0 r0_13 (ix3 0 r c) = X0 (ix3 7 r c) := fun c => by pointwise
  have comm : ∀ a s p y : EReal, a + s + p + y = a + (y + s) + p := fun a s p y => by
    rw [add_assoc a s p, add_assoc, add_assoc a, add_comm y s, add_assoc s y p, add_comm y p, ← add_assoc s p y]
  rw [← comm]
  refine congrArg₂ (· + ·) rfl ?_
  unfold routed
  simp only [low_eq, high_eq, y0, y1, y2, y3, y4, y5, y6, y7, Fin.sum_univ_eight, halves]
  split <;> rfl

/-- The first result's tile at an index. -/
theorem out11_eq (r : Fin 512) (d : Fin 1024) : out0_11 X0 X1 X2 X3 X4 X5 X6 X7 X8 X9 X10 (ix2 r d)
    = Row.norm (tbefore X0 X1 X2 X3 X4 X5 X6 X7 X8 r) (fun k => X9 (ix2 0 k)) (fun k => X10 (ix2 0 k)) d := by
  have z2 : (![0, 0] : Fin 2 → Nat) = fun _ => 0 := funext fun a => by match a with | ⟨0, _⟩ => rfl | ⟨1, _⟩ => rfl
  unfold out0_11
  rw [View.canon_unit_zero z2, pay1_eq, show View.ld X9 r0_14 = X9 from View.ld_unit_zero z2 _ X9,
    show View.ld X10 r0_14 = X10 from View.ld_unit_zero z2 _ X10]
  exact congrArg (Row.norm · _ _ d) (funext fun k => before_eq ..)

/-- The second result's tile at an index: the same number. -/
theorem out12_eq (r : Fin 512) (d : Fin 1024) : out0_12 X0 X1 X2 X3 X4 X5 X6 X7 X8 X9 X10 (ix2 r d)
    = Row.norm (tbefore X0 X1 X2 X3 X4 X5 X6 X7 X8 r) (fun k => X9 (ix2 0 k)) (fun k => X10 (ix2 0 k)) d := by
  have z2 : (![0, 0] : Fin 2 → Nat) = fun _ => 0 := funext fun a => by match a with | ⟨0, _⟩ => rfl | ⟨1, _⟩ => rfl
  rw [← out11_eq]
  unfold out0_12 out0_11
  rw [View.canon_unit_zero z2, View.canon_unit_zero z2]
  rfl

end Cert.BlockRow

end
-- ==== Proof.Ref.lean ====
/- The reference read at an index: row `n` of its result is `Row.norm` of `Row.before` of row `n` of its arguments. -/
module

public import proofs.«01_k».proof.Proof.Row
public import proofs.«01_k».proof.Proof.Gen.ReferenceIdeal.Read

@[expose] public section

set_option maxRecDepth 16384

noncomputable section

namespace Cert.RefRow

open Cert.ReferenceIdeal Cert.ReferenceIdeal.Gen Cert.ReferenceIdeal.Read Idealize.ShloMosaic Cert.Row

variable (A0 : (⟨S131072x512, .i32⟩ : BufTy).Contents (Elt Ideal)) (A1 : (⟨S16384x1024, .f32⟩ : BufTy).Contents (Elt Ideal))
  (A2 : (⟨S16384x128, .f32⟩ : BufTy).Contents (Elt Ideal)) (A3 : (⟨S4x16384x256, .f32⟩ : BufTy).Contents (Elt Ideal))
  (A4 A5 : (⟨S1024x256, .f32⟩ : BufTy).Contents (Elt Ideal)) (A6 : (⟨S256x1024, .f32⟩ : BufTy).Contents (Elt Ideal))
  (A7 : (⟨S1024x1024, .f32⟩ : BufTy).Contents (Elt Ideal)) (A8 : (⟨S256x1024, .f32⟩ : BufTy).Contents (Elt Ideal))
  (A9 A10 : (⟨S1024, .f32⟩ : BufTy).Contents (Elt Ideal))

/-- Row `n` of the token stream. -/
def rx (n : Fin 16384) (k : Fin 1024) : EReal := A1 (ix2 n k)
/-- Row `n`'s eight routing weights. -/
def rw8 (n : Fin 16384) (k : Fin 8) : EReal := A2 (ix2 n ⟨k.val, by omega⟩)
/-- Row `n`'s words of expert output `k`: the outputs lie one after another. -/
def ry (n : Fin 16384) (k : Fin 8) (c : Fin 512) : BitVec 32 := A0 (ix2 ⟨k.val * 16384 + n.val, by omega⟩ c)
/-- Row `n` of the first layer's embedding. -/
def rp (n : Fin 16384) (j : Fin 256) : EReal := A3 (ix3 0 n j)
/-- A matrix as a function of its two coordinates. -/
def mat {a b : Nat} (A : (⟨2, ![a, b]⟩ : Shape).Idx → EReal) (k : Fin a) (j : Fin b) : EReal := A (ix2 k j)

/-- Row `n` before its normalisation. -/
def rbefore (n : Fin 16384) (d : Fin 1024) : EReal :=
  before (rx A1 n) (rw8 A2 n) (ry A0 n) (rp A3 n) (mat A4) (mat A5) (mat A6) (mat A7) (mat A8) d

/-- Row `n` of the result. -/
def rout (n : Fin 16384) (d : Fin 1024) : EReal :=
  norm (rbefore A0 A1 A2 A3 A4 A5 A6 A7 A8 n) (fun k => A9 (ix1 k)) (fun k => A10 (ix1 k)) d

/-- The shared expert's gate product at an index. -/
theorem gate_eq (n : Fin 16384) (j : Fin 256) : val_main_v10 A1 A4 (ix2 n j) = mulRow (rx A1 n) (mat A4) j := by
  rw [val_main_v10_apply]
  refine Finset.sum_congr rfl fun k _ => congrArg₂ (· * ·) (congrArg A1 ?_) (congrArg A4 ?_)
  all_goals exact funext fun a => by match a with | ⟨0, _⟩ => rfl | ⟨1, _⟩ => rfl

/-- The shared expert's second product at an index. -/
theorem up_eq (n : Fin 16384) (j : Fin 256) : val_main_v12 A1 A5 (ix2 n j) = mulRow (rx A1 n) (mat A5) j := by
  rw [val_main_v12_apply]
  refine Finset.sum_congr rfl fun k _ => congrArg₂ (· * ·) (congrArg A1 ?_) (congrArg A5 ?_)
  all_goals exact funext fun a => by match a with | ⟨0, _⟩ => rfl | ⟨1, _⟩ => rfl

/-- The shared expert's hidden row at an index. -/
theorem hidden_eq (n : Fin 16384) (j : Fin 256) :
    val_main_v13 A1 A4 A5 (ix2 n j) = innerRow (rx A1 n) (mat A4) (mat A5) j := by
  rw [val_main_v13_apply, val_main_v11_apply, val_main_call0_v5_apply, val_main_call0_v4_apply, val_main_call0_cst_0_apply,
    val_main_call0_v3_apply, val_main_call0_v2_apply, val_main_call0_cst_apply, val_main_call0_v1_apply, val_main_call0_v0_apply,
    gate_eq, up_eq]
  simp only [Ideal.mulf_def, Ideal.hostDivf_def, Ideal.addf_def, Ideal.hostUnary_exp_def, Ideal.hostNegf_def, Ideal.negf_def,
    Ideal.ofBits_def, Ideal.ofBits_one_f32]
  rfl

/-- The shared expert's output at an index. -/
theorem shared_eq (n : Fin 16384) (d : Fin 1024) :
    val_main_v14 A1 A4 A5 A6 (ix2 n d) = mulRow (innerRow (rx A1 n) (mat A4) (mat A5)) (mat A6) d := by
  rw [val_main_v14_apply]
  refine Finset.sum_congr rfl fun k _ => congrArg₂ (· * ·) ?_ (congrArg A6 ?_)
  · rw [← hidden_eq]
    exact congrArg _ (funext fun a => by match a with | ⟨0, _⟩ => rfl | ⟨1, _⟩ => rfl)
  · exact funext fun a => by match a with | ⟨0, _⟩ => rfl | ⟨1, _⟩ => rfl

/-- The low half of a word, as a number. -/
theorem word_low (i : S131072x512.Idx) : val_main_v2 A0 i = low (A0 i) := by
  rw [val_main_v2_apply, val_main_v1_apply, val_main_v0_apply, val_main_c_apply]
  exact ofBits_shift (A0 i)

/-- The high half of a word, as a number. -/
theorem word_high (i : S131072x512.Idx) : val_main_v5 A0 i = high (A0 i) := by
  rw [val_main_v5_apply, val_main_v4_apply, val_main_v3_apply, val_main_c_0_apply]
  exact ofBits_mask (A0 i)

/-- The two halves side by side, at an index. -/
theorem halves_eq (r : Fin 131072) (d : Fin 1024) : val_main_v6 A0 (ix2 r d) = halves (fun c => A0 (ix2 r c)) d := by
  unfold val_main_v6 halves
  split
  · rename_i h
    rw [← word_low]
    exact concatenate_pair_apply_left (s₁ := S131072x512) (s₂ := S131072x512) 1 (val_main_v2 A0) (val_main_v5 A0) _ (ix2 r d) rfl (ix2 r ⟨d.val, h⟩) (fun b => by match b with | ⟨0, _⟩ => rfl | ⟨1, _⟩ => rfl)
  · rename_i h
    have hd := d.isLt
    rw [← word_high]
    exact concatenate_pair_apply_right (s₁ := S131072x512) (s₂ := S131072x512) 1 (val_main_v2 A0) (val_main_v5 A0) _ (ix2 r d) rfl rfl (ix2 r ⟨d.val - 512, by omega⟩)
      (fun b hb => by match b, hb with | ⟨0, _⟩, _ => rfl | ⟨1, _⟩, hb => exact absurd rfl hb)
      (by show d.val - 512 + 512 = d.val; omega)

/-- The weighted sum of a token's eight expert rows. -/
theorem routed_eq (n : Fin 16384) (d : Fin 1024) :
    val_main_v9 A0 A2 (ix2 n d) = routed (rw8 A2 n) (fun k => halves (ry A0 n k)) d := by
  rw [val_main_v9_apply]
  refine Finset.sum_congr rfl fun k _ => congrArg₂ (· * ·) ?_ ?_
  · rw [val_main_v8_apply]
    exact congrArg A2 (funext fun a => by match a with | ⟨0, _⟩ => rfl | ⟨1, _⟩ => rfl)
  · rw [val_main_v7_apply]
    refine Eq.trans (congrArg _ (?_ : _ = ix2 ⟨k.val * 16384 + n.val, by omega⟩ d)) (halves_eq A0 _ d)
    have hk := k.isLt
    have hn := n.isLt
    have hd := d.isLt
    funext a
    match a with
    | ⟨0, _⟩ => exact Fin.ext (by show _ = k.val * 16384 + n.val; simp [idx_main_v7, ridx_main_v9]; omega)
    | ⟨1, _⟩ => exact Fin.ext (by show _ = d.val; simp [idx_main_v7, ridx_main_v9])

/-- The product the embedding's gate is taken of. -/
theorem gatep_eq (n : Fin 16384) (d : Fin 1024) : val_main_v15 A1 A7 (ix2 n d) = mulRow (rx A1 n) (mat A7) d := by
  rw [val_main_v15_apply]
  refine Finset.sum_congr rfl fun k _ => congrArg₂ (· * ·) (congrArg A1 ?_) (congrArg A7 ?_)
  all_goals exact funext fun a => by match a with | ⟨0, _⟩ => rfl | ⟨1, _⟩ => rfl

/-- The embedding's own product. -/
theorem embed_eq (n : Fin 16384) (d : Fin 1024) : val_main_v24 A3 A8 (ix2 n d) = mulRow (rp A3 n) (mat A8) d := by
  rw [val_main_v24_apply]
  refine Finset.sum_congr rfl fun k _ => congrArg₂ (· * ·) ?_ (congrArg A8 ?_)
  · rw [val_main_v23_apply, val_main_v22_apply]
    refine congrArg A3 ?_
    have hk := k.isLt
    have hn := n.isLt
    funext a
    match a with
    | ⟨0, _⟩ => exact Fin.ext (by show _ = 0; simp [idx_main_v22, idx_main_v23, lidx_main_v24])
    | ⟨1, _⟩ => exact Fin.ext (by show _ = n.val; simp [idx_main_v22, idx_main_v23, lidx_main_v24]; omega)
    | ⟨2, _⟩ => exact Fin.ext (by show _ = k.val; simp [idx_main_v22, idx_main_v23, lidx_main_v24])
  · exact funext fun a => by match a with | ⟨0, _⟩ => rfl | ⟨1, _⟩ => rfl

/-- What the norm is taken of, at an index. -/
theorem before_eq (n : Fin 16384) (d : Fin 1024) :
    val_main_v30 A0 A1 A2 A3 A4 A5 A6 A7 A8 (ix2 n d) = rbefore A0 A1 A2 A3 A4 A5 A6 A7 A8 n d := by
  rw [val_main_v30_apply, val_main_v29_apply, val_main_v28_apply, val_main_v27_apply, val_main_v26_apply, val_main_cst_2_apply,
    val_main_v25_apply, val_main_v21_apply, val_main_v20_apply, val_main_cst_1_apply, val_main_v19_apply, val_main_v18_apply,
    val_main_cst_apply, val_main_v17_apply, val_main_v16_apply, routed_eq, shared_eq, gatep_eq, embed_eq]
  simp only [Ideal.mulf_def, Ideal.hostDivf_def, Ideal.addf_def, Ideal.hostUnary_exp_def, Ideal.hostNegf_def, Ideal.negf_def,
    Ideal.ofBits_def, Ideal.ofBits_one_f32]
  rfl

/-- The mean of a row. -/
theorem mean_eq (n : Fin 16384) :
    val_main_v34 A0 A1 A2 A3 A4 A5 A6 A7 A8 (ix2 n 0) = mean (rbefore A0 A1 A2 A3 A4 A5 A6 A7 A8 n) := by
  rw [val_main_v34_apply, val_main_v33_apply, val_main_cst_4_apply, val_main_v32_apply, val_main_v31_apply, val_main_cst_3_apply]
  simp only [Ideal.hostDivf_def, Ideal.ofBits_def, Ideal.ofBits_zero_f32, zero_add]
  refine congrArg (Ideal.div · _) (Finset.sum_congr rfl fun k _ => ?_)
  rw [← before_eq]
  exact congrArg _ (funext fun a => by match a with | ⟨0, _⟩ => rfl | ⟨1, _⟩ => rfl)

/-- A row less its mean. -/
theorem centre_eq (n : Fin 16384) (d : Fin 1024) : val_main_v36 A0 A1 A2 A3 A4 A5 A6 A7 A8 (ix2 n d)
    = rbefore A0 A1 A2 A3 A4 A5 A6 A7 A8 n d - mean (rbefore A0 A1 A2 A3 A4 A5 A6 A7 A8 n) := by
  rw [val_main_v36_apply, val_main_v35_apply, before_eq, ← mean_eq]
  simp only [Ideal.subf_def]
  refine congrArg (_ - val_main_v34 _ _ _ _ _ _ _ _ _ ·) ?_
  exact funext fun a => by match a with | ⟨0, _⟩ => rfl | ⟨1, _⟩ => rfl

/-- The mean square of a row less its mean. -/
theorem var_eq (n : Fin 16384) : val_main_v41 A0 A1 A2 A3 A4 A5 A6 A7 A8 (ix2 n 0)
    = mean (fun k => (rbefore A0 A1 A2 A3 A4 A5 A6 A7 A8 n k - mean (rbefore A0 A1 A2 A3 A4 A5 A6 A7 A8 n))
        * (rbefore A0 A1 A2 A3 A4 A5 A6 A7 A8 n k - mean (rbefore A0 A1 A2 A3 A4 A5 A6 A7 A8 n))) := by
  rw [val_main_v41_apply, val_main_v40_apply, val_main_cst_6_apply, val_main_v39_apply, val_main_v38_apply, val_main_cst_5_apply]
  simp only [Ideal.hostDivf_def, Ideal.ofBits_def, Ideal.ofBits_zero_f32, zero_add]
  refine congrArg (Ideal.div · _) (Finset.sum_congr rfl fun k _ => ?_)
  rw [val_main_v37_apply, Ideal.mulf_def]
  beta_reduce
  rw [← centre_eq]
  have e : idx_main_v38 (idx_main_v39 (ix2 n 0)) k = ix2 n k := funext fun a => by match a with | ⟨0, _⟩ => rfl | ⟨1, _⟩ => rfl
  rw [e]

/-- Row `n` of the reference's first result. -/
theorem out_eq (n : Fin 16384) (d : Fin 1024) :
    val_main_v54 A0 A1 A2 A3 A4 A5 A6 A7 A8 A9 A10 (ix2 n d) = rout A0 A1 A2 A3 A4 A5 A6 A7 A8 A9 A10 n d := by
  rw [val_main_v54_apply, val_main_v53_apply, val_main_v52_apply, val_main_v51_apply, val_main_v50_apply, val_main_v49_apply,
    val_main_v48_apply, val_main_v47_apply, val_main_v46_apply, val_main_v45_apply, val_main_v44_apply, val_main_cst_7_apply,
    val_main_v43_apply, val_main_v42_apply, before_eq]
  have e1 : idx_main_v42 (ix2 n d) = ix2 n 0 := funext fun a => by match a with | ⟨0, _⟩ => rfl | ⟨1, _⟩ => rfl
  have e2 : idx_main_v47 (ix2 n d) = ix2 n 0 := funext fun a => by match a with | ⟨0, _⟩ => rfl | ⟨1, _⟩ => rfl
  rw [e1, e2, mean_eq, var_eq]
  simp only [Ideal.mulf_def, Ideal.addf_def, Ideal.subf_def, Ideal.hostUnary_rsqrt_def, Ideal.ofBits_def]
  refine congrArg₂ (· + ·) (congrArg (_ * ·) (congrArg A9 ?_)) (congrArg A10 ?_)
  all_goals exact funext fun a => by match a with | ⟨0, _⟩ => rfl

end Cert.RefRow

end
-- ==== Proof.Blocks.lean ====
/- The windows' blocks as parts of the arguments, and the two result arrays after the run, whole. -/
module

public import proofs.«01_k».proof.Proof.Block
public import proofs.«01_k».proof.Proof.Ref
public import Idealize.ShloMosaic.Lib.ValueLayout

@[expose] public section

set_option maxRecDepth 16384

noncomputable section

namespace Cert.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The grid's point `t` works on token tile `t`; the weights are whole at every point. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Operand 4's block is the whole operand at every point. -/
theorem whole4 : ∀ t : Fin cfg0.N, win0_4.index t (0 : Fin 2) = 0 ∧ win0_4.index t (1 : Fin 2) = 0 :=
  (by decide +kernel : ∀ t : Fin grid0.N, _)
/-- Operand 5's block is the whole operand at every point. -/
theorem whole5 : ∀ t : Fin cfg0.N, win0_5.index t (0 : Fin 2) = 0 ∧ win0_5.index t (1 : Fin 2) = 0 :=
  (by decide +kernel : ∀ t : Fin grid0.N, _)
/-- Operand 6's block is the whole operand at every point. -/
theorem whole6 : ∀ t : Fin cfg0.N, win0_6.index t (0 : Fin 2) = 0 ∧ win0_6.index t (1 : Fin 2) = 0 :=
  (by decide +kernel : ∀ t : Fin grid0.N, _)
/-- Operand 7's block is the whole operand at every point. -/
theorem whole7 : ∀ t : Fin cfg0.N, win0_7.index t (0 : Fin 2) = 0 ∧ win0_7.index t (1 : Fin 2) = 0 :=
  (by decide +kernel : ∀ t : Fin grid0.N, _)
/-- Operand 8's block is the whole operand at every point. -/
theorem whole8 : ∀ t : Fin cfg0.N, win0_8.index t (0 : Fin 2) = 0 ∧ win0_8.index t (1 : Fin 2) = 0 :=
  (by decide +kernel : ∀ t : Fin grid0.N, _)
/-- Operand 9's block is the whole operand at every point. -/
theorem whole9 : ∀ t : Fin cfg0.N, win0_9.index t (0 : Fin 2) = 0 ∧ win0_9.index t (1 : Fin 2) = 0 :=
  (by decide +kernel : ∀ t : Fin grid0.N, _)
/-- Operand 10's block is the whole operand at every point. -/
theorem whole10 : ∀ t : Fin cfg0.N, win0_10.index t (0 : Fin 2) = 0 ∧ win0_10.index t (1 : Fin 2) = 0 :=
  (by decide +kernel : ∀ t : Fin grid0.N, _)
/-- Both results are written back at every point. -/
theorem flushes : ∀ t : Fin cfg0.N, (cfg0.win 11).flush t = true ∧ (cfg0.win 12).flush t = true :=
  (by decide +kernel : ∀ t : Fin grid0.N, _)

/-- There are 32 tiles. -/
theorem t_lt (t : Fin cfg0.N) : t.val < 32 := t.isLt

/-- The token that row `r` of tile `t` is. -/
def tok (t : Fin cfg0.N) (r : Fin 512) : Fin 16384 := ⟨t.val * 512 + r.val, by have := t_lt t; omega⟩

/-- At the ideal values the narrowed weight is the weight. -/
theorem v0_eq : (V m c main_v0 : S1024x256.Idx → EReal) = m ((c : Thread nD τ).loc main_arg4) := rfl
/-- At the ideal values the narrowed weight is the weight. -/
theorem v1_eq : (V m c main_v1 : S1024x256.Idx → EReal) = m ((c : Thread nD τ).loc main_arg5) := rfl
/-- At the ideal values the narrowed weight is the weight. -/
theorem v2_eq : (V m c main_v2 : S256x1024.Idx → EReal) = m ((c : Thread nD τ).loc main_arg6) := rfl
/-- At the ideal values the narrowed weight is the weight. -/
theorem v3_eq : (V m c main_v3 : S1024x1024.Idx → EReal) = m ((c : Thread nD τ).loc main_arg7) := rfl
/-- At the ideal values the narrowed weight is the weight. -/
theorem v4_eq : (V m c main_v4 : S256x1024.Idx → EReal) = m ((c : Thread nD τ).loc main_arg8) := rfl
/-- The scale (or shift) row laid out as one row of a matrix. -/
theorem v5_eq : (V m c main_v5 : S1x1024.Idx → EReal) = shapeCast S1x1024 (m ((c : Thread nD τ).loc main_arg9) : S1024.Idx → EReal) shapeCasts_S1024_S1x1024 := rfl
/-- The scale (or shift) row laid out as one row of a matrix. -/
theorem v6_eq : (V m c main_v6 : S1x1024.Idx → EReal) = shapeCast S1x1024 (m ((c : Thread nD τ).loc main_arg10) : S1024.Idx → EReal) shapeCasts_S1024_S1x1024 := rfl
/-- The gathered rows seen as eight stacks of one row per token. -/
theorem v7_eq : (V m c main_v7 : S8x16384x512.Idx → BitVec 32) = shapeCast S8x16384x512 (m ((c : Thread nD τ).loc main_arg0) : S131072x512.Idx → BitVec 32) shapeCasts_S131072x512_S8x16384x512 := rfl

/-- Block `t` of operand 1 is its rows of tile `t`. -/
theorem blk1 (t : Fin cfg0.N) (r : Fin 512) (k : Fin 1024) :
    iblk m c 1 t (ix2 r k) = m ((c : Thread nD τ).loc main_arg1) (ix2 (tok t r) k) := by
  show V m c main_arg1 ((win0_1.rect t).emb (ix2 r k)) = _
  rw [V_main_arg1]
  obtain ⟨e0, e1⟩ := (idx_facts t).2.1
  refine congrArg _ (funext fun a => Fin.ext ?_)
  refine (Pipeline.Window.rect_emb_val win0_1 t (ix2 r k) a rfl).trans ?_
  match a with
  | ⟨0, _⟩ => exact congrArg (· * 512 + r.val) e0
  | ⟨1, _⟩ => exact (congrArg (· * 1024 + k.val) e1).trans (by simp)

/-- Block `t` of operand 2 is its rows of tile `t`. -/
theorem blk2 (t : Fin cfg0.N) (r : Fin 512) (k : Fin 128) :
    iblk m c 2 t (ix2 r k) = m ((c : Thread nD τ).loc main_arg2) (ix2 (tok t r) k) := by
  show V m c main_arg2 ((win0_2.rect t).emb (ix2 r k)) = _
  rw [V_main_arg2]
  obtain ⟨e0, e1⟩ := (idx_facts t).2.2.1
  refine congrArg _ (funext fun a => Fin.ext ?_)
  refine (Pipeline.Window.rect_emb_val win0_2 t (ix2 r k) a rfl).trans ?_
  match a with
  | ⟨0, _⟩ => exact congrArg (· * 512 + r.val) e0
  | ⟨1, _⟩ => exact (congrArg (· * 128 + k.val) e1).trans (by simp)

/-- Block `t` of operand 3 is the first layer's rows of tile `t`. -/
theorem blk3 (t : Fin cfg0.N) (r : Fin 512) (k : Fin 256) :
    iblk m c 3 t (ix3 0 r k) = m ((c : Thread nD τ).loc main_arg3) (ix3 0 (tok t r) k) := by
  show V m c main_arg3 ((win0_3.rect t).emb (ix3 0 r k)) = _
  rw [V_main_arg3]
  obtain ⟨e0, e1, e2⟩ := (idx_facts t).2.2.2.1
  refine congrArg _ (funext fun a => Fin.ext ?_)
  refine (Pipeline.Window.rect_emb_val win0_3 t (ix3 0 r k) a rfl).trans ?_
  match a with
  | ⟨0, _⟩ => exact (congrArg (fun z => z * 1 + 0) e0).trans rfl
  | ⟨1, _⟩ => exact congrArg (· * 512 + r.val) e1
  | ⟨2, _⟩ => exact (congrArg (· * 256 + k.val) e2).trans (by simp)

/-- Block `t` of operand 0 holds, for each of the eight choices, the gathered rows of tile `t`. -/
theorem blk0 (t : Fin cfg0.N) (k : Fin 8) (r : Fin 512) (j : Fin 512) :
    iblk m c 0 t (ix3 k r j)
      = m ((c : Thread nD τ).loc main_arg0) (ix2 (⟨k.val * 16384 + (tok t r).val, by have := (tok t r).isLt; omega⟩ : Fin 131072) j) := by
  show (V m c main_v7 : S8x16384x512.Idx → BitVec 32) ((win0_0.rect t).emb (ix3 k r j)) = _
  rw [v7_eq]
  obtain ⟨e0, e1, e2⟩ := (idx_facts t).1
  have he : (win0_0.rect t).emb (ix3 k r j) = (ix3 k (tok t r) j : S8x16384x512.Idx) := by
    refine funext fun a => Fin.ext ?_
    refine (Pipeline.Window.rect_emb_val win0_0 t (ix3 k r j) a rfl).trans ?_
    match a with
    | ⟨0, _⟩ => exact (congrArg (· * 8 + k.val) e0).trans (by simp)
    | ⟨1, _⟩ => exact congrArg (· * 512 + r.val) e1
    | ⟨2, _⟩ => exact (congrArg (· * 512 + j.val) e2).trans (by simp)
  rw [he]
  refine shapeCast_apply _ _ _ _ ?_
  have e (n : Fin 16384) : ((⟨2, ![131072, 512]⟩ : Shape).rowMajor (ix2 (⟨k.val * 16384 + n.val, by have := n.isLt; omega⟩ : Fin 131072) j)).val
      = ((⟨3, ![8, 16384, 512]⟩ : Shape).rowMajor (ix3 k n j)).val := by
    rw [Shape.rowMajor_val_two, Shape.rowMajor_val_three]
    show (k.val * 16384 + n.val) * 512 + j.val = (k.val * 16384 + n.val) * 512 + j.val
    rfl
  exact e (tok t r)

/-- Operand 4 is one whole weight at every point. -/
theorem blk4 (t : Fin cfg0.N) (x : Fin 1024) (y : Fin 256) :
    iblk m c 4 t (ix2 x y) = (m ((c : Thread nD τ).loc main_arg4) : S1024x256.Idx → EReal) (ix2 x y) := by
  show (V m c main_v0 : S1024x256.Idx → EReal) ((win0_4.rect t).emb (ix2 x y)) = _
  rw [v0_eq]
  obtain ⟨e0, e1⟩ := whole4 t
  refine congrArg _ (funext fun a => Fin.ext ?_)
  refine (Pipeline.Window.rect_emb_val win0_4 t (ix2 x y) a rfl).trans ?_
  match a with
  | ⟨0, _⟩ => exact (congrArg (· * 1024 + x.val) e0).trans (by simp)
  | ⟨1, _⟩ => exact (congrArg (· * 256 + y.val) e1).trans (by simp)

/-- Operand 5 is one whole weight at every point. -/
theorem blk5 (t : Fin cfg0.N) (x : Fin 1024) (y : Fin 256) :
    iblk m c 5 t (ix2 x y) = (m ((c : Thread nD τ).loc main_arg5) : S1024x256.Idx → EReal) (ix2 x y) := by
  show (V m c main_v1 : S1024x256.Idx → EReal) ((win0_5.rect t).emb (ix2 x y)) = _
  rw [v1_eq]
  obtain ⟨e0, e1⟩ := whole5 t
  refine congrArg _ (funext fun a => Fin.ext ?_)
  refine (Pipeline.Window.rect_emb_val win0_5 t (ix2 x y) a rfl).trans ?_
  match a with
  | ⟨0, _⟩ => exact (congrArg (· * 1024 + x.val) e0).trans (by simp)
  | ⟨1, _⟩ => exact (congrArg (· * 256 + y.val) e1).trans (by simp)

/-- Operand 6 is one whole weight at every point. -/
theorem blk6 (t : Fin cfg0.N) (x : Fin 256) (y : Fin 1024) :
    iblk m c 6 t (ix2 x y) = (m ((c : Thread nD τ).loc main_arg6) : S256x1024.Idx → EReal) (ix2 x y) := by
  show (V m c main_v2 : S256x1024.Idx → EReal) ((win0_6.rect t).emb (ix2 x y)) = _
  rw [v2_eq]
  obtain ⟨e0, e1⟩ := whole6 t
  refine congrArg _ (funext fun a => Fin.ext ?_)
  refine (Pipeline.Window.rect_emb_val win0_6 t (ix2 x y) a rfl).trans ?_
  match a with
  | ⟨0, _⟩ => exact (congrArg (· * 256 + x.val) e0).trans (by simp)
  | ⟨1, _⟩ => exact (congrArg (· * 1024 + y.val) e1).trans (by simp)

/-- Operand 7 is one whole weight at every point. -/
theorem blk7 (t : Fin cfg0.N) (x : Fin 1024) (y : Fin 1024) :
    iblk m c 7 t (ix2 x y) = (m ((c : Thread nD τ).loc main_arg7) : S1024x1024.Idx → EReal) (ix2 x y) := by
  show (V m c main_v3 : S1024x1024.Idx → EReal) ((win0_7.rect t).emb (ix2 x y)) = _
  rw [v3_eq]
  obtain ⟨e0, e1⟩ := whole7 t
  refine congrArg _ (funext fun a => Fin.ext ?_)
  refine (Pipeline.Window.rect_emb_val win0_7 t (ix2 x y) a rfl).trans ?_
  match a with
  | ⟨0, _⟩ => exact (congrArg (· * 1024 + x.val) e0).trans (by simp)
  | ⟨1, _⟩ => exact (congrArg (· * 1024 + y.val) e1).trans (by simp)

/-- Operand 8 is one whole weight at every point. -/
theorem blk8 (t : Fin cfg0.N) (x : Fin 256) (y : Fin 1024) :
    iblk m c 8 t (ix2 x y) = (m ((c : Thread nD τ).loc main_arg8) : S256x1024.Idx → EReal) (ix2 x y) := by
  show (V m c main_v4 : S256x1024.Idx → EReal) ((win0_8.rect t).emb (ix2 x y)) = _
  rw [v4_eq]
  obtain ⟨e0, e1⟩ := whole8 t
  refine congrArg _ (funext fun a => Fin.ext ?_)
  refine (Pipeline.Window.rect_emb_val win0_8 t (ix2 x y) a rfl).trans ?_
  match a with
  | ⟨0, _⟩ => exact (congrArg (· * 256 + x.val) e0).trans (by simp)
  | ⟨1, _⟩ => exact (congrArg (· * 1024 + y.val) e1).trans (by simp)

/-- Operand 9 is the whole row at every point. -/
theorem blk9 (t : Fin cfg0.N) (y : Fin 1024) :
    iblk m c 9 t (ix2 0 y) = (m ((c : Thread nD τ).loc main_arg9) : S1024.Idx → EReal) (ix1 y) := by
  show (V m c main_v5 : S1x1024.Idx → EReal) ((win0_9.rect t).emb (ix2 0 y)) = _
  rw [v5_eq]
  obtain ⟨e0, e1⟩ := whole9 t
  have he : (win0_9.rect t).emb (ix2 0 y) = (ix2 0 y : S1x1024.Idx) := by
    refine funext fun a => Fin.ext ?_
    refine (Pipeline.Window.rect_emb_val win0_9 t (ix2 0 y) a rfl).trans ?_
    match a with
    | ⟨0, _⟩ => exact (congrArg (fun z => z * 1 + 0) e0).trans rfl
    | ⟨1, _⟩ => exact (congrArg (· * 1024 + y.val) e1).trans (by simp)
  rw [he]
  exact ValueIdx.shapeCast_a_1a_apply _ _ _ _

/-- Operand 10 is the whole row at every point. -/
theorem blk10 (t : Fin cfg0.N) (y : Fin 1024) :
    iblk m c 10 t (ix2 0 y) = (m ((c : Thread nD τ).loc main_arg10) : S1024.Idx → EReal) (ix1 y) := by
  show (V m c main_v6 : S1x1024.Idx → EReal) ((win0_10.rect t).emb (ix2 0 y)) = _
  rw [v6_eq]
  obtain ⟨e0, e1⟩ := whole10 t
  have he : (win0_10.rect t).emb (ix2 0 y) = (ix2 0 y : S1x1024.Idx) := by
    refine funext fun a => Fin.ext ?_
    refine (Pipeline.Window.rect_emb_val win0_10 t (ix2 0 y) a rfl).trans ?_
    match a with
    | ⟨0, _⟩ => exact (congrArg (fun z => z * 1 + 0) e0).trans rfl
    | ⟨1, _⟩ => exact (congrArg (· * 1024 + y.val) e1).trans (by simp)
  rw [he]
  exact ValueIdx.shapeCast_a_1a_apply _ _ _ _

/-- One layer's embedding, at every layer. -/
def layP (l : Fin 4) (A : S4x16384x256.Idx → EReal) : S4x16384x256.Idx → EReal := fun i => A (ix3 l (i 1 : Fin 16384) (i 2 : Fin 256))

/-- The numbers the two results hold, as one array, the embedding being `A`. -/
def resWith (A : S4x16384x256.Idx → EReal) : S16384x1024.Idx → EReal := fun i =>
  RefRow.rout (m ((c : Thread nD τ).loc main_arg0)) (m ((c : Thread nD τ).loc main_arg1)) (m ((c : Thread nD τ).loc main_arg2))
    A (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

/-- The numbers the two results hold, as one array. -/
def res : S16384x1024.Idx → EReal := resWith m c (m ((c : Thread nD τ).loc main_arg3))

/-- What row `r` of tile `t` comes to is what the reference's row comes to, whatever embedding the fourth block is of. -/
theorem row_gen (A : S4x16384x256.Idx → EReal) (X : Vec Ideal S1x512x256 .f32) (t : Fin cfg0.N) (r : Fin 512) (d : Fin 1024)
    (h : ∀ k : Fin 256, X (ix3 0 r k) = A (ix3 0 (tok t r) k)) :
    Row.norm (BlockRow.tbefore (iblk m c 0 t) (iblk m c 1 t) (iblk m c 2 t) X (iblk m c 4 t) (iblk m c 5 t)
        (iblk m c 6 t) (iblk m c 7 t) (iblk m c 8 t) r) (fun k => iblk m c 9 t (ix2 0 k)) (fun k => iblk m c 10 t (ix2 0 k)) d
      = resWith m c A (ix2 (tok t r) d) := by
  have hb : BlockRow.tbefore (iblk m c 0 t) (iblk m c 1 t) (iblk m c 2 t) X (iblk m c 4 t) (iblk m c 5 t)
        (iblk m c 6 t) (iblk m c 7 t) (iblk m c 8 t) r
      = RefRow.rbefore (m ((c : Thread nD τ).loc main_arg0)) (m ((c : Thread nD τ).loc main_arg1)) (m ((c : Thread nD τ).loc main_arg2))
    A (m ((c : Thread nD τ).loc main_arg4)) (m ((c : Thread nD τ).loc main_arg5))
    (m ((c : Thread nD τ).loc main_arg6)) (m ((c : Thread nD τ).loc main_arg7)) (m ((c : Thread nD τ).loc main_arg8)) (tok t r) := by
    funext d
    unfold BlockRow.tbefore RefRow.rbefore
    simp only [blk0, blk1, blk2, h, blk4, blk5, blk6, blk7, blk8]
    rfl
  rw [hb]
  simp only [blk9, blk10]
  rfl

/-- What row `r` of tile `t` comes to is what the reference's row comes to. -/
theorem row_eq (t : Fin cfg0.N) (r : Fin 512) (d : Fin 1024) :
    Row.norm (BlockRow.tbefore (iblk m c 0 t) (iblk m c 1 t) (iblk m c 2 t) (iblk m c 3 t) (iblk m c 4 t) (iblk m c 5 t)
        (iblk m c 6 t) (iblk m c 7 t) (iblk m c 8 t) r) (fun k => iblk m c 9 t (ix2 0 k)) (fun k => iblk m c 10 t (ix2 0 k)) d
      = res m c (ix2 (tok t r) d) := row_gen m c _ _ t r d fun k => blk3 m c t r k

/-- The array index a tile's index stands for, at the first result. -/
theorem emb11 (t : Fin cfg0.N) (r : Fin 512) (d : Fin 1024) : (win0_11.rect t).emb (ix2 r d) = (ix2 (tok t r) d : S16384x1024.Idx) := by
  obtain ⟨e0, e1⟩ := (idx_facts t).2.2.2.2.1
  refine funext fun a => Fin.ext ?_
  refine (Pipeline.Window.rect_emb_val win0_11 t (ix2 r d) a rfl).trans ?_
  match a with
  | ⟨0, _⟩ => exact congrArg (· * 512 + r.val) e0
  | ⟨1, _⟩ => exact (congrArg (· * 1024 + d.val) e1).trans (by simp)

/-- The array index a tile's index stands for, at the second result. -/
theorem emb12 (t : Fin cfg0.N) (r : Fin 512) (d : Fin 1024) : (win0_12.rect t).emb (ix2 r d) = (ix2 (tok t r) d : S16384x1024.Idx) := by
  obtain ⟨e0, e1⟩ := (idx_facts t).2.2.2.2.2
  refine funext fun a => Fin.ext ?_
  refine (Pipeline.Window.rect_emb_val win0_12 t (ix2 r d) a rfl).trans ?_
  match a with
  | ⟨0, _⟩ => exact congrArg (· * 512 + r.val) e0
  | ⟨1, _⟩ => exact (congrArg (· * 1024 + d.val) e1).trans (by simp)

/-- Every index of a result is some tile's. -/
theorem split (i : S16384x1024.Idx) : ∃ (t : Fin cfg0.N) (r : Fin 512) (d : Fin 1024), i = ix2 (tok t r) d := by
  have h0 : (i 0).val < 16384 := (i 0).isLt
  refine ⟨⟨(i 0).val / 512, show _ < 32 by omega⟩, ⟨(i 0).val % 512, Nat.mod_lt _ (by decide)⟩, i 1, funext fun a => Fin.ext ?_⟩
  match a with
  | ⟨0, _⟩ => exact (Nat.div_add_mod' _ _).symm
  | ⟨1, _⟩ => rfl

/-- Result 0 after the run. -/
theorem arr11 : (dats m 0 c).arrAt 11 cfg0.N = res m c := by
  refine Dat.arrAt_eq_of_cover (dats m 0 c) 11 _ (fun t _ => ?_) (fun i => ?_)
  · show (cfg0.win 11).cut (grid0.coords t) ((dats m 0 c).after 11 t) = _
    rw [after0_11]
    refine funext fun (y : S512x1024.Idx) => ?_
    have hy : y = ix2 (y 0 : Fin 512) (y 1 : Fin 1024) := funext fun a => by match a with | ⟨0, _⟩ => rfl | ⟨1, _⟩ => rfl
    rw [hy]
    refine (BlockRow.out11_eq _ _ _ _ _ _ _ _ _ _ _ _ _).trans ((row_eq m c t (y 0) (y 1)).trans ?_)
    exact congrArg (res m c) (emb11 t (y 0) (y 1)).symm
  · obtain ⟨t, r, d, rfl⟩ := split i
    refine ⟨t, (flushes t).1, ?_⟩
    show (ix2 (tok t r) d : S16384x1024.Idx) ∈ ((View.whole main_v8_0).slice (win0_11.rect t)).set
    rw [← emb11]
    exact ((View.whole main_v8_0).slice (win0_11.rect t)).emb_mem_set (ix2 r d)

/-- Result 1 after the run. -/
theorem arr12 : (dats m 0 c).arrAt 12 cfg0.N = res m c := by
  refine Dat.arrAt_eq_of_cover (dats m 0 c) 12 _ (fun t _ => ?_) (fun i => ?_)
  · show (cfg0.win 12).cut (grid0.coords t) ((dats m 0 c).after 12 t) = _
    rw [after0_12]
    refine funext fun (y : S512x1024.Idx) => ?_
    have hy : y = ix2 (y 0 : Fin 512) (y 1 : Fin 1024) := funext fun a => by match a with | ⟨0, _⟩ => rfl | ⟨1, _⟩ => rfl
    rw [hy]
    refine (BlockRow.out12_eq _ _ _ _ _ _ _ _ _ _ _ _ _).trans ((row_eq m c t (y 0) (y 1)).trans ?_)
    exact congrArg (res m c) (emb12 t (y 0) (y 1)).symm
  · obtain ⟨t, r, d, rfl⟩ := split i
    refine ⟨t, (flushes t).2, ?_⟩
    show (ix2 (tok t r) d : S16384x1024.Idx) ∈ ((View.whole main_v8_1).slice (win0_12.rect t)).set
    rw [← emb12]
    exact ((View.whole main_v8_1).slice (win0_12.rect t)).emb_mem_set (ix2 r d)

end Cert.Blocks

end
-- ==== Proof.Same.lean ====
/- The runs of the program and of the reference, at the same numbers. -/
module

public import proofs.«01_k».proof.Defs
public import proofs.«01_k».proof.Proof.Blocks
public import proofs.«01_k».proof.Proof.Gen.ReferenceIdeal.Run
public import Idealize.ShloMosaic.Lib.Quiescent

@[expose] public section

set_option maxRecDepth 16384

noncomputable section

namespace Cert.Same

open Idealize.ShloMosaic Idealize.ShloMosaic.TcCoe Idealize.SL.Sem

/-- The reference's run, counters included. -/
theorem reference_frame : quiescent_ReferenceIdeal (hReferenceIdeal := Cert.ReferenceIdeal.Gen.facts) := fun m g _ =>
  (θ_run _ _ _).mono (fun r h => ⟨fun c => (h c).2.2, Idealize.ShloMosaic.sem_eq_zero_of_no_sems rfl r.2⟩)
    (Cert.ReferenceIdeal.Value.run (F := Ideal) m g)

open Cert.KernelIdeal Cert.KernelIdeal.Gen in
/-- From equal arguments the two programs end with equal results. -/
theorem algebraic : algebraic_KernelIdeal_ReferenceIdeal (hKernelIdeal := Cert.KernelIdeal.Gen.facts)
    (hReferenceIdeal := Cert.ReferenceIdeal.Gen.facts) := by
  intro m g m' g' _ hargs
  refine ⟨fun c => Blocks.res m c, fun c => Blocks.res m c, (θ_run _ _ _).mono (fun r h c => ⟨((h c).1 11).trans (Blocks.arr11 m c), ((h c).1 12).trans (Blocks.arr12 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m g), ?_⟩
  refine (θ_run _ _ _).mono (fun r h c => ?_) (Cert.ReferenceIdeal.Value.run (F := Ideal) m' g')
  obtain ⟨h0, h1, hr⟩ := h c
  obtain ⟨a0, a1, a2, a3, a4, a5, a6, a7, a8, a9, a10⟩ := hargs c
  have e0 : Cert.ReferenceIdeal.Value.res_main_v54 (F := Ideal) m' c = Blocks.res m c := by
    rw [Cert.ReferenceIdeal.Read.val_main_v54_eq, a0, a1, a2, a3, a4, a5, a6, a7, a8, a9, a10]
    refine funext fun (i : Cert.ReferenceIdeal.S16384x1024.Idx) => ?_
    have hi : i = ix2 (i 0 : Fin 16384) (i 1 : Fin 1024) := funext fun a => by match a with | ⟨0, _⟩ => rfl | ⟨1, _⟩ => rfl
    rw [hi]
    exact RefRow.out_eq ..
  have e1 : (Cert.ReferenceIdeal.Value.res_main_v55 (F := Ideal) m' c : Cert.ReferenceIdeal.S16384x1024.Idx → EReal)
      = Cert.ReferenceIdeal.Value.res_main_v54 (F := Ideal) m' c := by
    rw [Cert.ReferenceIdeal.Read.val_main_v54_eq, Cert.ReferenceIdeal.Read.val_main_v55_eq]
    exact funext fun i => Cert.ReferenceIdeal.Read.val_main_v55_apply ..
  exact ⟨h0.trans e0, h1.trans (e1.trans e0), hr⟩

end Cert.Same

end
-- ==== Proof.Merge.lean ====
/- The merge gates' projection: a window of the rows of one weight that begins at row 7184. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Lib.ValueLayout
public import Idealize.ShloMosaic.Lib.Quiescent
public import Idealize.ShloMosaic.Lib.Pointwise
public import Idealize.ShloMosaic.Lib.IdealHost
public import Idealize.ShloMosaic.Lib.Pipeline.Value

@[expose] public section

set_option maxRecDepth 16384

noncomputable section

namespace Cert.Merge

open Idealize.ShloMosaic Idealize.ShloMosaic.TcCoe Idealize.SL.Sem
open Idealize.ShloMosaic.Pipeline (Dat)

/-- One number of the first layer's input projection. -/
def proj (x : (⟨2, ![16384, 1024]⟩ : Shape).Idx → EReal) (w : (⟨3, ![4, 1024, 9232]⟩ : Shape).Idx → EReal)
    (n : Fin 16384) (j : Fin 9232) : EReal := ∑ k : Fin 1024, x (ix2 n k) * w (ix3 0 k j)

section Reference
open Cert.Reference2Ideal Cert.Reference2Ideal.Gen Cert.Reference2Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 2048) :
    val_main_v4 A0 A1 (ix2 n j) = proj A0 A1 n ⟨7184 + j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel2Ideal Cert.Kernel2Ideal.Gen

/-- One block of the result at an index. -/
theorem block_eq (X0 : Vec Ideal S2048x1024 .bf16) (X1 : Vec Ideal S1x1024x1024 .f32) (r : Fin 2048) (j : Fin 1024) :
    out0_2 X0 X1 (ix2 r j) = ∑ k : Fin 1024, X0 (ix2 r k) * X1 (ix3 0 j k) := by
  have z2 : (![0, 0] : Fin 2 → Nat) = fun _ => 0 := funext fun a => by match a with | ⟨0, _⟩ => rfl | ⟨1, _⟩ => rfl
  have z3 : (![0, 0, 0] : Fin 3 → Nat) = fun _ => 0 := funext fun a => by match a with | ⟨0, _⟩ => rfl | ⟨1, _⟩ => rfl | ⟨2, _⟩ => rfl
  unfold out0_2
  rw [View.canon_unit_zero z2, show View.ld X1 r0_0 = X1 from View.ld_unit_zero z3 _ X1,
    show View.ld X0 r0_1 = X0 from View.ld_unit_zero z2 _ X0]
  pointwise [k0_pay1]

variable (m : (ℓ : Loc nD τ sig) → Buf (Elt Ideal) ℓ) (c : Dev nD)

/-- Where each window stands at a point of the grid: two column tiles to a row tile. -/
theorem idx_facts : ∀ t : Fin cfg0.N,
    (win0_0.index t (0 : Fin 2) = t.val / 2 ∧ win0_0.index t (1 : Fin 2) = 0)
    ∧ (win0_1.index t (0 : Fin 3) = 0 ∧ win0_1.index t (1 : Fin 3) = 7184 + (t.val % 2) * 1024 ∧ win0_1.index t (2 : Fin 3) = 0)
    ∧ (win0_2.index t (0 : Fin 2) = t.val / 2 ∧ win0_2.index t (1 : Fin 2) = t.val % 2) :=
  (by decide +kernel : ∀ t : Fin grid0.N, _)

/-- Every block of the result is written back. -/
theorem flushes : ∀ t : Fin cfg0.N, (cfg0.win 2).flush t = true := (by decide +kernel : ∀ t : Fin grid0.N, _)

/-- There are 16 points. -/
theorem t_lt (t : Fin cfg0.N) : t.val < 16 := t.isLt

/-- The array row of a block's row. -/
def row (t : Fin cfg0.N) (r : Fin 2048) : Fin 16384 := ⟨t.val / 2 * 2048 + r.val, by have := t_lt t; omega⟩
/-- The array column of a block's column. -/
def col (t : Fin cfg0.N) (j : Fin 1024) : Fin 2048 := ⟨t.val % 2 * 1024 + j.val, by have := t_lt t; omega⟩

/-- The narrowed input is the input. -/
theorem v0_eq : (V m c main_v0 : S16384x1024.Idx → EReal) = m ((c : Thread nD τ).loc main_arg0) := rfl
/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) := by
  show (V m c main_v0 : S16384x1024.Idx → EReal) ((win0_0.rect t).emb (ix2 r k)) = _
  rw [v0_eq]
  obtain ⟨e0, e1⟩ := (idx_facts t).1
  refine congrArg _ (funext fun a => Fin.ext ?_)
  refine (Pipeline.Window.rect_emb_val win0_0 t (ix2 r k) a rfl).trans ?_
  match a with
  | ⟨0, _⟩ => exact congrArg (· * 2048 + r.val) e0
  | ⟨1, _⟩ => exact (congrArg (fun z => z * 1024 + k.val) e1).trans (by show 0 * 1024 + k.val = k.val; omega)

/-- The weight's block. -/
theorem blk1 (t : Fin cfg0.N) (j k : Fin 1024) :
    iblk m c 1 t (ix3 0 j k) = (m ((c : Thread nD τ).loc main_arg1) : S4x1024x9232.Idx → EReal)
      (ix3 0 k (⟨7184 + (col t j).val, by have := (col t j).isLt; omega⟩ : Fin 9232)) := by
  show (V m c main_v1 : S4x9232x1024.Idx → EReal) ((win0_1.rect t).emb (ix3 0 j k)) = _
  rw [v1_eq]
  obtain ⟨e0, e1, e2⟩ := (idx_facts t).2.1
  have he : (win0_1.rect t).emb (ix3 0 j k)
      = (ix3 0 (⟨7184 + (col t j).val, by have := (col t j).isLt; omega⟩ : Fin 9232) k : S4x9232x1024.Idx) := by
    refine funext fun a => Fin.ext ?_
    refine (Pipeline.Window.rect_emb_val_off win0_1 t (ix3 0 j k) a).trans ?_
    match a with
    | ⟨0, _⟩ => exact (congrArg (fun z => z + 0) e0).trans rfl
    | ⟨1, _⟩ => exact (congrArg (fun z => z + j.val) e1).trans (by show 7184 + t.val % 2 * 1024 + j.val = 7184 + (t.val % 2 * 1024 + j.val); omega)
    | ⟨2, _⟩ => exact (congrArg (fun z => z + k.val) e2).trans (by show 0 + k.val = k.val; omega)
  rw [he]
  exact transpose_apply _ _ _ _ _ fun a => by match a with | ⟨0, _⟩ => rfl | ⟨1, _⟩ => rfl | ⟨2, _⟩ => rfl

/-- The result, as one array. -/
def res : S16384x2048.Idx → EReal := fun i =>
  proj (m ((c : Thread nD τ).loc main_arg0)) (m ((c : Thread nD τ).loc main_arg1)) (i 0)
    ⟨7184 + (i 1).val, by have : (i 1).val < 2048 := (i 1).isLt; omega⟩

/-- The array index of a block's index. -/
theorem emb2 (t : Fin cfg0.N) (r : Fin 2048) (j : Fin 1024) : (win0_2.rect t).emb (ix2 r j) = (ix2 (row t r) (col t j) : S16384x2048.Idx) := by
  obtain ⟨e0, e1⟩ := (idx_facts t).2.2
  refine funext fun a => Fin.ext ?_
  refine (Pipeline.Window.rect_emb_val win0_2 t (ix2 r j) a rfl).trans ?_
  match a with
  | ⟨0, _⟩ => exact congrArg (· * 2048 + r.val) e0
  | ⟨1, _⟩ => exact congrArg (· * 1024 + j.val) e1

/-- Every index of the result is some block's. -/
theorem split (i : S16384x2048.Idx) : ∃ (t : Fin cfg0.N) (r : Fin 2048) (j : Fin 1024), i = ix2 (row t r) (col t j) := by
  have h0 : (i 0).val < 16384 := (i 0).isLt
  have h1 : (i 1).val < 2048 := (i 1).isLt
  refine ⟨⟨(i 0).val / 2048 * 2 + (i 1).val / 1024, show _ < 16 by omega⟩, ⟨(i 0).val % 2048, Nat.mod_lt _ (by decide)⟩,
    ⟨(i 1).val % 1024, Nat.mod_lt _ (by decide)⟩, funext fun a => Fin.ext ?_⟩
  match a with
  | ⟨0, _⟩ => show (i 0).val = ((i 0).val / 2048 * 2 + (i 1).val / 1024) / 2 * 2048 + (i 0).val % 2048; omega
  | ⟨1, _⟩ => show (i 1).val = ((i 0).val / 2048 * 2 + (i 1).val / 1024) % 2 * 1024 + (i 1).val % 1024; omega

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x2048.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference2Ideal (hReference2Ideal := Cert.Reference2Ideal.Gen.facts) := fun m g _ =>
  (θ_run _ _ _).mono (fun r h => ⟨fun c => (h c).2, Idealize.ShloMosaic.sem_eq_zero_of_no_sems rfl r.2⟩)
    (Cert.Reference2Ideal.Value.run (F := Ideal) m g)

open Cert.Kernel2Ideal Cert.Kernel2Ideal.Gen in
/-- From equal arguments the two programs end with equal results. -/
theorem algebraic : algebraic_Kernel2Ideal_Reference2Ideal (hKernel2Ideal := Cert.Kernel2Ideal.Gen.facts)
    (hReference2Ideal := Cert.Reference2Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference2Ideal.Value.run (F := Ideal) m' g')
  obtain ⟨h0, hr⟩ := h c
  obtain ⟨a0, a1⟩ := hargs c
  refine ⟨h0.trans ?_, hr⟩
  rw [Cert.Reference2Ideal.Read.val_main_v4_eq, a0, a1]
  refine funext fun (i : Cert.Reference2Ideal.S16384x2048.Idx) => ?_
  have hi : i = ix2 (i 0 : Fin 16384) (i 1 : Fin 2048) := funext fun a => by match a with | ⟨0, _⟩ => rfl | ⟨1, _⟩ => rfl
  rw [hi]
  exact ref_eq ..

end Cert.Merge

end
-- ==== Proof.Inproj.lean ====
/- The first 7168 columns of the input projection: the branches' gates and values, and the memory's q, k, v and o. -/
module

public import proofs.«01_k».proof.Proof.Merge
public import Idealize.ShloMosaic.Lib.VecWindow
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Lib.ValueLayout
public import Idealize.ShloMosaic.Lib.Quiescent
public import Idealize.ShloMosaic.Lib.Pointwise
public import Idealize.ShloMosaic.Lib.IdealHost
public import Idealize.ShloMosaic.Lib.Pipeline.Value

@[expose] public section

set_option maxRecDepth 16384

noncomputable section

namespace Cert.Inproj

open Idealize.ShloMosaic Idealize.ShloMosaic.TcCoe Idealize.SL.Sem
open Idealize.ShloMosaic.Pipeline (Dat)

open Cert.Merge (proj)

section Reference
open Cert.Reference3Ideal Cert.Reference3Ideal.Gen Cert.Reference3Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 7168) :
    val_main_v4 A0 A1 (ix2 n j) = proj A0 A1 n ⟨j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel3Ideal Cert.Kernel3Ideal.Gen

/-- One block of the result at an index. -/
theorem block_eq (c : Dev nD) (i : grid0.Coords) (a2 : Memref sig .tc .vmem S2048x1024 .bf16) (h2 : a2.IsWhole)
    (a3 : Memref sig .tc .vmem S1x1024x1024 .f32) (h3 : a3.IsWhole) (a4 : Memref sig .tc .vmem S2048x1024 .bf16) (h4 : a4.IsWhole)
    (X0 : Vec Ideal S2048x1024 .bf16) (X1 : Vec Ideal S1x1024x1024 .f32) (r : Fin 2048) (j : Fin 1024) :
    out0_A_2 c i a2 h2 a3 h3 a4 h4 X0 X1 (ix2 r j) = ∑ k : Fin 1024, X0 (ix2 r k) * X1 (ix3 0 j k) := by
  unfold out0_A_2 kernelRun0_A
  refine (congrFun (View.read_writes_full VO0_2 VO0_2.junk _ _ []) (ix2 r j)).trans ?_
  have l0 : a2.view.readAt (Elt Ideal) (Rect.unit (s := S2048x1024) ![0, 0] S2048x1024.size inb_S2048x1024_S2048x1024_0_0).toLoadRect (h2.unread X0) = X0 :=
    (View.readAt_full a2.view _ _).trans (h2.read_unread X0)
  have l1 : a3.view.readAt (Elt Ideal) (Rect.unit (s := S1x1024x1024) ![0, 0, 0] S1x1024x1024.size inb_S1x1024x1024_S1x1024x1024_0_0_0).toLoadRect (h3.unread X1) = X1 :=
    (View.readAt_full a3.view _ _).trans (h3.read_unread X1)
  refine (congrFun (congrArg₂ k0_pay1 l1 l0) (ix2 r j)).trans ?_
  pointwise [k0_pay1]

variable (m : (ℓ : Loc nD τ sig) → Buf (Elt Ideal) ℓ) (c : Dev nD)

/-- Where each window stands at a point of the grid: 7 column tiles to a row tile. -/
theorem idx_facts : ∀ t : Fin cfg0.N,
    (win0_0.index t (0 : Fin 2) = t.val / 7 ∧ win0_0.index t (1 : Fin 2) = 0)
    ∧ (win0_1.index t (0 : Fin 3) = 0 ∧ win0_1.index t (1 : Fin 3) = 0 + t.val % 7 ∧ win0_1.index t (2 : Fin 3) = 0)
    ∧ (win0_2.index t (0 : Fin 2) = t.val / 7 ∧ win0_2.index t (1 : Fin 2) = t.val % 7) :=
  (by decide +kernel : ∀ t : Fin grid0.N, _)

/-- Every block of the result is written back. -/
theorem flushes : ∀ t : Fin cfg0.N, (cfg0.win 2).flush t = true := (by decide +kernel : ∀ t : Fin grid0.N, _)

/-- There are 56 points. -/
theorem t_lt (t : Fin cfg0.N) : t.val < 56 := t.isLt

/-- The array row of a block's row. -/
def row (t : Fin cfg0.N) (r : Fin 2048) : Fin 16384 := ⟨t.val / 7 * 2048 + r.val, by have := t_lt t; omega⟩
/-- The array column of a block's column. -/
def col (t : Fin cfg0.N) (j : Fin 1024) : Fin 7168 := ⟨t.val % 7 * 1024 + j.val, by have := t_lt t; omega⟩

/-- The narrowed input is the input. -/
theorem v0_eq : (V m c main_v0 : S16384x1024.Idx → EReal) = m ((c : Thread nD τ).loc main_arg0) := rfl
/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) := by
  show (V m c main_v0 : S16384x1024.Idx → EReal) ((win0_0.rect t).emb (ix2 r k)) = _
  rw [v0_eq]
  obtain ⟨e0, e1⟩ := (idx_facts t).1
  refine congrArg _ (funext fun a => Fin.ext ?_)
  refine (Pipeline.Window.rect_emb_val win0_0 t (ix2 r k) a rfl).trans ?_
  match a with
  | ⟨0, _⟩ => exact congrArg (· * 2048 + r.val) e0
  | ⟨1, _⟩ => exact (congrArg (fun z => z * 1024 + k.val) e1).trans (by show 0 * 1024 + k.val = k.val; omega)

/-- The weight's block: no point's block is cut by the array's end. -/
theorem blk1 (t : Fin cfg0.N) (j : Fin 1024) (k : Fin 1024) :
    X0_1 m c t (ix3 0 j k) = (m ((c : Thread nD τ).loc main_arg1) : S4x1024x9232.Idx → EReal)
      (ix3 0 k (⟨(col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x1024x1024.Idx) a).val, ((cfg0.win 1).moved_iff _ _).mp (moved0_1 t (ix3 0 j k)) a⟩)
      = (ix3 0 (⟨(col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 1024 + j.val) e1).trans (by show (0 + t.val % 7) * 1024 + j.val = t.val % 7 * 1024 + j.val; omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x7168.Idx → EReal := fun i =>
  proj (m ((c : Thread nD τ).loc main_arg0)) (m ((c : Thread nD τ).loc main_arg1)) (i 0)
    ⟨(i 1).val, by have : (i 1).val < 7168 := (i 1).isLt; omega⟩

/-- The array index of a block's index. -/
theorem emb2 (t : Fin cfg0.N) (r : Fin 2048) (j : Fin 1024) : (win0_2.rect t).emb (ix2 r j) = (ix2 (row t r) (col t j) : S16384x7168.Idx) := by
  obtain ⟨e0, e1⟩ := (idx_facts t).2.2
  refine funext fun a => Fin.ext ?_
  refine (Pipeline.Window.rect_emb_val win0_2 t (ix2 r j) a rfl).trans ?_
  match a with
  | ⟨0, _⟩ => exact congrArg (· * 2048 + r.val) e0
  | ⟨1, _⟩ => exact congrArg (· * 1024 + j.val) e1

/-- Every index of the result is some block's. -/
theorem split (i : S16384x7168.Idx) : ∃ (t : Fin cfg0.N) (r : Fin 2048) (j : Fin 1024), i = ix2 (row t r) (col t j) := by
  have h0 : (i 0).val < 16384 := (i 0).isLt
  have h1 : (i 1).val < 7168 := (i 1).isLt
  refine ⟨⟨(i 0).val / 2048 * 7 + (i 1).val / 1024, show _ < 56 by omega⟩, ⟨(i 0).val % 2048, Nat.mod_lt _ (by decide)⟩,
    ⟨(i 1).val % 1024, Nat.mod_lt _ (by decide)⟩, funext fun a => Fin.ext ?_⟩
  match a with
  | ⟨0, _⟩ => show (i 0).val = ((i 0).val / 2048 * 7 + (i 1).val / 1024) / 7 * 2048 + (i 0).val % 2048; omega
  | ⟨1, _⟩ => show (i 1).val = ((i 0).val / 2048 * 7 + (i 1).val / 1024) % 7 * 1024 + (i 1).val % 1024; omega

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x7168.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference3Ideal (hReference3Ideal := Cert.Reference3Ideal.Gen.facts) := fun m g _ =>
  (θ_run _ _ _).mono (fun r h => ⟨fun c => (h c).2, Idealize.ShloMosaic.sem_eq_zero_of_no_sems rfl r.2⟩)
    (Cert.Reference3Ideal.Value.run (F := Ideal) m g)

open Cert.Kernel3Ideal Cert.Kernel3Ideal.Gen in
/-- From equal arguments the two programs end with equal results. -/
theorem algebraic : algebraic_Kernel3Ideal_Reference3Ideal (hKernel3Ideal := Cert.Kernel3Ideal.Gen.facts)
    (hReference3Ideal := Cert.Reference3Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference3Ideal.Value.run (F := Ideal) m' g')
  obtain ⟨h0, hr⟩ := h c
  obtain ⟨a0, a1⟩ := hargs c
  refine ⟨h0.trans ?_, hr⟩
  rw [Cert.Reference3Ideal.Read.val_main_v4_eq, a0, a1]
  refine funext fun (i : Cert.Reference3Ideal.S16384x7168.Idx) => ?_
  have hi : i = ix2 (i 0 : Fin 16384) (i 1 : Fin 7168) := funext fun a => by match a with | ⟨0, _⟩ => rfl | ⟨1, _⟩ => rfl
  rw [hi]
  exact ref_eq ..

end Cert.Inproj

end
-- ==== Proof.Gateproj.lean ====
/- The 128 columns from 7168 on: the memory's input and forget gates, and the columns beside them. -/
module

public import proofs.«01_k».proof.Proof.Merge
public import Idealize.ShloMosaic.Lib.VecWindow
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import Idealize.ShloMosaic.Lib.ValueLayout
public import Idealize.ShloMosaic.Lib.Quiescent
public import Idealize.ShloMosaic.Lib.Pointwise
public import Idealize.ShloMosaic.Lib.IdealHost
public import Idealize.ShloMosaic.Lib.Pipeline.Value

@[expose] public section

set_option maxRecDepth 16384

noncomputable section

namespace Cert.Gateproj

open Idealize.ShloMosaic Idealize.ShloMosaic.TcCoe Idealize.SL.Sem
open Idealize.ShloMosaic.Pipeline (Dat)

open Cert.Merge (proj)

section Reference
open Cert.Reference4Ideal Cert.Reference4Ideal.Gen Cert.Reference4Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 128) :
    val_main_v3 A0 A1 (ix2 n j) = proj A0 A1 n ⟨7168 + j.val, by have := j.isLt; omega⟩ := by
  rw [← whole_eq, val_main_v3_apply]
  show val_main_v2 A0 A1 _ = _
  exact congrArg _ (funext fun a => by match a with | ⟨0, _⟩ => rfl | ⟨1, _⟩ => rfl)

end Reference

section Program
open Cert.Kernel4Ideal Cert.Kernel4Ideal.Gen

/-- One block of the result at an index. -/
theorem block_eq (c : Dev nD) (i : grid0.Coords) (a2 : Memref sig .tc .vmem S2048x1024 .bf16) (h2 : a2.IsWhole)
    (a3 : Memref sig .tc .vmem S1x128x1024 .f32) (h3 : a3.IsWhole) (a4 : Memref sig .tc .vmem S2048x128 .f32) (h4 : a4.IsWhole)
    (X0 : Vec Ideal S2048x1024 .bf16) (X1 : Vec Ideal S1x128x1024 .f32) (r : Fin 2048) (j : Fin 128) :
    out0_A_2 c i a2 h2 a3 h3 a4 h4 X0 X1 (ix2 r j) = ∑ k : Fin 1024, X0 (ix2 r k) * X1 (ix3 0 j k) := by
  unfold out0_A_2 kernelRun0_A
  refine (congrFun (View.read_writes_full VO0_2 VO0_2.junk _ _ []) (ix2 r j)).trans ?_
  have l0 : a2.view.readAt (Elt Ideal) (Rect.unit (s := S2048x1024) ![0, 0] S2048x1024.size inb_S2048x1024_S2048x1024_0_0).toLoadRect (h2.unread X0) = X0 :=
    (View.readAt_full a2.view _ _).trans (h2.read_unread X0)
  have l1 : a3.view.readAt (Elt Ideal) (Rect.unit (s := S1x128x1024) ![0, 0, 0] S1x128x1024.size inb_S1x128x1024_S1x128x1024_0_0_0).toLoadRect (h3.unread X1) = X1 :=
    (View.readAt_full a3.view _ _).trans (h3.read_unread X1)
  refine (congrFun (congrArg₂ k0_pay1 l1 l0) (ix2 r j)).trans ?_
  pointwise [k0_pay1]

variable (m : (ℓ : Loc nD τ sig) → Buf (Elt Ideal) ℓ) (c : Dev nD)

/-- Where each window stands at a point of the grid: 1 column tile to a row tile. -/
theorem idx_facts : ∀ t : Fin cfg0.N,
    (win0_0.index t (0 : Fin 2) = t.val / 1 ∧ win0_0.index t (1 : Fin 2) = 0)
    ∧ (win0_1.index t (0 : Fin 3) = 0 ∧ win0_1.index t (1 : Fin 3) = 56 + t.val % 1 ∧ win0_1.index t (2 : Fin 3) = 0)
    ∧ (win0_2.index t (0 : Fin 2) = t.val / 1 ∧ win0_2.index t (1 : Fin 2) = t.val % 1) :=
  (by decide +kernel : ∀ t : Fin grid0.N, _)

/-- Every block of the result is written back. -/
theorem flushes : ∀ t : Fin cfg0.N, (cfg0.win 2).flush t = true := (by decide +kernel : ∀ t : Fin grid0.N, _)

/-- There are 8 points. -/
theorem t_lt (t : Fin cfg0.N) : t.val < 8 := t.isLt

/-- The array row of a block's row. -/
def row (t : Fin cfg0.N) (r : Fin 2048) : Fin 16384 := ⟨t.val / 1 * 2048 + r.val, by have := t_lt t; omega⟩
/-- The array column of a block's column. -/
def col (t : Fin cfg0.N) (j : Fin 128) : Fin 128 := ⟨t.val % 1 * 128 + j.val, by have := t_lt t; omega⟩

/-- The narrowed input is the input. -/
theorem v0_eq : (V m c main_v0 : S16384x1024.Idx → EReal) = m ((c : Thread nD τ).loc main_arg0) := rfl
/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) := by
  show (V m c main_v0 : S16384x1024.Idx → EReal) ((win0_0.rect t).emb (ix2 r k)) = _
  rw [v0_eq]
  obtain ⟨e0, e1⟩ := (idx_facts t).1
  refine congrArg _ (funext fun a => Fin.ext ?_)
  refine (Pipeline.Window.rect_emb_val win0_0 t (ix2 r k) a rfl).trans ?_
  match a with
  | ⟨0, _⟩ => exact congrArg (· * 2048 + r.val) e0
  | ⟨1, _⟩ => exact (congrArg (fun z => z * 1024 + k.val) e1).trans (by show 0 * 1024 + k.val = k.val; omega)

/-- The weight's block: no point's block is cut by the array's end. -/
theorem blk1 (t : Fin cfg0.N) (j : Fin 128) (k : Fin 1024) :
    X0_1 m c t (ix3 0 j k) = (m ((c : Thread nD τ).loc main_arg1) : S4x1024x9232.Idx → EReal)
      (ix3 0 k (⟨7168 + (col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x128x1024.Idx) a).val, ((cfg0.win 1).moved_iff _ _).mp (moved0_1 t (ix3 0 j k)) a⟩)
      = (ix3 0 (⟨7168 + (col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 128 + j.val) e1).trans (by show (56 + t.val % 1) * 128 + j.val = 7168 + (t.val % 1 * 128 + j.val); omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x128.Idx → EReal := fun i =>
  proj (m ((c : Thread nD τ).loc main_arg0)) (m ((c : Thread nD τ).loc main_arg1)) (i 0)
    ⟨7168 + (i 1).val, by have : (i 1).val < 128 := (i 1).isLt; omega⟩

/-- The array index of a block's index. -/
theorem emb2 (t : Fin cfg0.N) (r : Fin 2048) (j : Fin 128) : (win0_2.rect t).emb (ix2 r j) = (ix2 (row t r) (col t j) : S16384x128.Idx) := by
  obtain ⟨e0, e1⟩ := (idx_facts t).2.2
  refine funext fun a => Fin.ext ?_
  refine (Pipeline.Window.rect_emb_val win0_2 t (ix2 r j) a rfl).trans ?_
  match a with
  | ⟨0, _⟩ => exact congrArg (· * 2048 + r.val) e0
  | ⟨1, _⟩ => exact congrArg (· * 128 + j.val) e1

/-- Every index of the result is some block's. -/
theorem split (i : S16384x128.Idx) : ∃ (t : Fin cfg0.N) (r : Fin 2048) (j : Fin 128), i = ix2 (row t r) (col t j) := by
  have h0 : (i 0).val < 16384 := (i 0).isLt
  have h1 : (i 1).val < 128 := (i 1).isLt
  refine ⟨⟨(i 0).val / 2048 * 1 + (i 1).val / 128, show _ < 8 by omega⟩, ⟨(i 0).val % 2048, Nat.mod_lt _ (by decide)⟩,
    ⟨(i 1).val % 128, Nat.mod_lt _ (by decide)⟩, funext fun a => Fin.ext ?_⟩
  match a with
  | ⟨0, _⟩ => show (i 0).val = ((i 0).val / 2048 * 1 + (i 1).val / 128) / 1 * 2048 + (i 0).val % 2048; omega
  | ⟨1, _⟩ => show (i 1).val = ((i 0).val / 2048 * 1 + (i 1).val / 128) % 1 * 128 + (i 1).val % 128; omega

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x128.Idx) => ?_
    have hy : y = ix2 (y 0 : Fin 2048) (y 1 : Fin 128) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x128.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference4Ideal (hReference4Ideal := Cert.Reference4Ideal.Gen.facts) := fun m g _ =>
  (θ_run _ _ _).mono (fun r h => ⟨fun c => (h c).2, Idealize.ShloMosaic.sem_eq_zero_of_no_sems rfl r.2⟩)
    (Cert.Reference4Ideal.Value.run (F := Ideal) m g)

open Cert.Kernel4Ideal Cert.Kernel4Ideal.Gen in
/-- From equal arguments the two programs end with equal results. -/
theorem algebraic : algebraic_Kernel4Ideal_Reference4Ideal (hKernel4Ideal := Cert.Kernel4Ideal.Gen.facts)
    (hReference4Ideal := Cert.Reference4Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference4Ideal.Value.run (F := Ideal) m' g')
  obtain ⟨h0, hr⟩ := h c
  obtain ⟨a0, a1⟩ := hargs c
  refine ⟨h0.trans ?_, hr⟩
  rw [Cert.Reference4Ideal.Read.val_main_v3_eq, a0, a1]
  refine funext fun (i : Cert.Reference4Ideal.S16384x128.Idx) => ?_
  have hi : i = ix2 (i 0 : Fin 16384) (i 1 : Fin 128) := funext fun a => by match a with | ⟨0, _⟩ => rfl | ⟨1, _⟩ => rfl
  rw [hi]
  exact ref_eq ..

end Cert.Gateproj

end
-- ==== Proof.FfnA.lean ====
/- The expert kernel's stores, read as values: which rows of an output tile one visit writes, and with what. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Pointwise
public import Idealize.ShloMosaic.Lib.Tactic.WordOmega

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- Where a word's clipped bounds stand in a sub-block: the visit's bound less the sub-block's first row, cut to it. -/
theorem clip_toNat (v : BitVec 32) (s : ℕ) (hs : s ≤ 2048) (hv : v.toNat ≤ 2048) :
    (Scalar.minsi 512#32 (Scalar.maxsi 0#32 (Scalar.subi v (BitVec.ofNat 32 s)))).toInt = min 512 (max 0 ((v.toNat : ℤ) - s)) := by
  have e : (Scalar.subi v (BitVec.ofNat 32 s)).toInt = (v.toNat : ℤ) - s := by
    show (v - BitVec.ofNat 32 s).toInt = _
    rw [BitVec.toInt_eq_toNat_cond, BitVec.toNat_sub, BitVec.toNat_ofNat]
    have h2 : s % 2 ^ 32 = s := Nat.mod_eq_of_lt (by omega)
    rw [h2]
    split <;> omega
  generalize Scalar.subi v (BitVec.ofNat 32 s) = d at e
  show (if (512#32).slt (if d.slt 0#32 then 0#32 else d) then (512#32) else (if d.slt 0#32 then 0#32 else d)).toInt = _
  have z : (0#32).toInt = 0 := rfl
  have f : (512#32).toInt = 512 := rfl
  simp only [BitVec.slt, decide_eq_true_eq]
  split_ifs <;> simp only [z, f, e] at * <;> omega

/-- Two tests joined, read back as a word. -/
theorem both_iff (p q : Bool) :
    Scalar.cmpi .ne (Scalar.extui (Scalar.andi (BitVec.ofBool p) (BitVec.ofBool q))) 0#32 = 1#1 ↔ p = true ∧ q = true := by
  cases p <;> cases q <;> decide

/-- The test of a sub-block wholly inside the visit's range. -/
theorem full_iff (a b : BitVec 32) :
    Scalar.cmpi .ne (Scalar.extui (Scalar.andi (Scalar.cmpi .sgt b a) (Scalar.cmpi .eq a 0#32))) 0#32 = 1#1 ↔ a.toInt < b.toInt ∧ a.toInt = 0 := by
  have z : (0#32).toInt = 0 := rfl
  refine (both_iff (a.slt b) (a == 0#32)).trans (and_congr decide_eq_true_iff ?_)
  rw [beq_iff_eq, ← BitVec.toInt_inj, z]

/-- The test of a sub-block that begins before the visit's range. -/
theorem mask_iff (a b : BitVec 32) :
    Scalar.cmpi .ne (Scalar.extui (Scalar.andi (Scalar.cmpi .sgt b a) (Scalar.cmpi .sgt a 0#32))) 0#32 = 1#1 ↔ a.toInt < b.toInt ∧ 0 < a.toInt := by
  refine (both_iff (a.slt b) ((0#32).slt a)).trans (and_congr decide_eq_true_iff decide_eq_true_iff)

/-- Rows `256 q` to `256 q + 255` of a tile's words. -/
def half (x0 : S2048x512.Idx → BitVec 32) (q : ℕ) : S256x512.Idx → BitVec 32 := fun j =>
  x0 (ix2 ⟨(256 * q + (j 0).val) % 2048, Nat.mod_lt _ (by decide)⟩ (j 1))

/-- What a visit computes of a whole tile, as the rows of the output's buffer: row `2 r` holds the token `r`'s first 512
    columns, row `2 r + 1` its last. -/
def gen (x0 : S2048x512.Idx → BitVec 32) (w1 : S1024x512.Idx → EReal) (w2 : S256x1024.Idx → EReal) : S4096x512.Idx → EReal := fun y =>
  k0_pay1 (F := Ideal) (k0_pay4 (F := Ideal) (half x0 ((y 0).val / 512)) w1) w2 (ix2 ⟨(y 0).val % 512, Nat.mod_lt _ (by decide)⟩ (y 1))

/-- Interleaved rows at one index. -/
theorem interleave_apply {α : Type} (lo hi : S256x512.Idx → α) (h : S512x512.Bitcasts 16 S256x512 32) (y : S512x512.Idx) :
    interleaveRows S512x512 lo hi h y
      = (if (y 0).val % 2 = 0 then lo else hi) (ix2 ⟨(y 0).val / 2, by have h0 : (y 0).val < 512 := (y 0).isLt; omega⟩ (y 1)) := by
  have e : ∀ z : S256x512.Idx, z = ix2 (z 0) (z 1) := fun z => by
    funext a; fin_cases a <;> rfl
  unfold interleaveRows
  have hr : S512x512.row y = (y 0).val := rfl
  rw [hr]
  dsimp only
  split <;> (refine congrArg _ ?_; refine (e _).trans ?_; congr 1)

/-- The rows of one parity at one index. -/
theorem parity_apply {α : Type} (p : Fin 2) (x : S512x512.Idx → α) (h : S512x512.Bitcasts 16 S256x512 32) (j : S256x512.Idx) :
    rowsOfParity p S256x512 x h j = x (ix2 ⟨2 * (j 0).val + p.val, by have h0 : (j 0).val < 256 := (j 0).isLt; have := p.isLt; omega⟩ (j 1)) := by
  unfold rowsOfParity
  refine congrArg x ?_
  funext a; fin_cases a <;> rfl

/-- The mask of a sub-block's rows at one index. -/
theorem mask_apply (a b : BitVec 32) (o : ℕ) (ho : o ≤ 256) (j : S256x512.Idx) :
    andi (cmpi .sge (addi (iota .tc S256x512 32 [0] iota_S256x512_d0_w32) (broadcast S256x512 (BitVec.ofNat 32 o))) (broadcast S256x512 a))
      (cmpi .slt (addi (iota .tc S256x512 32 [0] iota_S256x512_d0_w32) (broadcast S256x512 (BitVec.ofNat 32 o))) (broadcast S256x512 b)) j = 1
    ↔ a.toInt ≤ ((j 0).val : ℤ) + o ∧ ((j 0).val : ℤ) + o < b.toInt := by
  have hj : (j 0).val < 256 := (j 0).isLt
  have e : ∀ j : S256x512.Idx, (addi (iota .tc S256x512 32 [0] iota_S256x512_d0_w32) (broadcast S256x512 (BitVec.ofNat 32 o)) j) = BitVec.ofNat 32 ((j 0).val + o) := by
    intro j
    show BitVec.ofNat 32 (0 * _ + (j 0).val) + BitVec.ofNat 32 o = _
    rw [Nat.zero_mul, Nat.zero_add, BitVec.ofNat_add]
  have t : (BitVec.ofNat 32 ((j 0).val + o)).toInt = ((j 0).val : ℤ) + o := by
    rw [BitVec.toInt_eq_toNat_cond, BitVec.toNat_ofNat]
    have h2 : ((j 0).val + o) % 2 ^ 32 = (j 0).val + o := Nat.mod_eq_of_lt (by omega)
    rw [h2]; split <;> omega
  show IntOp.andi (IntOp.cmpi .sge (addi _ _ j) a) (IntOp.cmpi .slt (addi _ _ j) b) = 1 ↔ _
  rw [e, ← t]
  have k : ∀ p q : Bool, IntOp.andi (BitVec.ofBool p) (BitVec.ofBool q) = 1 ↔ p = true ∧ q = true := by
    intro p q; cases p <;> cases q <;> decide
  exact (k (a.sle _) ((BitVec.ofNat 32 _).slt b)).trans (and_congr decide_eq_true_iff decide_eq_true_iff)

/-- A masked store's first half at one index: the computed row where the mask holds, the old one elsewhere. -/
theorem pay9_apply (a b : BitVec 32) (v : S256x256.Idx → EReal) (w : S256x1024.Idx → EReal) (old : S512x512.Idx → EReal) (y : S512x512.Idx) :
    k0_pay9 (F := Ideal) a b v w old y
      = if a.toInt ≤ ((y 0).val / 2 : ℕ) ∧ (((y 0).val / 2 : ℕ) : ℤ) < b.toInt then k0_pay1 (F := Ideal) v w y else old y := by
  have h0 : (y 0).val < 512 := (y 0).isLt
  have hy : ∀ p : ℕ, (hp : 2 * ((y 0).val / 2) + p < 512) → (y 0).val % 2 = p → ix2 (⟨2 * ((y 0).val / 2) + p, hp⟩ : Fin 512) (y 1) = y := fun p hp he => by
    funext c
    fin_cases c
    · exact Fin.ext (by show 2 * ((y 0).val / 2) + p = (y 0).val; omega)
    · rfl
  unfold k0_pay9 k0_pay1
  dsimp only
  rw [interleave_apply, interleave_apply]
  have hm := mask_apply a b 0 (by omega) (ix2 (⟨(y 0).val / 2, by omega⟩ : Fin 256) (y 1))
  have hm' := hm
  rw [Nat.cast_zero, Int.add_zero] at hm'
  by_cases hp : (y 0).val % 2 = 0
  · simp only [if_pos hp]
    show Scalar.select _ _ (rowsOfParity 0 S256x512 old _ _) = _
    rw [parity_apply]
    unfold Scalar.select
    refine (if_congr hm' rfl ?_)
    exact congrArg old (hy 0 _ (by omega))
  · simp only [if_neg hp]
    show Scalar.select _ _ (rowsOfParity 1 S256x512 old _ _) = _
    rw [parity_apply]
    unfold Scalar.select
    refine (if_congr hm' rfl ?_)
    exact congrArg old (hy 1 _ (by omega))

/-- A masked store's second half at one index. -/
theorem pay3_apply (a b : BitVec 32) (v : S256x256.Idx → EReal) (w : S256x1024.Idx → EReal) (old : S512x512.Idx → EReal) (y : S512x512.Idx) :
    k0_pay3 (F := Ideal) (k0_pay11 a b v w old) (k0_pay12 a b v w old) y
      = if a.toInt ≤ ((y 0).val / 2 : ℕ) + 256 ∧ (((y 0).val / 2 : ℕ) : ℤ) + 256 < b.toInt then k0_pay1 (F := Ideal) v w y else old y := by
  have h0 : (y 0).val < 512 := (y 0).isLt
  have hy : ∀ p : ℕ, (hp : 2 * ((y 0).val / 2) + p < 512) → (y 0).val % 2 = p → ix2 (⟨2 * ((y 0).val / 2) + p, hp⟩ : Fin 512) (y 1) = y := fun p hp he => by
    funext c
    fin_cases c
    · exact Fin.ext (by show 2 * ((y 0).val / 2) + p = (y 0).val; omega)
    · rfl
  unfold k0_pay3 k0_pay11 k0_pay12 k0_pay10 k0_pay1
  dsimp only
  rw [interleave_apply, interleave_apply]
  have hm := mask_apply a b 256 (by omega) (ix2 (⟨(y 0).val / 2, by omega⟩ : Fin 256) (y 1))
  by_cases hp : (y 0).val % 2 = 0
  · simp only [if_pos hp]
    show Scalar.select _ _ (rowsOfParity 0 S256x512 old _ _) = _
    rw [parity_apply]
    unfold Scalar.select
    refine (if_congr hm rfl ?_)
    exact congrArg old (hy 0 _ (by omega))
  · simp only [if_neg hp]
    show Scalar.select _ _ (rowsOfParity 1 S256x512 old _ _) = _
    rw [parity_apply]
    unfold Scalar.select
    refine (if_congr hm rfl ?_)
    exact congrArg old (hy 1 _ (by omega))

/-- One sub-block's step from the buffer `O` to `O'`: the visit's rows of the sub-block hold what the visit computes,
    and neither the other sub-blocks nor the rows before the visit's have changed. -/
def Wr (s lo hi : ℕ) (G O O' : S4096x512.Idx → EReal) : Prop := ∀ y : S4096x512.Idx,
  (s ≤ (y 0).val / 2 → (y 0).val / 2 < s + 512 → lo ≤ (y 0).val / 2 → (y 0).val / 2 < hi → O' y = G y)
    ∧ ((y 0).val / 2 < s ∨ s + 512 ≤ (y 0).val / 2 ∨ (y 0).val / 2 < lo → O' y = O y)

/-- Two stores of 512 rows each, side by side, make a sub-block's step when each is one on its own rows. -/
theorem wr_of (v : View sig .tc .vmem S4096x512 .bf16) (f : v.ty.Contents (Elt Ideal)) (s lo hi : ℕ) {offA offB : Fin 2 → ℕ}
    (hA : offA = ![2 * s, 0]) (hB : offB = ![2 * s + 512, 0]) (inbA : ∀ a, offA a + S512x512.size a ≤ S4096x512.size a)
    (inbB : ∀ a, offB a + S512x512.size a ≤ S4096x512.size a) (pA pB : S512x512.Idx → EReal) (G : S4096x512.Idx → EReal)
    (gA : ∀ (y : S4096x512.Idx) (j : S512x512.Idx), (y 0).val = 2 * s + (j 0).val → (y 1).val = (j 1).val →
      (lo ≤ (y 0).val / 2 → (y 0).val / 2 < hi → pA j = G y) ∧ ((y 0).val / 2 < lo → pA j = v.read (Elt Ideal) f y))
    (gB : ∀ (y : S4096x512.Idx) (j : S512x512.Idx), (y 0).val = 2 * s + 512 + (j 0).val → (y 1).val = (j 1).val →
      (lo ≤ (y 0).val / 2 → (y 0).val / 2 < hi → pB j = G y) ∧ ((y 0).val / 2 < lo → pB j = v.read (Elt Ideal) f y)) :
    Wr s lo hi G (v.read (Elt Ideal) f) (v.read (Elt Ideal) (v.writes (Elt Ideal) f
      [⟨Rect.unit (s := S4096x512) offB S512x512.size inbB, pB⟩, ⟨Rect.unit (s := S4096x512) offA S512x512.size inbA, pA⟩])) := by
  intro y
  have h1 : (y 1).val < 512 := (y 1).isLt
  by_cases hb : 2 * s + 512 ≤ (y 0).val ∧ (y 0).val < 2 * s + 1024
  · let j : S512x512.Idx := ix2 ⟨(y 0).val - (2 * s + 512), by omega⟩ ⟨(y 1).val, h1⟩
    have e0 : (y 0).val = 2 * s + 512 + (j 0).val := by show _ = _ + ((y 0).val - (2 * s + 512)); omega
    rw [View.read_writes_cons_rows_of_mem v f inbB pB _ y j hB e0 rfl]
    obtain ⟨g1, g2⟩ := gB y j e0 rfl
    exact ⟨fun _ _ a b => g1 a b, fun h => g2 (by omega)⟩
  · rw [View.read_writes_cons_rows_of_not_mem v f inbB pB _ y (W := 512) hB rfl (by omega)]
    by_cases ha : 2 * s ≤ (y 0).val ∧ (y 0).val < 2 * s + 512
    · let j : S512x512.Idx := ix2 ⟨(y 0).val - (2 * s), by omega⟩ ⟨(y 1).val, h1⟩
      have e0 : (y 0).val = 2 * s + (j 0).val := by show _ = _ + ((y 0).val - (2 * s)); omega
      rw [View.read_writes_cons_rows_of_mem v f inbA pA _ y j hA e0 rfl]
      obtain ⟨g1, g2⟩ := gA y j e0 rfl
      exact ⟨fun _ _ a b => g1 a b, fun h => g2 (by omega)⟩
    · rw [View.read_writes_cons_rows_of_not_mem v f inbA pA _ y (W := 512) hA rfl (by omega), View.writes_nil]
      exact ⟨fun a b => by omega, fun _ => rfl⟩

/-- What a visit computes of a tile at an index of one of its 512-row blocks. -/
theorem gen_at (x0 : S2048x512.Idx → BitVec 32) (w1 : S1024x512.Idx → EReal) (w2 : S256x1024.Idx → EReal) (q : ℕ) (y : S4096x512.Idx) (j : S512x512.Idx)
    (h0 : (y 0).val = 512 * q + (j 0).val) (h1 : (y 1).val = (j 1).val) :
    k0_pay1 (F := Ideal) (k0_pay4 (F := Ideal) (half x0 q) w1) w2 j = gen x0 w1 w2 y := by
  have hj : (j 0).val < 512 := (j 0).isLt
  unfold gen
  rw [show (y 0).val / 512 = q by omega]
  refine congrArg _ ?_
  funext a
  fin_cases a
  · exact Fin.ext (by show (j 0).val = (y 0).val % 512; omega)
  · exact Fin.ext h1.symm

/-- The load of 256 rows of the tile's words. -/
theorem half_read (v : View sig .tc .vmem S2048x512 .i32) (x0 : S2048x512.Idx → BitVec 32) (q : ℕ) (hq : q < 8) {off : Fin 2 → ℕ} (ho : off = ![256 * q, 0])
    (inb : ∀ a, off a + S256x512.size a ≤ S2048x512.size a) :
    v.readAt (Elt Ideal) (Rect.unit (s := S2048x512) off S256x512.size inb).toLoadRect (v.rep (Val := Elt Ideal) x0) = half x0 q := by
  rw [View.readAt_rep]
  funext j
  have hj : (j 0).val < 256 := (j 0).isLt
  subst ho
  refine congrArg x0 ?_
  funext a
  fin_cases a
  · exact Fin.ext (by show 256 * q + 1 * (j 0).val = (256 * q + (j 0).val) % 2048; omega)
  · exact Fin.ext (by show 0 + 1 * (j 1).val = (j 1).val; omega)

end Cert.Ffn
-- ==== Proof.FfnB.lean ====
/- The expert kernel's body at one visit: what it leaves in the output's buffer. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources over the words of the ideal reading. -/
abbrev R5 := MT nD τ sig Unit (Elt Ideal) ℕ (UR sig nD τ) ℕ

/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

section

variable (c : Dev nD) (arg5 : Memref sig .tc .vmem S2048x512 .i32) (arg9 : Memref sig .tc .vmem S4096x512 .bf16)
    (x0 : S2048x512.Idx → BitVec 32) (s0 : Buf (Elt Ideal) ((c : Thread nD τ).loc cc0_scratch0))
    (s1 : Buf (Elt Ideal) ((c : Thread nD τ).loc cc0_scratch1)) (X : sProp R5)

/-- What a sub-block's steps hold: the tokens' words, the two weight scratches the output's buffer, and a rest the steps leave alone. -/
def held (f : arg9.view.ty.Contents (Elt Ideal)) : sProp R5 :=
  iprop((arg5.view.loc (c : Thread nD τ) ↦[arg5.view.set]{fullShare} arg5.view.rep (Val := Elt Ideal) x0)
    ∗ (sc0.view.loc (c : Thread nD τ) ↦{fullShare} s0) ∗ (sc1.view.loc (c : Thread nD τ) ↦{fullShare} s1)
    ∗ (arg9.view.loc (c : Thread nD τ) ↦[arg9.view.set]{fullShare} f) ∗ X)

/-- The same with the output's buffer known only up to what it reads. -/
def Inv (R : (S4096x512.Idx → EReal) → Prop) : sProp R5 :=
  iprop(∃ f, held c arg5 arg9 x0 s0 s1 X f ∗ ⌜R (arg9.view.read (Elt Ideal) f)⌝)

end

/-- One step after what is known so far. -/
def Then (R : (S4096x512.Idx → EReal) → Prop) (p : Prop) (W : (S4096x512.Idx → EReal) → (S4096x512.Idx → EReal) → Prop) :
    (S4096x512.Idx → EReal) → Prop := fun O' => ∃ O, R O ∧ ((p → W O O') ∧ (¬p → O' = O))

/-- A branch not taken changes nothing. -/
theorem inv_skip (c : Dev nD) (arg5 : Memref sig .tc .vmem S2048x512 .i32) (arg9 : Memref sig .tc .vmem S4096x512 .bf16)
    (x0 : S2048x512.Idx → BitVec 32) (s0 : Buf (Elt Ideal) ((c : Thread nD τ).loc cc0_scratch0))
    (s1 : Buf (Elt Ideal) ((c : Thread nD τ).loc cc0_scratch1)) (X : sProp R5) (R : (S4096x512.Idx → EReal) → Prop) (p : Prop)
    (W : (S4096x512.Idx → EReal) → (S4096x512.Idx → EReal) → Prop) (h : ¬p) :
    Inv c arg5 arg9 x0 s0 s1 X R ⊢ Inv c arg5 arg9 x0 s0 s1 X (Then R p W) := by
  unfold Inv
  iintro ⟨%f, H, %hR⟩
  iexists f
  isplitl [H]
  · iexact H
  ipureintro
  exact ⟨_, hR, fun hp => absurd hp h, fun _ => rfl⟩

/-- A computed block of 512 rows, out of what the loads read. -/
theorem full_at (c : Dev nD) (arg5 : Memref sig .tc .vmem S2048x512 .i32) (x0 : S2048x512.Idx → BitVec 32)
    (s0 : Buf (Elt Ideal) ((c : Thread nD τ).loc cc0_scratch0)) (s1 : Buf (Elt Ideal) ((c : Thread nD τ).loc cc0_scratch1))
    (q : ℕ) (hq : q < 8) {off : Fin 2 → ℕ} (ho : off = ![256 * q, 0]) (inb : ∀ a, off a + S256x512.size a ≤ S2048x512.size a)
    (inb0 : ∀ a, (![0, 0] : Fin 2 → ℕ) a + S1024x512.size a ≤ S1024x512.size a) (inb1 : ∀ a, (![0, 0] : Fin 2 → ℕ) a + S256x1024.size a ≤ S256x1024.size a)
    (y : S4096x512.Idx) (j : S512x512.Idx) (h0 : (y 0).val = 512 * q + (j 0).val) (h1 : (y 1).val = (j 1).val) :
    k0_pay1 (F := Ideal) (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1) j = gen x0 s0 s1 y := by
  rw [half_read _ x0 q hq ho, View.readAt_full, View.readAt_full]
  exact gen_at x0 s0 s1 q y j h0 h1

/-- A load of 512 rows of the output's buffer at one index. -/
theorem old_at (arg9 : Memref sig .tc .vmem S4096x512 .bf16) (f : arg9.view.ty.Contents (Elt Ideal)) (o : ℕ) {off : Fin 2 → ℕ} (ho : off = ![o, 0])
    (inb : ∀ a, off a + S512x512.size a ≤ S4096x512.size a) (y : S4096x512.Idx) (j : S512x512.Idx) (h0 : (y 0).val = o + (j 0).val) (h1 : (y 1).val = (j 1).val) :
    arg9.view.readAt (Elt Ideal) (Rect.unit (s := S4096x512) off S512x512.size inb).toLoadRect f j = arg9.view.read (Elt Ideal) f y := by
  subst ho
  refine congrArg (arg9.view.read (Elt Ideal) f) ?_
  funext a
  fin_cases a
  · exact Fin.ext (by show o + 1 * (j 0).val = (y 0).val; omega)
  · exact Fin.ext (by show 0 + 1 * (j 1).val = (y 1).val; omega)

/-- The first masked store of a sub-block: the visit's rows computed, the rows before them kept. -/
theorem maskA_at (c : Dev nD) (arg5 : Memref sig .tc .vmem S2048x512 .i32) (arg9 : Memref sig .tc .vmem S4096x512 .bf16) (x0 : S2048x512.Idx → BitVec 32)
    (s0 : Buf (Elt Ideal) ((c : Thread nD τ).loc cc0_scratch0)) (s1 : Buf (Elt Ideal) ((c : Thread nD τ).loc cc0_scratch1)) (f : arg9.view.ty.Contents (Elt Ideal))
    (s q : ℕ) (a b : BitVec 32) (lo hi : ℕ) (ha : a.toInt = min 512 (max 0 ((lo : ℤ) - (s : ℕ)))) (hb : b.toInt = min 512 (max 0 ((hi : ℤ) - (s : ℕ))))
    (hq : q < 7) (hs : 2 * s = 512 * q) {off offo : Fin 2 → ℕ} (ho : off = ![256 * q, 0]) (hoo : offo = ![2 * s, 0]) (inb : ∀ a, off a + S256x512.size a ≤ S2048x512.size a)
    (inbo : ∀ a, offo a + S512x512.size a ≤ S4096x512.size a)
    (inb0 : ∀ a, (![0, 0] : Fin 2 → ℕ) a + S1024x512.size a ≤ S1024x512.size a) (inb1 : ∀ a, (![0, 0] : Fin 2 → ℕ) a + S256x1024.size a ≤ S256x1024.size a)
    (y : S4096x512.Idx) (j : S512x512.Idx) (h0 : (y 0).val = 2 * s + (j 0).val) (h1 : (y 1).val = (j 1).val) :
    (lo ≤ (y 0).val / 2 → (y 0).val / 2 < hi → k0_pay9 (F := Ideal) a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f) j = gen x0 s0 s1 y)
    ∧ ((y 0).val / 2 < lo → k0_pay9 (F := Ideal) a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f) j = arg9.view.read (Elt Ideal) f y) := by
  have hj : (j 0).val < 512 := (j 0).isLt
  rw [pay9_apply]
  constructor
  · intro hl hh
    rw [if_pos (by omega)]
    exact full_at c arg5 x0 s0 s1 q (by omega) ho _ _ _ y j (by omega) h1
  · intro hl
    rw [if_neg (by omega)]
    exact old_at arg9 f (2 * s) hoo _ y j h0 h1

/-- The second masked store of a sub-block. -/
theorem maskB_at (c : Dev nD) (arg5 : Memref sig .tc .vmem S2048x512 .i32) (arg9 : Memref sig .tc .vmem S4096x512 .bf16) (x0 : S2048x512.Idx → BitVec 32)
    (s0 : Buf (Elt Ideal) ((c : Thread nD τ).loc cc0_scratch0)) (s1 : Buf (Elt Ideal) ((c : Thread nD τ).loc cc0_scratch1)) (f : arg9.view.ty.Contents (Elt Ideal))
    (s q : ℕ) (a b : BitVec 32) (lo hi : ℕ) (ha : a.toInt = min 512 (max 0 ((lo : ℤ) - (s : ℕ)))) (hb : b.toInt = min 512 (max 0 ((hi : ℤ) - (s : ℕ))))
    (hq : q < 7) (hs : 2 * s = 512 * q) {off offo : Fin 2 → ℕ} (ho : off = ![256 * (q + 1), 0]) (hoo : offo = ![2 * s + 512, 0]) (inb : ∀ a, off a + S256x512.size a ≤ S2048x512.size a)
    (inbo : ∀ a, offo a + S512x512.size a ≤ S4096x512.size a)
    (inb0 : ∀ a, (![0, 0] : Fin 2 → ℕ) a + S1024x512.size a ≤ S1024x512.size a) (inb1 : ∀ a, (![0, 0] : Fin 2 → ℕ) a + S256x1024.size a ≤ S256x1024.size a)
    (y : S4096x512.Idx) (j : S512x512.Idx) (h0 : (y 0).val = 2 * s + 512 + (j 0).val) (h1 : (y 1).val = (j 1).val) :
    (lo ≤ (y 0).val / 2 → (y 0).val / 2 < hi → k0_pay3 (F := Ideal) (k0_pay11 a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f)) (k0_pay12 a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f)) j = gen x0 s0 s1 y)
    ∧ ((y 0).val / 2 < lo → k0_pay3 (F := Ideal) (k0_pay11 a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f)) (k0_pay12 a b (k0_pay4 (F := Ideal)
        (arg5.view.readAt (Elt Ideal) (Rect.unit (s := S2048x512) off S256x512.size inb).toLoadRect (arg5.view.rep (Val := Elt Ideal) x0))
        (sc0.view.readAt (Elt Ideal) (Rect.unit (s := S1024x512) ![0, 0] S1024x512.size inb0).toLoadRect s0))
      (sc1.view.readAt (Elt Ideal) (Rect.unit (s := S256x1024) ![0, 0] S256x1024.size inb1).toLoadRect s1)
      (arg9.view.readAt (Elt Ideal) (Rect.unit (s := S4096x512) offo S512x512.size inbo).toLoadRect f)) j = arg9.view.read (Elt Ideal) f y) := by
  have hj : (j 0).val < 512 := (j 0).isLt
  rw [pay3_apply]
  constructor
  · intro hl hh
    rw [if_pos (by omega)]
    exact full_at c arg5 x0 s0 s1 (q + 1) (by omega) ho _ _ _ y j (by omega) h1
  · intro hl
    rw [if_neg (by omega)]
    exact old_at arg9 f (2 * s + 512) hoo _ y j h0 h1

end Cert.Ffn
-- ==== Proof.FfnD.lean ====
/- The expert kernel's body at one visit: the weights' reload and the first sub-block. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA
public import proofs.«01_k».proof.Proof.FfnB

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The word of a table that a visit reads of its own. -/
def at1 (i : grid0.Coords) (T : S127.Idx → BitVec 32) : BitVec 32 := T (ix1 ⟨(i 0).val, (i 0).isLt⟩)

/-- The word of the experts' table that a visit reads of the one before it (its own at the first visit). -/
def at2 (i : grid0.Coords) (T : S127.Idx → BitVec 32) : BitVec 32 :=
  T (ix1 ⟨(i 0).val - 1, lt_of_le_of_lt (Nat.sub_le _ _) (i 0).isLt⟩)

/-- The gate's and the up-projection's blocks side by side, as the body casts them. -/
def sideBySide (a6 a7 : S1x1x1024x256.Idx → EReal) : S1024x512.Idx → EReal := fun y =>
  if h : (y 1).val < 256 then k0_pay40 (F := Ideal) a6 (ix2 (y 0) ⟨(y 1).val, h⟩)
  else k0_pay41 (F := Ideal) a7 (ix2 (y 0) ⟨(y 1).val - 256, by have h1 : (y 1).val < 512 := (y 1).isLt; omega⟩)

/-- The weights a visit works with: reloaded at the first visit and where the expert changes, kept elsewhere. -/
def Wts (i : grid0.Coords) (T0 : S127.Idx → BitVec 32) (a6 a7 : S1x1x1024x256.Idx → EReal) (a8 : S1x1x256x1024.Idx → EReal)
    (s0 : S1024x512.Idx → EReal) (s1 : S256x1024.Idx → EReal) (s0' : S1024x512.Idx → EReal) (s1' : S256x1024.Idx → EReal) : Prop :=
  ((i 0).val = 0 ∨ at1 i T0 ≠ at2 i T0 → s0' = sideBySide a6 a7 ∧ s1' = k0_pay42 (F := Ideal) a8)
    ∧ (¬((i 0).val = 0 ∨ at1 i T0 ≠ at2 i T0) → s0' = s0 ∧ s1' = s1)

section

variable (c : Dev nD) (arg6 arg7 : Memref sig .tc .vmem S1x1x1024x256 .f32) (arg8 : Memref sig .tc .vmem S1x1x256x1024 .f32)
    (T0 : Buf (Elt Ideal) ((c : Thread nD τ).loc main_arg1)) (T2 : Buf (Elt Ideal) ((c : Thread nD τ).loc main_arg3)) (T3 : Buf (Elt Ideal) ((c : Thread nD τ).loc main_arg4))
    (a6 a7 : S1x1x1024x256.Idx → EReal) (a8 : S1x1x256x1024.Idx → EReal) (X : sProp R5)

/-- The tables and the weights' blocks, which a visit only reads. -/
def Side : sProp R5 :=
  iprop((tb0.view.loc (c : Thread nD τ) ↦{fullShare.right} T0) ∗ (tb2.view.loc (c : Thread nD τ) ↦{fullShare.right} T2) ∗ (tb3.view.loc (c : Thread nD τ) ↦{fullShare.right} T3)
    ∗ (arg6.view.loc (c : Thread nD τ) ↦[arg6.view.set]{fullShare} arg6.view.rep (Val := Elt Ideal) a6)
    ∗ (arg7.view.loc (c : Thread nD τ) ↦[arg7.view.set]{fullShare} arg7.view.rep (Val := Elt Ideal) a7)
    ∗ (arg8.view.loc (c : Thread nD τ) ↦[arg8.view.set]{fullShare} arg8.view.rep (Val := Elt Ideal) a8) ∗ X)

end

/-- A load of one word, continued. -/
theorem smemLoad_bind {nD : Nat} {τ : Topo} {sig : RefSig} {Val : EltTy → Type} {Λ : Labels} {p : Proc τ} {s : Shape} {e : EltTy} {α : Type}
    (m : Memref sig p.kind .smem s e) (r : Rect s) (h1 : r.shape.numel = 1) (hp : e.packing = 1) (k : Val e → Prog (TpuEff nD τ sig Val Λ p) α) :
    smemLoad m r h1 hp >>= k = smemLoadElt m r (View.loads_smem_one hp h1) (Shape.Idx.first (h1.symm ▸ Nat.one_pos)) k := rfl

/-- The visit's own place in the tables. -/
theorem off1_eq (i : grid0.Coords) : k0_off1 i = ![(i 0).val] := by
  revert i; decide +kernel

/-- The place before it. -/
theorem off2_eq (i : grid0.Coords) : k0_off2 i = ![(i 0).val - 1] := by
  revert i; decide +kernel

/-- A visit's load of its own word of a table. -/
theorem smem2 {α : Type} (c : Dev nD) (i : grid0.Coords) (T : Buf (Elt Ideal) ((c : Thread nD τ).loc main_arg3)) (inb : ∀ a, k0_off1 i a + S1.size a ≤ S127.size a)
    (h1 : (Rect.unit (s := S127) (k0_off1 i) S1.size inb).shape.numel = 1) (hp : (EltTy.i32).packing = 1) (v : BitVec 32) (hv : at1 i T = v) (k : BitVec 32 → Prog (TpuEff nD τ sig (Elt Ideal) Λ₀ .tc) α) (Q : α → sProp R5) :
    iprop((tb2.view.loc (c : Thread nD τ) ↦{fullShare.right} T) ∗ ((tb2.view.loc (c : Thread nD τ) ↦{fullShare.right} T) -∗ wp frame (wpE (defs₀ (F := Ideal)) Variants.none c none) Set.univ (k v) Q))
      ⊢ wp frame (wpE (defs₀ (F := Ideal)) Variants.none c none) Set.univ (smemLoad tb2 (Rect.unit (s := S127) (k0_off1 i) S1.size inb) h1 hp >>= k) Q := by
  subst hv
  have e : tb2.view.readAt (Elt Ideal) (Rect.unit (s := S127) (k0_off1 i) S1.size inb).toLoadRect T (Shape.Idx.first (h1.symm ▸ Nat.one_pos)) = at1 i T := by
    refine congrArg T ?_
    funext a
    fin_cases a
    refine Fin.ext ?_
    have hj : ((Shape.Idx.first (h1.symm ▸ Nat.one_pos) : (Rect.unit (s := S127) (k0_off1 i) S1.size inb).shape.Idx) 0).val < 1 := Fin.isLt _
    have hi : (i 0).val < 127 := (i 0).isLt
    have ho : k0_off1 i 0 = (i 0).val := congrFun (off1_eq i) 0
    show k0_off1 i 0 + 1 * (Shape.Idx.first (h1.symm ▸ Nat.one_pos) 0).val = (i 0).val
    omega
  rw [← e]
  iintro ⟨H, Hk⟩
  rw [smemLoad_bind]
  unfold smemLoadElt
  sl_step
  iapply Hk
  iexact H

/-- A visit's load of its own word of a table. -/
theorem smem3 {α : Type} (c : Dev nD) (i : grid0.Coords) (T : Buf (Elt Ideal) ((c : Thread nD τ).loc main_arg4)) (inb : ∀ a, k0_off1 i a + S1.size a ≤ S127.size a)
    (h1 : (Rect.unit (s := S127) (k0_off1 i) S1.size inb).shape.numel = 1) (hp : (EltTy.i32).packing = 1) (v : BitVec 32) (hv : at1 i T = v) (k : BitVec 32 → Prog (TpuEff nD τ sig (Elt Ideal) Λ₀ .tc) α) (Q : α → sProp R5) :
    iprop((tb3.view.loc (c : Thread nD τ) ↦{fullShare.right} T) ∗ ((tb3.view.loc (c : Thread nD τ) ↦{fullShare.right} T) -∗ wp frame (wpE (defs₀ (F := Ideal)) Variants.none c none) Set.univ (k v) Q))
      ⊢ wp frame (wpE (defs₀ (F := Ideal)) Variants.none c none) Set.univ (smemLoad tb3 (Rect.unit (s := S127) (k0_off1 i) S1.size inb) h1 hp >>= k) Q := by
  subst hv
  have e : tb3.view.readAt (Elt Ideal) (Rect.unit (s := S127) (k0_off1 i) S1.size inb).toLoadRect T (Shape.Idx.first (h1.symm ▸ Nat.one_pos)) = at1 i T := by
    refine congrArg T ?_
    funext a
    fin_cases a
    refine Fin.ext ?_
    have hj : ((Shape.Idx.first (h1.symm ▸ Nat.one_pos) : (Rect.unit (s := S127) (k0_off1 i) S1.size inb).shape.Idx) 0).val < 1 := Fin.isLt _
    have hi : (i 0).val < 127 := (i 0).isLt
    have ho : k0_off1 i 0 = (i 0).val := congrFun (off1_eq i) 0
    show k0_off1 i 0 + 1 * (Shape.Idx.first (h1.symm ▸ Nat.one_pos) 0).val = (i 0).val
    omega
  rw [← e]
  iintro ⟨H, Hk⟩
  rw [smemLoad_bind]
  unfold smemLoadElt
  sl_step
  iapply Hk
  iexact H

/-- A visit's load of its own word of a table. -/
theorem smem0 {α : Type} (c : Dev nD) (i : grid0.Coords) (T : Buf (Elt Ideal) ((c : Thread nD τ).loc main_arg1)) (inb : ∀ a, k0_off1 i a + S1.size a ≤ S127.size a)
    (h1 : (Rect.unit (s := S127) (k0_off1 i) S1.size inb).shape.numel = 1) (hp : (EltTy.i32).packing = 1) (v : BitVec 32) (hv : at1 i T = v) (k : BitVec 32 → Prog (TpuEff nD τ sig (Elt Ideal) Λ₀ .tc) α) (Q : α → sProp R5) :
    iprop((tb0.view.loc (c : Thread nD τ) ↦{fullShare.right} T) ∗ ((tb0.view.loc (c : Thread nD τ) ↦{fullShare.right} T) -∗ wp frame (wpE (defs₀ (F := Ideal)) Variants.none c none) Set.univ (k v) Q))
      ⊢ wp frame (wpE (defs₀ (F := Ideal)) Variants.none c none) Set.univ (smemLoad tb0 (Rect.unit (s := S127) (k0_off1 i) S1.size inb) h1 hp >>= k) Q := by
  subst hv
  have e : tb0.view.readAt (Elt Ideal) (Rect.unit (s := S127) (k0_off1 i) S1.size inb).toLoadRect T (Shape.Idx.first (h1.symm ▸ Nat.one_pos)) = at1 i T := by
    refine congrArg T ?_
    funext a
    fin_cases a
    refine Fin.ext ?_
    have hj : ((Shape.Idx.first (h1.symm ▸ Nat.one_pos) : (Rect.unit (s := S127) (k0_off1 i) S1.size inb).shape.Idx) 0).val < 1 := Fin.isLt _
    have hi : (i 0).val < 127 := (i 0).isLt
    have ho : k0_off1 i 0 = (i 0).val := congrFun (off1_eq i) 0
    show k0_off1 i 0 + 1 * (Shape.Idx.first (h1.symm ▸ Nat.one_pos) 0).val = (i 0).val
    omega
  rw [← e]
  iintro ⟨H, Hk⟩
  rw [smemLoad_bind]
  unfold smemLoadElt
  sl_step
  iapply Hk
  iexact H

/-- A visit's load of its previous word of a table. -/
theorem smem4 {α : Type} (c : Dev nD) (i : grid0.Coords) (T : Buf (Elt Ideal) ((c : Thread nD τ).loc main_arg1)) (inb : ∀ a, k0_off2 i a + S1.size a ≤ S127.size a)
    (h1 : (Rect.unit (s := S127) (k0_off2 i) S1.size inb).shape.numel = 1) (hp : (EltTy.i32).packing = 1) (v : BitVec 32) (hv : at2 i T = v) (k : BitVec 32 → Prog (TpuEff nD τ sig (Elt Ideal) Λ₀ .tc) α) (Q : α → sProp R5) :
    iprop((tb0.view.loc (c : Thread nD τ) ↦{fullShare.right} T) ∗ ((tb0.view.loc (c : Thread nD τ) ↦{fullShare.right} T) -∗ wp frame (wpE (defs₀ (F := Ideal)) Variants.none c none) Set.univ (k v) Q))
      ⊢ wp frame (wpE (defs₀ (F := Ideal)) Variants.none c none) Set.univ (smemLoad tb0 (Rect.unit (s := S127) (k0_off2 i) S1.size inb) h1 hp >>= k) Q := by
  subst hv
  have e : tb0.view.readAt (Elt Ideal) (Rect.unit (s := S127) (k0_off2 i) S1.size inb).toLoadRect T (Shape.Idx.first (h1.symm ▸ Nat.one_pos)) = at2 i T := by
    refine congrArg T ?_
    funext a
    fin_cases a
    refine Fin.ext ?_
    have hj : ((Shape.Idx.first (h1.symm ▸ Nat.one_pos) : (Rect.unit (s := S127) (k0_off2 i) S1.size inb).shape.Idx) 0).val < 1 := Fin.isLt _
    have hi : (i 0).val < 127 := (i 0).isLt
    have ho : k0_off2 i 0 = (i 0).val - 1 := congrFun (off2_eq i) 0
    show k0_off2 i 0 + 1 * (Shape.Idx.first (h1.symm ▸ Nat.one_pos) 0).val = (i 0).val - 1
    omega
  rw [← e]
  iintro ⟨H, Hk⟩
  rw [smemLoad_bind]
  unfold smemLoadElt
  sl_step
  iapply Hk
  iexact H

/-- The reload's test, read back. -/
theorem reload_iff (n : ℕ) (hn : n < 127) (x y : BitVec 32) :
    Scalar.cmpi .ne (Scalar.extui (Scalar.ori (Scalar.cmpi .eq (BitVec.ofNat 32 n) 0#32) (Scalar.cmpi .ne x y))) 0#32 = 1#1 ↔ n = 0 ∨ x ≠ y := by
  have k : ∀ p q : Bool, Scalar.cmpi .ne (Scalar.extui (Scalar.ori (BitVec.ofBool p) (BitVec.ofBool q))) 0#32 = 1#1 ↔ p = true ∨ q = true := by
    intro p q; cases p <;> cases q <;> decide
  refine (k (BitVec.ofNat 32 n == 0#32) (x != y)).trans (or_congr ?_ ?_)
  · rw [beq_iff_eq, ← BitVec.toNat_inj, BitVec.toNat_ofNat]
    have : n % 2 ^ 32 = n := Nat.mod_eq_of_lt (by omega)
    rw [this]; rfl
  · rw [bne_iff_ne]

/-- The weights' scratch after the two stores of the reload. -/
theorem reload_s0 (c : Dev nD) (s0 : Buf (Elt Ideal) ((c : Thread nD τ).loc cc0_scratch0)) (arg6 arg7 : Memref sig .tc .vmem S1x1x1024x256 .f32) (a6 a7 : S1x1x1024x256.Idx → EReal)
    (inb6 inb7 : ∀ a, (![0, 0, 0, 0] : Fin 4 → ℕ) a + S1x1x1024x256.size a ≤ S1x1x1024x256.size a)
    (inbA : ∀ a, (![0, 0] : Fin 2 → ℕ) a + S1024x256.size a ≤ S1024x512.size a) (inbB : ∀ a, (![0, 256] : Fin 2 → ℕ) a + S1024x256.size a ≤ S1024x512.size a) :
    sc0.view.writes (Elt Ideal) s0 [⟨Rect.unit (s := S1024x512) ![0, 256] S1024x256.size inbB, k0_pay41 (F := Ideal) (arg7.view.readAt (Elt Ideal) (Rect.unit (s := S1x1x1024x256) ![0, 0, 0, 0] S1x1x1024x256.size inb7).toLoadRect (arg7.view.rep (Val := Elt Ideal) a7))⟩,
      ⟨Rect.unit (s := S1024x512) ![0, 0] S1024x256.size inbA, k0_pay40 (F := Ideal) (arg6.view.readAt (Elt Ideal) (Rect.unit (s := S1x1x1024x256) ![0, 0, 0, 0] S1x1x1024x256.size inb6).toLoadRect (arg6.view.rep (Val := Elt Ideal) a6))⟩] = sideBySide a6 a7 := by
  rw [View.readAt_full, View.readAt_full, View.read_rep, View.read_rep]
  funext y
  refine (congrFun (View.read_whole cc0_scratch0 _) y).symm.trans ?_
  show sc0.view.read (Elt Ideal) (sc0.view.writes (Elt Ideal) s0 _) y = _
  have h1 : (y 1).val < 512 := (y 1).isLt
  unfold sideBySide
  split
  · rename_i h
    rw [View.read_writes_cons_unit_of_not_mem sc0.view s0 inbB _ _ y rfl 1 (Or.inl h)]
    exact View.read_writes_cons_unit_of_mem sc0.view s0 inbA _ _ y _ rfl (Fin.forall_fin_two.mpr ⟨(Nat.zero_add _).symm, (Nat.zero_add _).symm⟩)
  · rename_i h
    exact View.read_writes_cons_unit_of_mem sc0.view s0 inbB _ _ y _ rfl (Fin.forall_fin_two.mpr ⟨(Nat.zero_add _).symm, by show (y 1).val = 256 + ((y 1).val - 256); omega⟩)

/-- The down-projection's scratch after the reload's store. -/
theorem reload_s1 (c : Dev nD) (s1 : Buf (Elt Ideal) ((c : Thread nD τ).loc cc0_scratch1)) (arg8 : Memref sig .tc .vmem S1x1x256x1024 .f32) (a8 : S1x1x256x1024.Idx → EReal)
    (inb8 : ∀ a, (![0, 0, 0, 0] : Fin 4 → ℕ) a + S1x1x256x1024.size a ≤ S1x1x256x1024.size a)
    (inb : ∀ a, (![0, 0] : Fin 2 → ℕ) a + S256x1024.size a ≤ S256x1024.size a) :
    sc1.view.writes (Elt Ideal) s1 [⟨Rect.unit (s := S256x1024) ![0, 0] S256x1024.size inb, k0_pay42 (F := Ideal) (arg8.view.readAt (Elt Ideal) (Rect.unit (s := S1x1x256x1024) ![0, 0, 0, 0] S1x1x256x1024.size inb8).toLoadRect (arg8.view.rep (Val := Elt Ideal) a8))⟩]
      = k0_pay42 (F := Ideal) a8 := by
  rw [View.readAt_full, View.read_rep]
  generalize k0_pay42 (F := Ideal) a8 = w
  funext y
  refine (congrFun (View.read_whole cc0_scratch1 _) y).symm.trans ?_
  show sc1.view.read (Elt Ideal) (sc1.view.writes (Elt Ideal) s1 _) y = _
  exact View.read_writes_cons_unit_of_mem sc1.view s1 inb _ _ y y rfl (Fin.forall_fin_two.mpr ⟨(Nat.zero_add _).symm, (Nat.zero_add _).symm⟩)

/-- The reload and the first sub-block. -/
theorem part13 (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (x0 : S2048x512.Idx → BitVec 32) (s0 : Buf (Elt Ideal) ((c : Thread nD τ).loc cc0_scratch0))
    (s1 : Buf (Elt Ideal) ((c : Thread nD τ).loc cc0_scratch1)) (X : sProp R5) (R : (S4096x512.Idx → EReal) → Prop)
    (T0 : Buf (Elt Ideal) ((c : Thread nD τ).loc main_arg1)) (T2 : Buf (Elt Ideal) ((c : Thread nD τ).loc main_arg3)) (T3 : Buf (Elt Ideal) ((c : Thread nD τ).loc main_arg4))
    (a6 a7 : S1x1x1024x256.Idx → EReal) (a8 : S1x1x256x1024.Idx → EReal)
    (hv1 : (at1 i T2).toNat ≤ 2048) (hv3 : (at1 i T3).toNat ≤ 2048) :
    Inv c arg5 arg9 x0 s0 s1 (Side c arg6 arg7 arg8 T0 T2 T3 a6 a7 a8 X) R ⊢ wp frame (wpE (defs₀ (F := Ideal)) Variants.none c none) Set.univ (k0_part13 i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _))
      (fun r => iprop(∃ s0' s1', ⌜Wts i T0 a6 a7 a8 s0 s1 s0' s1' ∧ r.1 = at1 i T2 ∧ r.2.1 = at1 i T3 ∧ r.2.2.1 = Scalar.minsi 512#32 (Scalar.maxsi 0#32 (Scalar.subi (at1 i T2) 512#32)) ∧ r.2.2.2.1 = 512#32 ∧ r.2.2.2.2 = Scalar.maxsi 0#32 (Scalar.subi (at1 i T3) 512#32)⌝ ∗ Inv c arg5 arg9 x0 s0' s1' (Side c arg6 arg7 arg8 T0 T2 T3 a6 a7 a8 X) (Then (Then R (k0_cond2 (at1 i T2) (at1 i T3) = 1#1) (Wr 0 (at1 i T2).toNat (at1 i T3).toNat (gen x0 s0' s1'))) (k0_cond3 (at1 i T2) (at1 i T3) = 1#1) (Wr 0 (at1 i T2).toNat (at1 i T3).toNat (gen x0 s0' s1'))))) := by
  rw [k0_part13_eq_skeleton]; unfold k0_part13_skel
  extract_lets arg0
  have hS0 : sc0.IsWhole := Memref.isWhole_whole _
  have hS1 : sc1.IsWhole := Memref.isWhole_whole _
  generalize e1 : at1 i T2 = v1 at hv1 ⊢
  generalize e3 : at1 i T3 = v3 at hv3 ⊢
  obtain ⟨v6, e6⟩ : ∃ v, at1 i T0 = v := ⟨_, rfl⟩
  obtain ⟨v10, e10⟩ : ∃ v, at2 i T0 = v := ⟨_, rfl⟩
  unfold Inv held Side
  iintro ⟨%f4, ⟨H0, HS0, HS1, HO, HT0, HT2, HT3, H6, H7, H8, HX⟩, %hR⟩
  extract_lets v4
  iapply smem2 c i T2 _ _ _ v1 e1 $$ [-]
  isplitl [HT2]
  · iexact HT2
  iintro HT2
  iapply smem3 c i T3 _ _ _ v3 e3 $$ [-]
  isplitl [HT3]
  · iexact HT3
  iintro HT3
  iapply smem0 c i T0 _ _ _ v6 e6 $$ [-]
  isplitl [HT0]
  · iexact HT0
  iintro HT0
  iapply smem4 c i T0 _ _ _ v10 e10 $$ [-]
  isplitl [HT0]
  · iexact HT0
  iintro HT0
  beta_reduce
  extract_lets v11 v12 v13 v14 v15 v16 v17 v18 v19 v20 v31 v32 v33 v34 v35 jC jB jA
  have hC : ∀ s0' s1', Wts i T0 a6 a7 a8 s0 s1 s0' s1' → (Inv c arg5 arg9 x0 s0' s1' (Side c arg6 arg7 arg8 T0 T2 T3 a6 a7 a8 X) (Then (Then R (k0_cond2 v1 v3 = 1#1) (Wr 0 v1.toNat v3.toNat (gen x0 s0' s1'))) (k0_cond3 v1 v3 = 1#1) (Wr 0 v1.toNat v3.toNat (gen x0 s0' s1'))) ⊢ wp frame (wpE (defs₀ (F := Ideal)) Variants.none c none) Set.univ (jC ⟨⟩) (fun r => iprop(∃ s0' s1', ⌜Wts i T0 a6 a7 a8 s0 s1 s0' s1' ∧ r.1 = v1 ∧ r.2.1 = v3 ∧ r.2.2.1 = Scalar.minsi 512#32 (Scalar.maxsi 0#32 (Scalar.subi v1 512#32)) ∧ r.2.2.2.1 = 512#32 ∧ r.2.2.2.2 = Scalar.maxsi 0#32 (Scalar.subi v3 512#32)⌝ ∗ Inv c arg5 arg9 x0 s0' s1' (Side c arg6 arg7 arg8 T0 T2 T3 a6 a7 a8 X) (Then (Then R (k0_cond2 v1 v3 = 1#1) (Wr 0 v1.toNat v3.toNat (gen x0 s0' s1'))) (k0_cond3 v1 v3 = 1#1) (Wr 0 v1.toNat v3.toNat (gen x0 s0' s1')))))) := by
    intro s0' s1' hw
    unfold jC
    iintro H
    sl_step
    iexists s0', s1'
    isplitr
    · ipureintro
      exact ⟨hw, rfl, rfl, rfl, rfl, rfl⟩
    iexact H
  clear_value jC
  have hB : ∀ s0' s1', Wts i T0 a6 a7 a8 s0 s1 s0' s1' → (Inv c arg5 arg9 x0 s0' s1' (Side c arg6 arg7 arg8 T0 T2 T3 a6 a7 a8 X) (Then R (k0_cond2 v1 v3 = 1#1) (Wr 0 v1.toNat v3.toNat (gen x0 s0' s1'))) ⊢ wp frame (wpE (defs₀ (F := Ideal)) Variants.none c none) Set.univ (jB ⟨⟩) (fun r => iprop(∃ s0' s1', ⌜Wts i T0 a6 a7 a8 s0 s1 s0' s1' ∧ r.1 = v1 ∧ r.2.1 = v3 ∧ r.2.2.1 = Scalar.minsi 512#32 (Scalar.maxsi 0#32 (Scalar.subi v1 512#32)) ∧ r.2.2.2.1 = 512#32 ∧ r.2.2.2.2 = Scalar.maxsi 0#32 (Scalar.subi v3 512#32)⌝ ∗ Inv c arg5 arg9 x0 s0' s1' (Side c arg6 arg7 arg8 T0 T2 T3 a6 a7 a8 X) (Then (Then R (k0_cond2 v1 v3 = 1#1) (Wr 0 v1.toNat v3.toNat (gen x0 s0' s1'))) (k0_cond3 v1 v3 = 1#1) (Wr 0 v1.toNat v3.toNat (gen x0 s0' s1')))))) := by
    intro s0' s1' hw
    have ha : v17.toInt = min 512 (max 0 ((v1.toNat : ℤ) - (0 : ℕ))) := clip_toNat v1 0 (by omega) hv1
    have hb : v20.toInt = min 512 (max 0 ((v3.toNat : ℤ) - (0 : ℕ))) := clip_toNat v3 0 (by omega) hv3
    unfold jB
    by_cases h : k0_cond3 v1 v3 = 1#1
    · rw [dif_pos h]
      unfold Inv held
      iintro ⟨%f4, ⟨H0, HS0, HS1, HO, HX⟩, %hR⟩
      sl_exec
      iapply (hC s0' s1' hw)
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      refine wr_of arg9.view f4 0 _ _ rfl rfl _ _ _ _ _ (fun y j h0 h1 => ?_) (fun y j h0 h1 => ?_)
      · exact maskA_at c arg5 arg9 x0 s0' s1' f4 0 0 _ _ _ _ ha hb (by omega) rfl rfl rfl _ _ _ _ y j h0 h1
      · exact maskB_at c arg5 arg9 x0 s0' s1' f4 0 0 _ _ _ _ ha hb (by omega) rfl rfl rfl _ _ _ _ y j h0 h1
    · rw [dif_neg h]
      exact (inv_skip c arg5 arg9 x0 s0' s1' _ _ _ _ h).trans (hC s0' s1' hw)

  clear_value jB
  have hA : ∀ s0' s1', Wts i T0 a6 a7 a8 s0 s1 s0' s1' → (Inv c arg5 arg9 x0 s0' s1' (Side c arg6 arg7 arg8 T0 T2 T3 a6 a7 a8 X) R ⊢ wp frame (wpE (defs₀ (F := Ideal)) Variants.none c none) Set.univ (jA ⟨⟩) (fun r => iprop(∃ s0' s1', ⌜Wts i T0 a6 a7 a8 s0 s1 s0' s1' ∧ r.1 = v1 ∧ r.2.1 = v3 ∧ r.2.2.1 = Scalar.minsi 512#32 (Scalar.maxsi 0#32 (Scalar.subi v1 512#32)) ∧ r.2.2.2.1 = 512#32 ∧ r.2.2.2.2 = Scalar.maxsi 0#32 (Scalar.subi v3 512#32)⌝ ∗ Inv c arg5 arg9 x0 s0' s1' (Side c arg6 arg7 arg8 T0 T2 T3 a6 a7 a8 X) (Then (Then R (k0_cond2 v1 v3 = 1#1) (Wr 0 v1.toNat v3.toNat (gen x0 s0' s1'))) (k0_cond3 v1 v3 = 1#1) (Wr 0 v1.toNat v3.toNat (gen x0 s0' s1')))))) := by
    intro s0' s1' hw
    unfold jA
    by_cases h : k0_cond2 v1 v3 = 1#1
    · rw [dif_pos h]
      unfold Inv held
      iintro ⟨%f4, ⟨H0, HS0, HS1, HO, HX⟩, %hR⟩
      sl_exec
      iapply (hB s0' s1' hw)
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      have hlo : v1.toNat ≤ 0 := by
        have := ((full_iff _ _).mp h).2
        rw [clip_toNat v1 0 (by omega) hv1] at this
        omega
      refine wr_of arg9.view f4 0 _ _ rfl rfl _ _ _ _ _ (fun y j h0 h1 => ⟨fun _ _ => ?_, fun hl => ?_⟩) (fun y j h0 h1 => ⟨fun _ _ => ?_, fun hl => ?_⟩)
      · exact full_at c arg5 x0 s0' s1' 0 (by omega) rfl _ _ _ y j h0 h1
      · omega
      · exact full_at c arg5 x0 s0' s1' 1 (by omega) rfl _ _ _ y j h0 h1
      · omega
    · rw [dif_neg h]
      exact (inv_skip c arg5 arg9 x0 s0' s1' _ _ _ _ h).trans (hB s0' s1' hw)

  clear_value jA
  have hiff := reload_iff (i 0).val (i 0).isLt v6 v10
  by_cases hr : v14 = 1#1
  · rw [if_pos hr]
    sl_exec
    have hw : Wts i T0 a6 a7 a8 s0 s1 (sideBySide a6 a7) (k0_pay42 (F := Ideal) a8) := by
      refine ⟨fun _ => ⟨rfl, rfl⟩, fun hn => absurd (hiff.mp hr) ?_⟩
      rw [← e6, ← e10]
      exact hn
    iapply hA _ _ hw
    unfold Inv held Side
    iexists _
    isplitl
    · isplitl [H0]
      · iexact H0
      isplitl [HS0]
      · rw [← reload_s0 c s0 arg6 arg7 a6 a7 (by decide) (by decide) (by decide) (by decide)]
        iexact HS0
      isplitl [HS1]
      · rw [← reload_s1 c s1 arg8 a8 (by decide) (by decide)]
        iexact HS1
      isplitl [HO]
      · iexact HO
      isplitl [HT0]
      · iexact HT0
      isplitl [HT2]
      · iexact HT2
      isplitl [HT3]
      · iexact HT3
      isplitl [H6]
      · iexact H6
      isplitl [H7]
      · iexact H7
      isplitl [H8]
      · iexact H8
      iexact HX
    ipureintro
    exact hR
  · rw [if_neg hr]
    have hw : Wts i T0 a6 a7 a8 s0 s1 s0 s1 := by
      refine ⟨fun hn => absurd (hiff.mpr ?_) hr, fun _ => ⟨rfl, rfl⟩⟩
      rw [← e6, ← e10]
      exact hn
    iapply hA _ _ hw
    unfold Inv held Side
    iexists _
    isplitl
    · isplitl [H0]
      · iexact H0
      isplitl [HS0]
      · iexact HS0
      isplitl [HS1]
      · iexact HS1
      isplitl [HO]
      · iexact HO
      isplitl [HT0]
      · iexact HT0
      isplitl [HT2]
      · iexact HT2
      isplitl [HT3]
      · iexact HT3
      isplitl [H6]
      · iexact H6
      isplitl [H7]
      · iexact H7
      isplitl [H8]
      · iexact H8
      iexact HX
    ipureintro
    exact hR

end Cert.Ffn
-- ==== Proof.FfnC.lean ====
/- The expert kernel's body at one visit: its second and third sub-blocks. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA
public import proofs.«01_k».proof.Proof.FfnB

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The second and third sub-blocks: each stores the visit's rows of it, and keeps the rows before them. -/
theorem part14 (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (x0 : S2048x512.Idx → BitVec 32) (s0 : Buf (Elt Ideal) ((c : Thread nD τ).loc cc0_scratch0))
    (s1 : Buf (Elt Ideal) ((c : Thread nD τ).loc cc0_scratch1)) (X : sProp R5) (R : (S4096x512.Idx → EReal) → Prop) (v1 v3 v33 c512 v35 : BitVec 32)
    (hv1 : v1.toNat ≤ 2048) (hv3 : v3.toNat ≤ 2048) (e33 : v33 = Scalar.minsi 512#32 (Scalar.maxsi 0#32 (Scalar.subi v1 512#32)))
    (e512 : c512 = 512#32) (e35 : v35 = Scalar.maxsi 0#32 (Scalar.subi v3 512#32)) :
    Inv c arg5 arg9 x0 s0 s1 X R ⊢ wp frame (wpE (defs₀ (F := Ideal)) Variants.none c none) Set.univ
      (k0_part14 i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _) v1 v3 v33 c512 v35)
      (fun r => iprop(⌜r.1 = Scalar.minsi 512#32 (Scalar.maxsi 0#32 (Scalar.subi v1 1536#32)) ∧ r.2.1 = Scalar.minsi 512#32 (Scalar.maxsi 0#32 (Scalar.subi v3 1536#32))⌝ ∗ Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))))) := by
  subst e33 e512 e35
  rw [k0_part14_eq_skeleton]; unfold k0_part14_skel
  extract_lets v36 v47 v48 v49 v50 v51 v52 v63 v64 v65 v66 v67 v68 v69 v70 jD jC jB jA
  have hS0 : sc0.IsWhole := Memref.isWhole_whole _
  have hS1 : sc1.IsWhole := Memref.isWhole_whole _
  have hD : Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))) ⊢ wp frame (wpE (defs₀ (F := Ideal)) Variants.none c none) Set.univ (jD ⟨⟩) (fun r => iprop(⌜r.1 = Scalar.minsi 512#32 (Scalar.maxsi 0#32 (Scalar.subi v1 1536#32)) ∧ r.2.1 = Scalar.minsi 512#32 (Scalar.maxsi 0#32 (Scalar.subi v3 1536#32))⌝ ∗ Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))))) := by
    unfold jD
    iintro H
    sl_step
    isplitr
    · ipureintro
      exact ⟨rfl, rfl⟩
    iexact H
  clear_value jD
  have hC : Inv c arg5 arg9 x0 s0 s1 X (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) ⊢ wp frame (wpE (defs₀ (F := Ideal)) Variants.none c none) Set.univ (jC ⟨⟩) (fun r => iprop(⌜r.1 = Scalar.minsi 512#32 (Scalar.maxsi 0#32 (Scalar.subi v1 1536#32)) ∧ r.2.1 = Scalar.minsi 512#32 (Scalar.maxsi 0#32 (Scalar.subi v3 1536#32))⌝ ∗ Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))))) := by
    have ha : v49.toInt = min 512 (max 0 ((v1.toNat : ℤ) - (1024 : ℕ))) := clip_toNat v1 1024 (by omega) hv1
    have hb : v52.toInt = min 512 (max 0 ((v3.toNat : ℤ) - (1024 : ℕ))) := clip_toNat v3 1024 (by omega) hv3
    unfold jC
    by_cases h : k0_cond7 v1 v3 = 1#1
    · rw [dif_pos h]
      unfold Inv held
      iintro ⟨%f4, ⟨H0, HS0, HS1, HO, HX⟩, %hR⟩
      sl_exec
      iapply hD
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      refine wr_of arg9.view f4 1024 _ _ rfl rfl _ _ _ _ _ (fun y j h0 h1 => ?_) (fun y j h0 h1 => ?_)
      · exact maskA_at c arg5 arg9 x0 s0 s1 f4 1024 4 _ _ _ _ ha hb (by omega) rfl rfl rfl _ _ _ _ y j h0 h1
      · exact maskB_at c arg5 arg9 x0 s0 s1 f4 1024 4 _ _ _ _ ha hb (by omega) rfl rfl rfl _ _ _ _ y j h0 h1
    · rw [dif_neg h]
      exact (inv_skip c arg5 arg9 x0 s0 s1 _ _ _ _ h).trans hD

  clear_value jC
  have hB : Inv c arg5 arg9 x0 s0 s1 X (Then (Then R (k0_cond4 v1 v3 = 1#1) (Wr 512 v1.toNat v3.toNat (gen x0 s0 s1))) (k0_cond5 v1 v3 = 1#1) (Wr 512 v1.toNat v3.toNat (gen x0 s0 s1))) ⊢ wp frame (wpE (defs₀ (F := Ideal)) Variants.none c none) Set.univ (jB ⟨⟩) (fun r => iprop(⌜r.1 = Scalar.minsi 512#32 (Scalar.maxsi 0#32 (Scalar.subi v1 1536#32)) ∧ r.2.1 = Scalar.minsi 512#32 (Scalar.maxsi 0#32 (Scalar.subi v3 1536#32))⌝ ∗ Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))))) := by
    unfold jB
    by_cases h : k0_cond6 v1 v3 = 1#1
    · rw [dif_pos h]
      unfold Inv held
      iintro ⟨%f4, ⟨H0, HS0, HS1, HO, HX⟩, %hR⟩
      sl_exec
      iapply hC
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      have hlo : v1.toNat ≤ 1024 := by
        have := ((full_iff _ _).mp h).2
        rw [clip_toNat v1 1024 (by omega) hv1] at this
        omega
      refine wr_of arg9.view f4 1024 _ _ rfl rfl _ _ _ _ _ (fun y j h0 h1 => ⟨fun _ _ => ?_, fun hl => ?_⟩) (fun y j h0 h1 => ⟨fun _ _ => ?_, fun hl => ?_⟩)
      · exact full_at c arg5 x0 s0 s1 4 (by omega) rfl _ _ _ y j h0 h1
      · omega
      · exact full_at c arg5 x0 s0 s1 5 (by omega) rfl _ _ _ y j h0 h1
      · omega
    · rw [dif_neg h]
      exact (inv_skip c arg5 arg9 x0 s0 s1 _ _ _ _ h).trans hC

  clear_value jB
  have hA : Inv c arg5 arg9 x0 s0 s1 X (Then R (k0_cond4 v1 v3 = 1#1) (Wr 512 v1.toNat v3.toNat (gen x0 s0 s1))) ⊢ wp frame (wpE (defs₀ (F := Ideal)) Variants.none c none) Set.univ (jA ⟨⟩) (fun r => iprop(⌜r.1 = Scalar.minsi 512#32 (Scalar.maxsi 0#32 (Scalar.subi v1 1536#32)) ∧ r.2.1 = Scalar.minsi 512#32 (Scalar.maxsi 0#32 (Scalar.subi v3 1536#32))⌝ ∗ Inv c arg5 arg9 x0 s0 s1 X (Then (Then (Then (Then R (k0_cond4 v1 v3 = 1#1) (Wr 512 v1.toNat v3.toNat (gen x0 s0 s1))) (k0_cond5 v1 v3 = 1#1) (Wr 512 v1.toNat v3.toNat (gen x0 s0 s1))) (k0_cond6 v1 v3 = 1#1) (Wr 1024 v1.toNat v3.toNat (gen x0 s0 s1))) (k0_cond7 v1 v3 = 1#1) (Wr 1024 v1.toNat v3.toNat (gen x0 s0 s1))))) := by
    have ha : (Scalar.minsi 512#32 (Scalar.maxsi 0#32 (Scalar.subi v1 512#32))).toInt = min 512 (max 0 ((v1.toNat : ℤ) - (512 : ℕ))) := clip_toNat v1 512 (by omega) hv1
    have hb : v36.toInt = min 512 (max 0 ((v3.toNat : ℤ) - (512 : ℕ))) := clip_toNat v3 512 (by omega) hv3
    unfold jA
    by_cases h : k0_cond5 v1 v3 = 1#1
    · rw [dif_pos h]
      unfold Inv held
      iintro ⟨%f4, ⟨H0, HS0, HS1, HO, HX⟩, %hR⟩
      sl_exec
      iapply hB
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      refine wr_of arg9.view f4 512 _ _ rfl rfl _ _ _ _ _ (fun y j h0 h1 => ?_) (fun y j h0 h1 => ?_)
      · exact maskA_at c arg5 arg9 x0 s0 s1 f4 512 2 _ _ _ _ ha hb (by omega) rfl rfl rfl _ _ _ _ y j h0 h1
      · exact maskB_at c arg5 arg9 x0 s0 s1 f4 512 2 _ _ _ _ ha hb (by omega) rfl rfl rfl _ _ _ _ y j h0 h1
    · rw [dif_neg h]
      exact (inv_skip c arg5 arg9 x0 s0 s1 _ _ _ _ h).trans hB

  clear_value jA
  by_cases h : k0_cond4 v1 v3 = 1#1
  · rw [dif_pos h]
    unfold Inv held
    iintro ⟨%f4, ⟨H0, HS0, HS1, HO, HX⟩, %hR⟩
    sl_exec
    iapply hA
    unfold Inv held
    iexists _
    isplitl [H0 HS0 HS1 HO HX]
    · isplitl [H0]
      · iexact H0
      isplitl [HS0]
      · iexact HS0
      isplitl [HS1]
      · iexact HS1
      isplitl [HO]
      · iexact HO
      iexact HX
    ipureintro
    refine ⟨_, hR, fun _ => ?_, fun hn => absurd h hn⟩

    have hlo : v1.toNat ≤ 512 := by
      have := ((full_iff _ _).mp h).2
      rw [clip_toNat v1 512 (by omega) hv1] at this
      omega
    refine wr_of arg9.view f4 512 _ _ rfl rfl _ _ _ _ _ (fun y j h0 h1 => ⟨fun _ _ => ?_, fun hl => ?_⟩) (fun y j h0 h1 => ⟨fun _ _ => ?_, fun hl => ?_⟩)
    · exact full_at c arg5 x0 s0 s1 2 (by omega) rfl _ _ _ y j h0 h1
    · omega
    · exact full_at c arg5 x0 s0 s1 3 (by omega) rfl _ _ _ y j h0 h1
    · omega
  · rw [dif_neg h]
    exact (inv_skip c arg5 arg9 x0 s0 s1 _ _ _ _ h).trans hA

end Cert.Ffn
-- ==== Proof.FfnE.lean ====
/- The expert kernel's body at one visit, whole. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA
public import proofs.«01_k».proof.Proof.FfnB
public import proofs.«01_k».proof.Proof.FfnC
public import proofs.«01_k».proof.Proof.FfnD

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- A whole visit from the buffer `O` to `O'`: the visit's rows hold what it computes, the rows before them are kept;
    a visit with no rows keeps everything. -/
def Vis (lo hi : ℕ) (G O O' : S4096x512.Idx → EReal) : Prop := (hi ≤ lo → O' = O) ∧ ∀ y : S4096x512.Idx,
  (lo ≤ (y 0).val / 2 → (y 0).val / 2 < hi → O' y = G y) ∧ ((y 0).val / 2 < lo → O' y = O y)

/-- With no rows in the visit neither of a sub-block's stores runs. -/
theorem pair_same (s lo hi : ℕ) (a b : ℤ) (p q : Prop) (W1 W2 : Prop) (O O1 O2 : S4096x512.Idx → EReal) (ha : a = min 512 (max 0 ((lo : ℤ) - s)))
    (hb : b = min 512 (max 0 ((hi : ℤ) - s))) (hp : p ↔ a < b ∧ a = 0) (hq : q ↔ a < b ∧ 0 < a)
    (h1 : (p → W1) ∧ (¬p → O1 = O)) (h2 : (q → W2) ∧ (¬q → O2 = O1)) (h : hi ≤ lo) : O2 = O := by
  have hab : ¬a < b := by omega
  rw [h2.2 (fun cq => hab (hq.mp cq).1), h1.2 (fun cp => hab (hp.mp cp).1)]

/-- A sub-block's two conditional stores together: whichever of them runs, the sub-block's rows come out right. -/
theorem pair_wr (s lo hi : ℕ) (a b : ℤ) (p q : Prop) (G O O1 O2 : S4096x512.Idx → EReal) (ha : a = min 512 (max 0 ((lo : ℤ) - s)))
    (hb : b = min 512 (max 0 ((hi : ℤ) - s))) (hp : p ↔ a < b ∧ a = 0) (hq : q ↔ a < b ∧ 0 < a)
    (h1 : (p → Wr s lo hi G O O1) ∧ (¬p → O1 = O)) (h2 : (q → Wr s lo hi G O1 O2) ∧ (¬q → O2 = O1)) : Wr s lo hi G O O2 := by
  by_cases cp : p
  · rw [h2.2 (fun cq => by have := hp.mp cp; have := hq.mp cq; omega)]
    exact h1.1 cp
  · have e := h1.2 cp
    by_cases cq : q
    · rw [← e]
      exact h2.1 cq
    · rw [h2.2 cq, e]
      refine fun y => ⟨fun u1 u2 u3 u4 => absurd (?_ : a < b) (fun hab => ?_), fun _ => rfl⟩
      · omega
      · by_cases h0 : a = 0
        · exact cp (hp.mpr ⟨hab, h0⟩)
        · exact cq (hq.mpr ⟨hab, by omega⟩)

/-- The four sub-blocks make the visit. -/
theorem vis_of_wr (lo hi : ℕ) (G O O1 O2 O3 O4 : S4096x512.Idx → EReal) (h1 : Wr 0 lo hi G O O1) (h2 : Wr 512 lo hi G O1 O2)
    (h3 : Wr 1024 lo hi G O2 O3) (h4 : Wr 1536 lo hi G O3 O4) (hs : hi ≤ lo → O4 = O) : Vis lo hi G O O4 := by
  refine ⟨hs, fun y => ?_⟩
  have hy : (y 0).val < 4096 := (y 0).isLt
  obtain ⟨a1, b1⟩ := h1 y
  obtain ⟨a2, b2⟩ := h2 y
  obtain ⟨a3, b3⟩ := h3 y
  obtain ⟨a4, b4⟩ := h4 y
  refine ⟨fun hl hh => ?_, fun hl => ?_⟩
  · by_cases c1 : (y 0).val / 2 < 512
    · rw [b4 (by omega), b3 (by omega), b2 (by omega)]
      exact a1 (by omega) (by omega) hl hh
    by_cases c2 : (y 0).val / 2 < 1024
    · rw [b4 (by omega), b3 (by omega)]
      exact a2 (by omega) (by omega) hl hh
    by_cases c3 : (y 0).val / 2 < 1536
    · rw [b4 (by omega)]
      exact a3 (by omega) (by omega) hl hh
    exact a4 (by omega) (by omega) hl hh
  · rw [b4 (by omega), b3 (by omega), b2 (by omega), b1 (by omega)]

/-- The eight conditional stores of a visit make the visit. -/
theorem vis_of_then (v1 v3 : BitVec 32) (hv1 : v1.toNat ≤ 2048) (hv3 : v3.toNat ≤ 2048) (x0 : S2048x512.Idx → BitVec 32) (s0' : S1024x512.Idx → EReal)
    (s1' : S256x1024.Idx → EReal) (R : (S4096x512.Idx → EReal) → Prop) (O' : S4096x512.Idx → EReal) (h : (Then (Then (Then (Then (Then (Then (Then (Then R (k0_cond2 v1 v3 = 1#1) (Wr 0 v1.toNat v3.toNat (gen x0 s0' s1'))) (k0_cond3 v1 v3 = 1#1) (Wr 0 v1.toNat v3.toNat (gen x0 s0' s1'))) (k0_cond4 v1 v3 = 1#1) (Wr 512 v1.toNat v3.toNat (gen x0 s0' s1'))) (k0_cond5 v1 v3 = 1#1) (Wr 512 v1.toNat v3.toNat (gen x0 s0' s1'))) (k0_cond6 v1 v3 = 1#1) (Wr 1024 v1.toNat v3.toNat (gen x0 s0' s1'))) (k0_cond7 v1 v3 = 1#1) (Wr 1024 v1.toNat v3.toNat (gen x0 s0' s1'))) (k0_cond8 v1 v3 = 1#1) (Wr 1536 v1.toNat v3.toNat (gen x0 s0' s1'))) (k0_cond9 v1 v3 = 1#1) (Wr 1536 v1.toNat v3.toNat (gen x0 s0' s1'))) O') :
    ∃ O, R O ∧ Vis v1.toNat v3.toNat (gen x0 s0' s1') O O' := by
  obtain ⟨O7, ⟨O6, ⟨O5, ⟨O4, ⟨O3, ⟨O2, ⟨O1, ⟨O, hR, h1⟩, h2⟩, h3⟩, h4⟩, h5⟩, h6⟩, h7⟩, h8⟩ := h
  refine ⟨O, hR, vis_of_wr _ _ _ O O2 O4 O6 O' ?_ ?_ ?_ ?_ fun hle => ?_⟩
  · exact pair_wr 0 _ _ _ _ _ _ _ _ _ _ (clip_toNat v1 0 (by omega) hv1) (clip_toNat v3 0 (by omega) hv3) (full_iff _ _) (mask_iff _ _) h1 h2
  · exact pair_wr 512 _ _ _ _ _ _ _ _ _ _ (clip_toNat v1 512 (by omega) hv1) (clip_toNat v3 512 (by omega) hv3) (full_iff _ _) (mask_iff _ _) h3 h4
  · exact pair_wr 1024 _ _ _ _ _ _ _ _ _ _ (clip_toNat v1 1024 (by omega) hv1) (clip_toNat v3 1024 (by omega) hv3) (full_iff _ _) (mask_iff _ _) h5 h6
  · exact pair_wr 1536 _ _ _ _ _ _ _ _ _ _ (clip_toNat v1 1536 (by omega) hv1) (clip_toNat v3 1536 (by omega) hv3) (full_iff _ _) (mask_iff _ _) h7 h8
  · have e1 := pair_same 0 _ _ _ _ _ _ _ _ _ _ _ (clip_toNat v1 0 (by omega) hv1) (clip_toNat v3 0 (by omega) hv3) (full_iff _ _) (mask_iff _ _) h1 h2 hle
    have e2 := pair_same 512 _ _ _ _ _ _ _ _ _ _ _ (clip_toNat v1 512 (by omega) hv1) (clip_toNat v3 512 (by omega) hv3) (full_iff _ _) (mask_iff _ _) h3 h4 hle
    have e3 := pair_same 1024 _ _ _ _ _ _ _ _ _ _ _ (clip_toNat v1 1024 (by omega) hv1) (clip_toNat v3 1024 (by omega) hv3) (full_iff _ _) (mask_iff _ _) h5 h6 hle
    have e4 := pair_same 1536 _ _ _ _ _ _ _ _ _ _ _ (clip_toNat v1 1536 (by omega) hv1) (clip_toNat v3 1536 (by omega) hv3) (full_iff _ _) (mask_iff _ _) h7 h8 hle
    rw [e4, e3, e2, e1]

/-- The body at one visit: the weights reloaded where the expert changes, the visit's rows stored, the rows before them kept. -/
theorem body (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (x0 : S2048x512.Idx → BitVec 32) (s0 : Buf (Elt Ideal) ((c : Thread nD τ).loc cc0_scratch0))
    (s1 : Buf (Elt Ideal) ((c : Thread nD τ).loc cc0_scratch1)) (X : sProp R5) (R : (S4096x512.Idx → EReal) → Prop)
    (T0 : Buf (Elt Ideal) ((c : Thread nD τ).loc main_arg1)) (T2 : Buf (Elt Ideal) ((c : Thread nD τ).loc main_arg3)) (T3 : Buf (Elt Ideal) ((c : Thread nD τ).loc main_arg4))
    (a6 a7 : S1x1x1024x256.Idx → EReal) (a8 : S1x1x256x1024.Idx → EReal)
    (hv1 : (at1 i T2).toNat ≤ 2048) (hv3 : (at1 i T3).toNat ≤ 2048) :
    Inv c arg5 arg9 x0 s0 s1 (Side c arg6 arg7 arg8 T0 T2 T3 a6 a7 a8 X) R ⊢ wp frame (wpE (defs₀ (F := Ideal)) Variants.none c none) Set.univ (cc0_ffn i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _))
      (fun _ => iprop(∃ s0' s1', ⌜Wts i T0 a6 a7 a8 s0 s1 s0' s1'⌝ ∗ Inv c arg5 arg9 x0 s0' s1' (Side c arg6 arg7 arg8 T0 T2 T3 a6 a7 a8 X) (fun O' => ∃ O, R O ∧ Vis (at1 i T2).toNat (at1 i T3).toNat (gen x0 s0' s1') O O'))) := by
  rw [cc0_ffn_eq_skeleton]; unfold cc0_ffn_skel
  rw [wp_bind]
  refine (part13 c i arg5 harg5 arg6 harg6 arg7 harg7 arg8 harg8 arg9 harg9 x0 s0 s1 X R T0 T2 T3 a6 a7 a8 hv1 hv3).trans (wp_mono frame _ Set.univ fun r => ?_)
  obtain ⟨v1, v3, v33, c512, v35⟩ := r
  iintro ⟨%s0', %s1', %hpost, H⟩
  obtain ⟨hw, e1, e3, e33, e512, e35⟩ := hpost
  dsimp -zeta only at e1 e3 e33 e512 e35 ⊢
  subst e1 e3
  generalize at1 i T2 = v1 at *
  generalize at1 i T3 = v3 at *
  istop
  rw [wp_bind]
  refine (part14 c i arg5 harg5 arg6 harg6 arg7 harg7 arg8 harg8 arg9 harg9 x0 s0' s1' (Side c arg6 arg7 arg8 T0 T2 T3 a6 a7 a8 X) _ v1 v3 v33 c512 v35 hv1 hv3 e33 e512 e35).trans (wp_mono frame _ Set.univ fun r => ?_)
  obtain ⟨v65, v68, v69, v70⟩ := r
  iintro ⟨%hpost, H⟩
  obtain ⟨e65, e68⟩ := hpost
  dsimp -zeta only at e65 e68 ⊢
  subst e65 e68
  istop
  extract_lets jB jA
  have hS0 : sc0.IsWhole := Memref.isWhole_whole _
  have hS1 : sc1.IsWhole := Memref.isWhole_whole _
  have hB : Inv c arg5 arg9 x0 s0' s1' (Side c arg6 arg7 arg8 T0 T2 T3 a6 a7 a8 X) (Then (Then (Then (Then (Then (Then (Then (Then R (k0_cond2 v1 v3 = 1#1) (Wr 0 v1.toNat v3.toNat (gen x0 s0' s1'))) (k0_cond3 v1 v3 = 1#1) (Wr 0 v1.toNat v3.toNat (gen x0 s0' s1'))) (k0_cond4 v1 v3 = 1#1) (Wr 512 v1.toNat v3.toNat (gen x0 s0' s1'))) (k0_cond5 v1 v3 = 1#1) (Wr 512 v1.toNat v3.toNat (gen x0 s0' s1'))) (k0_cond6 v1 v3 = 1#1) (Wr 1024 v1.toNat v3.toNat (gen x0 s0' s1'))) (k0_cond7 v1 v3 = 1#1) (Wr 1024 v1.toNat v3.toNat (gen x0 s0' s1'))) (k0_cond8 v1 v3 = 1#1) (Wr 1536 v1.toNat v3.toNat (gen x0 s0' s1'))) (k0_cond9 v1 v3 = 1#1) (Wr 1536 v1.toNat v3.toNat (gen x0 s0' s1'))) ⊢ wp frame (wpE (defs₀ (F := Ideal)) Variants.none c none) Set.univ (jB ⟨⟩) (fun _ => iprop(∃ s0' s1', ⌜Wts i T0 a6 a7 a8 s0 s1 s0' s1'⌝ ∗ Inv c arg5 arg9 x0 s0' s1' (Side c arg6 arg7 arg8 T0 T2 T3 a6 a7 a8 X) (fun O' => ∃ O, R O ∧ Vis v1.toNat v3.toNat (gen x0 s0' s1') O O'))) := by
    unfold jB Inv
    iintro ⟨%f, H, %hR⟩
    sl_step
    iexists s0', s1'
    isplitr
    · ipureintro
      exact hw
    iexists f
    isplitl
    · iexact H
    ipureintro
    exact vis_of_then v1 v3 hv1 hv3 x0 s0' s1' R _ hR
  clear_value jB
  have hA : Inv c arg5 arg9 x0 s0' s1' (Side c arg6 arg7 arg8 T0 T2 T3 a6 a7 a8 X) (Then (Then (Then (Then (Then (Then (Then R (k0_cond2 v1 v3 = 1#1) (Wr 0 v1.toNat v3.toNat (gen x0 s0' s1'))) (k0_cond3 v1 v3 = 1#1) (Wr 0 v1.toNat v3.toNat (gen x0 s0' s1'))) (k0_cond4 v1 v3 = 1#1) (Wr 512 v1.toNat v3.toNat (gen x0 s0' s1'))) (k0_cond5 v1 v3 = 1#1) (Wr 512 v1.toNat v3.toNat (gen x0 s0' s1'))) (k0_cond6 v1 v3 = 1#1) (Wr 1024 v1.toNat v3.toNat (gen x0 s0' s1'))) (k0_cond7 v1 v3 = 1#1) (Wr 1024 v1.toNat v3.toNat (gen x0 s0' s1'))) (k0_cond8 v1 v3 = 1#1) (Wr 1536 v1.toNat v3.toNat (gen x0 s0' s1'))) ⊢ wp frame (wpE (defs₀ (F := Ideal)) Variants.none c none) Set.univ (jA ⟨⟩) (fun _ => iprop(∃ s0' s1', ⌜Wts i T0 a6 a7 a8 s0 s1 s0' s1'⌝ ∗ Inv c arg5 arg9 x0 s0' s1' (Side c arg6 arg7 arg8 T0 T2 T3 a6 a7 a8 X) (fun O' => ∃ O, R O ∧ Vis v1.toNat v3.toNat (gen x0 s0' s1') O O'))) := by
    have ha := clip_toNat v1 1536 (by omega) hv1
    have hb := clip_toNat v3 1536 (by omega) hv3
    unfold jA
    by_cases h : k0_cond9 v1 v3 = 1#1
    · rw [dif_pos h]
      unfold Inv held
      iintro ⟨%f4, ⟨H0, HS0, HS1, HO, HX⟩, %hR⟩
      sl_exec
      iapply hB
      unfold Inv held
      iexists _
      isplitl [H0 HS0 HS1 HO HX]
      · isplitl [H0]
        · iexact H0
        isplitl [HS0]
        · iexact HS0
        isplitl [HS1]
        · iexact HS1
        isplitl [HO]
        · iexact HO
        iexact HX
      ipureintro
      refine ⟨_, hR, fun _ => ?_, fun hn => absurd h hn⟩

      refine wr_of arg9.view f4 1536 _ _ rfl rfl _ _ _ _ _ (fun y j h0 h1 => ?_) (fun y j h0 h1 => ?_)
      · exact maskA_at c arg5 arg9 x0 s0' s1' f4 1536 6 _ _ _ _ ha hb (by omega) rfl rfl rfl _ _ _ _ y j h0 h1
      · exact maskB_at c arg5 arg9 x0 s0' s1' f4 1536 6 _ _ _ _ ha hb (by omega) rfl rfl rfl _ _ _ _ y j h0 h1
    · rw [dif_neg h]
      exact (inv_skip c arg5 arg9 x0 s0' s1' _ _ _ _ h).trans hB

  clear_value jA
  by_cases h : k0_cond8 v1 v3 = 1#1
  · rw [dif_pos h]
    unfold Inv held
    iintro ⟨%f4, ⟨H0, HS0, HS1, HO, HX⟩, %hR⟩
    sl_exec
    iapply hA
    unfold Inv held
    iexists _
    isplitl [H0 HS0 HS1 HO HX]
    · isplitl [H0]
      · iexact H0
      isplitl [HS0]
      · iexact HS0
      isplitl [HS1]
      · iexact HS1
      isplitl [HO]
      · iexact HO
      iexact HX
    ipureintro
    refine ⟨_, hR, fun _ => ?_, fun hn => absurd h hn⟩

    have hlo : v1.toNat ≤ 1536 := by
      have := ((full_iff _ _).mp h).2
      rw [clip_toNat v1 1536 (by omega) hv1] at this
      omega
    refine wr_of arg9.view f4 1536 _ _ rfl rfl _ _ _ _ _ (fun y j h0 h1 => ⟨fun _ _ => ?_, fun hl => ?_⟩) (fun y j h0 h1 => ⟨fun _ _ => ?_, fun hl => ?_⟩)
    · exact full_at c arg5 x0 s0' s1' 6 (by omega) rfl _ _ _ y j h0 h1
    · omega
    · exact full_at c arg5 x0 s0' s1' 7 (by omega) rfl _ _ _ y j h0 h1
    · omega
  · rw [dif_neg h]
    exact (inv_skip c arg5 arg9 x0 s0' s1' _ _ _ _ h).trans hA

end Cert.Ffn
-- ==== Proof.FfnF.lean ====
/- The visits' schedule: what the precondition says of the four tables, and what follows of the tiles and rows. -/
module

public import proofs.«01_k».proof.Defs
public import Idealize.ShloMosaic.Lib.WordCmp
public import Idealize.ShloMosaic.Lib.Pointwise
public import Idealize.ShloMosaic.Lib.Pointwise.Index

@[expose] public section

set_option maxRecDepth 16384

noncomputable section

namespace Cert.Ffn

open Idealize.ShloMosaic Idealize.ShloMosaic.WordCmp

/-! ## The schedule in natural numbers -/

/-- The visits as numbers: visit `t` takes expert `E t` over the rows `L t` to `H t` of tile `V t`. The visits that hold rows come first and
    run through the rows without a gap; the others name the last tile. -/
structure Sched (E V L H : ℕ → ℕ) : Prop where
  hE : ∀ t, t < 127 → E t < 64
  hV : ∀ t, t < 127 → V t < 64
  hLH : ∀ t, t < 127 → L t ≤ H t
  hH : ∀ t, t < 127 → H t ≤ 2048
  busy0 : L 0 < H 0
  start : V 0 * 2048 + L 0 = 0
  stepA : ∀ t, t + 1 < 127 → L (t + 1) < H (t + 1) → L t < H t ∧ V (t + 1) * 2048 + L (t + 1) = V t * 2048 + H t
  stepB : ∀ t, t + 1 < 127 → ¬L (t + 1) < H (t + 1) → V (t + 1) = 63 ∧ (¬L t < H t ∨ V t * 2048 + H t = 131072)
  stop : ¬L 126 < H 126 ∨ V 126 * 2048 + H 126 = 131072

/-- The rows of its tile done before visit `t`, -/
def loAt (L H : ℕ → ℕ) (t : ℕ) : ℕ := if L t < H t then L t else 2048
/-- and after it. -/
def hiAt (L H : ℕ → ℕ) (t : ℕ) : ℕ := if L t < H t then H t else 2048

namespace Sched
variable {E V L H : ℕ → ℕ} (S : Sched E V L H)
include S

/-- The first visit begins at the first row, in the first tile. -/
theorem lo_zero : loAt L H 0 = 0 ∧ V 0 = 0 := by
  have := S.busy0; have := S.start
  unfold loAt; rw [if_pos S.busy0]; omega

/-- An idle visit names the last tile. -/
theorem idle_last (t : ℕ) (ht : t < 127) (h : ¬L t < H t) : V t = 63 := by
  cases t with
  | zero => exact absurd S.busy0 h
  | succ n => exact (S.stepB n ht h).1

/-- From one visit to the next: either the tile goes on where it stopped, or it is done and the next tile starts. -/
theorem step (t : ℕ) (ht : t + 1 < 127) : (V (t + 1) = V t ∧ loAt L H (t + 1) = hiAt L H t)
    ∨ (V (t + 1) = V t + 1 ∧ loAt L H (t + 1) = 0 ∧ hiAt L H t = 2048) := by
  have b1 := S.hV t (by omega); have b2 := S.hV (t + 1) ht; have b3 := S.hH t (by omega); have b4 := S.hH (t + 1) ht
  have b5 := S.hLH t (by omega)
  unfold loAt hiAt
  by_cases c : L (t + 1) < H (t + 1)
  · obtain ⟨h1, h2⟩ := S.stepA t ht c
    simp only [if_pos c, if_pos h1]
    omega
  · obtain ⟨h1, h2⟩ := S.stepB t ht c
    simp only [if_neg c]
    by_cases d : L t < H t
    · rw [if_pos d]
      rcases h2 with h2 | h2 <;> omega
    · have := S.idle_last t (by omega) d
      rw [if_neg d]; omega

/-- The last visit ends the last tile. -/
theorem at_end : V 126 = 63 ∧ hiAt L H 126 = 2048 := by
  have b1 := S.hV 126 (by omega); have b3 := S.hH 126 (by omega)
  unfold hiAt
  by_cases c : L 126 < H 126
  · rw [if_pos c]; have := S.stop; omega
  · rw [if_neg c]; exact ⟨S.idle_last 126 (by omega) c, rfl⟩

/-- A visit's rows end inside its tile. -/
theorem hi_le (t : ℕ) (ht : t < 127) : hiAt L H t ≤ 2048 := by
  have := S.hH t ht
  unfold hiAt; split <;> omega

/-- Tiles are named in order. -/
theorem mono (t u : ℕ) (h : t ≤ u) (hu : u < 127) : V t ≤ V u := by
  induction u, h using Nat.le_induction with
  | base => exact le_rfl
  | succ n hn ih =>
    have := ih (by omega)
    rcases S.step n hu with h | h <;> omega

/-- The rows done grow from visit to visit. -/
theorem grow (t u : ℕ) (h : t < u) (hu : u < 127) : V t * 2048 + hiAt L H t ≤ V u * 2048 + loAt L H u := by
  have key : ∀ n, n + 1 < 127 → V n * 2048 + hiAt L H n ≤ V (n + 1) * 2048 + loAt L H (n + 1) := fun n hn => by
    rcases S.step n hn with h | h <;> omega
  induction u, h using Nat.le_induction with
  | base => exact key t hu
  | succ n hn ih =>
    have a := ih (by omega)
    have b := key n hu
    have c : loAt L H n ≤ hiAt L H n := by
      have := S.hLH n (by omega)
      unfold loAt hiAt; split <;> omega
    omega

/-- Every row is in a visit's rows, -/
theorem cover (R : ℕ) (hR : R < 131072) : ∃ t, t < 127 ∧ V t * 2048 + L t ≤ R ∧ R < V t * 2048 + H t := by
  have key : ∀ t, t < 127 → R < V t * 2048 + hiAt L H t → ∃ t, t < 127 ∧ V t * 2048 + L t ≤ R ∧ R < V t * 2048 + H t := by
    intro t
    induction t with
    | zero =>
      intro ht h
      unfold hiAt at h
      rw [if_pos S.busy0] at h
      exact ⟨0, by omega, by have := S.start; omega, h⟩
    | succ n ih =>
      intro ht h
      by_cases c : R < V n * 2048 + hiAt L H n
      · exact ih (by omega) c
      · have hs := S.step n ht
        by_cases d : L (n + 1) < H (n + 1)
        · unfold loAt at hs
          rw [if_pos d] at hs
          unfold hiAt at h hs c
          rw [if_pos d] at h
          exact ⟨n + 1, ht, by omega, h⟩
        · exfalso
          unfold loAt at hs
          unfold hiAt at h hs c
          rw [if_neg d] at h hs
          omega
  obtain ⟨h1, h2⟩ := S.at_end
  exact key 126 (by omega) (by omega)

/-- and in one only. -/
theorem uniq (R t u : ℕ) (ht : t < 127) (hu : u < 127) (h1 : V t * 2048 + L t ≤ R ∧ R < V t * 2048 + H t)
    (h2 : V u * 2048 + L u ≤ R ∧ R < V u * 2048 + H u) : t = u := by
  have key : ∀ a b, a < b → b < 127 → (V a * 2048 + L a ≤ R ∧ R < V a * 2048 + H a) → (V b * 2048 + L b ≤ R ∧ R < V b * 2048 + H b) → False := by
    intro a b hab hb ha hb'
    have := S.grow a b hab hb
    unfold loAt hiAt at this
    rw [if_pos (by omega), if_pos (by omega)] at this
    omega
  rcases Nat.lt_trichotomy t u with h | h | h
  · exact (key t u h hu h1 h2).elim
  · exact h
  · exact (key u t h ht h2 h1).elim

end Sched

/-! ## What the precondition says -/

/-- The number in entry `t` of a table. -/
def num (T : IVec Cert.Pre_visits.S127 32) (t : ℕ) : ℕ := if h : t < 127 then (T (ix1 ⟨t, h⟩)).toNat else 0

/-- A conjunction of bits is one when both are. -/
theorem and_one (a b : BitVec 1) : IntOp.andi a b = 1#1 ↔ a = 1#1 ∧ b = 1#1 := by revert a b; decide
/-- A disjunction of bits is one when either is. -/
theorem or_one (a b : BitVec 1) : IntOp.ori a b = 1#1 ↔ a = 1#1 ∨ b = 1#1 := by revert a b; decide

/-- A conjunction over a list is one when each term is. -/
theorem fold_and {α : Type} (g : α → BitVec 1) (l : List α) : ∀ r : BitVec 1, l.foldl (fun r n => IntOp.andi r (g n)) r = 1#1 →
    r = 1#1 ∧ ∀ n ∈ l, g n = 1#1 := by
  induction l with
  | nil => intro r h; exact ⟨h, fun n hn => absurd hn (by simp)⟩
  | cons a l ih =>
    intro r h
    obtain ⟨h1, h2⟩ := ih _ h
    obtain ⟨h3, h4⟩ := (and_one _ _).mp h1
    refine ⟨h3, fun n hn => ?_⟩
    rcases List.mem_cons.mp hn with e | e
    · rw [e]; exact h4
    · exact h2 n e

/-- The conjunction of a whole vector of bits is set only if each is. -/
theorem all_of_reduce {s : Shape} {axes : List (Fin s.rank)} (x : IVec s 1) (v : IVec Cert.Pre_visits.S_ 1)
    (h : s.ReducesTo axes Cert.Pre_visits.S_) (hu : 0 < Cert.Pre_visits.S_.numel) (j : Cert.Pre_visits.S_.Idx)
    (e : Host.reduce IntOp.andi x v h hu j = 1#1) (i : s.Idx) : x i = 1#1 := by
  have := (fold_and _ _ _ e).2 (s.rowMajor i) (List.mem_filter.mpr ⟨List.mem_finRange _, by
    simp only [decide_eq_true_eq]; funext a; exact a.elim0⟩)
  rwa [Equiv.symm_apply_apply] at this

/-- A slice of a table, at an index. -/
theorem slice_at {α : Type} {n : ℕ} (x : Cert.Pre_visits.S127.Idx → α) (o : ℕ) (h : Cert.Pre_visits.S127.Slices ![o] ⟨1, ![n]⟩) (k : ℕ) (hk : k < n) (hk' : o + k < 127) :
    extractStridedSlice ⟨1, ![n]⟩ ![o] x h (ix1 ⟨k, hk⟩) = x (ix1 ⟨o + k, hk'⟩) := by
  show x _ = x _
  congr 1
  funext a
  fin_cases a
  rfl

/-- A one-entry vector read as a scalar. -/
theorem cast_at {α : Type} (x : Cert.Pre_visits.S1.Idx → α) (h : Cert.Pre_visits.S1.ShapeCasts Cert.Pre_visits.S_) (j : Cert.Pre_visits.S_.Idx) :
    shapeCast Cert.Pre_visits.S_ x h j = x (ix1 ⟨0, by decide⟩) := by
  show x _ = x _
  congr 1
  funext a
  have : Subsingleton (Fin 1) := inferInstance
  fin_cases a
  exact Subsingleton.elim (α := Fin 1) _ _

/-- A table's number at a visit. -/
theorem num_of (T : IVec Cert.Pre_visits.S127 32) (t : ℕ) (h : t < 127) : num T t = (T (ix1 ⟨t, h⟩)).toNat := dif_pos h

/-- A choice between bits, at an index. -/
theorem select_if {s : Shape} (c a b : IVec s 1) (i : s.Idx) : select c a b i = if c i = 1#1 then a i else b i := rfl
/-- The complement of a bit is one when the bit is not. -/
theorem not_one (a : BitVec 1) : ~~~a = 1#1 ↔ ¬a = 1#1 := by revert a; decide
/-- A word is not negative as a signed number when its top bit is clear. -/
theorem sge_zero (x : BitVec 32) : IntOp.cmpi .sge x 0#32 = 1#1 ↔ x.toNat < 2 ^ 31 := by
  rw [cmpi_sge_zero, ofBool_decide_eq_one_iff]
/-- Signed order with the top bits clear is the order of the numbers. -/
theorem slt_iff (x y : BitVec 32) (hx : x.toNat < 2 ^ 31) (hy : y.toNat < 2 ^ 31) : IntOp.cmpi .slt x y = 1#1 ↔ x.toNat < y.toNat := by
  rw [cmpi_slt_of_lt hx hy, ofBool_decide_eq_one_iff]
/-- The same for the weak order. -/
theorem sle_iff (x y : BitVec 32) (hx : x.toNat < 2 ^ 31) (hy : y.toNat < 2 ^ 31) : IntOp.cmpi .sle x y = 1#1 ↔ x.toNat ≤ y.toNat := by
  rw [cmpi_sle_of_lt hx hy, ofBool_decide_eq_one_iff]
/-- A word at most a small number, signed, and not negative. -/
theorem sle_small (x : BitVec 32) (k : ℕ) (hk : k < 2 ^ 31) (hx : x.toNat < 2 ^ 31) (h : IntOp.cmpi .sle x (BitVec.ofNat 32 k) = 1#1) : x.toNat ≤ k := by
  have := (sle_iff x _ hx (by rw [BitVec.toNat_ofNat, Nat.mod_eq_of_lt (by omega)]; exact hk)).mp h
  rwa [BitVec.toNat_ofNat, Nat.mod_eq_of_lt (by omega)] at this
/-- A word at least a word that is not negative is not negative. -/
theorem nonneg_of_le (x y : BitVec 32) (hx : x.toNat < 2 ^ 31) (h : IntOp.cmpi .sle x y = 1#1) : y.toNat < 2 ^ 31 := by
  rw [cmpi_sle_eq, ofBool_decide_eq_one_iff] at h
  rw [← toInt_nonneg_iff_lt_half (w := 32)]
  exact le_trans ((toInt_nonneg_iff_lt_half (w := 32) x).mpr hx) h
/-- A word whose top bit is clear and that is below a small number, by sign, is below it as a number. -/
theorem slt_small (x : BitVec 32) (k : ℕ) (hk : k < 2 ^ 31) (hx : x.toNat < 2 ^ 31) (h : IntOp.cmpi .slt x (BitVec.ofNat 32 k) = 1#1) : x.toNat < k := by
  have := (slt_iff x _ hx (by rw [BitVec.toNat_ofNat, Nat.mod_eq_of_lt (by omega)]; exact hk)).mp h
  rwa [BitVec.toNat_ofNat, Nat.mod_eq_of_lt (by omega)] at this
/-- The comparison for equality. -/
theorem eq_iff (x y : BitVec 32) : IntOp.cmpi .eq x y = 1#1 ↔ x.toNat = y.toNat := by
  rw [cmpi_eq_eq_toNat, ofBool_decide_eq_one_iff]
/-- A row's number from its tile and its place in the tile. -/
theorem row_num (v l : BitVec 32) (hv : v.toNat < 64) (hl : l.toNat ≤ 2048) :
    (IntOp.addi (IntOp.muli v 2048#32) l).toNat = v.toNat * 2048 + l.toNat := by
  show (v * 2048#32 + l).toNat = _
  rw [BitVec.toNat_add, BitVec.toNat_mul]
  have : (2048#32 : BitVec 32).toNat = 2048 := rfl
  rw [this, Nat.mod_eq_of_lt (a := v.toNat * 2048) (by omega), Nat.mod_eq_of_lt (by omega)]

/-- What the precondition says: the tables are a schedule. -/
theorem sched_of_pre [hf : Cert.Pre_visits.Facts] {F : FTy → Type} [FloatOps F] (x : IVec Cert.Pre_visits.S131072x512 32)
    (T0 T1 T2 T3 : IVec Cert.Pre_visits.S127 32) (g u : FVec F Cert.Pre_visits.S4x64x1024x256 .f32) (d : FVec F Cert.Pre_visits.S4x64x256x1024 .f32)
    (h : Cert.Pre_visits.fn (F := F) x T0 T1 T2 T3 g u d = fun _ => 1#1) : Sched (num T0) (num T1) (num T2) (num T3) := by
  have e := congrFun h (fun a => a.elim0)
  unfold Cert.Pre_visits.fn Cert.Pre_visits.fn_part1 Cert.Pre_visits.fn_part2 Cert.Pre_visits.fn_part3 Cert.Pre_visits.fn_where at e
  dsimp only at e
  rw [andi_at, and_one] at e
  obtain ⟨e, eStop⟩ := e
  rw [andi_at, and_one] at e
  obtain ⟨e, eStep⟩ := e
  rw [andi_at, and_one] at e
  obtain ⟨e, eStart⟩ := e
  rw [andi_at, and_one] at e
  obtain ⟨eB, eBusy⟩ := e
  have hB := fun t (ht : t < 127) => all_of_reduce _ _ _ _ _ eB (ix1 ⟨t, ht⟩)
  have hS := fun t (ht : t < 126) => all_of_reduce _ _ _ _ _ eStep (ix1 ⟨t, ht⟩)
  clear eB eStep h
  have bnd : ∀ t (ht : t < 127), (T0 (ix1 ⟨t, ht⟩)).toNat < 64 ∧ (T1 (ix1 ⟨t, ht⟩)).toNat < 64 ∧ (T2 (ix1 ⟨t, ht⟩)).toNat ≤ (T3 (ix1 ⟨t, ht⟩)).toNat ∧ (T3 (ix1 ⟨t, ht⟩)).toNat ≤ 2048 := by
    intro t ht
    have k := hB t ht
    simp only [andi_at, and_one] at k
    obtain ⟨⟨⟨⟨⟨⟨a1, a2⟩, a3⟩, a4⟩, a5⟩, a6⟩, a7⟩ := k
    have c1 := (sge_zero _).mp a1
    have c3 := (sge_zero _).mp a3
    have c5 := (sge_zero _).mp a5
    have c6 := nonneg_of_le _ _ c5 a6
    exact ⟨slt_small _ 64 (by norm_num) c1 a2, slt_small _ 64 (by norm_num) c3 a4, (sle_iff _ _ c5 c6).mp a6, sle_small _ 2048 (by norm_num) c6 a7⟩
  clear hB
  have busy : ∀ t (ht : t < 127), cmpi .slt T2 T3 (ix1 ⟨t, ht⟩) = 1#1 ↔ num T2 t < num T3 t := by
    intro t ht
    obtain ⟨b1, b2, b3, b4⟩ := bnd t ht
    rw [num_of _ _ ht, num_of _ _ ht, cmpi_at, slt_iff _ _ (by omega) (by omega)]
  have first : ∀ t (ht : t < 127), (IntOp.addi (IntOp.muli (T1 (ix1 ⟨t, ht⟩)) 2048#32) (T2 (ix1 ⟨t, ht⟩))).toNat = num T1 t * 2048 + num T2 t := by
    intro t ht
    obtain ⟨b1, b2, b3, b4⟩ := bnd t ht
    rw [num_of _ _ ht, num_of _ _ ht, row_num _ _ b2 (by omega)]
  have past : ∀ t (ht : t < 127), (IntOp.addi (IntOp.muli (T1 (ix1 ⟨t, ht⟩)) 2048#32) (T3 (ix1 ⟨t, ht⟩))).toNat = num T1 t * 2048 + num T3 t := by
    intro t ht
    obtain ⟨b1, b2, b3, b4⟩ := bnd t ht
    rw [num_of _ _ ht, num_of _ _ ht, row_num _ _ b2 (by omega)]
  have next : ∀ t (ht : t + 1 < 127), (if num T2 (t + 1) < num T3 (t + 1) then (num T2 t < num T3 t ∧ num T1 (t + 1) * 2048 + num T2 (t + 1) = num T1 t * 2048 + num T3 t)
      else (num T1 (t + 1) = 63 ∧ (¬num T2 t < num T3 t ∨ num T1 t * 2048 + num T3 t = 131072))) := by
    intro t ht
    have k := hS t (by omega)
    have o1 : 1 + t < 127 := by omega
    have o0 : 0 + t < 127 := by omega
    rw [select_if] at k
    rw [slice_at _ 1 _ t (by omega) o1] at k
    have i1 : (ix1 ⟨1 + t, o1⟩ : Cert.Pre_visits.S127.Idx) = ix1 ⟨t + 1, ht⟩ := by congr 2; omega
    have i0 : (ix1 ⟨0 + t, o0⟩ : Cert.Pre_visits.S127.Idx) = ix1 ⟨t, by omega⟩ := by congr 2; omega
    rw [i1] at k
    split_ifs with c
    · rw [if_pos ((busy _ ht).mpr c), andi_at, and_one, slice_at _ 0 _ t (by omega) o0, i0] at k
      refine ⟨(busy _ _).mp k.1, ?_⟩
      have k2 := (eq_iff _ _).mp k.2
      rw [slice_at _ 1 _ t (by omega) o1, slice_at _ 0 _ t (by omega) o0, i0, i1] at k2
      exact (first _ ht).symm.trans (k2.trans (past _ (by omega)))
    · rw [if_neg (fun q => c ((busy _ ht).mp q)), andi_at, and_one] at k
      refine ⟨?_, ?_⟩
      · have k1 := (eq_iff _ _).mp k.1
        rw [slice_at _ 1 _ t (by omega) o1, i1] at k1
        rw [num_of _ _ ht]
        exact k1
      · rcases (or_one _ _).mp k.2 with q | q
        · refine .inl fun r => ?_
          have q' := (not_one _).mp q
          rw [slice_at _ 0 _ t (by omega) o0, i0] at q'
          exact q' ((busy _ (by omega)).mpr r)
        · have q2 := (eq_iff _ _).mp q
          rw [slice_at _ 0 _ t (by omega) o0, i0] at q2
          exact .inr ((past _ (by omega)).symm.trans q2)
  have j0 : (ix1 ⟨0 + 0, by decide⟩ : Cert.Pre_visits.S127.Idx) = ix1 ⟨0, by decide⟩ := rfl
  have j1 : (ix1 ⟨126 + 0, by decide⟩ : Cert.Pre_visits.S127.Idx) = ix1 ⟨126, by decide⟩ := rfl
  refine ⟨fun t ht => ?_, fun t ht => ?_, fun t ht => ?_, fun t ht => ?_, ?_, ?_, fun t ht c => ?_, fun t ht c => ?_, ?_⟩
  · rw [num_of _ _ ht]; exact (bnd t ht).1
  · rw [num_of _ _ ht]; exact (bnd t ht).2.1
  · rw [num_of _ _ ht, num_of _ _ ht]; exact (bnd t ht).2.2.1
  · rw [num_of _ _ ht]; exact (bnd t ht).2.2.2
  · rw [cast_at, slice_at _ 0 _ 0 (by omega) (by omega), j0] at eBusy
    exact (busy 0 (by omega)).mp eBusy
  · have q := (eq_iff _ _).mp eStart
    rw [cast_at, slice_at _ 0 _ 0 (by omega) (by omega), j0] at q
    exact (first 0 (by omega)).symm.trans q
  · have := next t ht
    rwa [if_pos c] at this
  · have := next t ht
    rwa [if_neg c] at this
  · rcases (or_one _ _).mp eStop with q | q
    · refine .inl fun r => ?_
      have q' := (not_one _).mp q
      rw [cast_at, slice_at _ 126 _ 0 (by omega) (by omega), j1] at q'
      exact q' ((busy _ (by omega)).mpr r)
    · have q2 := (eq_iff _ _).mp q
      rw [cast_at, slice_at _ 126 _ 0 (by omega) (by omega), j1] at q2
      exact .inr ((past _ (by omega)).symm.trans q2)

end Cert.Ffn
-- ==== Proof.FfnG.lean ====
/- The expert kernel's pipeline at tables that are a schedule: the blocks and what the output's buffer holds. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Value
public import proofs.«01_k».proof.Proof.FfnA
public import proofs.«01_k».proof.Proof.FfnB
public import proofs.«01_k».proof.Proof.FfnD
public import proofs.«01_k».proof.Proof.FfnE
public import proofs.«01_k».proof.Proof.FfnF

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The word of a table that an index map reads. -/
theorem at_eq (T : S127.Idx → BitVec 32) (i : grid0.Coords) (inb : ∀ a, k0_off1 i a + S1.size a ≤ S127.size a)
    (h1 : (Rect.unit (s := S127) (k0_off1 i) S1.size inb).shape.numel = 1) :
    T ((Rect.unit (s := S127) (k0_off1 i) S1.size inb).emb (Shape.Idx.first (h1.symm ▸ Nat.one_pos))) = at1 i T := by
  refine congrArg T ?_
  funext a
  fin_cases a
  refine Fin.ext ?_
  have hj : ((Shape.Idx.first (h1.symm ▸ Nat.one_pos) : (Rect.unit (s := S127) (k0_off1 i) S1.size inb).shape.Idx) 0).val < 1 := Fin.isLt _
  have ho : k0_off1 i 0 = (i 0).val := congrFun (off1_eq i) 0
  show k0_off1 i 0 + 1 * (Shape.Idx.first (h1.symm ▸ Nat.one_pos) 0).val = (i 0).val
  omega

/-- The first window's block is the visit's tile. -/
theorem map0 (pf : pre0.Contents (Elt Ideal)) (i : grid0.Coords) : cc0_transform_0 k0_off1_inb numel1_S1 pf i = ![(at1 i (pf 1)).toNat, 0] :=
  congrArg (fun v : BitVec 32 => ![v.toNat, 0]) (at_eq (pf 1) i (k0_off1_inb i) numel1_S1)
/-- The second window's block is the expert's. -/
theorem map1 (pf : pre0.Contents (Elt Ideal)) (i : grid0.Coords) : cc0_transform_1 k0_off1_inb numel1_S1 pf i = ![0, (at1 i (pf 0)).toNat, 0, 0] :=
  congrArg (fun v : BitVec 32 => ![0, v.toNat, 0, 0]) (at_eq (pf 0) i (k0_off1_inb i) numel1_S1)
/-- The third window's block is the expert's. -/
theorem map2 (pf : pre0.Contents (Elt Ideal)) (i : grid0.Coords) : cc0_transform_2 k0_off1_inb numel1_S1 pf i = ![0, (at1 i (pf 0)).toNat, 0, 0] :=
  congrArg (fun v : BitVec 32 => ![0, v.toNat, 0, 0]) (at_eq (pf 0) i (k0_off1_inb i) numel1_S1)
/-- The fourth window's block is the expert's. -/
theorem map3 (pf : pre0.Contents (Elt Ideal)) (i : grid0.Coords) : cc0_transform_3 k0_off1_inb numel1_S1 pf i = ![0, (at1 i (pf 0)).toNat, 0, 0] :=
  congrArg (fun v : BitVec 32 => ![0, v.toNat, 0, 0]) (at_eq (pf 0) i (k0_off1_inb i) numel1_S1)
/-- The output's block is the visit's tile. -/
theorem map4 (pf : pre0.Contents (Elt Ideal)) (i : grid0.Coords) : cc0_transform_4 k0_off1_inb numel1_S1 pf i = ![(at1 i (pf 1)).toNat, 0] :=
  congrArg (fun v : BitVec 32 => ![v.toNat, 0]) (at_eq (pf 1) i (k0_off1_inb i) numel1_S1)

/-- The side condition of the pipeline, from the tables' ranges. -/
theorem ok_of (pf : pre0.Contents (Elt Ideal)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (0 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (0 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (0 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

/-! ## The arrays by tile and by expert -/

/-- A tile of the inputs' rows. -/
def rowsOf (x : S131072x512.Idx → BitVec 32) (k : ℕ) : S2048x512.Idx → BitVec 32 := fun j =>
  x (ix2 ⟨(k * 2048 + (j 0).val) % 131072, Nat.mod_lt _ (by decide)⟩ (j 1))
/-- One expert's gate or up-projection, -/
def wIn (w : S4x64x1024x256.Idx → EReal) (e : ℕ) : S1x1x1024x256.Idx → EReal := fun j => w (ix4 0 ⟨e % 64, Nat.mod_lt _ (by decide)⟩ (j 2) (j 3))
/-- and its down-projection. -/
def wOut (w : S4x64x256x1024.Idx → EReal) (e : ℕ) : S1x1x256x1024.Idx → EReal := fun j => w (ix4 0 ⟨e % 64, Nat.mod_lt _ (by decide)⟩ (j 2) (j 3))
/-- The weights as the body keeps them. -/
def W0 (wg wu : S4x64x1024x256.Idx → EReal) (e : ℕ) : S1024x512.Idx → EReal := sideBySide (wIn wg e) (wIn wu e)
/-- An expert's last matrix, by its number. -/
def W1 (wd : S4x64x256x1024.Idx → EReal) (e : ℕ) : S256x1024.Idx → EReal := k0_pay42 (F := Ideal) (wOut wd e)

/-- The expert of a row. -/
def expertOf (E V L H : ℕ → ℕ) (R : ℕ) : ℕ := ∑ t ∈ Finset.range 127, if V t * 2048 + L t ≤ R ∧ R < V t * 2048 + H t then E t else 0

/-- A row that a visit holds belongs to the expert the visit names. -/
theorem expertOf_eq {E V L H : ℕ → ℕ} (S : Sched E V L H) (R t : ℕ) (ht : t < 127) (h : V t * 2048 + L t ≤ R ∧ R < V t * 2048 + H t) :
    expertOf E V L H R = E t := by
  unfold expertOf
  rw [Finset.sum_eq_single t]
  · rw [if_pos h]
  · intro u hu hne
    rw [if_neg]
    intro h'
    exact hne (S.uniq R u t (Finset.mem_range.mp hu) ht h' h)
  · intro hn
    exact absurd (Finset.mem_range.mpr ht) hn

section
variable (E V L H : ℕ → ℕ) (x : S131072x512.Idx → BitVec 32) (wg wu : S4x64x1024x256.Idx → EReal) (wd : S4x64x256x1024.Idx → EReal)

/-- The result, as one array: each row by its expert's weights. -/
def res : S262144x512.Idx → EReal := fun z =>
  gen (rowsOf x ((z 0).val / 4096)) (W0 wg wu (expertOf E V L H ((z 0).val / 2))) (W1 wd (expertOf E V L H ((z 0).val / 2)))
    (ix2 ⟨(z 0).val % 4096, Nat.mod_lt _ (by decide)⟩ (z 1))

/-- A row of the result, by its tile, its expert and its place in the tile. -/
theorem res_at (z : S262144x512.Idx) (k e : ℕ) (y : S4096x512.Idx) (hk : (z 0).val / 4096 = k) (he : expertOf E V L H ((z 0).val / 2) = e)
    (h0 : (z 0).val % 4096 = (y 0).val) (h1 : (z 1).val = (y 1).val) :
    res E V L H x wg wu wd z = gen (rowsOf x k) (W0 wg wu e) (W1 wd e) y := by
  have hy : (ix2 (⟨(z 0).val % 4096, Nat.mod_lt _ (by decide)⟩ : Fin 4096) (z 1 : Fin 512) : S4096x512.Idx) = y := funext fun a => Fin.ext (by
    match a with
    | ⟨0, _⟩ => exact h0
    | ⟨1, _⟩ => exact h1)
  unfold res
  rw [hk, he]
  exact congrArg (gen (rowsOf x k) (W0 wg wu e) (W1 wd e)) hy

/-- A tile's buffer whose first `h` rows are done. -/
def goodAt (k h : ℕ) (X : S4096x512.Idx → EReal) : Prop := ∀ y : S4096x512.Idx, (y 0).val / 2 < h →
  X y = res E V L H x wg wu wd (ix2 ⟨(k * 4096 + (y 0).val) % 262144, Nat.mod_lt _ (by decide)⟩ (y 1))

variable {E V L H}
/-- A visit carries the done rows from where they were to where they go. -/
theorem good_step (S : Sched E V L H) (t : ℕ) (ht : t < 127) (Y X : S4096x512.Idx → EReal)
    (hY : goodAt E V L H x wg wu wd (V t) (loAt L H t) Y)
    (h : Vis (L t) (H t) (gen (rowsOf x (V t)) (W0 wg wu (E t)) (W1 wd (E t))) Y X) : goodAt E V L H x wg wu wd (V t) (hiAt L H t) X := by
  intro y hy
  have hy0 : (y 0).val < 4096 := (y 0).isLt
  have hv := S.hV t ht
  have hl := S.hLH t ht
  by_cases c : L t < H t
  · unfold loAt at hY
    unfold hiAt at hy
    rw [if_pos c] at hy hY
    by_cases d : (y 0).val / 2 < L t
    · rw [(h.2 y).2 d]
      exact hY y d
    · rw [(h.2 y).1 (by omega) hy]
      have e0 : (V t * 4096 + (y 0).val) % 262144 = V t * 4096 + (y 0).val := Nat.mod_eq_of_lt (by omega)
      refine (res_at E V L H x wg wu wd _ (V t) (E t) y ?_ ?_ ?_ rfl).symm
      · show (V t * 4096 + (y 0).val) % 262144 / 4096 = V t
        rw [e0]; omega
      · show expertOf E V L H ((V t * 4096 + (y 0).val) % 262144 / 2) = E t
        rw [e0]; exact expertOf_eq S _ t ht (by omega)
      · show (V t * 4096 + (y 0).val) % 262144 % 4096 = (y 0).val
        rw [e0]; omega
  · rw [h.1 (by omega)]
    refine hY y ?_
    unfold loAt
    rw [if_neg c]
    omega
end

/-! ## The pipeline -/

/-- A point's coordinate is its number. -/
theorem coord_val : ∀ t : Fin grid0.N, ((grid0.coords t) 0).val = t.val := by decide +kernel

/-- A visit's own entry of a table. -/
theorem at1_num (T : S127.Idx → BitVec 32) (t : Fin grid0.N) : (at1 (grid0.coords t) T).toNat = num T t.val := by
  have ht : t.val < 127 := t.isLt
  rw [num_of _ _ ht]
  unfold at1
  congr 3
  exact Fin.ext (coord_val t)
/-- The table's number at the visit before. -/
theorem at2_num (T : S127.Idx → BitVec 32) (t : Fin grid0.N) : (at2 (grid0.coords t) T).toNat = num T (t.val - 1) := by
  have ht : t.val < 127 := t.isLt
  rw [num_of _ _ (by omega)]
  unfold at2
  congr 3
  exact Fin.ext (congrArg (· - 1) (coord_val t))

section
variable (a : (pcfg0 (F := Ideal)).Adm)

/-- The schedule of the tables a pipeline runs at. -/
abbrev sE : ℕ → ℕ := num (a.1 (0 : Fin 4))
/-- The tiles of the visits. -/
abbrev sV : ℕ → ℕ := num (a.1 (1 : Fin 4))
/-- The visits' first rows in the tile. -/
abbrev sL : ℕ → ℕ := num (a.1 (2 : Fin 4))
/-- The visits' last rows in the tile, plus one. -/
abbrev sH : ℕ → ℕ := num (a.1 (3 : Fin 4))

/-- The launch with its tables fixed. -/
abbrev cfgA : Pipeline.Cfg sig Λ₀ := cfg0 (F := Ideal) a

/-- The block the rows' window takes at a visit. -/
theorem index0 (t : Fin grid0.N) : ((cfgA a).win (0 : Fin 5)).index t = ![sV a t.val, 0] :=
  (map0 a.1 (grid0.coords t)).trans (congrArg (fun n => ![n, 0]) (at1_num _ t))
/-- The block the gate matrix's window takes. -/
theorem index1 (t : Fin grid0.N) : ((cfgA a).win (1 : Fin 5)).index t = ![0, sE a t.val, 0, 0] :=
  (map1 a.1 (grid0.coords t)).trans (congrArg (fun n => ![0, n, 0, 0]) (at1_num _ t))
/-- The block the second matrix's window takes. -/
theorem index2 (t : Fin grid0.N) : ((cfgA a).win (2 : Fin 5)).index t = ![0, sE a t.val, 0, 0] :=
  (map2 a.1 (grid0.coords t)).trans (congrArg (fun n => ![0, n, 0, 0]) (at1_num _ t))
/-- The block the last matrix's window takes. -/
theorem index3 (t : Fin grid0.N) : ((cfgA a).win (3 : Fin 5)).index t = ![0, sE a t.val, 0, 0] :=
  (map3 a.1 (grid0.coords t)).trans (congrArg (fun n => ![0, n, 0, 0]) (at1_num _ t))
/-- The block the output's window takes. -/
theorem index4 (t : Fin grid0.N) : ((cfgA a).win (4 : Fin 5)).index t = ![sV a t.val, 0] :=
  (map4 a.1 (grid0.coords t)).trans (congrArg (fun n => ![n, 0]) (at1_num _ t))

variable (S : Sched (sE a) (sV a) (sL a) (sH a)) (m : (ℓ : Loc nD τ sig) → Buf (Elt Ideal) ℓ) (c : Dev nD)

/-- A window's block at a point, read off its array at launch. -/
def iblk (w : Fin (cfgA a).W) (t : Fin (cfgA a).N) : (((cfgA a).win w).xblock ((cfgA a).grid.coords t)).Idx → Elt Ideal ((cfgA a).win w).elt :=
  (((cfgA a).win w).blk t).view.read (Elt Ideal) (m (((cfgA a).win w).arr.view.loc (c : Thread nD τ)))

include S
/-- The rows' block as a function of the tile. -/
theorem blk0 (t : Fin grid0.N) : (iblk a m c (0 : Fin 5) t : S2048x512.Idx → BitVec 32) = rowsOf (m ((c : Thread nD τ).loc main_arg0)) (sV a t.val) := by
  have hv := S.hV t.val t.isLt
  funext j
  have hj0 : (j 0).val < 2048 := (j 0).isLt
  show (m ((c : Thread nD τ).loc main_arg0) : S131072x512.Idx → BitVec 32) ((((cfgA a).win (0 : Fin 5)).rect t).emb j) = _
  refine congrArg _ (funext fun b => Fin.ext ?_)
  refine (Pipeline.Window.rect_emb_val ((cfgA a).win (0 : Fin 5)) t j b rfl).trans ?_
  rw [index0]
  match b with
  | ⟨0, _⟩ => show sV a t.val * 2048 + (j 0).val = (sV a t.val * 2048 + (j 0).val) % 131072; rw [Nat.mod_eq_of_lt (by omega)]
  | ⟨1, _⟩ => show 0 * 512 + (j 1).val = (j 1).val; omega
/-- The gate matrix's block as a function of the expert. -/
theorem blk1 (t : Fin grid0.N) : (iblk a m c (1 : Fin 5) t : S1x1x1024x256.Idx → EReal) = wIn (m ((c : Thread nD τ).loc main_arg5)) (sE a t.val) := by
  have hv := S.hE t.val t.isLt
  funext j
  have hj0 : (j 0).val < 1 := (j 0).isLt
  have hj1 : (j 1).val < 1 := (j 1).isLt
  show (m ((c : Thread nD τ).loc main_arg5) : S4x64x1024x256.Idx → EReal) ((((cfgA a).win (1 : Fin 5)).rect t).emb j) = _
  refine congrArg _ (funext fun b => Fin.ext ?_)
  refine (Pipeline.Window.rect_emb_val ((cfgA a).win (1 : Fin 5)) t j b rfl).trans ?_
  rw [index1]
  match b with
  | ⟨0, _⟩ => show 0 * 1 + (j 0).val = 0; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The second matrix's block as a function of the expert. -/
theorem blk2 (t : Fin grid0.N) : (iblk a m c (2 : Fin 5) t : S1x1x1024x256.Idx → EReal) = wIn (m ((c : Thread nD τ).loc main_arg6)) (sE a t.val) := by
  have hv := S.hE t.val t.isLt
  funext j
  have hj0 : (j 0).val < 1 := (j 0).isLt
  have hj1 : (j 1).val < 1 := (j 1).isLt
  show (m ((c : Thread nD τ).loc main_arg6) : S4x64x1024x256.Idx → EReal) ((((cfgA a).win (2 : Fin 5)).rect t).emb j) = _
  refine congrArg _ (funext fun b => Fin.ext ?_)
  refine (Pipeline.Window.rect_emb_val ((cfgA a).win (2 : Fin 5)) t j b rfl).trans ?_
  rw [index2]
  match b with
  | ⟨0, _⟩ => show 0 * 1 + (j 0).val = 0; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The last matrix's block as a function of the expert. -/
theorem blk3 (t : Fin grid0.N) : (iblk a m c (3 : Fin 5) t : S1x1x256x1024.Idx → EReal) = wOut (m ((c : Thread nD τ).loc main_arg7)) (sE a t.val) := by
  have hv := S.hE t.val t.isLt
  funext j
  have hj0 : (j 0).val < 1 := (j 0).isLt
  have hj1 : (j 1).val < 1 := (j 1).isLt
  show (m ((c : Thread nD τ).loc main_arg7) : S4x64x256x1024.Idx → EReal) ((((cfgA a).win (3 : Fin 5)).rect t).emb j) = _
  refine congrArg _ (funext fun b => Fin.ext ?_)
  refine (Pipeline.Window.rect_emb_val ((cfgA a).win (3 : Fin 5)) t j b rfl).trans ?_
  rw [index3]
  match b with
  | ⟨0, _⟩ => show 0 * 1 + (j 0).val = 0; omega
  | ⟨1, _⟩ => show sE a t.val * 1 + (j 1).val = sE a t.val % 64; rw [Nat.mod_eq_of_lt hv]; omega
  | ⟨2, _⟩ => show 0 * 256 + (j 2).val = (j 2).val; omega
  | ⟨3, _⟩ => show 0 * 1024 + (j 3).val = (j 3).val; omega

/-- Where the output's block sits in its array. -/
theorem emb4 (t : Fin grid0.N) (y : S4096x512.Idx) : ((((cfgA a).win (4 : Fin 5)).rect t).emb y : S262144x512.Idx)
    = ix2 ⟨(sV a t.val * 4096 + (y 0).val) % 262144, Nat.mod_lt _ (by decide)⟩ (y 1 : Fin 512) := by
  have hv := S.hV t.val t.isLt
  have hj0 : (y 0).val < 4096 := (y 0).isLt
  refine (funext fun b => Fin.ext ?_)
  refine (Pipeline.Window.rect_emb_val ((cfgA a).win (4 : Fin 5)) t y b rfl).trans ?_
  rw [index4]
  match b with
  | ⟨0, _⟩ => show sV a t.val * 4096 + (y 0).val = (sV a t.val * 4096 + (y 0).val) % 262144; rw [Nat.mod_eq_of_lt (by omega)]
  | ⟨1, _⟩ => show 0 * 512 + (y 1).val = (y 1).val; omega
omit S

/-- A tile's block is written back when the next visit is of another tile, or at the last; -/
theorem flush_true (t : Fin grid0.N) (h : ((cfgA a).win (4 : Fin 5)).flush t = true) : t.val = 126 ∨ (t.val + 1 < 127 ∧ sV a (t.val + 1) ≠ sV a t.val) := by
  have ht : t.val < 127 := t.isLt
  unfold Pipeline.Window.flush at h
  rw [Bool.and_eq_true, Bool.or_eq_true, decide_eq_true_eq, decide_eq_true_eq] at h
  rcases h.2 with e | ⟨hN, e⟩
  · left; have : t.val + 1 = 127 := e; omega
  · right
    refine ⟨hN, fun q => e ?_⟩
    rw [index4, index4 a t]
    show ![sV a (t.val + 1), 0] = _
    rw [q]
/-- otherwise the next visit goes on with it. -/
theorem flush_false (t : Fin grid0.N) (h : ((cfgA a).win (4 : Fin 5)).flush t = false) : t.val + 1 < 127 ∧ sV a (t.val + 1) = sV a t.val := by
  have ht : t.val < 127 := t.isLt
  by_contra q
  refine absurd h (by
    rw [Bool.not_eq_false]
    unfold Pipeline.Window.flush
    rw [Bool.and_eq_true, Bool.or_eq_true, decide_eq_true_eq, decide_eq_true_eq]
    refine ⟨rfl, ?_⟩
    by_cases hN : t.val + 1 < 127
    · right
      refine ⟨hN, fun e => q ⟨hN, ?_⟩⟩
      rw [index4, index4 a t] at e
      exact congrFun e 0
    · left
      show t.val + 1 = 127
      omega)

end

end Cert.Ffn
-- ==== Proof.FfnH.lean ====
/- The expert kernel's run: the pipeline's data, the body's obligation, what the result holds at the end. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA
public import proofs.«01_k».proof.Proof.FfnB
public import proofs.«01_k».proof.Proof.FfnD
public import proofs.«01_k».proof.Proof.FfnE
public import proofs.«01_k».proof.Proof.FfnF
public import proofs.«01_k».proof.Proof.FfnG

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The pipeline library's resource algebra inside the kernel's. -/
abbrev EP5 : Emb (UR sig nD τ) R5 := emb₁

section
variable (pf : pre0.Contents (Elt Ideal))

/-- A buffer is held at what it reads. -/
theorem own_read (c : Dev nD) (ma : Memref sig .tc .vmem S4096x512 .bf16) (f : ma.view.ty.Contents (Elt Ideal)) :
    (ma.view.loc (c : Thread nD τ) ↦[ma.view.set]{fullShare} f : sProp R5) ⊢ owns (c : Thread nD τ) ma fullShare (ma.view.read (Elt Ideal) f) := by
  unfold owns
  iintro H
  iexists f
  isplitr
  · ipureintro; rfl
  iexact H

/-- The schedule of the tables: the visits' experts, -/
abbrev qE : ℕ → ℕ := num (pf (0 : Fin 4))
/-- their tiles, -/
abbrev qV : ℕ → ℕ := num (pf (1 : Fin 4))
/-- their first rows, -/
abbrev qL : ℕ → ℕ := num (pf (2 : Fin 4))
/-- and their last, plus one. -/
abbrev qH : ℕ → ℕ := num (pf (3 : Fin 4))

variable (x : S131072x512.Idx → BitVec 32) (wg wu : S4x64x1024x256.Idx → EReal) (wd : S4x64x256x1024.Idx → EReal)

/-- The visits' weights: reloaded, or kept from the visit before of the same expert. -/
theorem wts_step (t : Fin grid0.N) (s0 s0' : S1024x512.Idx → EReal) (s1 s1' : S256x1024.Idx → EReal)
    (hs : t.val ≠ 0 → s0 = W0 wg wu (qE pf (t.val - 1)) ∧ s1 = W1 wd (qE pf (t.val - 1)))
    (h : Wts (grid0.coords t) (pf (0 : Fin 4)) (wIn wg (qE pf t.val)) (wIn wu (qE pf t.val)) (wOut wd (qE pf t.val)) s0 s1 s0' s1') :
    s0' = W0 wg wu (qE pf t.val) ∧ s1' = W1 wd (qE pf t.val) := by
  by_cases q : ((grid0.coords t) 0).val = 0 ∨ at1 (grid0.coords t) (pf (0 : Fin 4)) ≠ at2 (grid0.coords t) (pf (0 : Fin 4))
  · exact h.1 q
  · obtain ⟨e0, e1⟩ := h.2 q
    rw [not_or, not_not] at q
    have ht : t.val ≠ 0 := fun e => q.1 ((coord_val t).trans e)
    have hE : qE pf t.val = qE pf (t.val - 1) := by
      have q2 := congrArg BitVec.toNat q.2
      rw [at1_num (pf (0 : Fin 4)) t, at2_num (pf (0 : Fin 4)) t] at q2
      exact q2
    obtain ⟨f0, f1⟩ := hs ht
    exact ⟨by rw [e0, f0, hE], by rw [e1, f1, hE]⟩

/-- What the body keeps between points: the last visit's weights, and the tables. -/
def Kept (c : Dev nD) (n : ℕ) : sProp R5 :=
  iprop(∃ s0 s1, ⌜n ≠ 0 → (s0 : S1024x512.Idx → EReal) = W0 wg wu (qE pf (n - 1)) ∧ (s1 : S256x1024.Idx → EReal) = W1 wd (qE pf (n - 1))⌝
    ∗ (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

variable (S : Sched (qE pf) (qV pf) (qL pf) (qH pf))

set_option maxHeartbeats 4000000 in
include S in
/-- The body at a point, from any buffers that hold the blocks of its windows. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y : S4096x512.Idx → EReal) :
    iprop(Kept pf wg wu wd c t.val ∗ O
        ∗ owns (c : Thread nD τ) m0 fullShare (rowsOf x (qV pf t.val))
        ∗ owns (c : Thread nD τ) m1 fullShare (wIn wg (qE pf t.val))
        ∗ owns (c : Thread nD τ) m2 fullShare (wIn wu (qE pf t.val))
        ∗ owns (c : Thread nD τ) m3 fullShare (wOut wd (qE pf t.val))
        ∗ owns (c : Thread nD τ) m4 fullShare Y)
      ⊢ wp frame (wpE (defs₀ (F := Ideal)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf wg wu wd c (t.val + 1) ∗ O
          ∗ owns (c : Thread nD τ) m0 fullShare (rowsOf x (qV pf t.val))
          ∗ owns (c : Thread nD τ) m1 fullShare (wIn wg (qE pf t.val))
          ∗ owns (c : Thread nD τ) m2 fullShare (wIn wu (qE pf t.val))
          ∗ owns (c : Thread nD τ) m3 fullShare (wOut wd (qE pf t.val))
          ∗ ∃ X, ⌜Vis (qL pf t.val) (qH pf t.val) (gen (rowsOf x (qV pf t.val)) (W0 wg wu (qE pf t.val)) (W1 wd (qE pf t.val))) Y X⌝
            ∗ owns (c : Thread nD τ) m4 fullShare X) := by
  have hl := at1_num (pf (2 : Fin 4)) t
  have hh := at1_num (pf (3 : Fin 4)) t
  have b2 : (at1 (grid0.coords t) (pf (2 : Fin 4))).toNat ≤ 2048 := by rw [hl]; show qL pf t.val ≤ 2048; have := S.hLH t.val t.isLt; have := S.hH t.val t.isLt; omega
  have b3 : (at1 (grid0.coords t) (pf (3 : Fin 4))).toNat ≤ 2048 := by rw [hh]; show qH pf t.val ≤ 2048; have := S.hLH t.val t.isLt; have := S.hH t.val t.isLt; omega
  unfold Kept
  iintro ⟨⟨%s0, %s1, %hs, HS0, HS1, HT0, HT1, HT2, HT3⟩, HO, H0, H1, H2, H3, H4⟩
  ihave H0 := rep_of_owns (Val := Elt Ideal) (c : Thread nD τ) m0 fullShare _ $$ H0
  ihave H1 := rep_of_owns (Val := Elt Ideal) (c : Thread nD τ) m1 fullShare _ $$ H1
  ihave H2 := rep_of_owns (Val := Elt Ideal) (c : Thread nD τ) m2 fullShare _ $$ H2
  ihave H3 := rep_of_owns (Val := Elt Ideal) (c : Thread nD τ) m3 fullShare _ $$ H3
  ihave H4 := rep_of_owns (Val := Elt Ideal) (c : Thread nD τ) m4 fullShare _ $$ H4
  istop
  refine BIBase.Entails.trans ?pre ((body c (grid0.coords t) m0 h0 m1 h1 m2 h2 m3 h3 m4 h4
    (rowsOf x (qV pf t.val)) s0 s1 iprop((tb1.view.loc (c : Thread nD τ) ↦{fullShare.right} pf (1 : Fin 4)) ∗ O) (fun O' => O' = Y)
    (pf (0 : Fin 4)) (pf (2 : Fin 4)) (pf (3 : Fin 4)) (wIn wg (qE pf t.val)) (wIn wu (qE pf t.val)) (wOut wd (qE pf t.val)) b2 b3).trans
    (wp_mono frame _ Set.univ fun r => ?post))
  case pre =>
   iintro ⟨⟨⟨⟨⟨⟨⟨⟨⟨⟨⟨HS0, HS1⟩, HT0⟩, HT1⟩, HT2⟩, HT3⟩, HO⟩, H0⟩, H1⟩, H2⟩, H3⟩, H4⟩
   unfold Inv held Side
   iexists (m4.view.rep (Val := Elt Ideal) Y)
   isplitl
   · isplitl [H0]; · iexact H0
     isplitl [HS0]; · iexact HS0
     isplitl [HS1]; · iexact HS1
     isplitl [H4]; · iexact H4
     isplitl [HT0]; · iexact HT0
     isplitl [HT2]; · iexact HT2
     isplitl [HT3]; · iexact HT3
     isplitl [H1]; · iexact H1
     isplitl [H2]; · iexact H2
     isplitl [H3]; · iexact H3
     isplitl [HT1]; · iexact HT1
     iexact HO
   · ipureintro
     exact View.read_rep _ _
  case post =>
    unfold Inv held Side
    iintro ⟨%s0', %s1', %hw, %f', ⟨H0, HS0, HS1, H4, HT0, HT2, HT3, H1, H2, H3, HT1, HO⟩, %hR⟩
    obtain ⟨e0, e1⟩ := wts_step pf wg wu wd t s0 s0' s1 s1' hs hw
    obtain ⟨Y', hY', hV⟩ := hR
    subst hY'
    rw [e0, e1, hl, hh] at hV
    isplitl [HS0 HS1 HT0 HT1 HT2 HT3]
    · iexists s0', s1'
      isplitr
      · ipureintro
        exact fun _ => ⟨e0, e1⟩
      isplitl [HS0]; · iexact HS0
      isplitl [HS1]; · iexact HS1
      isplitl [HT0]; · iexact HT0
      isplitl [HT1]; · iexact HT1
      isplitl [HT2]; · iexact HT2
      iexact HT3
    isplitl [HO]; · iexact HO
    isplitl [H0]
    · iapply owns_of_rep; iexact H0
    isplitl [H1]
    · iapply owns_of_rep; iexact H1
    isplitl [H2]
    · iapply owns_of_rep; iexact H2
    isplitl [H3]
    · iapply owns_of_rep; iexact H3
    iexists (m4.view.read (Elt Ideal) f')
    isplitr
    · ipureintro
      exact hV
    iapply own_read
    iexact H4

end

section
variable (a : (pcfg0 (F := Ideal)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Ideal) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (x : S131072x512.Idx → BitVec 32) (wg wu : S4x64x1024x256.Idx → EReal) (wd : S4x64x256x1024.Idx → EReal)

/-- What the body keeps between points, at the launch's tables. -/
abbrev Phi (c : Dev nD) (n : ℕ) : sProp R5 := Kept a.1 wg wu wd c n

variable (S : Sched (sE a) (sV a) (sL a) (sH a))

set_option maxHeartbeats 4000000 in
include S in
/-- The body at a point, from the blocks its windows hold there. -/
theorem sound (c : Dev nD) (t : Fin (cfgA a).N) (O : sProp R5) (Y : S4096x512.Idx → EReal) :
    iprop(Phi a wg wu wd c t.val ∗ O
        ∗ owns (c : Thread nD τ) (ms0 a t) fullShare (rowsOf x (sV a t.val))
        ∗ owns (c : Thread nD τ) (ms1 a t) fullShare (wIn wg (sE a t.val))
        ∗ owns (c : Thread nD τ) (ms2 a t) fullShare (wIn wu (sE a t.val))
        ∗ owns (c : Thread nD τ) (ms3 a t) fullShare (wOut wd (sE a t.val))
        ∗ owns (c : Thread nD τ) (ms4 a t) fullShare Y)
      ⊢ wp frame (wpE (defs₀ (F := Ideal)) Variants.none c none) Set.univ (bodyAt a t) fun _ =>
        iprop(Phi a wg wu wd c (t.val + 1) ∗ O
          ∗ owns (c : Thread nD τ) (ms0 a t) fullShare (rowsOf x (sV a t.val))
          ∗ owns (c : Thread nD τ) (ms1 a t) fullShare (wIn wg (sE a t.val))
          ∗ owns (c : Thread nD τ) (ms2 a t) fullShare (wIn wu (sE a t.val))
          ∗ owns (c : Thread nD τ) (ms3 a t) fullShare (wOut wd (sE a t.val))
          ∗ ∃ X, ⌜Vis (sL a t.val) (sH a t.val) (gen (rowsOf x (sV a t.val)) (W0 wg wu (sE a t.val)) (W1 wd (sE a t.val))) Y X⌝
            ∗ owns (c : Thread nD τ) (ms4 a t) fullShare X) :=
  visit a.1 x wg wu wd S c t (ms0 a t) (hs0 a t) (ms1 a t) (hs1 a t) (ms2 a t) (hs2 a t) (ms3 a t) (hs3 a t) (ms4 a t) (hs4 a t) O Y

end

section
variable (a : (pcfg0 (F := Ideal)).Adm) (m : (ℓ : Loc nD τ sig) → Buf (Elt Ideal) ℓ)

/-- The result of a launch memory, on a core. -/
abbrev resOf (c : Dev nD) : S262144x512.Idx → EReal :=
  res (sE a) (sV a) (sL a) (sH a) (m ((c : Thread nD τ).loc main_arg0)) (m ((c : Thread nD τ).loc main_arg5)) (m ((c : Thread nD τ).loc main_arg6)) (m ((c : Thread nD τ).loc main_arg7))
/-- A buffer's first rows are the result's. -/
abbrev goodOf (c : Dev nD) (k h : ℕ) (X : S4096x512.Idx → EReal) : Prop :=
  goodAt (sE a) (sV a) (sL a) (sH a) (m ((c : Thread nD τ).loc main_arg0)) (m ((c : Thread nD τ).loc main_arg5)) (m ((c : Thread nD τ).loc main_arg6)) (m ((c : Thread nD τ).loc main_arg7)) k h X

/-- The pipeline's proof data: inputs are left as found; the output's buffer, its rows done so far being the result's, has
    the visit's rows done too. -/
def rdats (_ : Fin 1) (c : Dev nD) : RDat τ (Elt Ideal) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => goodOf a m c (sV a t.val) (loAt (sL a) (sH a) t.val) Y → goodOf a m c (sV a t.val) (hiAt (sL a) (sH a) t.val) X
  Φ n := Phi a (m ((c : Thread nD τ).loc main_arg5)) (m ((c : Thread nD τ).loc main_arg6)) (m ((c : Thread nD τ).loc main_arg7)) c n.val
  q _ := fullShare
  owed _ := 0

variable (S : Sched (sE a) (sV a) (sL a) (sH a))

/-- The rows' buffer holds the tile's rows. -/
theorem found0 (c : Dev nD) (t : Fin (cfgA a).N) (Y) (h : (rdats a m 0 c).Finds (0 : Fin 5) t Y) : Y = iblk a m c (0 : Fin 5) t := by
  obtain ⟨d, e⟩ := RDat.finds_in_eq_fetched (rdats a m 0 c) (0 : Fin 5) rfl (fun _ _ _ => rfl) (fun _ _ _ h => h) t Y h
  exact e.trans (by unfold RDat.fetched RDat.blockOf iblk; rfl)

/-- The gate matrix's buffer holds the expert's. -/
theorem found1 (c : Dev nD) (t : Fin (cfgA a).N) (Y) (h : (rdats a m 0 c).Finds (1 : Fin 5) t Y) : Y = iblk a m c (1 : Fin 5) t := by
  obtain ⟨d, e⟩ := RDat.finds_in_eq_fetched (rdats a m 0 c) (1 : Fin 5) rfl (fun _ _ _ => rfl) (fun _ _ _ h => h) t Y h
  exact e.trans (by unfold RDat.fetched RDat.blockOf iblk; rfl)

/-- The second matrix's buffer holds the expert's. -/
theorem found2 (c : Dev nD) (t : Fin (cfgA a).N) (Y) (h : (rdats a m 0 c).Finds (2 : Fin 5) t Y) : Y = iblk a m c (2 : Fin 5) t := by
  obtain ⟨d, e⟩ := RDat.finds_in_eq_fetched (rdats a m 0 c) (2 : Fin 5) rfl (fun _ _ _ => rfl) (fun _ _ _ h => h) t Y h
  exact e.trans (by unfold RDat.fetched RDat.blockOf iblk; rfl)

/-- The last matrix's buffer holds the expert's. -/
theorem found3 (c : Dev nD) (t : Fin (cfgA a).N) (Y) (h : (rdats a m 0 c).Finds (3 : Fin 5) t Y) : Y = iblk a m c (3 : Fin 5) t := by
  obtain ⟨d, e⟩ := RDat.finds_in_eq_fetched (rdats a m 0 c) (3 : Fin 5) rfl (fun _ _ _ => rfl) (fun _ _ _ h => h) t Y h
  exact e.trans (by unfold RDat.fetched RDat.blockOf iblk; rfl)

set_option maxHeartbeats 4000000 in
include S in
/-- The library's body obligation. -/
theorem obligation (c : Dev nD) : RDat.BodyObligation (rdats a m 0 c) (defs₀ (F := Ideal)) Variants.none () Set.univ := fun t Y hY => by
  have e0 := (found0 a m c t _ (hY (0 : Fin 5))).trans (blk0 a S m c t)
  have e1 := (found1 a m c t _ (hY (1 : Fin 5))).trans (blk1 a S m c t)
  have e2 := (found2 a m c t _ (hY (2 : Fin 5))).trans (blk2 a S m c t)
  have e3 := (found3 a m c t _ (hY (3 : Fin 5))).trans (blk3 a S m c t)
  rw [bigSep_W0, e0, e1, e2, e3]
  have hs := sound a (m ((c : Thread nD τ).loc main_arg0)) (m ((c : Thread nD τ).loc main_arg5)) (m ((c : Thread nD τ).loc main_arg6)) (m ((c : Thread nD τ).loc main_arg7)) S c t
    ((rdats a m 0 c).owesAt () t.castSucc) (Y (4 : Fin 5))
  refine BIBase.Entails.trans ?_ (hs.trans (wp_mono frame _ Set.univ fun r => ?_))
  · exact .rfl
  · rw [bigSep_W0, show (rdats a m 0 c).Φ t.succ = Phi a (m ((c : Thread nD τ).loc main_arg5)) (m ((c : Thread nD τ).loc main_arg6)) (m ((c : Thread nD τ).loc main_arg7)) c (t.val + 1) from rfl,
      show (rdats a m 0 c).owesAt () t.succ = (rdats a m 0 c).owesAt () t.castSucc from rfl]
    iintro ⟨HP, HO, H0, H1, H2, H3, %X, %hX, H4⟩
    isplitl [HP]; · iexact HP
    isplitl [HO]; · iexact HO
    isplitl [H0]
    · iexists _; isplitr; swap
      · iexact H0
      · ipureintro; exact e0.symm
    isplitl [H1]
    · iexists _; isplitr; swap
      · iexact H1
      · ipureintro; exact e1.symm
    isplitl [H2]
    · iexists _; isplitr; swap
      · iexact H2
      · ipureintro; exact e2.symm
    isplitl [H3]
    · iexists _; isplitr; swap
      · iexact H3
      · ipureintro; exact e3.symm
    iexists X; isplitr; swap
    · iexact H4
    · ipureintro
      exact fun hg => good_step _ _ _ _ S t.val t.isLt _ _ hg hX

end

end Cert.Ffn
-- ==== Proof.FfnI.lean ====
/- The expert kernel's launch: from a memory whose tables are a schedule, the arguments end unchanged and the result is each row by its expert's weights. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.FfnA
public import proofs.«01_k».proof.Proof.FfnB
public import proofs.«01_k».proof.Proof.FfnD
public import proofs.«01_k».proof.Proof.FfnE
public import proofs.«01_k».proof.Proof.FfnF
public import proofs.«01_k».proof.Proof.FfnG
public import proofs.«01_k».proof.Proof.FfnH

@[expose] public section

set_option maxRecDepth 16384
set_option Elab.async false

noncomputable section

namespace Cert.Ffn

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

section
variable (a : (pcfg0 (F := Ideal)).Adm) (m : (ℓ : Loc nD τ sig) → Buf (Elt Ideal) ℓ) (S : Sched (sE a) (sV a) (sL a) (sH a))

include S
/-- What the body finds in the output's buffer: its rows below the visit's are the result's. -/
theorem found4 (c : Dev nD) : ∀ (n : ℕ) (hn : n < 127) (Y : S4096x512.Idx → EReal), (rdats a m 0 c).Finds (4 : Fin 5) (⟨n, hn⟩ : Fin grid0.N) Y →
    goodOf a m c (sV a n) (loAt (sL a) (sH a) n) Y
  | 0, hn, Y, _ => fun y hy => by
    rw [S.lo_zero.1] at hy
    exact absurd hy (Nat.not_lt_zero _)
  | n + 1, hn, Y, h => by
    rcases S.step n hn with ⟨eV, eL⟩ | ⟨eV, eL, eH⟩
    · have hp := ((rdats a m 0 c).finds_of_pos (w := (4 : Fin 5)) (t := (⟨n + 1, hn⟩ : Fin grid0.N)) rfl (Nat.succ_ne_zero n) Y).mp h
      rcases hp with hf | ⟨Y', hY', hA⟩
      · rcases flush_true a ⟨n, Nat.lt_of_succ_lt hn⟩ hf with e | ⟨-, e⟩
        · have e' : n = 126 := e
          omega
        · exact absurd eV e
      · have hg := found4 c n (Nat.lt_of_succ_lt hn) Y' hY'
        have hX : goodOf a m c (sV a n) (hiAt (sL a) (sH a) n) Y := hA hg
        rw [eV, eL]
        exact hX
    · intro y hy
      rw [eL] at hy
      exact absurd hy (Nat.not_lt_zero _)

/-- What the body leaves there. -/
theorem left4 (c : Dev nD) (t : Fin grid0.N) (X : S4096x512.Idx → EReal) (h : (rdats a m 0 c).Leaves (4 : Fin 5) t X) :
    goodOf a m c (sV a t.val) (hiAt (sL a) (sH a) t.val) X := by
  obtain ⟨Y, hY, hA⟩ := h
  exact hA (found4 a m S c t.val t.isLt Y hY)

/-- What the result's array may hold before a point: the tiles behind are the result's. -/
theorem arr_good (c : Dev nD) : ∀ (n : ℕ) (hn : n ≤ 127) (G : S262144x512.Idx → EReal), (rdats a m 0 c).ArrAt (4 : Fin 5) n G →
    ∀ z : S262144x512.Idx, (z 0).val / 4096 < (if n < 127 then sV a n else 64) → G z = resOf a m c z
  | 0, hn, G, _, z, hz => by
    rw [if_pos (by decide), S.lo_zero.2] at hz
    exact absurd hz (Nat.not_lt_zero _)
  | n + 1, hn, G, h, z, hz => by
    have hlt : n < 127 := hn
    have hz0 : (z 0).val < 262144 := (z 0).isLt
    unfold RDat.ArrAt at h
    dsimp only at h
    rw [dif_pos (show n < (cfgA a).N from hlt)] at h
    by_cases hf : ((cfgA a).win (4 : Fin 5)).flush (⟨n, hlt⟩ : Fin grid0.N) = true
    · rw [if_pos hf] at h
      obtain ⟨G₀, X, hG₀, hX, rfl⟩ := h
      have hgX := left4 a m S c ⟨n, hlt⟩ X hX
      have hend : hiAt (sL a) (sH a) n = 2048 ∧ (if n + 1 < 127 then sV a (n + 1) else 64) = sV a n + 1 := by
        rcases flush_true a ⟨n, hlt⟩ hf with e | ⟨e1, e2⟩
        · have e' : n = 126 := e
          subst e'
          exact ⟨S.at_end.2, by rw [if_neg (by decide), S.at_end.1]⟩
        · rw [if_pos e1]
          rcases S.step n e1 with ⟨eV, -⟩ | ⟨eV, -, eH⟩
          · exact absurd eV e2
          · exact ⟨eH, eV⟩
      rw [hend.2] at hz
      have hv := S.hV n hlt
      by_cases hk : (z 0).val / 4096 = sV a n
      · have hb : (z 0).val - sV a n * 4096 < 4096 := by omega
        have hzz : z = ((((cfgA a).win (4 : Fin 5)).rect (⟨n, hlt⟩ : Fin grid0.N)).emb (ix2 (⟨(z 0).val - sV a n * 4096, hb⟩ : Fin 4096) (z 1 : Fin 512)) : S262144x512.Idx) := by
          rw [emb4 a S]
          funext b
          match b with
          | ⟨0, _⟩ =>
            refine Fin.ext ?_
            show (z 0).val = (sV a n * 4096 + ((z 0).val - sV a n * 4096)) % 262144
            rw [Nat.mod_eq_of_lt (by omega)]
            omega
          | ⟨1, _⟩ => rfl
        have hw := View.write_emb_of_mem (Val := Elt Ideal) (v := (((cfgA a).win (4 : Fin 5)).blk (⟨n, hlt⟩ : Fin grid0.N)).view) G₀ (((cfgA a).win (4 : Fin 5)).cut ((cfgA a).grid.coords (⟨n, hlt⟩ : Fin grid0.N)) X) (M := Finset.univ)
          (x := (ix2 (⟨(z 0).val - sV a n * 4096, hb⟩ : Fin 4096) (z 1 : Fin 512) : S4096x512.Idx)) (Finset.mem_univ _)
        have hg := hgX (ix2 (⟨(z 0).val - sV a n * 4096, hb⟩ : Fin 4096) (z 1 : Fin 512)) (by
          show ((z 0).val - sV a n * 4096) / 2 < hiAt (sL a) (sH a) n
          rw [hend.1]
          omega)
        have hg' := hg.trans (congrArg (resOf a m c) (emb4 a S (⟨n, hlt⟩ : Fin grid0.N) (ix2 (⟨(z 0).val - sV a n * 4096, hb⟩ : Fin 4096) (z 1 : Fin 512))).symm)
        refine (congrArg _ hzz).trans (hw.trans (Eq.trans ?_ (hg'.trans (congrArg (resOf a m c) hzz.symm))))
        rfl
      · have hold := arr_good c n (Nat.le_of_lt hlt) G₀ hG₀ z (by rw [if_pos hlt]; omega)
        refine Eq.trans ?_ hold
        refine View.write_of_not_mem (Val := Elt Ideal) (v := (((cfgA a).win (4 : Fin 5)).blk (⟨n, hlt⟩ : Fin grid0.N)).view) G₀ _ Finset.univ ?_
        intro hmem
        obtain ⟨y, -, hy⟩ := Finset.mem_map.mp hmem
        have hy' : ((((cfgA a).win (4 : Fin 5)).rect (⟨n, hlt⟩ : Fin grid0.N)).emb y : S262144x512.Idx) = z := hy
        rw [emb4 a S] at hy'
        have h0 := congrArg (fun q : S262144x512.Idx => (q 0).val) hy'
        have hy0 : ((y : S4096x512.Idx) 0).val < 4096 := ((y : S4096x512.Idx) 0).isLt
        have h1 : (sV a n * 4096 + ((y : S4096x512.Idx) 0).val) % 262144 = (z 0).val := h0
        rw [Nat.mod_eq_of_lt (by omega)] at h1
        omega
    · rw [if_neg hf] at h
      rw [Bool.not_eq_true] at hf
      obtain ⟨e1, e2⟩ := flush_false a ⟨n, hlt⟩ hf
      rw [if_pos e1] at hz
      refine arr_good c n (Nat.le_of_lt hlt) G h z ?_
      rw [if_pos hlt]
      exact e2 ▸ hz

/-- At the end the array is the result. -/
theorem arr_end (c : Dev nD) (G : S262144x512.Idx → EReal) (h : (rdats a m 0 c).ArrAt (4 : Fin 5) 127 G) : G = resOf a m c :=
  funext fun z => arr_good a m S c 127 le_rfl G h z (by
    have hz0 : (z 0).val < 262144 := (z 0).isLt
    rw [if_neg (by decide)]
    omega)
omit S

/-! ## The launch -/

/-- The list of launches with their tables fixed. -/
abbrev pcsA : Fin 1 → Pipeline.Cfg sig Λ₀ := Pipeline.pin (pcfgs (F := Ideal)) fun _ => a

/-- The launch's element. -/
def u5 : UR sig nD τ :=
  initOf (Pipeline.cells (pcsA a) ((launch0 (F := Ideal)).cellOf_inj fun _ => a))
    (Pipeline.launchToks (pcsA a) ((launch0 (F := Ideal)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Ideal)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Before the first point nothing is known of the weights kept. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a (m ((c : Thread nD τ).loc main_arg5)) (m ((c : Thread nD τ).loc main_arg6)) (m ((c : Thread nD τ).loc main_arg7)) c 0 from rfl]
  unfold Phi Kept
  iintro ⟨-, ⟨HT0, HT1, HT2, HT3⟩, ⟨%a0, HS0⟩, ⟨%a1, HS1⟩⟩
  iexists a0, a1
  isplitr
  · ipureintro
    exact fun h => absurd rfl h
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a (m ((c : Thread nD τ).loc main_arg5)) (m ((c : Thread nD τ).loc main_arg6)) (m ((c : Thread nD τ).loc main_arg7)) c (cfgA a).N from rfl, Pipeline.ownSems0_none]
  unfold Phi Kept
  iintro ⟨%a0, %a1, -, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
include S in
/-- The run: the arguments end unchanged, the result is each row by its expert's weights, every counter is zero. -/
theorem run (ρ : Dev nD → PrngReg) (hp : ∀ (c : Dev nD) (k : Fin 4), m ((c : Thread nD τ).loc (pre0.ref k)) = a.1 k) :
    θ_run (defs (F := Ideal)) (onTc (τ := τ) (main (F := Ideal))) ⟨m, fun _ => 0, ρ⟩ (fun r => (∀ c : Dev nD,
      (r.2.mem ((c.tc : Thread nD τ).loc main_v0) : S262144x512.Idx → EReal) = resOf a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Ideal)) (fun _ => a) (rdats a m) () ((launch0 (F := Ideal)).cellOf_inj fun _ => a) (0 : Fin 1)
    (launch0 (F := Ideal)).win.to₀ (Pipeline.OwnSemFacts.none _) (launch0 (F := Ideal)).pre EP5 defs₀ Variants.none m ρ main
    (hbody := fun c => obligation a m S c) (hne := (launch0 (F := Ideal)).block_pos)
    (harr := (launch0 (F := Ideal)).arr_whole) (hstage := (launch0 (F := Ideal)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Ideal)).win.arr_inj) (launch0 (F := Ideal)).arr_whole
      (fun w hw => (rdats a m 0 c).q_eq_shareOf_of_share_full (launch0 (F := Ideal)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨arr_end a m S c _ (hw (4 : Fin 5)), i0, (ht 0).trans (hp c 0).symm, (ht 1).trans (hp c 1).symm, (ht 2).trans (hp c 2).symm, (ht 3).trans (hp c 3).symm, i1, i2, i3⟩, hz⟩)

end

end Cert.Ffn
-- ==== Proof.FfnJ.lean ====
/- The rows the expert kernel computes, read down to the expert's mathematics: a token's row through one expert. -/
module

public import proofs.«01_k».proof.Proof.FfnG
public import proofs.«01_k».proof.Proof.Row

@[expose] public section

set_option maxRecDepth 16384
set_option Elab.async false

noncomputable section

namespace Cert.Ffn

open Cert.Kernel5Ideal Cert.Kernel5Ideal.Gen
open Idealize.ShloMosaic
open Cert.Row (low high halves mulRow innerRow sigma)

/-- The tokens' numbers as the body joins them out of their words. -/
def opened (X : S256x512.Idx → BitVec 32) : FVec Ideal S256x1024 .bf16 :=
  concatenate S256x1024 1 [⟨S256x512, truncf .bf16 (unpackElementwise (F := Ideal) 0 X : FVec Ideal S256x512 .f32) bitsLt_bf16_f32⟩,
    ⟨S256x512, truncf .bf16 (unpackElementwise (F := Ideal) 1 X : FVec Ideal S256x512 .f32) bitsLt_bf16_f32⟩] concatenates_S256x512_S256x512_S256x1024_d1

/-- They are the words' low halves, then their high halves. -/
theorem opened_apply (X : S256x512.Idx → BitVec 32) (r : Fin 256) (d : Fin 1024) : opened X (ix2 r d) = halves (fun c => X (ix2 r c)) d := by
  unfold opened halves
  split
  · rename_i h
    refine (concatenate_pair_apply_left (s₁ := S256x512) (s₂ := S256x512) 1 _ _ _ (ix2 r d) rfl (ix2 r ⟨d.val, h⟩)
      (fun b => by match b with | ⟨0, _⟩ => rfl | ⟨1, _⟩ => rfl)).trans ?_
    pointwise
    rfl
  · rename_i h
    have hd := d.isLt
    refine (concatenate_pair_apply_right (s₁ := S256x512) (s₂ := S256x512) 1 _ _ _ (ix2 r d) rfl rfl (ix2 r ⟨d.val - 512, by omega⟩)
      (fun b hb => by match b, hb with | ⟨0, _⟩, _ => rfl | ⟨1, _⟩, hb => exact absurd rfl hb)
      (by show d.val - 512 + 512 = d.val; omega)).trans ?_
    pointwise
    rfl

/-- The expert's hidden row of a token. -/
theorem hidden_eq (X : S256x512.Idx → BitVec 32) (g u : S1x1x1024x256.Idx → EReal) (r : Fin 256) (j : Fin 256) :
    k0_pay4 (F := Ideal) X (sideBySide g u) (ix2 r j)
      = innerRow (halves fun c => X (ix2 r c)) (fun k j => g (ix4 0 0 k j)) (fun k j => u (ix4 0 0 k j)) j := by
  have hA : ∀ k : Fin 1024, sideBySide g u (ix2 k (⟨j.val, by omega⟩ : Fin 512)) = g (ix4 0 0 k j) := fun k => by
    unfold sideBySide
    rw [dif_pos (show ((ix2 k (⟨j.val, by omega⟩ : Fin 512) : S1024x512.Idx) 1).val < 256 from j.isLt)]
    show k0_pay40 (F := Ideal) g (ix2 k j) = _
    pointwise [k0_pay40]
  have hB : ∀ k : Fin 1024, sideBySide g u (ix2 k (⟨256 + j.val, by omega⟩ : Fin 512)) = u (ix4 0 0 k j) := fun k => by
    unfold sideBySide
    rw [dif_neg (show ¬((ix2 k (⟨256 + j.val, by omega⟩ : Fin 512) : S1024x512.Idx) 1).val < 256 from by show ¬(256 + j.val < 256); omega)]
    show k0_pay41 (F := Ideal) u (ix2 k ⟨256 + j.val - 256, _⟩) = _
    rw [show (⟨256 + j.val - 256, by omega⟩ : Fin 256) = j from Fin.ext (by show 256 + j.val - 256 = j.val; omega)]
    pointwise [k0_pay41]
  unfold k0_pay4
  rw [show concatenate S256x1024 1 [⟨S256x512, truncf .bf16 (unpackElementwise (F := Ideal) 0 X : FVec Ideal S256x512 .f32) bitsLt_bf16_f32⟩,
    ⟨S256x512, truncf .bf16 (unpackElementwise (F := Ideal) 1 X : FVec Ideal S256x512 .f32) bitsLt_bf16_f32⟩] concatenates_S256x512_S256x512_S256x1024_d1 = opened X from rfl]
  have ho : ∀ k, opened X (ix2 r k) = halves (fun c => X (ix2 r c)) k := opened_apply X r
  generalize opened X = O at ho
  generalize sideBySide g u = W at hA hB
  pointwise
  simp only [innerRow, mulRow, sigma, ← ho, ← hA, ← hB, zero_sub]

/-- The expert's row of a token: the word rows alternate between the first and the last 512 columns. -/
theorem out_eq (v : S256x256.Idx → EReal) (w : S1x1x256x1024.Idx → EReal) (y : S512x512.Idx) (r : Fin 256) (d : Fin 1024)
    (hr : r.val = (y 0).val / 2) (hd : d.val = (y 0).val % 2 * 512 + (y 1).val) :
    k0_pay1 (F := Ideal) v (k0_pay42 (F := Ideal) w) y = mulRow (fun j => v (ix2 r j)) (fun j d => w (ix4 0 0 j d)) d := by
  have h1 : (y 1).val < 512 := (y 1).isLt
  have hW : ∀ (j : Fin 256) (d : Fin 1024), k0_pay42 (F := Ideal) w (ix2 j d) = w (ix4 0 0 j d) := fun j d => by
    pointwise [k0_pay42]
  simp only [mulRow, ← hW]
  generalize k0_pay42 (F := Ideal) w = W
  unfold k0_pay1
  rw [interleave_apply]
  have er : (⟨(y 0).val / 2, by have h0 : (y 0).val < 512 := (y 0).isLt; omega⟩ : Fin 256) = r := Fin.ext hr.symm
  rw [er]
  obtain ⟨q, hq⟩ : ∃ q : Fin 512, q = y 1 := ⟨_, rfl⟩
  rw [← hq] at hd ⊢
  have hq1 := q.isLt
  split
  · rename_i hp
    rw [show d = ⟨q.val, by omega⟩ from Fin.ext (by show d.val = q.val; omega)]
    pointwise
  · rename_i hp
    rw [show d = ⟨512 + q.val, by omega⟩ from Fin.ext (by show d.val = 512 + q.val; omega)]
    pointwise

/-- A token's row through one expert. -/
def expertRow (x : S131072x512.Idx → BitVec 32) (wg wu : S4x64x1024x256.Idx → EReal) (wd : S4x64x256x1024.Idx → EReal)
    (R : Fin 131072) (e : Fin 64) (d : Fin 1024) : EReal :=
  mulRow (innerRow (halves fun c => x (ix2 R c)) (fun k j => wg (ix4 0 e k j)) (fun k j => wu (ix4 0 e k j))) (fun j d => wd (ix4 0 e j d)) d

/-- What the program leaves at an index: the token's row through the expert its row belongs to. -/
theorem res_row (E V L H : ℕ → ℕ) (x : S131072x512.Idx → BitVec 32) (wg wu : S4x64x1024x256.Idx → EReal) (wd : S4x64x256x1024.Idx → EReal)
    (z : S262144x512.Idx) (R : Fin 131072) (e : Fin 64) (d : Fin 1024) (hR : R.val = (z 0).val / 2)
    (he : expertOf E V L H R.val = e.val) (hd : d.val = (z 0).val % 2 * 512 + (z 1).val) :
    res E V L H x wg wu wd z = expertRow x wg wu wd R e d := by
  have h0 : (z 0).val < 262144 := (z 0).isLt
  rw [hR] at he
  rw [res_at E V L H x wg wu wd z _ _ (ix2 ⟨(z 0).val % 4096, Nat.mod_lt _ (by decide)⟩ (z 1)) rfl he rfl rfl]
  have hr : (z 0).val % 4096 % 512 / 2 < 256 := by omega
  have hv := out_eq (k0_pay4 (F := Ideal) (half (rowsOf x ((z 0).val / 4096)) ((z 0).val % 4096 / 512)) (W0 wg wu e.val)) (wOut wd e.val)
    (ix2 ⟨(z 0).val % 4096 % 512, Nat.mod_lt _ (by decide)⟩ (z 1)) ⟨(z 0).val % 4096 % 512 / 2, hr⟩ d rfl
    (by show d.val = (z 0).val % 4096 % 512 % 2 * 512 + (z 1).val; omega)
  refine Eq.trans ?_ (hv.trans ?_)
  · rfl
  have em : (⟨e.val % 64, Nat.mod_lt _ (by decide)⟩ : Fin 64) = e := Fin.ext (Nat.mod_eq_of_lt e.isLt)
  unfold expertRow
  refine congrArg₂ (fun a b => mulRow (K := 256) (N := 1024) a b d) (funext fun j => ?_) (funext fun j => funext fun d => ?_)
  · unfold W0
    rw [hidden_eq]
    have hx : (fun c : Fin 512 => half (rowsOf x ((z 0).val / 4096)) ((z 0).val % 4096 / 512) (ix2 ⟨(z 0).val % 4096 % 512 / 2, hr⟩ c))
        = fun c => x (ix2 R c) := funext fun c => by
      refine congrArg x ?_
      have : (⟨((z 0).val / 4096 * 2048 + (256 * ((z 0).val % 4096 / 512) + (z 0).val % 4096 % 512 / 2) % 2048) % 131072, Nat.mod_lt _ (by decide)⟩ : Fin 131072) = R :=
        Fin.ext (by show ((z 0).val / 4096 * 2048 + (256 * ((z 0).val % 4096 / 512) + (z 0).val % 4096 % 512 / 2) % 2048) % 131072 = R.val; omega)
      exact congrArg (fun r : Fin 131072 => (ix2 r c : S131072x512.Idx)) this
    rw [hx]
    refine congrArg₂ (fun a b => innerRow (halves fun c => x (ix2 R c)) a b j) (funext fun k => funext fun j => ?_) (funext fun k => funext fun j => ?_)
    · exact congrArg (fun e : Fin 64 => wg (ix4 0 e k j)) em
    · exact congrArg (fun e : Fin 64 => wu (ix4 0 e k j)) em
  · exact congrArg (fun e : Fin 64 => wd (ix4 0 e j d)) em

end Cert.Ffn

end
-- ==== Proof.FfnK.lean ====
/- The expert reference read at an index: a token's row through the expert the visits give its row. -/
module

public import proofs.«01_k».proof.Proof.FfnJ
public import proofs.«01_k».proof.Proof.Gen.Reference5Ideal.Read
public import Idealize.ShloMosaic.Lib.TwoAxisContraction
public import Idealize.ShloMosaic.Lib.StableHlo.Predicate

@[expose] public section

set_option maxRecDepth 16384
set_option Elab.async false

noncomputable section

namespace Cert.FfnRef

open Cert.Reference5Ideal Cert.Reference5Ideal.Gen Cert.Reference5Ideal.Read
open Idealize.ShloMosaic
open Cert.Row (low high halves mulRow innerRow sigma)
open Cert.Ffn (Sched num num_of and_one eq_iff sle_iff slt_iff row_num expertOf expertOf_eq expertRow)

variable (A0 : (⟨S131072x512, .i32⟩ : BufTy).Contents (Elt Ideal)) (T0 T1 T2 T3 : (⟨S127, .i32⟩ : BufTy).Contents (Elt Ideal))
  (A5 A6 : (⟨S4x64x1024x256, .f32⟩ : BufTy).Contents (Elt Ideal)) (A7 : (⟨S4x64x256x1024, .f32⟩ : BufTy).Contents (Elt Ideal))

/-- The low half of a word, as a number. -/
theorem word_low (i : S131072x512.Idx) : val_main_v2 A0 i = low (A0 i) := by
  rw [val_main_v2_apply, val_main_v1_apply, val_main_v0_apply, val_main_c_apply]
  exact Cert.Row.ofBits_shift (A0 i)

/-- The high half of a word, as a number. -/
theorem word_high (i : S131072x512.Idx) : val_main_v5 A0 i = high (A0 i) := by
  rw [val_main_v5_apply, val_main_v4_apply, val_main_v3_apply, val_main_c_0_apply]
  exact Cert.Row.ofBits_mask (A0 i)

/-- The two halves side by side, at an index. -/
theorem halves_eq (r : Fin 131072) (d : Fin 1024) : val_main_v6 A0 (ix2 r d) = halves (fun c => A0 (ix2 r c)) d := by
  unfold val_main_v6 halves
  split
  · rename_i h
    rw [← word_low]
    exact concatenate_pair_apply_left (s₁ := S131072x512) (s₂ := S131072x512) 1 (val_main_v2 A0) (val_main_v5 A0) _ (ix2 r d) rfl (ix2 r ⟨d.val, h⟩) (fun b => by match b with | ⟨0, _⟩ => rfl | ⟨1, _⟩ => rfl)
  · rename_i h
    have hd := d.isLt
    rw [← word_high]
    exact concatenate_pair_apply_right (s₁ := S131072x512) (s₂ := S131072x512) 1 (val_main_v2 A0) (val_main_v5 A0) _ (ix2 r d) rfl rfl (ix2 r ⟨d.val - 512, by omega⟩)
      (fun b hb => by match b, hb with | ⟨0, _⟩, _ => rfl | ⟨1, _⟩, hb => exact absurd rfl hb)
      (by show d.val - 512 + 512 = d.val; omega)

/-- An expert's gate matrix, -/
theorem gateW (e : Fin 64) (k : Fin 1024) (f : Fin 256) : val_main_v28 A5 (ix3 e k f) = A5 (ix4 0 e k f) := by
  have he := e.isLt; have hk := k.isLt; have hf := f.isLt
  rw [val_main_v28_apply, val_main_v27_apply]
  refine congrArg A5 (funext fun a => Fin.ext ?_)
  match a with
  | ⟨0, _⟩ => rfl
  | ⟨1, _⟩ => show ((e.val * 1024 + k.val) * 256 + f.val) / 262144 % 64 = e.val; omega
  | ⟨2, _⟩ => show ((e.val * 1024 + k.val) * 256 + f.val) / 256 % 1024 = k.val; omega
  | ⟨3, _⟩ => show ((e.val * 1024 + k.val) * 256 + f.val) % 256 = f.val; omega

/-- its second matrix, -/
theorem upW (e : Fin 64) (k : Fin 1024) (f : Fin 256) : val_main_v31 A6 (ix3 e k f) = A6 (ix4 0 e k f) := by
  have he := e.isLt; have hk := k.isLt; have hf := f.isLt
  rw [val_main_v31_apply, val_main_v30_apply]
  refine congrArg A6 (funext fun a => Fin.ext ?_)
  match a with
  | ⟨0, _⟩ => rfl
  | ⟨1, _⟩ => show ((e.val * 1024 + k.val) * 256 + f.val) / 262144 % 64 = e.val; omega
  | ⟨2, _⟩ => show ((e.val * 1024 + k.val) * 256 + f.val) / 256 % 1024 = k.val; omega
  | ⟨3, _⟩ => show ((e.val * 1024 + k.val) * 256 + f.val) % 256 = f.val; omega

/-- and its last. -/
theorem downW (e : Fin 64) (f : Fin 256) (d : Fin 1024) : val_main_v39 A7 (ix3 e f d) = A7 (ix4 0 e f d) := by
  have he := e.isLt; have hd := d.isLt; have hf := f.isLt
  rw [val_main_v39_apply, val_main_v38_apply]
  refine congrArg A7 (funext fun a => Fin.ext ?_)
  match a with
  | ⟨0, _⟩ => rfl
  | ⟨1, _⟩ => show ((e.val * 256 + f.val) * 1024 + d.val) / 262144 % 64 = e.val; omega
  | ⟨2, _⟩ => show ((e.val * 256 + f.val) * 1024 + d.val) / 1024 % 256 = f.val; omega
  | ⟨3, _⟩ => show ((e.val * 256 + f.val) * 1024 + d.val) % 1024 = d.val; omega

/-- Every expert's gate product of a row, -/
theorem gate_eq (r : Fin 131072) (e : Fin 64) (f : Fin 256) :
    val_main_v29 A0 A5 (ix3 r e f) = mulRow (halves fun c => A0 (ix2 r c)) (fun k f => A5 (ix4 0 e k f)) f := by
  rw [val_main_v29_apply]
  refine Finset.sum_congr rfl fun k _ => ?_
  rw [← halves_eq]
  show _ = _ * A5 (ix4 0 e k f)
  rw [← gateW A5]
  refine congrArg₂ (fun a b : EReal => a * b) (congrArg (val_main_v6 A0) ?_) (congrArg (val_main_v28 A5) ?_)
  · exact funext fun a => by match a with | ⟨0, _⟩ => rfl | ⟨1, _⟩ => rfl
  · exact funext fun a => by match a with | ⟨0, _⟩ => rfl | ⟨1, _⟩ => rfl | ⟨2, _⟩ => rfl

/-- and its second. -/
theorem up_eq (r : Fin 131072) (e : Fin 64) (f : Fin 256) :
    val_main_v32 A0 A6 (ix3 r e f) = mulRow (halves fun c => A0 (ix2 r c)) (fun k f => A6 (ix4 0 e k f)) f := by
  rw [val_main_v32_apply]
  refine Finset.sum_congr rfl fun k _ => ?_
  rw [← halves_eq]
  show _ = _ * A6 (ix4 0 e k f)
  rw [← upW A6]
  refine congrArg₂ (fun a b : EReal => a * b) (congrArg (val_main_v6 A0) ?_) (congrArg (val_main_v31 A6) ?_)
  · exact funext fun a => by match a with | ⟨0, _⟩ => rfl | ⟨1, _⟩ => rfl
  · exact funext fun a => by match a with | ⟨0, _⟩ => rfl | ⟨1, _⟩ => rfl | ⟨2, _⟩ => rfl

/-- The hidden row through every expert, before the choice of one. -/
theorem hidden_eq (r : Fin 131072) (e : Fin 64) (f : Fin 256) :
    val_main_v34 A0 A5 A6 (ix3 r e f)
      = innerRow (halves fun c => A0 (ix2 r c)) (fun k f => A5 (ix4 0 e k f)) (fun k f => A6 (ix4 0 e k f)) f := by
  rw [val_main_v34_apply, val_main_v33_apply, val_main_call2_v5_apply, val_main_call2_v4_apply, val_main_call2_cst_0_apply,
    val_main_call2_v3_apply, val_main_call2_v2_apply, val_main_call2_cst_apply, val_main_call2_v1_apply, val_main_call2_v0_apply,
    gate_eq, up_eq]
  simp only [Ideal.mulf_def, Ideal.hostDivf_def, Ideal.addf_def, Ideal.hostUnary_exp_def, Ideal.hostNegf_def, Ideal.negf_def,
    Ideal.ofBits_def, Ideal.ofBits_one_f32]
  rfl

/-! ## The row's expert -/

variable {T0 T1 T2 T3}

/-- A visit's part of the sum that names a row's expert. -/
theorem part_eq (S : Sched (num T0) (num T1) (num T2) (num T3)) (r : Fin 131072) (t : Fin 127) :
    (val_main_v24 (F := Ideal) T0 T1 T2 T3 (ix2 r t)).toNat
      = if num T1 t.val * 2048 + num T2 t.val ≤ r.val ∧ r.val < num T1 t.val * 2048 + num T3 t.val then num T0 t.val else 0 := by
  have hr := r.isLt
  have hV := S.hV t.val t.isLt
  have hL := S.hLH t.val t.isLt
  have hH := S.hH t.val t.isLt
  rw [val_main_v24_apply, val_main_v23_apply, val_main_v15_apply, val_main_v22_apply, val_main_v13_apply, val_main_v8_apply,
    val_main_v7_apply, val_main_v14_apply, val_main_v12_apply, val_main_v11_apply, val_main_v10_apply, val_main_v9_apply,
    val_main_c_1_apply, val_main_v20_apply, val_main_v8_apply, val_main_v7_apply, val_main_v21_apply, val_main_v19_apply,
    val_main_v18_apply, val_main_v17_apply, val_main_v16_apply, val_main_c_2_apply, val_main_call0_v1_apply, val_main_call0_v2_apply,
    val_main_call0_v0_apply, val_main_c_3_apply]
  have i1 : idx_main_v12 (idx_main_v14 (ix2 r t)) = ix1 t := funext fun a => by match a with | ⟨0, _⟩ => rfl
  have i2 : idx_main_v19 (idx_main_v21 (ix2 r t)) = ix1 t := funext fun a => by match a with | ⟨0, _⟩ => rfl
  have i3 : idx_main_call0_v1 (ix2 r t) = ix1 t := funext fun a => by match a with | ⟨0, _⟩ => rfl
  rw [i1, i2, i3]
  have e0 : num T0 t.val = (T0 (ix1 t)).toNat := num_of T0 t.val t.isLt
  have e1 : num T1 t.val = (T1 (ix1 t)).toNat := num_of T1 t.val t.isLt
  have e2 : num T2 t.val = (T2 (ix1 t)).toNat := num_of T2 t.val t.isLt
  have e3 : num T3 t.val = (T3 (ix1 t)).toNat := num_of T3 t.val t.isLt
  rw [e0, e1, e2, e3]
  rw [e1] at hV
  rw [e2, e3] at hL
  rw [e3] at hH
  have n2 := row_num (T1 (ix1 t)) (T2 (ix1 t)) hV (by omega)
  have n3 := row_num (T1 (ix1 t)) (T3 (ix1 t)) hV (by omega)
  have nr : (BitVec.ofNat 32 r.val).toNat = r.val := by rw [BitVec.toNat_ofNat]; exact Nat.mod_eq_of_lt (by omega)
  have c1 : IntOp.cmpi .sge (BitVec.ofNat 32 r.val) (IntOp.addi (IntOp.muli (T1 (ix1 t)) 2048#32) (T2 (ix1 t))) = 1#1
      ↔ (T1 (ix1 t)).toNat * 2048 + (T2 (ix1 t)).toNat ≤ r.val := by
    have := sle_iff (IntOp.addi (IntOp.muli (T1 (ix1 t)) 2048#32) (T2 (ix1 t))) (BitVec.ofNat 32 r.val) (by rw [n2]; omega) (by rw [nr]; omega)
    rw [n2, nr] at this
    exact this
  have c2 : IntOp.cmpi .slt (BitVec.ofNat 32 r.val) (IntOp.addi (IntOp.muli (T1 (ix1 t)) 2048#32) (T3 (ix1 t))) = 1#1
      ↔ r.val < (T1 (ix1 t)).toNat * 2048 + (T3 (ix1 t)).toNat := by
    have := slt_iff (BitVec.ofNat 32 r.val) (IntOp.addi (IntOp.muli (T1 (ix1 t)) 2048#32) (T3 (ix1 t))) (by rw [nr]; omega) (by rw [n3]; omega)
    rw [n3, nr] at this
    exact this
  have hc := (and_one (IntOp.cmpi .sge (BitVec.ofNat 32 r.val) (IntOp.addi (IntOp.muli (T1 (ix1 t)) 2048#32) (T2 (ix1 t))))
    (IntOp.cmpi .slt (BitVec.ofNat 32 r.val) (IntOp.addi (IntOp.muli (T1 (ix1 t)) 2048#32) (T3 (ix1 t))))).trans (and_congr c1 c2)
  show BitVec.toNat (if _ = 1 then T0 (ix1 t) else 0#32) = _
  rw [apply_ite BitVec.toNat]
  exact if_congr hc rfl rfl

/-- The sum over the visits names the row's expert. -/
theorem expert_eq (S : Sched (num T0) (num T1) (num T2) (num T3)) (r : Fin 131072) :
    (val_main_v25 (F := Ideal) T0 T1 T2 T3 (ix1 r)).toNat = expertOf (num T0) (num T1) (num T2) (num T3) r.val := by
  have hred : S131072x127.Reduces [1] S131072 := by decide
  have hs : ∑ t : Fin 127, (val_main_v24 (F := Ideal) T0 T1 T2 T3 (ix2 r t)).toNat = expertOf (num T0) (num T1) (num T2) (num T3) r.val := by
    unfold expertOf
    rw [Finset.sum_congr rfl fun t _ => part_eq S r t]
    exact Fin.sum_univ_eq_sum_range (fun t => if num T1 t * 2048 + num T2 t ≤ r.val ∧ r.val < num T1 t * 2048 + num T3 t then num T0 t else 0) 127
  have hb : expertOf (num T0) (num T1) (num T2) (num T3) r.val < 64 := by
    obtain ⟨t, ht, h⟩ := S.cover r.val r.isLt
    rw [expertOf_eq S r.val t ht h]
    exact S.hE t ht
  have hl : ∀ t : Fin (S131072x127.size 1), hred.lift (ix1 r) t = (ix2 r (t : Fin 127) : S131072x127.Idx) := fun t => funext fun a => Fin.ext
    ((hred.lift_val (ix1 r) t a).trans (by match a with | ⟨0, _⟩ => rfl | ⟨1, _⟩ => rfl))
  unfold val_main_v25
  rw [Host.reduce_eq_fold_single IntOp.addi _ _ _ hred, val_main_c_4_apply]
  have hc : (val_main_v24 (F := Ideal) T0 T1 T2 T3) ∘ hred.lift (ix1 r) = fun t : Fin 127 => val_main_v24 (F := Ideal) T0 T1 T2 T3 (ix2 r t) :=
    funext fun t => congrArg (val_main_v24 (F := Ideal) T0 T1 T2 T3) (hl t)
  rw [hc]
  refine Eq.trans ?_ hs
  exact StableHlo.Predicate.toNat_fold_addi (Finset.univ : Finset (Fin 127)) _ (by rw [hs]; omega)

/-- The choice of one expert: one at the row's expert, zero at the others. -/
theorem choice_eq (S : Sched (num T0) (num T1) (num T2) (num T3)) (r : Fin 131072) (e : Fin 64) (f : Fin 256) :
    val_main_v36 (F := Ideal) T0 T1 T2 T3 (ix3 r e f) = if expertOf (num T0) (num T1) (num T2) (num T3) r.val = e.val then (1 : EReal) else 0 := by
  rw [val_main_v36_apply, val_main_v35_apply, val_main_v26_apply, val_main_call1_v4_apply, val_main_call1_v2_apply, val_main_call1_v0_apply,
    val_main_call1_v3_apply, val_main_call1_v1_apply]
  have i1 : idx_main_call1_v0 (idx_main_call1_v2 (idx_main_v35 (idx_main_v36 (ix3 r e f)))) = ix1 r := funext fun a => by match a with | ⟨0, _⟩ => rfl
  have i2 : ((idx_main_call1_v3 (idx_main_v35 (idx_main_v36 (ix3 r e f)))) 1).val = e.val := rfl
  rw [i1, i2]
  have ne : (BitVec.ofNat 32 e.val).toNat = e.val := by rw [BitVec.toNat_ofNat]; exact Nat.mod_eq_of_lt (by have := e.isLt; omega)
  have hc := eq_iff (val_main_v25 (F := Ideal) T0 T1 T2 T3 (ix1 r)) (BitVec.ofNat 32 e.val)
  rw [expert_eq S r, ne] at hc
  show FloatOps.uitofp (F := Ideal) .f32 (IntOp.cmpi .eq (val_main_v25 (F := Ideal) T0 T1 T2 T3 (ix1 r)) (BitVec.ofNat 32 e.val)) = _
  generalize IntOp.cmpi .eq (val_main_v25 (F := Ideal) T0 T1 T2 T3 (ix1 r)) (BitVec.ofNat 32 e.val) = b at hc
  show ((b.toNat : ℝ) : EReal) = _
  by_cases h : b = 1#1
  · rw [if_pos (hc.mp h), h]; simp
  · rw [if_neg (fun k => h (hc.mpr k)), show b = 0#1 from by clear hc; revert h; revert b; decide]; simp

section Dot
variable (i : S131072x1024.Idx) (q : dot_S131072x64x256_S64x256x1024_S131072x1024_12_01_0_2_n_n.contr.Idx)

/-! Where the last product reads its two operands. -/

/-- The left factor's row is the result's row. -/
theorem lhs_0 : (dot_S131072x64x256_S64x256x1024_S131072x1024_12_01_0_2_n_n.lhsIdx i q 0).val = (i 0).val := by
  unfold DotDims.lhsIdx
  rw [dif_neg (show ¬(0 : Fin S131072x64x256.rank) ∈ dot_S131072x64x256_S64x256x1024_S131072x1024_12_01_0_2_n_n.lhsBatch by decide), dif_pos (show (0 : Fin S131072x64x256.rank) ∈ dot_S131072x64x256_S64x256x1024_S131072x1024_12_01_0_2_n_n.lhsNonContracting by decide)]
  rfl
/-- The left factor's expert is the summed one. -/
theorem lhs_1 : (dot_S131072x64x256_S64x256x1024_S131072x1024_12_01_0_2_n_n.lhsIdx i q 1).val = (q ⟨0, by decide⟩).val := by
  unfold DotDims.lhsIdx
  rw [dif_neg (show ¬(1 : Fin S131072x64x256.rank) ∈ dot_S131072x64x256_S64x256x1024_S131072x1024_12_01_0_2_n_n.lhsBatch by decide), dif_neg (show ¬(1 : Fin S131072x64x256.rank) ∈ dot_S131072x64x256_S64x256x1024_S131072x1024_12_01_0_2_n_n.lhsNonContracting by decide)]
  rfl
/-- The left factor's hidden column is the summed one. -/
theorem lhs_2 : (dot_S131072x64x256_S64x256x1024_S131072x1024_12_01_0_2_n_n.lhsIdx i q 2).val = (q ⟨1, by decide⟩).val := by
  unfold DotDims.lhsIdx
  rw [dif_neg (show ¬(2 : Fin S131072x64x256.rank) ∈ dot_S131072x64x256_S64x256x1024_S131072x1024_12_01_0_2_n_n.lhsBatch by decide), dif_neg (show ¬(2 : Fin S131072x64x256.rank) ∈ dot_S131072x64x256_S64x256x1024_S131072x1024_12_01_0_2_n_n.lhsNonContracting by decide)]
  rfl
/-- The right factor's expert is the summed one. -/
theorem rhs_0 : (dot_S131072x64x256_S64x256x1024_S131072x1024_12_01_0_2_n_n.rhsIdx i q 0).val = (q ⟨0, by decide⟩).val := by
  unfold DotDims.rhsIdx
  rw [dif_neg (show ¬(0 : Fin S64x256x1024.rank) ∈ dot_S131072x64x256_S64x256x1024_S131072x1024_12_01_0_2_n_n.rhsBatch by decide), dif_neg (show ¬(0 : Fin S64x256x1024.rank) ∈ dot_S131072x64x256_S64x256x1024_S131072x1024_12_01_0_2_n_n.rhsNonContracting by decide)]
  rfl
/-- The right factor's hidden column is the summed one. -/
theorem rhs_1 : (dot_S131072x64x256_S64x256x1024_S131072x1024_12_01_0_2_n_n.rhsIdx i q 1).val = (q ⟨1, by decide⟩).val := by
  unfold DotDims.rhsIdx
  rw [dif_neg (show ¬(1 : Fin S64x256x1024.rank) ∈ dot_S131072x64x256_S64x256x1024_S131072x1024_12_01_0_2_n_n.rhsBatch by decide), dif_neg (show ¬(1 : Fin S64x256x1024.rank) ∈ dot_S131072x64x256_S64x256x1024_S131072x1024_12_01_0_2_n_n.rhsNonContracting by decide)]
  rfl
/-- The right factor's column is the result's column. -/
theorem rhs_2 : (dot_S131072x64x256_S64x256x1024_S131072x1024_12_01_0_2_n_n.rhsIdx i q 2).val = (i 1).val := by
  unfold DotDims.rhsIdx
  rw [dif_neg (show ¬(2 : Fin S64x256x1024.rank) ∈ dot_S131072x64x256_S64x256x1024_S131072x1024_12_01_0_2_n_n.rhsBatch by decide), dif_pos (show (2 : Fin S64x256x1024.rank) ∈ dot_S131072x64x256_S64x256x1024_S131072x1024_12_01_0_2_n_n.rhsNonContracting by decide)]
  rfl

end Dot

/-- The last product, over the experts and their hidden columns. -/
theorem down_eq (r : Fin 131072) (d : Fin 1024) :
    val_main_v40 A0 T0 T1 T2 T3 A5 A6 A7 (ix2 r d)
      = ∑ e : Fin 64, ∑ f : Fin 256, val_main_v37 A0 T0 T1 T2 T3 A5 A6 (ix3 r e f) * val_main_v39 A7 (ix3 e f d) := by
  unfold val_main_v40
  generalize val_main_v37 A0 T0 T1 T2 T3 A5 A6 = y0
  generalize val_main_v39 A7 = y1
  simp only [Host.dotGeneral]
  rw [Ideal.dotGeneral_apply, ValueIdx.sum_contr2 dot_S131072x64x256_S64x256x1024_S131072x1024_12_01_0_2_n_n 64 256 rfl rfl rfl]
  refine Finset.sum_congr rfl fun e _ => Finset.sum_congr rfl fun f _ => ?_
  have h0 := ValueIdx.contrEquiv2_symm_val0 dot_S131072x64x256_S64x256x1024_S131072x1024_12_01_0_2_n_n 64 256 rfl rfl rfl (e, f)
  have h1 := ValueIdx.contrEquiv2_symm_val1 dot_S131072x64x256_S64x256x1024_S131072x1024_12_01_0_2_n_n 64 256 rfl rfl rfl (e, f)
  generalize (ValueIdx.contrEquiv2 dot_S131072x64x256_S64x256x1024_S131072x1024_12_01_0_2_n_n 64 256 rfl rfl rfl).symm (e, f) = q at h0 h1
  refine congrArg₂ (fun a b : EReal => a * b) (congrArg y0 (funext fun a => Fin.ext ?_)) (congrArg y1 (funext fun a => Fin.ext ?_))
  · match a with
    | ⟨0, _⟩ => exact lhs_0 _ _
    | ⟨1, _⟩ => exact (lhs_1 _ _).trans h0
    | ⟨2, _⟩ => exact (lhs_2 _ _).trans h1
  · match a with
    | ⟨0, _⟩ => exact (rhs_0 _ _).trans h0
    | ⟨1, _⟩ => exact (rhs_1 _ _).trans h1
    | ⟨2, _⟩ => exact rhs_2 _ _

/-- The reference's row: only the row's own expert is left of the sum. -/
theorem row_eq (S : Sched (num T0) (num T1) (num T2) (num T3)) (r : Fin 131072) (e : Fin 64) (d : Fin 1024)
    (he : expertOf (num T0) (num T1) (num T2) (num T3) r.val = e.val) :
    val_main_v40 A0 T0 T1 T2 T3 A5 A6 A7 (ix2 r d) = expertRow A0 A5 A6 A7 r e d := by
  rw [down_eq]
  refine Eq.trans (Finset.sum_eq_single (M := EReal) e ?_ ?_) ?_
  · intro e' _ hne
    refine Finset.sum_eq_zero (M := EReal) fun f _ => ?_
    rw [val_main_v37_apply, choice_eq S, if_neg (fun h => hne (Fin.ext (h.symm.trans he)))]
    show _ * 0 * _ = (0 : EReal)
    rw [mul_zero, zero_mul]
  · intro h; exact absurd (Finset.mem_univ e) h
  · unfold expertRow mulRow
    refine Finset.sum_congr (M := EReal) rfl fun f _ => ?_
    rw [val_main_v37_apply, choice_eq S, if_pos he, hidden_eq, downW]
    show innerRow _ _ _ f * 1 * _ = _
    rw [mul_one]

/-- The reference's result at an index. -/
theorem out_eq (S : Sched (num T0) (num T1) (num T2) (num T3)) (z : S262144x512.Idx) (r : Fin 131072) (e : Fin 64) (d : Fin 1024)
    (hr : r.val = (z 0).val / 2) (he : expertOf (num T0) (num T1) (num T2) (num T3) r.val = e.val)
    (hd : d.val = (z 0).val % 2 * 512 + (z 1).val) :
    val_main_v42 A0 T0 T1 T2 T3 A5 A6 A7 z = expertRow A0 A5 A6 A7 r e d := by
  have h1 : (z 1).val < 512 := (z 1).isLt
  rw [← row_eq A0 A5 A6 A7 S r e d he, val_main_v42_apply, val_main_v41_apply]
  refine congrArg (val_main_v40 A0 T0 T1 T2 T3 A5 A6 A7) (funext fun a => Fin.ext ?_)
  match a with
  | ⟨0, _⟩ => show ((z 0).val * 512 + (z 1).val) / 1024 = r.val; omega
  | ⟨1, _⟩ => show ((z 0).val * 512 + (z 1).val) % 1024 = d.val; omega

end Cert.FfnRef

end
-- ==== Proof.WordA.lean ====
/- The expert kernel on the machine's words: one run of its body from any contents. -/
module

public import proofs.«01_k».proof.Defs
public import proofs.«01_k».proof.Proof.Gen.Kernel5
public import proofs.«01_k».proof.Proof.Gen.Kernel5.Launch
public import proofs.«01_k».proof.Proof.Gen.Kernel5.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Lib.Pipeline.Value
public import Idealize.ShloMosaic.Adequacy
public import Idealize.ShloMosaic.Init

@[expose] public section

set_option maxRecDepth 16384
set_option Elab.async false

noncomputable section

namespace Cert.FfnW

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Bits) ℕ (UR sig nD τ) ℕ

/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

section
variable (c : Dev nD) (arg5 : Memref sig .tc .vmem S2048x512 .i32) (arg6 arg7 : Memref sig .tc .vmem S1x1x1024x256 .f32) (arg8 : Memref sig .tc .vmem S1x1x256x1024 .f32) (arg9 : Memref sig .tc .vmem S4096x512 .bf16)
    (f5 : arg5.view.ty.Contents (Elt Bits)) (f6 : arg6.view.ty.Contents (Elt Bits)) (f7 : arg7.view.ty.Contents (Elt Bits)) (f8 : arg8.view.ty.Contents (Elt Bits))
    (T0 : Buf (Elt Bits) ((c : Thread nD τ).loc main_arg1)) (T2 : Buf (Elt Bits) ((c : Thread nD τ).loc main_arg3)) (T3 : Buf (Elt Bits) ((c : Thread nD τ).loc main_arg4)) (X : sProp R5)

/-- What the body holds: its inputs and tables at given contents, the scratches and the output's buffer at some. -/
def Any : sProp R5 :=
  iprop(∃ s0 s1 f9, (sc0.view.loc (c : Thread nD τ) ↦{fullShare} s0) ∗ (sc1.view.loc (c : Thread nD τ) ↦{fullShare} s1)
    ∗ (arg9.view.loc (c : Thread nD τ) ↦[arg9.view.set]{fullShare} f9)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (tb0.view.loc (c : Thread nD τ) ↦{fullShare.right} T0) ∗ (tb2.view.loc (c : Thread nD τ) ↦{fullShare.right} T2) ∗ (tb3.view.loc (c : Thread nD τ) ↦{fullShare.right} T3) ∗ X)

end

/-- A load of one word, continued. -/
theorem word_bind {nD : Nat} {τ : Topo} {sig : RefSig} {Val : EltTy → Type} {Λ : Labels} {p : Proc τ} {s : Shape} {e : EltTy} {α : Type}
    (m : Memref sig p.kind .smem s e) (r : Rect s) (h1 : r.shape.numel = 1) (hp : e.packing = 1) (k : Val e → Prog (TpuEff nD τ sig Val Λ p) α) :
    smemLoad m r h1 hp >>= k = smemLoadElt m r (View.loads_smem_one hp h1) (Shape.Idx.first (h1.symm ▸ Nat.one_pos)) k := rfl

/-- A word of a table, whatever it is. -/
theorem smem0 {α : Type} (c : Dev nD) (T : Buf (Elt Bits) ((c : Thread nD τ).loc main_arg1)) (r : Rect S127) (h1 : r.shape.numel = 1) (hp : (EltTy.i32).packing = 1)
    (k : BitVec 32 → Prog (TpuEff nD τ sig (Elt Bits) Λ₀ .tc) α) (Q : α → sProp R5) :
    iprop((tb0.view.loc (c : Thread nD τ) ↦{fullShare.right} T) ∗ (∀ v, (tb0.view.loc (c : Thread nD τ) ↦{fullShare.right} T) -∗ wp frame (wpE (defs₀ (F := Bits)) Variants.none c none) Set.univ (k v) Q))
      ⊢ wp frame (wpE (defs₀ (F := Bits)) Variants.none c none) Set.univ (smemLoad tb0 r h1 hp >>= k) Q := by
  iintro ⟨H, Hk⟩
  rw [word_bind]
  unfold smemLoadElt
  sl_step
  iapply Hk
  iexact H

/-- A word of a table, whatever it is. -/
theorem smem2 {α : Type} (c : Dev nD) (T : Buf (Elt Bits) ((c : Thread nD τ).loc main_arg3)) (r : Rect S127) (h1 : r.shape.numel = 1) (hp : (EltTy.i32).packing = 1)
    (k : BitVec 32 → Prog (TpuEff nD τ sig (Elt Bits) Λ₀ .tc) α) (Q : α → sProp R5) :
    iprop((tb2.view.loc (c : Thread nD τ) ↦{fullShare.right} T) ∗ (∀ v, (tb2.view.loc (c : Thread nD τ) ↦{fullShare.right} T) -∗ wp frame (wpE (defs₀ (F := Bits)) Variants.none c none) Set.univ (k v) Q))
      ⊢ wp frame (wpE (defs₀ (F := Bits)) Variants.none c none) Set.univ (smemLoad tb2 r h1 hp >>= k) Q := by
  iintro ⟨H, Hk⟩
  rw [word_bind]
  unfold smemLoadElt
  sl_step
  iapply Hk
  iexact H

/-- A word of a table, whatever it is. -/
theorem smem3 {α : Type} (c : Dev nD) (T : Buf (Elt Bits) ((c : Thread nD τ).loc main_arg4)) (r : Rect S127) (h1 : r.shape.numel = 1) (hp : (EltTy.i32).packing = 1)
    (k : BitVec 32 → Prog (TpuEff nD τ sig (Elt Bits) Λ₀ .tc) α) (Q : α → sProp R5) :
    iprop((tb3.view.loc (c : Thread nD τ) ↦{fullShare.right} T) ∗ (∀ v, (tb3.view.loc (c : Thread nD τ) ↦{fullShare.right} T) -∗ wp frame (wpE (defs₀ (F := Bits)) Variants.none c none) Set.univ (k v) Q))
      ⊢ wp frame (wpE (defs₀ (F := Bits)) Variants.none c none) Set.univ (smemLoad tb3 r h1 hp >>= k) Q := by
  iintro ⟨H, Hk⟩
  rw [word_bind]
  unfold smemLoadElt
  sl_step
  iapply Hk
  iexact H

/-- The visit whose rows begin past the top of the tile runs. -/
theorem part10 (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (f5 : arg5.view.ty.Contents (Elt Bits)) (f6 : arg6.view.ty.Contents (Elt Bits)) (f7 : arg7.view.ty.Contents (Elt Bits)) (f8 : arg8.view.ty.Contents (Elt Bits))
    (T0 : Buf (Elt Bits) ((c : Thread nD τ).loc main_arg1)) (T2 : Buf (Elt Bits) ((c : Thread nD τ).loc main_arg3)) (T3 : Buf (Elt Bits) ((c : Thread nD τ).loc main_arg4)) (X : sProp R5) (v1 v3 : BitVec 32) (v33 c512 v35 : BitVec 32) :
    Any c arg5 arg6 arg7 arg8 arg9 f5 f6 f7 f8 T0 T2 T3 X ⊢ wp frame (wpE (defs₀ (F := Bits)) Variants.none c none) Set.univ (k0_part10 i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _) v1 v3 v33 c512 v35) (fun _ => Any c arg5 arg6 arg7 arg8 arg9 f5 f6 f7 f8 T0 T2 T3 X) := by
  have hS0 : sc0.IsWhole := Memref.isWhole_whole _
  have hS1 : sc1.IsWhole := Memref.isWhole_whole _
  rw [k0_part10_eq_skeleton]; unfold k0_part10_skel
  unfold Any
  iintro ⟨%s0, %s1, %f9, HS0, HS1, HO, H5, H6, H7, H8, HT0, HT2, HT3, HX⟩
  sl_exec
  sl_step
  iexists _, _, _
  isplitl [HS0]; · iexact HS0
  isplitl [HS1]; · iexact HS1
  isplitl [HO]; · iexact HO
  isplitl [H5]; · iexact H5
  isplitl [H6]; · iexact H6
  isplitl [H7]; · iexact H7
  isplitl [H8]; · iexact H8
  isplitl [HT0]; · iexact HT0
  isplitl [HT2]; · iexact HT2
  isplitl [HT3]; · iexact HT3
  iexact HX

/-- The visit whose rows begin at the top of the tile runs. -/
theorem part9 (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (f5 : arg5.view.ty.Contents (Elt Bits)) (f6 : arg6.view.ty.Contents (Elt Bits)) (f7 : arg7.view.ty.Contents (Elt Bits)) (f8 : arg8.view.ty.Contents (Elt Bits))
    (T0 : Buf (Elt Bits) ((c : Thread nD τ).loc main_arg1)) (T2 : Buf (Elt Bits) ((c : Thread nD τ).loc main_arg3)) (T3 : Buf (Elt Bits) ((c : Thread nD τ).loc main_arg4)) (X : sProp R5) :
    Any c arg5 arg6 arg7 arg8 arg9 f5 f6 f7 f8 T0 T2 T3 X ⊢ wp frame (wpE (defs₀ (F := Bits)) Variants.none c none) Set.univ (k0_part9 i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _)) (fun _ => Any c arg5 arg6 arg7 arg8 arg9 f5 f6 f7 f8 T0 T2 T3 X) := by
  have hS0 : sc0.IsWhole := Memref.isWhole_whole _
  have hS1 : sc1.IsWhole := Memref.isWhole_whole _
  rw [k0_part9_eq_skeleton]; unfold k0_part9_skel
  unfold Any
  iintro ⟨%s0, %s1, %f9, HS0, HS1, HO, H5, H6, H7, H8, HT0, HT2, HT3, HX⟩
  extract_lets arg0 v4
  iapply smem2 c T2 $$ [-]
  isplitl [HT2]
  · iexact HT2
  iintro %v1 HT2
  iapply smem3 c T3 $$ [-]
  isplitl [HT3]
  · iexact HT3
  iintro %v3 HT3
  iapply smem0 c T0 $$ [-]
  isplitl [HT0]
  · iexact HT0
  iintro %v6 HT0
  iapply smem0 c T0 $$ [-]
  isplitl [HT0]
  · iexact HT0
  iintro %v10 HT0
  beta_reduce
  sl_exec
  sl_step
  iexists _, _, _
  isplitl [HS0]; · iexact HS0
  isplitl [HS1]; · iexact HS1
  isplitl [HO]; · iexact HO
  isplitl [H5]; · iexact H5
  isplitl [H6]; · iexact H6
  isplitl [H7]; · iexact H7
  isplitl [H8]; · iexact H8
  isplitl [HT0]; · iexact HT0
  isplitl [HT2]; · iexact HT2
  isplitl [HT3]; · iexact HT3
  iexact HX

/-- A visit runs, whatever the tables name. -/
theorem body (c : Dev nD) (i : grid0.Coords) (arg5 : Memref sig .tc .vmem S2048x512 .i32) (harg5 : arg5.IsWhole) (arg6 : Memref sig .tc .vmem S1x1x1024x256 .f32) (harg6 : arg6.IsWhole) (arg7 : Memref sig .tc .vmem S1x1x1024x256 .f32) (harg7 : arg7.IsWhole) (arg8 : Memref sig .tc .vmem S1x1x256x1024 .f32) (harg8 : arg8.IsWhole) (arg9 : Memref sig .tc .vmem S4096x512 .bf16) (harg9 : arg9.IsWhole)
    (f5 : arg5.view.ty.Contents (Elt Bits)) (f6 : arg6.view.ty.Contents (Elt Bits)) (f7 : arg7.view.ty.Contents (Elt Bits)) (f8 : arg8.view.ty.Contents (Elt Bits))
    (T0 : Buf (Elt Bits) ((c : Thread nD τ).loc main_arg1)) (T2 : Buf (Elt Bits) ((c : Thread nD τ).loc main_arg3)) (T3 : Buf (Elt Bits) ((c : Thread nD τ).loc main_arg4)) (X : sProp R5) :
    Any c arg5 arg6 arg7 arg8 arg9 f5 f6 f7 f8 T0 T2 T3 X ⊢ wp frame (wpE (defs₀ (F := Bits)) Variants.none c none) Set.univ (cc0_ffn i tb0 (Memref.isWhole_whole _) tb1 (Memref.isWhole_whole _) tb2 (Memref.isWhole_whole _) tb3 (Memref.isWhole_whole _) arg5 harg5 arg6 harg6 arg7 harg7 arg8 harg8 arg9 harg9 sc0 (Memref.isWhole_whole _) sc1 (Memref.isWhole_whole _)) (fun _ => Any c arg5 arg6 arg7 arg8 arg9 f5 f6 f7 f8 T0 T2 T3 X) := by
  have hS0 : sc0.IsWhole := Memref.isWhole_whole _
  have hS1 : sc1.IsWhole := Memref.isWhole_whole _
  rw [cc0_ffn_eq_skeleton]; unfold cc0_ffn_skel
  rw [wp_bind]
  refine (part9 c i arg5 harg5 arg6 harg6 arg7 harg7 arg8 harg8 arg9 harg9 f5 f6 f7 f8 T0 T2 T3 X).trans (wp_mono frame _ Set.univ fun r => ?_)
  obtain ⟨v1, v3, v33, c512, v35⟩ := r
  dsimp -zeta only
  rw [wp_bind]
  refine (part10 c i arg5 harg5 arg6 harg6 arg7 harg7 arg8 harg8 arg9 harg9 f5 f6 f7 f8 T0 T2 T3 X v1 v3 v33 c512 v35).trans (wp_mono frame _ Set.univ fun r => ?_)
  obtain ⟨v65, v68, v69, v70⟩ := r
  dsimp -zeta only
  unfold Any
  iintro ⟨%s0, %s1, %f9, HS0, HS1, HO, H5, H6, H7, H8, HT0, HT2, HT3, HX⟩
  sl_exec
  sl_step
  iexists _, _, _
  isplitl [HS0]; · iexact HS0
  isplitl [HS1]; · iexact HS1
  isplitl [HO]; · iexact HO
  isplitl [H5]; · iexact H5
  isplitl [H6]; · iexact H6
  isplitl [H7]; · iexact H7
  isplitl [H8]; · iexact H8
  isplitl [HT0]; · iexact HT0
  isplitl [HT2]; · iexact HT2
  isplitl [HT3]; · iexact HT3
  iexact HX

end Cert.FfnW
-- ==== Proof.WordB.lean ====
/- The expert kernel on the machine's words: its launch from tables in range: the arguments end unchanged. -/
module

public import proofs.«01_k».proof.Defs
public import proofs.«01_k».proof.Proof.Gen.Kernel5
public import proofs.«01_k».proof.Proof.Gen.Kernel5.Launch
public import proofs.«01_k».proof.Proof.Gen.Kernel5.Skeleton
public import proofs.«01_k».proof.Proof.FfnF
public import proofs.«01_k».proof.Proof.WordA

@[expose] public section

set_option maxRecDepth 16384
set_option Elab.async false

noncomputable section

namespace Cert.FfnW

open Cert.Kernel5 Cert.Kernel5.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The word of a table at a point. -/
def at1 (i : grid0.Coords) (T : S127.Idx → BitVec 32) : BitVec 32 := T (ix1 ⟨(i 0).val, (i 0).isLt⟩)

/-- A point's own place in the tables. -/
theorem off1_eq (i : grid0.Coords) : k0_off1 i = ![(i 0).val] := by
  revert i; decide +kernel

/-- The word of a table that an index map reads. -/
theorem at_eq (T : S127.Idx → BitVec 32) (i : grid0.Coords) (inb : ∀ a, k0_off1 i a + S1.size a ≤ S127.size a)
    (h1 : (Rect.unit (s := S127) (k0_off1 i) S1.size inb).shape.numel = 1) :
    T ((Rect.unit (s := S127) (k0_off1 i) S1.size inb).emb (Shape.Idx.first (h1.symm ▸ Nat.one_pos))) = at1 i T := by
  refine congrArg T ?_
  funext a
  fin_cases a
  refine Fin.ext ?_
  have hj : ((Shape.Idx.first (h1.symm ▸ Nat.one_pos) : (Rect.unit (s := S127) (k0_off1 i) S1.size inb).shape.Idx) 0).val < 1 := Fin.isLt _
  have ho : k0_off1 i 0 = (i 0).val := congrFun (off1_eq i) 0
  show k0_off1 i 0 + 1 * (Shape.Idx.first (h1.symm ▸ Nat.one_pos) 0).val = (i 0).val
  omega

/-- The first window's block is the visit's tile. -/
theorem map0 (pf : pre0.Contents (Elt Bits)) (i : grid0.Coords) : cc0_transform_0 k0_off1_inb numel1_S1 pf i = ![(at1 i (pf 1)).toNat, 0] :=
  congrArg (fun v : BitVec 32 => ![v.toNat, 0]) (at_eq (pf 1) i (k0_off1_inb i) numel1_S1)
/-- The second window's block is the expert's. -/
theorem map1 (pf : pre0.Contents (Elt Bits)) (i : grid0.Coords) : cc0_transform_1 k0_off1_inb numel1_S1 pf i = ![0, (at1 i (pf 0)).toNat, 0, 0] :=
  congrArg (fun v : BitVec 32 => ![0, v.toNat, 0, 0]) (at_eq (pf 0) i (k0_off1_inb i) numel1_S1)
/-- The third window's block is the expert's. -/
theorem map2 (pf : pre0.Contents (Elt Bits)) (i : grid0.Coords) : cc0_transform_2 k0_off1_inb numel1_S1 pf i = ![0, (at1 i (pf 0)).toNat, 0, 0] :=
  congrArg (fun v : BitVec 32 => ![0, v.toNat, 0, 0]) (at_eq (pf 0) i (k0_off1_inb i) numel1_S1)
/-- The fourth window's block is the expert's. -/
theorem map3 (pf : pre0.Contents (Elt Bits)) (i : grid0.Coords) : cc0_transform_3 k0_off1_inb numel1_S1 pf i = ![0, (at1 i (pf 0)).toNat, 0, 0] :=
  congrArg (fun v : BitVec 32 => ![0, v.toNat, 0, 0]) (at_eq (pf 0) i (k0_off1_inb i) numel1_S1)
/-- The output's block is the visit's tile. -/
theorem map4 (pf : pre0.Contents (Elt Bits)) (i : grid0.Coords) : cc0_transform_4 k0_off1_inb numel1_S1 pf i = ![(at1 i (pf 1)).toNat, 0] :=
  congrArg (fun v : BitVec 32 => ![v.toNat, 0]) (at_eq (pf 1) i (k0_off1_inb i) numel1_S1)

/-- The side condition of the pipeline, from the tables' ranges. -/
theorem ok_of (pf : pre0.Contents (Elt Bits)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (0 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (0 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (0 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

/-- The pipeline library's resource algebra inside the kernel's. -/
abbrev EP5 : Emb (UR sig nD τ) R5 := emb₁

section
variable (pf : pre0.Contents (Elt Bits))

/-- What the body keeps between points: its scratches at some contents, and the tables. -/
def Kept (c : Dev nD) : sProp R5 :=
  iprop(∃ s0 s1, (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

/-- A buffer is held at what it reads. -/
theorem own_read (c : Dev nD) (ma : Memref sig .tc .vmem S4096x512 .bf16) (f : ma.view.ty.Contents (Elt Bits)) :
    (ma.view.loc (c : Thread nD τ) ↦[ma.view.set]{fullShare} f : sProp R5) ⊢ owns (c : Thread nD τ) ma fullShare (ma.view.read (Elt Bits) f) := by
  unfold owns
  iintro H
  iexists f
  isplitr
  · ipureintro; rfl
  iexact H

set_option maxHeartbeats 4000000 in
/-- The body at a point, from any buffers. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Kept pf c ∗ O
        ∗ owns (c : Thread nD τ) m0 fullShare Y0 ∗ owns (c : Thread nD τ) m1 fullShare Y1
        ∗ owns (c : Thread nD τ) m2 fullShare Y2 ∗ owns (c : Thread nD τ) m3 fullShare Y3
        ∗ owns (c : Thread nD τ) m4 fullShare Y)
      ⊢ wp frame (wpE (defs₀ (F := Bits)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf c ∗ O
          ∗ owns (c : Thread nD τ) m0 fullShare Y0 ∗ owns (c : Thread nD τ) m1 fullShare Y1
          ∗ owns (c : Thread nD τ) m2 fullShare Y2 ∗ owns (c : Thread nD τ) m3 fullShare Y3
          ∗ ∃ X, owns (c : Thread nD τ) m4 fullShare X) := by
  have hb := body c (grid0.coords t) m0 h0 m1 h1 m2 h2 m3 h3 m4 h4
    (m0.view.rep (Val := Elt Bits) Y0) (m1.view.rep (Val := Elt Bits) Y1) (m2.view.rep (Val := Elt Bits) Y2) (m3.view.rep (Val := Elt Bits) Y3)
    (pf (0 : Fin 4)) (pf (2 : Fin 4)) (pf (3 : Fin 4)) iprop((tb1.view.loc (c : Thread nD τ) ↦{fullShare.right} pf (1 : Fin 4)) ∗ O)
  refine BIBase.Entails.trans ?pre (hb.trans (wp_mono frame _ Set.univ fun r => ?post))
  case pre =>
    unfold Kept Any
    iintro ⟨⟨%s0, %s1, HS0, HS1, HT0, HT1, HT2, HT3⟩, HO, H0, H1, H2, H3, H4⟩
    ihave H0 := rep_of_owns (Val := Elt Bits) (c : Thread nD τ) m0 fullShare _ $$ H0
    ihave H1 := rep_of_owns (Val := Elt Bits) (c : Thread nD τ) m1 fullShare _ $$ H1
    ihave H2 := rep_of_owns (Val := Elt Bits) (c : Thread nD τ) m2 fullShare _ $$ H2
    ihave H3 := rep_of_owns (Val := Elt Bits) (c : Thread nD τ) m3 fullShare _ $$ H3
    ihave H4 := rep_of_owns (Val := Elt Bits) (c : Thread nD τ) m4 fullShare _ $$ H4
    iexists s0, s1, (m4.view.rep (Val := Elt Bits) Y)
    isplitl [HS0]; · iexact HS0
    isplitl [HS1]; · iexact HS1
    isplitl [H4]; · iexact H4
    isplitl [H0]; · iexact H0
    isplitl [H1]; · iexact H1
    isplitl [H2]; · iexact H2
    isplitl [H3]; · iexact H3
    isplitl [HT0]; · iexact HT0
    isplitl [HT2]; · iexact HT2
    isplitl [HT3]; · iexact HT3
    isplitl [HT1]; · iexact HT1
    iexact HO
  case post =>
    unfold Kept Any
    iintro ⟨%s0, %s1, %f, HS0, HS1, H4, H0, H1, H2, H3, HT0, HT2, HT3, HT1, HO⟩
    isplitl [HS0 HS1 HT0 HT1 HT2 HT3]
    · iexists s0, s1
      isplitl [HS0]; · iexact HS0
      isplitl [HS1]; · iexact HS1
      isplitl [HT0]; · iexact HT0
      isplitl [HT1]; · iexact HT1
      isplitl [HT2]; · iexact HT2
      iexact HT3
    isplitl [HO]; · iexact HO
    isplitl [H0]
    · iapply owns_of_rep; iexact H0
    isplitl [H1]
    · iapply owns_of_rep; iexact H1
    isplitl [H2]
    · iapply owns_of_rep; iexact H2
    isplitl [H3]
    · iapply owns_of_rep; iexact H3
    iexists (m4.view.read (Elt Bits) f)
    iapply own_read
    iexact H4

end

section
/-- The launch with its tables fixed. -/
abbrev cfgA (a : (pcfg0 (F := Bits)).Adm) : Pipeline.Cfg sig Λ₀ := cfg0 (F := Bits) a

variable (a : (pcfg0 (F := Bits)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Bits) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (m : (ℓ : Loc nD τ sig) → Buf (Elt Bits) ℓ)

/-- What the body keeps between points, at the launch's tables. -/
abbrev Phi (c : Dev nD) : sProp R5 := Kept a.1 c

/-- The pipeline's proof data: the inputs' buffers are left as found, of the output's nothing is said. -/
def rdats (_ : Fin 1) (c : Dev nD) : RDat τ (Elt Bits) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ _ => True
  Φ n := Phi a c
  q _ := fullShare
  owed _ := 0

set_option maxHeartbeats 4000000 in
/-- The body at a point. -/
theorem sound (c : Dev nD) (t : Fin (cfgA a).N) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Phi a c ∗ O
        ∗ owns (c : Thread nD τ) (ms0 a t) fullShare Y0 ∗ owns (c : Thread nD τ) (ms1 a t) fullShare Y1
        ∗ owns (c : Thread nD τ) (ms2 a t) fullShare Y2 ∗ owns (c : Thread nD τ) (ms3 a t) fullShare Y3
        ∗ owns (c : Thread nD τ) (ms4 a t) fullShare Y)
      ⊢ wp frame (wpE (defs₀ (F := Bits)) Variants.none c none) Set.univ (bodyAt a t) fun _ =>
        iprop(Phi a c ∗ O
          ∗ owns (c : Thread nD τ) (ms0 a t) fullShare Y0 ∗ owns (c : Thread nD τ) (ms1 a t) fullShare Y1
          ∗ owns (c : Thread nD τ) (ms2 a t) fullShare Y2 ∗ owns (c : Thread nD τ) (ms3 a t) fullShare Y3
          ∗ ∃ X, owns (c : Thread nD τ) (ms4 a t) fullShare X) :=
  visit a.1 c t (ms0 a t) (hs0 a t) (ms1 a t) (hs1 a t) (ms2 a t) (hs2 a t) (ms3 a t) (hs3 a t) (ms4 a t) (hs4 a t) O Y0 Y1 Y2 Y3 Y

set_option maxHeartbeats 4000000 in
/-- The library's body obligation. -/
theorem obligation (c : Dev nD) : RDat.BodyObligation (rdats a m 0 c) (defs₀ (F := Bits)) Variants.none () Set.univ := fun t Y hY => by
  rw [bigSep_W0]
  have hs := sound a c t ((rdats a m 0 c).owesAt () t.castSucc) (Y (0 : Fin 5)) (Y (1 : Fin 5)) (Y (2 : Fin 5)) (Y (3 : Fin 5)) (Y (4 : Fin 5))
  refine BIBase.Entails.trans ?_ (hs.trans (wp_mono frame _ Set.univ fun r => ?_))
  · exact .rfl
  · rw [bigSep_W0, show (rdats a m 0 c).Φ t.succ = Phi a c from rfl,
      show (rdats a m 0 c).owesAt () t.succ = (rdats a m 0 c).owesAt () t.castSucc from rfl]
    iintro ⟨HP, HO, H0, H1, H2, H3, %X, H4⟩
    isplitl [HP]; · iexact HP
    isplitl [HO]; · iexact HO
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists X; isplitr; swap
    · iexact H4
    · ipureintro
      trivial

/-! ## The launch -/

/-- The list of launches with their tables fixed. -/
abbrev pcsA : Fin 1 → Pipeline.Cfg sig Λ₀ := Pipeline.pin (pcfgs (F := Bits)) fun _ => a

/-- The launch's element. -/
def u5 : UR sig nD τ :=
  initOf (Pipeline.cells (pcsA a) ((launch0 (F := Bits)).cellOf_inj fun _ => a))
    (Pipeline.launchToks (pcsA a) ((launch0 (F := Bits)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Bits)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- What the first point is given. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a c from rfl]
  unfold Phi Kept
  iintro ⟨-, ⟨HT0, HT1, HT2, HT3⟩, ⟨%a0, HS0⟩, ⟨%a1, HS1⟩⟩
  iexists a0, a1
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a c from rfl, Pipeline.ownSems0_none]
  unfold Phi Kept
  iintro ⟨%a0, %a1, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
/-- The run: the arguments end unchanged, every counter is zero. -/
theorem run (ρ : Dev nD → PrngReg) (hp : ∀ (c : Dev nD) (k : Fin 4), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Bits)) (fun _ => a) (rdats a m) () ((launch0 (F := Bits)).cellOf_inj fun _ => a) (0 : Fin 1)
    (launch0 (F := Bits)).win.to₀ (Pipeline.OwnSemFacts.none _) (launch0 (F := Bits)).pre EP5 defs₀ Variants.none m ρ main
    (hbody := fun c => obligation a m c) (hne := (launch0 (F := Bits)).block_pos)
    (harr := (launch0 (F := Bits)).arr_whole) (hstage := (launch0 (F := Bits)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Bits)).win.arr_inj) (launch0 (F := Bits)).arr_whole
      (fun w hw => (rdats a m 0 c).q_eq_shareOf_of_share_full (launch0 (F := Bits)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨i0, (ht 0).trans (hp c 0).symm, (ht 1).trans (hp c 1).symm, (ht 2).trans (hp c 2).symm, (ht 3).trans (hp c 3).symm, i1, i2, i3⟩, hz⟩)

end

end Cert.FfnW
-- ==== Proof.FfnL.lean ====
/- The claims about the expert kernel: its runs from tables that are a schedule, and its result equal to the reference's. -/
module

public import proofs.«01_k».proof.Proof.FfnI
public import proofs.«01_k».proof.Proof.FfnK
public import proofs.«01_k».proof.Proof.WordB
public import proofs.«01_k».proof.Proof.Gen.Pre_visits
public import Idealize.ShloMosaic.Lib.Quiescent
public import Idealize.ShloMosaic.Lib.Bf16Pair

@[expose] public section

set_option maxRecDepth 16384
set_option Elab.async false

noncomputable section

namespace Cert.FfnClaims

open Idealize.ShloMosaic Idealize.ShloMosaic.TcCoe Idealize.SL.Sem
open Cert.Ffn (Sched num num_of sched_of_pre)

attribute [local instance] Cert.Pre_visits.Gen.facts

section Ideals
open Cert.Kernel5Ideal Cert.Kernel5Ideal.Gen Cert.Ffn

variable (m : (ℓ : Loc nD τ sig) → Buf (Elt Ideal) ℓ)

/-- What the precondition says of the tables in memory. -/
theorem sched_ideal (h : Pre_Kernel5Ideal m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def tables : pre0.Contents (Elt Ideal) := fun k => m (((0 : Dev nD) : Thread nD τ).loc (pre0.ref k))

/-- The launch's blocks are inside its arrays. -/
def adm (h : Pre_Kernel5Ideal m) : (pcfg0 (F := Ideal)).Adm := ⟨tables m, ok_of (tables m)
  (fun i => by
    have S := (sched_ideal m h 0).hE (i 0).val (i 0).isLt
    rwa [num_of _ _ (i 0).isLt] at S)
  (fun i => by
    have S := (sched_ideal m h 0).hV (i 0).val (i 0).isLt
    rwa [num_of _ _ (i 0).isLt] at S)⟩

/-- Every device's tables are the ones read. -/
theorem tables_eq (c : Dev nD) (k : Fin 4) : m ((c : Thread nD τ).loc (pre0.ref k)) = tables m k := by
  rw [show c = 0 from Subsingleton.elim _ _]; rfl

end Ideals

/-- The idealized program's frame. -/
theorem frame_ideal : quiescent_Kernel5Ideal (hKernel5Ideal := Cert.Kernel5Ideal.Gen.facts) (hPre_visits := Cert.Pre_visits.Gen.facts) :=
  fun m g h => (θ_run _ _ _).mono (fun r hr => ⟨fun c => (hr.1 c).2, hr.2⟩) (Cert.Ffn.run (adm m h) m (sched_ideal m h 0) g (fun c k => tables_eq m c k))

section Words
open Cert.Kernel5 Cert.Kernel5.Gen Cert.FfnW

variable (m : (ℓ : Loc nD τ sig) → Buf (Elt Bits) ℓ)

/-- What the precondition says of the tables in memory. -/
theorem sched_word (h : Pre_Kernel5 m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def wtables : pre0.Contents (Elt Bits) := fun k => m (((0 : Dev nD) : Thread nD τ).loc (pre0.ref k))

/-- The launch's blocks are inside its arrays. -/
def wadm (h : Pre_Kernel5 m) : (pcfg0 (F := Bits)).Adm := ⟨wtables m, Cert.FfnW.ok_of (wtables m)
  (fun i => by
    have S := (sched_word m h 0).hE (i 0).val (i 0).isLt
    rwa [num_of _ _ (i 0).isLt] at S)
  (fun i => by
    have S := (sched_word m h 0).hV (i 0).val (i 0).isLt
    rwa [num_of _ _ (i 0).isLt] at S)⟩

/-- Every device's tables are the ones read. -/
theorem wtables_eq (c : Dev nD) (k : Fin 4) : m ((c : Thread nD τ).loc (pre0.ref k)) = wtables m k := by
  rw [show c = 0 from Subsingleton.elim _ _]; rfl

end Words

/-- The program's frame. -/
theorem frame_word : quiescent_Kernel5 (hKernel5 := Cert.Kernel5.Gen.facts) (hPre_visits := Cert.Pre_visits.Gen.facts) :=
  fun m g h => Cert.FfnW.run (wadm m h) m g (fun c k => wtables_eq m c k)

/-- The reference's frame. -/
theorem reference_frame : quiescent_Reference5Ideal (hReference5Ideal := Cert.Reference5Ideal.Gen.facts) := fun m g _ =>
  (θ_run _ _ _).mono (fun r h => ⟨fun c => (h c).2, Idealize.ShloMosaic.sem_eq_zero_of_no_sems rfl r.2⟩)
    (Cert.Reference5Ideal.Value.run (F := Ideal) m g)

/-- The same from tables that are a schedule. -/
theorem reference_frame_pre : quiescent_Reference5Ideal_pre_visits (hReference5Ideal := Cert.Reference5Ideal.Gen.facts)
    (hPre_visits := Cert.Pre_visits.Gen.facts) := fun m g _ => reference_frame m g trivial

/-- The rewrites the idealization made, each proved. -/
theorem preserves : preserves_Kernel5_Kernel5Ideal := ⟨IdealRules.bf16_pair.packStatement _, IdealRules.bf16_pair.statement _ _⟩

/-- From equal arguments the two programs end with equal results. -/
theorem algebraic : algebraic_Kernel5Ideal_Reference5Ideal (hKernel5Ideal := Cert.Kernel5Ideal.Gen.facts)
    (hReference5Ideal := Cert.Reference5Ideal.Gen.facts) (hPre_visits := Cert.Pre_visits.Gen.facts) := by
  intro m g m' g' h hargs
  refine ⟨fun c => Cert.Ffn.resOf (adm m h) m c, (θ_run _ _ _).mono (fun r hr c => hr.1 c) (Cert.Ffn.run (adm m h) m (sched_ideal m h 0) g (fun c k => tables_eq m c k)), ?_⟩
  refine (θ_run _ _ _).mono (fun r hr c => ?_) (Cert.Reference5Ideal.Value.run (F := Ideal) m' g')
  obtain ⟨h0, hr⟩ := hr c
  obtain ⟨a0, a1, a2, a3, a4, a5, a6, a7⟩ := hargs c
  refine ⟨h0.trans ?_, hr⟩
  rw [Cert.Reference5Ideal.Read.val_main_v42_eq, a0, a1, a2, a3, a4, a5, a6, a7]
  have S := sched_ideal m h c
  have hc : c = 0 := Subsingleton.elim _ _
  refine funext fun (z : Cert.Reference5Ideal.S262144x512.Idx) => ?_
  have z0 : (z 0).val < 262144 := (z 0).isLt
  have z1 : (z 1).val < 512 := (z 1).isLt
  obtain ⟨t, ht, hcov⟩ := S.cover ((z 0).val / 2) (by omega)
  have he := Cert.Ffn.expertOf_eq S ((z 0).val / 2) t ht hcov
  have hlt := S.hE t ht
  refine (Cert.FfnRef.out_eq _ _ _ _ S z ⟨(z 0).val / 2, by omega⟩ ⟨_, hlt⟩ ⟨(z 0).val % 2 * 512 + (z 1).val, by omega⟩ rfl he rfl).trans ?_
  subst hc
  exact (Cert.Ffn.res_row _ _ _ _ _ _ _ _ z ⟨(z 0).val / 2, by omega⟩ ⟨_, hlt⟩ ⟨(z 0).val % 2 * 512 + (z 1).val, by omega⟩ rfl he rfl).symm

end Cert.FfnClaims

end
-- ==== Proof.Layer.lean ====
/- One layer of the experts' weights, put in the first layer's place: what is known of the first layer is then known of any. -/
module

public import proofs.«01_k».proof.Proof.FfnG

@[expose] public section

set_option Elab.async false

noncomputable section

namespace Cert.Ffn

open Cert.Kernel5Ideal
open Idealize.ShloMosaic

/-- The gate's or the second matrices of one layer, at every layer. -/
def layIn (l : Fin 4) (w : S4x64x1024x256.Idx → EReal) : S4x64x1024x256.Idx → EReal := fun i => w (ix4 l (i 1 : Fin 64) (i 2 : Fin 1024) (i 3 : Fin 256))
/-- The last matrices of one layer, at every layer. -/
def layOut (l : Fin 4) (w : S4x64x256x1024.Idx → EReal) : S4x64x256x1024.Idx → EReal := fun i => w (ix4 l (i 1 : Fin 64) (i 2 : Fin 256) (i 3 : Fin 1024))

/-- An entry of a layer's matrix. -/
theorem layIn_at (l q : Fin 4) (w : S4x64x1024x256.Idx → EReal) (e : Fin 64) (k : Fin 1024) (f : Fin 256) : layIn l w (ix4 q e k f) = w (ix4 l e k f) := rfl
/-- An entry of a layer's last matrix. -/
theorem layOut_at (l q : Fin 4) (w : S4x64x256x1024.Idx → EReal) (e : Fin 64) (k : Fin 256) (f : Fin 1024) : layOut l w (ix4 q e k f) = w (ix4 l e k f) := rfl

end Cert.Ffn

end
-- ==== Proof.At1I.lean ====
/- The experts' launch at the second layer: from a memory whose tables are a schedule, the arguments end unchanged and the result is each row by its expert's weights of that layer. -/
module

public import proofs.«01_k».proof.Defs
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.FfnH
public import proofs.«01_k».proof.Proof.Layer

@[expose] public section

set_option maxRecDepth 16384
set_option Elab.async false

noncomputable section

namespace Cert.FfnAt1

open Cert.Kernel8Ideal Cert.Kernel8Ideal.Gen
open Cert.Ffn (at1 at2 Sched num num_of loAt hiAt rowsOf wIn wOut W0 W1 res goodAt good_step Vis gen at1_num layIn layOut)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Ideal) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Ideal) = Cert.Kernel5Ideal.defs₀ (F := Ideal) := by
  unfold defs₀ Cert.Kernel5Ideal.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Ideal)) (i : grid0.Coords) : cc0_transform_0 k0_off1_inb numel1_S1 pf i = ![(at1 i (pf 1)).toNat, 0] := Cert.Ffn.map0 pf i
/-- The second window's block is the expert's. -/
theorem map1 (pf : pre0.Contents (Elt Ideal)) (i : grid0.Coords) : cc0_transform_1 k0_off1_inb numel1_S1 pf i = ![1, (at1 i (pf 0)).toNat, 0, 0] :=
  congrArg (fun v : BitVec 32 => ![1, v.toNat, 0, 0]) (Cert.Ffn.at_eq (pf 0) i (k0_off1_inb i) numel1_S1)
/-- The third window's block is the expert's. -/
theorem map2 (pf : pre0.Contents (Elt Ideal)) (i : grid0.Coords) : cc0_transform_2 k0_off1_inb numel1_S1 pf i = ![1, (at1 i (pf 0)).toNat, 0, 0] :=
  congrArg (fun v : BitVec 32 => ![1, v.toNat, 0, 0]) (Cert.Ffn.at_eq (pf 0) i (k0_off1_inb i) numel1_S1)
/-- The fourth window's block is the expert's. -/
theorem map3 (pf : pre0.Contents (Elt Ideal)) (i : grid0.Coords) : cc0_transform_3 k0_off1_inb numel1_S1 pf i = ![1, (at1 i (pf 0)).toNat, 0, 0] :=
  congrArg (fun v : BitVec 32 => ![1, v.toNat, 0, 0]) (Cert.Ffn.at_eq (pf 0) i (k0_off1_inb i) numel1_S1)
/-- The output's block is the visit's tile. -/
theorem map4 (pf : pre0.Contents (Elt Ideal)) (i : grid0.Coords) : cc0_transform_4 k0_off1_inb numel1_S1 pf i = ![(at1 i (pf 1)).toNat, 0] := Cert.Ffn.map4 pf i

/-- The side condition of the pipeline, from the tables' ranges. -/
theorem ok_of (pf : pre0.Contents (Elt Ideal)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (1 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (1 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (1 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

/-! ## The pipeline -/

section
variable (a : (pcfg0 (F := Ideal)).Adm)

/-- The schedule of the tables a pipeline runs at. -/
abbrev sE : ℕ → ℕ := num (a.1 (0 : Fin 4))
/-- The tiles of the visits. -/
abbrev sV : ℕ → ℕ := num (a.1 (1 : Fin 4))
/-- The visits' first rows in the tile. -/
abbrev sL : ℕ → ℕ := num (a.1 (2 : Fin 4))
/-- The visits' last rows in the tile, plus one. -/
abbrev sH : ℕ → ℕ := num (a.1 (3 : Fin 4))

/-- The launch with its tables fixed. -/
abbrev cfgA : Pipeline.Cfg sig Λ₀ := cfg0 (F := Ideal) a

/-- The block the rows' window takes at a visit. -/
theorem index0 (t : Fin grid0.N) : ((cfgA a).win (0 : Fin 5)).index t = ![sV a t.val, 0] :=
  (map0 a.1 (grid0.coords t)).trans (congrArg (fun n => ![n, 0]) (at1_num _ t))
/-- The block the gate matrix's window takes. -/
theorem index1 (t : Fin grid0.N) : ((cfgA a).win (1 : Fin 5)).index t = ![1, sE a t.val, 0, 0] :=
  (map1 a.1 (grid0.coords t)).trans (congrArg (fun n => ![1, n, 0, 0]) (at1_num _ t))
/-- The block the second matrix's window takes. -/
theorem index2 (t : Fin grid0.N) : ((cfgA a).win (2 : Fin 5)).index t = ![1, sE a t.val, 0, 0] :=
  (map2 a.1 (grid0.coords t)).trans (congrArg (fun n => ![1, n, 0, 0]) (at1_num _ t))
/-- The block the last matrix's window takes. -/
theorem index3 (t : Fin grid0.N) : ((cfgA a).win (3 : Fin 5)).index t = ![1, sE a t.val, 0, 0] :=
  (map3 a.1 (grid0.coords t)).trans (congrArg (fun n => ![1, n, 0, 0]) (at1_num _ t))
/-- The block the output's window takes. -/
theorem index4 (t : Fin grid0.N) : ((cfgA a).win (4 : Fin 5)).index t = ![sV a t.val, 0] :=
  (map4 a.1 (grid0.coords t)).trans (congrArg (fun n => ![n, 0]) (at1_num _ t))

variable (S : Sched (sE a) (sV a) (sL a) (sH a)) (m : (ℓ : Loc nD τ sig) → Buf (Elt Ideal) ℓ) (c : Dev nD)

/-- A window's block at a point, read off its array at launch. -/
def iblk (w : Fin (cfgA a).W) (t : Fin (cfgA a).N) : (((cfgA a).win w).xblock ((cfgA a).grid.coords t)).Idx → Elt Ideal ((cfgA a).win w).elt :=
  (((cfgA a).win w).blk t).view.read (Elt Ideal) (m (((cfgA a).win w).arr.view.loc (c : Thread nD τ)))

include S
/-- The rows' block as a function of the tile. -/
theorem blk0 (t : Fin grid0.N) : (iblk a m c (0 : Fin 5) t : S2048x512.Idx → BitVec 32) = rowsOf (m ((c : Thread nD τ).loc main_arg0)) (sV a t.val) := by
  have hv := S.hV t.val t.isLt
  funext j
  have hj0 : (j 0).val < 2048 := (j 0).isLt
  show (m ((c : Thread nD τ).loc main_arg0) : S131072x512.Idx → BitVec 32) ((((cfgA a).win (0 : Fin 5)).rect t).emb j) = _
  refine congrArg _ (funext fun b => Fin.ext ?_)
  refine (Pipeline.Window.rect_emb_val ((cfgA a).win (0 : Fin 5)) t j b rfl).trans ?_
  rw [index0]
  match b with
  | ⟨0, _⟩ => show sV a t.val * 2048 + (j 0).val = (sV a t.val * 2048 + (j 0).val) % 131072; rw [Nat.mod_eq_of_lt (by omega)]
  | ⟨1, _⟩ => show 0 * 512 + (j 1).val = (j 1).val; omega
/-- The gate matrix's block as a function of the expert. -/
theorem blk1 (t : Fin grid0.N) : (iblk a m c (1 : Fin 5) t : S1x1x1024x256.Idx → EReal) = wIn (layIn 1 (m ((c : Thread nD τ).loc main_arg5))) (sE a t.val) := by
  have hv := S.hE t.val t.isLt
  funext j
  have hj0 : (j 0).val < 1 := (j 0).isLt
  have hj1 : (j 1).val < 1 := (j 1).isLt
  show (m ((c : Thread nD τ).loc main_arg5) : S4x64x1024x256.Idx → EReal) ((((cfgA a).win (1 : Fin 5)).rect t).emb j) =
    (m ((c : Thread nD τ).loc main_arg5) : S4x64x1024x256.Idx → EReal) (ix4 1 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (1 : Fin 5)) t j b rfl).trans ?_
  rw [index1]
  match b with
  | ⟨0, _⟩ => show 1 * 1 + (j 0).val = 1; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The second matrix's block as a function of the expert. -/
theorem blk2 (t : Fin grid0.N) : (iblk a m c (2 : Fin 5) t : S1x1x1024x256.Idx → EReal) = wIn (layIn 1 (m ((c : Thread nD τ).loc main_arg6))) (sE a t.val) := by
  have hv := S.hE t.val t.isLt
  funext j
  have hj0 : (j 0).val < 1 := (j 0).isLt
  have hj1 : (j 1).val < 1 := (j 1).isLt
  show (m ((c : Thread nD τ).loc main_arg6) : S4x64x1024x256.Idx → EReal) ((((cfgA a).win (2 : Fin 5)).rect t).emb j) =
    (m ((c : Thread nD τ).loc main_arg6) : S4x64x1024x256.Idx → EReal) (ix4 1 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (2 : Fin 5)) t j b rfl).trans ?_
  rw [index2]
  match b with
  | ⟨0, _⟩ => show 1 * 1 + (j 0).val = 1; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The last matrix's block as a function of the expert. -/
theorem blk3 (t : Fin grid0.N) : (iblk a m c (3 : Fin 5) t : S1x1x256x1024.Idx → EReal) = wOut (layOut 1 (m ((c : Thread nD τ).loc main_arg7))) (sE a t.val) := by
  have hv := S.hE t.val t.isLt
  funext j
  have hj0 : (j 0).val < 1 := (j 0).isLt
  have hj1 : (j 1).val < 1 := (j 1).isLt
  show (m ((c : Thread nD τ).loc main_arg7) : S4x64x256x1024.Idx → EReal) ((((cfgA a).win (3 : Fin 5)).rect t).emb j) =
    (m ((c : Thread nD τ).loc main_arg7) : S4x64x256x1024.Idx → EReal) (ix4 1 (⟨sE a t.val % 64, Nat.mod_lt _ (by decide)⟩ : Fin 64) (j 2 : Fin 256) (j 3 : Fin 1024))
  refine congrArg _ (funext fun b => Fin.ext ?_)
  refine (Pipeline.Window.rect_emb_val ((cfgA a).win (3 : Fin 5)) t j b rfl).trans ?_
  rw [index3]
  match b with
  | ⟨0, _⟩ => show 1 * 1 + (j 0).val = 1; omega
  | ⟨1, _⟩ => show sE a t.val * 1 + (j 1).val = sE a t.val % 64; rw [Nat.mod_eq_of_lt hv]; omega
  | ⟨2, _⟩ => show 0 * 256 + (j 2).val = (j 2).val; omega
  | ⟨3, _⟩ => show 0 * 1024 + (j 3).val = (j 3).val; omega

/-- Where the output's block sits in its array. -/
theorem emb4 (t : Fin grid0.N) (y : S4096x512.Idx) : ((((cfgA a).win (4 : Fin 5)).rect t).emb y : S262144x512.Idx)
    = ix2 ⟨(sV a t.val * 4096 + (y 0).val) % 262144, Nat.mod_lt _ (by decide)⟩ (y 1 : Fin 512) := by
  have hv := S.hV t.val t.isLt
  have hj0 : (y 0).val < 4096 := (y 0).isLt
  refine (funext fun b => Fin.ext ?_)
  refine (Pipeline.Window.rect_emb_val ((cfgA a).win (4 : Fin 5)) t y b rfl).trans ?_
  rw [index4]
  match b with
  | ⟨0, _⟩ => show sV a t.val * 4096 + (y 0).val = (sV a t.val * 4096 + (y 0).val) % 262144; rw [Nat.mod_eq_of_lt (by omega)]
  | ⟨1, _⟩ => show 0 * 512 + (y 1).val = (y 1).val; omega
omit S

/-- A tile's block is written back when the next visit is of another tile, or at the last; -/
theorem flush_true (t : Fin grid0.N) (h : ((cfgA a).win (4 : Fin 5)).flush t = true) : t.val = 126 ∨ (t.val + 1 < 127 ∧ sV a (t.val + 1) ≠ sV a t.val) := by
  have ht : t.val < 127 := t.isLt
  unfold Pipeline.Window.flush at h
  rw [Bool.and_eq_true, Bool.or_eq_true, decide_eq_true_eq, decide_eq_true_eq] at h
  rcases h.2 with e | ⟨hN, e⟩
  · left; have : t.val + 1 = 127 := e; omega
  · right
    refine ⟨hN, fun q => e ?_⟩
    rw [index4, index4 a t]
    show ![sV a (t.val + 1), 0] = _
    rw [q]
/-- otherwise the next visit goes on with it. -/
theorem flush_false (t : Fin grid0.N) (h : ((cfgA a).win (4 : Fin 5)).flush t = false) : t.val + 1 < 127 ∧ sV a (t.val + 1) = sV a t.val := by
  have ht : t.val < 127 := t.isLt
  by_contra q
  refine absurd h (by
    rw [Bool.not_eq_false]
    unfold Pipeline.Window.flush
    rw [Bool.and_eq_true, Bool.or_eq_true, decide_eq_true_eq, decide_eq_true_eq]
    refine ⟨rfl, ?_⟩
    by_cases hN : t.val + 1 < 127
    · right
      refine ⟨hN, fun e => q ⟨hN, ?_⟩⟩
      rw [index4, index4 a t] at e
      exact congrFun e 0
    · left
      show t.val + 1 = 127
      omega)

end

section
variable (pf : pre0.Contents (Elt Ideal))

/-- The schedule of the tables: the visits' experts, -/
abbrev qE : ℕ → ℕ := num (pf (0 : Fin 4))
/-- their tiles, -/
abbrev qV : ℕ → ℕ := num (pf (1 : Fin 4))
/-- their first rows, -/
abbrev qL : ℕ → ℕ := num (pf (2 : Fin 4))
/-- and their last, plus one. -/
abbrev qH : ℕ → ℕ := num (pf (3 : Fin 4))

variable (x : S131072x512.Idx → BitVec 32) (wg wu : S4x64x1024x256.Idx → EReal) (wd : S4x64x256x1024.Idx → EReal)

/-- What the body keeps between points: the last visit's weights, and the tables. -/
def Kept (c : Dev nD) (n : ℕ) : sProp R5 :=
  iprop(∃ s0 s1, ⌜n ≠ 0 → (s0 : S1024x512.Idx → EReal) = W0 wg wu (qE pf (n - 1)) ∧ (s1 : S256x1024.Idx → EReal) = W1 wd (qE pf (n - 1))⌝
    ∗ (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

variable (S : Sched (qE pf) (qV pf) (qL pf) (qH pf))

set_option maxHeartbeats 4000000 in
include S in
/-- The body at a point, from any buffers that hold the blocks of its windows. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y : S4096x512.Idx → EReal) :
    iprop(Kept pf wg wu wd c t.val ∗ O
        ∗ owns (c : Thread nD τ) m0 fullShare (rowsOf x (qV pf t.val))
        ∗ owns (c : Thread nD τ) m1 fullShare (wIn wg (qE pf t.val))
        ∗ owns (c : Thread nD τ) m2 fullShare (wIn wu (qE pf t.val))
        ∗ owns (c : Thread nD τ) m3 fullShare (wOut wd (qE pf t.val))
        ∗ owns (c : Thread nD τ) m4 fullShare Y)
      ⊢ wp frame (wpE (defs₀ (F := Ideal)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf wg wu wd c (t.val + 1) ∗ O
          ∗ owns (c : Thread nD τ) m0 fullShare (rowsOf x (qV pf t.val))
          ∗ owns (c : Thread nD τ) m1 fullShare (wIn wg (qE pf t.val))
          ∗ owns (c : Thread nD τ) m2 fullShare (wIn wu (qE pf t.val))
          ∗ owns (c : Thread nD τ) m3 fullShare (wOut wd (qE pf t.val))
          ∗ ∃ X, ⌜Vis (qL pf t.val) (qH pf t.val) (gen (rowsOf x (qV pf t.val)) (W0 wg wu (qE pf t.val)) (W1 wd (qE pf t.val))) Y X⌝
            ∗ owns (c : Thread nD τ) m4 fullShare X) := by
  rw [defs_eq]
  exact Cert.Ffn.visit pf x wg wu wd S c t m0 h0 m1 h1 m2 h2 m3 h3 m4 h4 O Y

end

section
variable (a : (pcfg0 (F := Ideal)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Ideal) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (x : S131072x512.Idx → BitVec 32) (wg wu : S4x64x1024x256.Idx → EReal) (wd : S4x64x256x1024.Idx → EReal)

/-- What the body keeps between points, at the launch's tables. -/
abbrev Phi (c : Dev nD) (n : ℕ) : sProp R5 := Kept a.1 wg wu wd c n

variable (S : Sched (sE a) (sV a) (sL a) (sH a))

set_option maxHeartbeats 4000000 in
include S in
/-- The body at a point, from the blocks its windows hold there. -/
theorem sound (c : Dev nD) (t : Fin (cfgA a).N) (O : sProp R5) (Y : S4096x512.Idx → EReal) :
    iprop(Phi a wg wu wd c t.val ∗ O
        ∗ owns (c : Thread nD τ) (ms0 a t) fullShare (rowsOf x (sV a t.val))
        ∗ owns (c : Thread nD τ) (ms1 a t) fullShare (wIn wg (sE a t.val))
        ∗ owns (c : Thread nD τ) (ms2 a t) fullShare (wIn wu (sE a t.val))
        ∗ owns (c : Thread nD τ) (ms3 a t) fullShare (wOut wd (sE a t.val))
        ∗ owns (c : Thread nD τ) (ms4 a t) fullShare Y)
      ⊢ wp frame (wpE (defs₀ (F := Ideal)) Variants.none c none) Set.univ (bodyAt a t) fun _ =>
        iprop(Phi a wg wu wd c (t.val + 1) ∗ O
          ∗ owns (c : Thread nD τ) (ms0 a t) fullShare (rowsOf x (sV a t.val))
          ∗ owns (c : Thread nD τ) (ms1 a t) fullShare (wIn wg (sE a t.val))
          ∗ owns (c : Thread nD τ) (ms2 a t) fullShare (wIn wu (sE a t.val))
          ∗ owns (c : Thread nD τ) (ms3 a t) fullShare (wOut wd (sE a t.val))
          ∗ ∃ X, ⌜Vis (sL a t.val) (sH a t.val) (gen (rowsOf x (sV a t.val)) (W0 wg wu (sE a t.val)) (W1 wd (sE a t.val))) Y X⌝
            ∗ owns (c : Thread nD τ) (ms4 a t) fullShare X) :=
  visit a.1 x wg wu wd S c t (ms0 a t) (hs0 a t) (ms1 a t) (hs1 a t) (ms2 a t) (hs2 a t) (ms3 a t) (hs3 a t) (ms4 a t) (hs4 a t) O Y

end

section
variable (a : (pcfg0 (F := Ideal)).Adm) (m : (ℓ : Loc nD τ sig) → Buf (Elt Ideal) ℓ)

/-- The result of a launch memory, on a core. -/
abbrev resOf (c : Dev nD) : S262144x512.Idx → EReal :=
  res (sE a) (sV a) (sL a) (sH a) (m ((c : Thread nD τ).loc main_arg0)) (layIn 1 (m ((c : Thread nD τ).loc main_arg5))) (layIn 1 (m ((c : Thread nD τ).loc main_arg6))) (layOut 1 (m ((c : Thread nD τ).loc main_arg7)))
/-- A buffer's first rows are the result's. -/
abbrev goodOf (c : Dev nD) (k h : ℕ) (X : S4096x512.Idx → EReal) : Prop :=
  goodAt (sE a) (sV a) (sL a) (sH a) (m ((c : Thread nD τ).loc main_arg0)) (layIn 1 (m ((c : Thread nD τ).loc main_arg5))) (layIn 1 (m ((c : Thread nD τ).loc main_arg6))) (layOut 1 (m ((c : Thread nD τ).loc main_arg7))) k h X

/-- The pipeline's proof data: inputs are left as found; the output's buffer, its rows done so far being the result's, has
    the visit's rows done too. -/
def rdats (_ : Fin 1) (c : Dev nD) : RDat τ (Elt Ideal) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => goodOf a m c (sV a t.val) (loAt (sL a) (sH a) t.val) Y → goodOf a m c (sV a t.val) (hiAt (sL a) (sH a) t.val) X
  Φ n := Phi a (layIn 1 (m ((c : Thread nD τ).loc main_arg5))) (layIn 1 (m ((c : Thread nD τ).loc main_arg6))) (layOut 1 (m ((c : Thread nD τ).loc main_arg7))) c n.val
  q _ := fullShare
  owed _ := 0

variable (S : Sched (sE a) (sV a) (sL a) (sH a))

/-- The rows' buffer holds the tile's rows. -/
theorem found0 (c : Dev nD) (t : Fin (cfgA a).N) (Y) (h : (rdats a m 0 c).Finds (0 : Fin 5) t Y) : Y = iblk a m c (0 : Fin 5) t := by
  obtain ⟨d, e⟩ := RDat.finds_in_eq_fetched (rdats a m 0 c) (0 : Fin 5) rfl (fun _ _ _ => rfl) (fun _ _ _ h => h) t Y h
  exact e.trans (by unfold RDat.fetched RDat.blockOf iblk; rfl)

/-- The gate matrix's buffer holds the expert's. -/
theorem found1 (c : Dev nD) (t : Fin (cfgA a).N) (Y) (h : (rdats a m 0 c).Finds (1 : Fin 5) t Y) : Y = iblk a m c (1 : Fin 5) t := by
  obtain ⟨d, e⟩ := RDat.finds_in_eq_fetched (rdats a m 0 c) (1 : Fin 5) rfl (fun _ _ _ => rfl) (fun _ _ _ h => h) t Y h
  exact e.trans (by unfold RDat.fetched RDat.blockOf iblk; rfl)

/-- The second matrix's buffer holds the expert's. -/
theorem found2 (c : Dev nD) (t : Fin (cfgA a).N) (Y) (h : (rdats a m 0 c).Finds (2 : Fin 5) t Y) : Y = iblk a m c (2 : Fin 5) t := by
  obtain ⟨d, e⟩ := RDat.finds_in_eq_fetched (rdats a m 0 c) (2 : Fin 5) rfl (fun _ _ _ => rfl) (fun _ _ _ h => h) t Y h
  exact e.trans (by unfold RDat.fetched RDat.blockOf iblk; rfl)

/-- The last matrix's buffer holds the expert's. -/
theorem found3 (c : Dev nD) (t : Fin (cfgA a).N) (Y) (h : (rdats a m 0 c).Finds (3 : Fin 5) t Y) : Y = iblk a m c (3 : Fin 5) t := by
  obtain ⟨d, e⟩ := RDat.finds_in_eq_fetched (rdats a m 0 c) (3 : Fin 5) rfl (fun _ _ _ => rfl) (fun _ _ _ h => h) t Y h
  exact e.trans (by unfold RDat.fetched RDat.blockOf iblk; rfl)

set_option maxHeartbeats 4000000 in
include S in
/-- The library's body obligation. -/
theorem obligation (c : Dev nD) : RDat.BodyObligation (rdats a m 0 c) (defs₀ (F := Ideal)) Variants.none () Set.univ := fun t Y hY => by
  have e0 := (found0 a m c t _ (hY (0 : Fin 5))).trans (blk0 a S m c t)
  have e1 := (found1 a m c t _ (hY (1 : Fin 5))).trans (blk1 a S m c t)
  have e2 := (found2 a m c t _ (hY (2 : Fin 5))).trans (blk2 a S m c t)
  have e3 := (found3 a m c t _ (hY (3 : Fin 5))).trans (blk3 a S m c t)
  rw [bigSep_W0, e0, e1, e2, e3]
  have hs := sound a (m ((c : Thread nD τ).loc main_arg0)) (layIn 1 (m ((c : Thread nD τ).loc main_arg5))) (layIn 1 (m ((c : Thread nD τ).loc main_arg6))) (layOut 1 (m ((c : Thread nD τ).loc main_arg7))) S c t
    ((rdats a m 0 c).owesAt () t.castSucc) (Y (4 : Fin 5))
  refine BIBase.Entails.trans ?_ (hs.trans (wp_mono frame _ Set.univ fun r => ?_))
  · exact .rfl
  · rw [bigSep_W0, show (rdats a m 0 c).Φ t.succ = Phi a (layIn 1 (m ((c : Thread nD τ).loc main_arg5))) (layIn 1 (m ((c : Thread nD τ).loc main_arg6))) (layOut 1 (m ((c : Thread nD τ).loc main_arg7))) c (t.val + 1) from rfl,
      show (rdats a m 0 c).owesAt () t.succ = (rdats a m 0 c).owesAt () t.castSucc from rfl]
    iintro ⟨HP, HO, H0, H1, H2, H3, %X, %hX, H4⟩
    isplitl [HP]; · iexact HP
    isplitl [HO]; · iexact HO
    isplitl [H0]
    · iexists _; isplitr; swap
      · iexact H0
      · ipureintro; exact e0.symm
    isplitl [H1]
    · iexists _; isplitr; swap
      · iexact H1
      · ipureintro; exact e1.symm
    isplitl [H2]
    · iexists _; isplitr; swap
      · iexact H2
      · ipureintro; exact e2.symm
    isplitl [H3]
    · iexists _; isplitr; swap
      · iexact H3
      · ipureintro; exact e3.symm
    iexists X; isplitr; swap
    · iexact H4
    · ipureintro
      exact fun hg => good_step _ _ _ _ S t.val t.isLt _ _ hg hX

end

section
variable (a : (pcfg0 (F := Ideal)).Adm) (m : (ℓ : Loc nD τ sig) → Buf (Elt Ideal) ℓ) (S : Sched (sE a) (sV a) (sL a) (sH a))

include S
/-- What the body finds in the output's buffer: its rows below the visit's are the result's. -/
theorem found4 (c : Dev nD) : ∀ (n : ℕ) (hn : n < 127) (Y : S4096x512.Idx → EReal), (rdats a m 0 c).Finds (4 : Fin 5) (⟨n, hn⟩ : Fin grid0.N) Y →
    goodOf a m c (sV a n) (loAt (sL a) (sH a) n) Y
  | 0, hn, Y, _ => fun y hy => by
    rw [S.lo_zero.1] at hy
    exact absurd hy (Nat.not_lt_zero _)
  | n + 1, hn, Y, h => by
    rcases S.step n hn with ⟨eV, eL⟩ | ⟨eV, eL, eH⟩
    · have hp := ((rdats a m 0 c).finds_of_pos (w := (4 : Fin 5)) (t := (⟨n + 1, hn⟩ : Fin grid0.N)) rfl (Nat.succ_ne_zero n) Y).mp h
      rcases hp with hf | ⟨Y', hY', hA⟩
      · rcases flush_true a ⟨n, Nat.lt_of_succ_lt hn⟩ hf with e | ⟨-, e⟩
        · have e' : n = 126 := e
          omega
        · exact absurd eV e
      · have hg := found4 c n (Nat.lt_of_succ_lt hn) Y' hY'
        have hX : goodOf a m c (sV a n) (hiAt (sL a) (sH a) n) Y := hA hg
        rw [eV, eL]
        exact hX
    · intro y hy
      rw [eL] at hy
      exact absurd hy (Nat.not_lt_zero _)

/-- What the body leaves there. -/
theorem left4 (c : Dev nD) (t : Fin grid0.N) (X : S4096x512.Idx → EReal) (h : (rdats a m 0 c).Leaves (4 : Fin 5) t X) :
    goodOf a m c (sV a t.val) (hiAt (sL a) (sH a) t.val) X := by
  obtain ⟨Y, hY, hA⟩ := h
  exact hA (found4 a m S c t.val t.isLt Y hY)

/-- What the result's array may hold before a point: the tiles behind are the result's. -/
theorem arr_good (c : Dev nD) : ∀ (n : ℕ) (hn : n ≤ 127) (G : S262144x512.Idx → EReal), (rdats a m 0 c).ArrAt (4 : Fin 5) n G →
    ∀ z : S262144x512.Idx, (z 0).val / 4096 < (if n < 127 then sV a n else 64) → G z = resOf a m c z
  | 0, hn, G, _, z, hz => by
    rw [if_pos (by decide), S.lo_zero.2] at hz
    exact absurd hz (Nat.not_lt_zero _)
  | n + 1, hn, G, h, z, hz => by
    have hlt : n < 127 := hn
    have hz0 : (z 0).val < 262144 := (z 0).isLt
    unfold RDat.ArrAt at h
    dsimp only at h
    rw [dif_pos (show n < (cfgA a).N from hlt)] at h
    by_cases hf : ((cfgA a).win (4 : Fin 5)).flush (⟨n, hlt⟩ : Fin grid0.N) = true
    · rw [if_pos hf] at h
      obtain ⟨G₀, X, hG₀, hX, rfl⟩ := h
      have hgX := left4 a m S c ⟨n, hlt⟩ X hX
      have hend : hiAt (sL a) (sH a) n = 2048 ∧ (if n + 1 < 127 then sV a (n + 1) else 64) = sV a n + 1 := by
        rcases flush_true a ⟨n, hlt⟩ hf with e | ⟨e1, e2⟩
        · have e' : n = 126 := e
          subst e'
          exact ⟨S.at_end.2, by rw [if_neg (by decide), S.at_end.1]⟩
        · rw [if_pos e1]
          rcases S.step n e1 with ⟨eV, -⟩ | ⟨eV, -, eH⟩
          · exact absurd eV e2
          · exact ⟨eH, eV⟩
      rw [hend.2] at hz
      have hv := S.hV n hlt
      by_cases hk : (z 0).val / 4096 = sV a n
      · have hb : (z 0).val - sV a n * 4096 < 4096 := by omega
        have hzz : z = ((((cfgA a).win (4 : Fin 5)).rect (⟨n, hlt⟩ : Fin grid0.N)).emb (ix2 (⟨(z 0).val - sV a n * 4096, hb⟩ : Fin 4096) (z 1 : Fin 512)) : S262144x512.Idx) := by
          rw [emb4 a S]
          funext b
          match b with
          | ⟨0, _⟩ =>
            refine Fin.ext ?_
            show (z 0).val = (sV a n * 4096 + ((z 0).val - sV a n * 4096)) % 262144
            rw [Nat.mod_eq_of_lt (by omega)]
            omega
          | ⟨1, _⟩ => rfl
        have hw := View.write_emb_of_mem (Val := Elt Ideal) (v := (((cfgA a).win (4 : Fin 5)).blk (⟨n, hlt⟩ : Fin grid0.N)).view) G₀ (((cfgA a).win (4 : Fin 5)).cut ((cfgA a).grid.coords (⟨n, hlt⟩ : Fin grid0.N)) X) (M := Finset.univ)
          (x := (ix2 (⟨(z 0).val - sV a n * 4096, hb⟩ : Fin 4096) (z 1 : Fin 512) : S4096x512.Idx)) (Finset.mem_univ _)
        have hg := hgX (ix2 (⟨(z 0).val - sV a n * 4096, hb⟩ : Fin 4096) (z 1 : Fin 512)) (by
          show ((z 0).val - sV a n * 4096) / 2 < hiAt (sL a) (sH a) n
          rw [hend.1]
          omega)
        have hg' := hg.trans (congrArg (resOf a m c) (emb4 a S (⟨n, hlt⟩ : Fin grid0.N) (ix2 (⟨(z 0).val - sV a n * 4096, hb⟩ : Fin 4096) (z 1 : Fin 512))).symm)
        refine (congrArg _ hzz).trans (hw.trans (Eq.trans ?_ (hg'.trans (congrArg (resOf a m c) hzz.symm))))
        rfl
      · have hold := arr_good c n (Nat.le_of_lt hlt) G₀ hG₀ z (by rw [if_pos hlt]; omega)
        refine Eq.trans ?_ hold
        refine View.write_of_not_mem (Val := Elt Ideal) (v := (((cfgA a).win (4 : Fin 5)).blk (⟨n, hlt⟩ : Fin grid0.N)).view) G₀ _ Finset.univ ?_
        intro hmem
        obtain ⟨y, -, hy⟩ := Finset.mem_map.mp hmem
        have hy' : ((((cfgA a).win (4 : Fin 5)).rect (⟨n, hlt⟩ : Fin grid0.N)).emb y : S262144x512.Idx) = z := hy
        rw [emb4 a S] at hy'
        have h0 := congrArg (fun q : S262144x512.Idx => (q 0).val) hy'
        have hy0 : ((y : S4096x512.Idx) 0).val < 4096 := ((y : S4096x512.Idx) 0).isLt
        have h1 : (sV a n * 4096 + ((y : S4096x512.Idx) 0).val) % 262144 = (z 0).val := h0
        rw [Nat.mod_eq_of_lt (by omega)] at h1
        omega
    · rw [if_neg hf] at h
      rw [Bool.not_eq_true] at hf
      obtain ⟨e1, e2⟩ := flush_false a ⟨n, hlt⟩ hf
      rw [if_pos e1] at hz
      refine arr_good c n (Nat.le_of_lt hlt) G h z ?_
      rw [if_pos hlt]
      exact e2 ▸ hz

/-- At the end the array is the result. -/
theorem arr_end (c : Dev nD) (G : S262144x512.Idx → EReal) (h : (rdats a m 0 c).ArrAt (4 : Fin 5) 127 G) : G = resOf a m c :=
  funext fun z => arr_good a m S c 127 le_rfl G h z (by
    have hz0 : (z 0).val < 262144 := (z 0).isLt
    rw [if_neg (by decide)]
    omega)
omit S

/-! ## The launch -/

/-- The list of launches with their tables fixed. -/
abbrev pcsA : Fin 1 → Pipeline.Cfg sig Λ₀ := Pipeline.pin (pcfgs (F := Ideal)) fun _ => a

/-- The launch's element. -/
def u5 : UR sig nD τ :=
  initOf (Pipeline.cells (pcsA a) ((launch0 (F := Ideal)).cellOf_inj fun _ => a))
    (Pipeline.launchToks (pcsA a) ((launch0 (F := Ideal)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Ideal)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Before the first point nothing is known of the weights kept. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a (layIn 1 (m ((c : Thread nD τ).loc main_arg5))) (layIn 1 (m ((c : Thread nD τ).loc main_arg6))) (layOut 1 (m ((c : Thread nD τ).loc main_arg7))) c 0 from rfl]
  unfold Phi Kept
  iintro ⟨-, ⟨HT0, HT1, HT2, HT3⟩, ⟨%a0, HS0⟩, ⟨%a1, HS1⟩⟩
  iexists a0, a1
  isplitr
  · ipureintro
    exact fun h => absurd rfl h
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a (layIn 1 (m ((c : Thread nD τ).loc main_arg5))) (layIn 1 (m ((c : Thread nD τ).loc main_arg6))) (layOut 1 (m ((c : Thread nD τ).loc main_arg7))) c (cfgA a).N from rfl, Pipeline.ownSems0_none]
  unfold Phi Kept
  iintro ⟨%a0, %a1, -, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
include S in
/-- The run: the arguments end unchanged, the result is each row by its expert's weights, every counter is zero. -/
theorem run (ρ : Dev nD → PrngReg) (hp : ∀ (c : Dev nD) (k : Fin 4), m ((c : Thread nD τ).loc (pre0.ref k)) = a.1 k) :
    θ_run (defs (F := Ideal)) (onTc (τ := τ) (main (F := Ideal))) ⟨m, fun _ => 0, ρ⟩ (fun r => (∀ c : Dev nD,
      (r.2.mem ((c.tc : Thread nD τ).loc main_v0) : S262144x512.Idx → EReal) = resOf a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Ideal)) (fun _ => a) (rdats a m) () ((launch0 (F := Ideal)).cellOf_inj fun _ => a) (0 : Fin 1)
    (launch0 (F := Ideal)).win.to₀ (Pipeline.OwnSemFacts.none _) (launch0 (F := Ideal)).pre EP5 defs₀ Variants.none m ρ main
    (hbody := fun c => obligation a m S c) (hne := (launch0 (F := Ideal)).block_pos)
    (harr := (launch0 (F := Ideal)).arr_whole) (hstage := (launch0 (F := Ideal)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Ideal)).win.arr_inj) (launch0 (F := Ideal)).arr_whole
      (fun w hw => (rdats a m 0 c).q_eq_shareOf_of_share_full (launch0 (F := Ideal)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨arr_end a m S c _ (hw (4 : Fin 5)), i0, (ht 0).trans (hp c 0).symm, (ht 1).trans (hp c 1).symm, (ht 2).trans (hp c 2).symm, (ht 3).trans (hp c 3).symm, i1, i2, i3⟩, hz⟩)

end

end Cert.FfnAt1
-- ==== Proof.At1W.lean ====
/- The experts' launch at the second layer on the machine's words: from tables in range the arguments end unchanged. -/
module

public import proofs.«01_k».proof.Defs
public import proofs.«01_k».proof.Proof.Gen.Kernel8
public import proofs.«01_k».proof.Proof.Gen.Kernel8.Launch
public import proofs.«01_k».proof.Proof.Gen.Kernel8.Skeleton
public import proofs.«01_k».proof.Proof.WordB

@[expose] public section

set_option maxRecDepth 16384
set_option Elab.async false

noncomputable section

namespace Cert.FfnWAt1

open Cert.Kernel8 Cert.Kernel8.Gen
open Cert.FfnW (at1)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Bits) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Bits) = Cert.Kernel5.defs₀ (F := Bits) := by
  unfold defs₀ Cert.Kernel5.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Bits)) (i : grid0.Coords) : cc0_transform_0 k0_off1_inb numel1_S1 pf i = ![(at1 i (pf 1)).toNat, 0] := Cert.FfnW.map0 pf i
/-- The second window's block is the expert's. -/
theorem map1 (pf : pre0.Contents (Elt Bits)) (i : grid0.Coords) : cc0_transform_1 k0_off1_inb numel1_S1 pf i = ![1, (at1 i (pf 0)).toNat, 0, 0] :=
  congrArg (fun v : BitVec 32 => ![1, v.toNat, 0, 0]) (Cert.FfnW.at_eq (pf 0) i (k0_off1_inb i) numel1_S1)
/-- The third window's block is the expert's. -/
theorem map2 (pf : pre0.Contents (Elt Bits)) (i : grid0.Coords) : cc0_transform_2 k0_off1_inb numel1_S1 pf i = ![1, (at1 i (pf 0)).toNat, 0, 0] :=
  congrArg (fun v : BitVec 32 => ![1, v.toNat, 0, 0]) (Cert.FfnW.at_eq (pf 0) i (k0_off1_inb i) numel1_S1)
/-- The fourth window's block is the expert's. -/
theorem map3 (pf : pre0.Contents (Elt Bits)) (i : grid0.Coords) : cc0_transform_3 k0_off1_inb numel1_S1 pf i = ![1, (at1 i (pf 0)).toNat, 0, 0] :=
  congrArg (fun v : BitVec 32 => ![1, v.toNat, 0, 0]) (Cert.FfnW.at_eq (pf 0) i (k0_off1_inb i) numel1_S1)
/-- The output's block is the visit's tile. -/
theorem map4 (pf : pre0.Contents (Elt Bits)) (i : grid0.Coords) : cc0_transform_4 k0_off1_inb numel1_S1 pf i = ![(at1 i (pf 1)).toNat, 0] := Cert.FfnW.map4 pf i

/-- The side condition of the pipeline, from the tables' ranges. -/
theorem ok_of (pf : pre0.Contents (Elt Bits)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (1 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (1 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (1 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

section
variable (pf : pre0.Contents (Elt Bits))

/-- What the body keeps between points: its scratches at some contents, and the tables. -/
def Kept (c : Dev nD) : sProp R5 :=
  iprop(∃ s0 s1, (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

set_option maxHeartbeats 4000000 in
/-- The body at a point, from any buffers. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Kept pf c ∗ O
        ∗ owns (c : Thread nD τ) m0 fullShare Y0 ∗ owns (c : Thread nD τ) m1 fullShare Y1
        ∗ owns (c : Thread nD τ) m2 fullShare Y2 ∗ owns (c : Thread nD τ) m3 fullShare Y3
        ∗ owns (c : Thread nD τ) m4 fullShare Y)
      ⊢ wp frame (wpE (defs₀ (F := Bits)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf c ∗ O
          ∗ owns (c : Thread nD τ) m0 fullShare Y0 ∗ owns (c : Thread nD τ) m1 fullShare Y1
          ∗ owns (c : Thread nD τ) m2 fullShare Y2 ∗ owns (c : Thread nD τ) m3 fullShare Y3
          ∗ ∃ X, owns (c : Thread nD τ) m4 fullShare X) := by
  rw [defs_eq]
  exact Cert.FfnW.visit pf c t m0 h0 m1 h1 m2 h2 m3 h3 m4 h4 O Y0 Y1 Y2 Y3 Y

end

section
/-- The launch with its tables fixed. -/
abbrev cfgA (a : (pcfg0 (F := Bits)).Adm) : Pipeline.Cfg sig Λ₀ := cfg0 (F := Bits) a

variable (a : (pcfg0 (F := Bits)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Bits) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (m : (ℓ : Loc nD τ sig) → Buf (Elt Bits) ℓ)

/-- What the body keeps between points, at the launch's tables. -/
abbrev Phi (c : Dev nD) : sProp R5 := Kept a.1 c

/-- The pipeline's proof data: the inputs' buffers are left as found, of the output's nothing is said. -/
def rdats (_ : Fin 1) (c : Dev nD) : RDat τ (Elt Bits) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ _ => True
  Φ n := Phi a c
  q _ := fullShare
  owed _ := 0

set_option maxHeartbeats 4000000 in
/-- The body at a point. -/
theorem sound (c : Dev nD) (t : Fin (cfgA a).N) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Phi a c ∗ O
        ∗ owns (c : Thread nD τ) (ms0 a t) fullShare Y0 ∗ owns (c : Thread nD τ) (ms1 a t) fullShare Y1
        ∗ owns (c : Thread nD τ) (ms2 a t) fullShare Y2 ∗ owns (c : Thread nD τ) (ms3 a t) fullShare Y3
        ∗ owns (c : Thread nD τ) (ms4 a t) fullShare Y)
      ⊢ wp frame (wpE (defs₀ (F := Bits)) Variants.none c none) Set.univ (bodyAt a t) fun _ =>
        iprop(Phi a c ∗ O
          ∗ owns (c : Thread nD τ) (ms0 a t) fullShare Y0 ∗ owns (c : Thread nD τ) (ms1 a t) fullShare Y1
          ∗ owns (c : Thread nD τ) (ms2 a t) fullShare Y2 ∗ owns (c : Thread nD τ) (ms3 a t) fullShare Y3
          ∗ ∃ X, owns (c : Thread nD τ) (ms4 a t) fullShare X) :=
  visit a.1 c t (ms0 a t) (hs0 a t) (ms1 a t) (hs1 a t) (ms2 a t) (hs2 a t) (ms3 a t) (hs3 a t) (ms4 a t) (hs4 a t) O Y0 Y1 Y2 Y3 Y

set_option maxHeartbeats 4000000 in
/-- The library's body obligation. -/
theorem obligation (c : Dev nD) : RDat.BodyObligation (rdats a m 0 c) (defs₀ (F := Bits)) Variants.none () Set.univ := fun t Y hY => by
  rw [bigSep_W0]
  have hs := sound a c t ((rdats a m 0 c).owesAt () t.castSucc) (Y (0 : Fin 5)) (Y (1 : Fin 5)) (Y (2 : Fin 5)) (Y (3 : Fin 5)) (Y (4 : Fin 5))
  refine BIBase.Entails.trans ?_ (hs.trans (wp_mono frame _ Set.univ fun r => ?_))
  · exact .rfl
  · rw [bigSep_W0, show (rdats a m 0 c).Φ t.succ = Phi a c from rfl,
      show (rdats a m 0 c).owesAt () t.succ = (rdats a m 0 c).owesAt () t.castSucc from rfl]
    iintro ⟨HP, HO, H0, H1, H2, H3, %X, H4⟩
    isplitl [HP]; · iexact HP
    isplitl [HO]; · iexact HO
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists X; isplitr; swap
    · iexact H4
    · ipureintro
      trivial

/-! ## The launch -/

/-- The list of launches with their tables fixed. -/
abbrev pcsA : Fin 1 → Pipeline.Cfg sig Λ₀ := Pipeline.pin (pcfgs (F := Bits)) fun _ => a

/-- The launch's element. -/
def u5 : UR sig nD τ :=
  initOf (Pipeline.cells (pcsA a) ((launch0 (F := Bits)).cellOf_inj fun _ => a))
    (Pipeline.launchToks (pcsA a) ((launch0 (F := Bits)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Bits)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- What the first point is given. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a c from rfl]
  unfold Phi Kept
  iintro ⟨-, ⟨HT0, HT1, HT2, HT3⟩, ⟨%a0, HS0⟩, ⟨%a1, HS1⟩⟩
  iexists a0, a1
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a c from rfl, Pipeline.ownSems0_none]
  unfold Phi Kept
  iintro ⟨%a0, %a1, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
/-- The run: the arguments end unchanged, every counter is zero. -/
theorem run (ρ : Dev nD → PrngReg) (hp : ∀ (c : Dev nD) (k : Fin 4), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Bits)) (fun _ => a) (rdats a m) () ((launch0 (F := Bits)).cellOf_inj fun _ => a) (0 : Fin 1)
    (launch0 (F := Bits)).win.to₀ (Pipeline.OwnSemFacts.none _) (launch0 (F := Bits)).pre EP5 defs₀ Variants.none m ρ main
    (hbody := fun c => obligation a m c) (hne := (launch0 (F := Bits)).block_pos)
    (harr := (launch0 (F := Bits)).arr_whole) (hstage := (launch0 (F := Bits)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Bits)).win.arr_inj) (launch0 (F := Bits)).arr_whole
      (fun w hw => (rdats a m 0 c).q_eq_shareOf_of_share_full (launch0 (F := Bits)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨i0, (ht 0).trans (hp c 0).symm, (ht 1).trans (hp c 1).symm, (ht 2).trans (hp c 2).symm, (ht 3).trans (hp c 3).symm, i1, i2, i3⟩, hz⟩)

end

end Cert.FfnWAt1
-- ==== Proof.At1C.lean ====
/- The claims about the experts' call at the second layer: its runs from tables that are a schedule, and its result equal to the reference's. -/
module

public import proofs.«01_k».proof.Proof.At1I
public import proofs.«01_k».proof.Proof.FfnK
public import proofs.«01_k».proof.Proof.At1W
public import proofs.«01_k».proof.Proof.Gen.Reference8Ideal.Run
public import proofs.«01_k».proof.Proof.Gen.Reference8Ideal.Read
public import proofs.«01_k».proof.Proof.Gen.Pre_visits
public import Idealize.ShloMosaic.Lib.Bf16Pair

@[expose] public section

set_option maxRecDepth 16384
set_option Elab.async false

noncomputable section

namespace Cert.FfnClaimsAt1

open Idealize.ShloMosaic Idealize.ShloMosaic.TcCoe Idealize.SL.Sem
open Cert.Ffn (Sched num num_of sched_of_pre)

attribute [local instance] Cert.Pre_visits.Gen.facts

section Ideals
open Cert.Kernel8Ideal Cert.Kernel8Ideal.Gen Cert.FfnAt1

variable (m : (ℓ : Loc nD τ sig) → Buf (Elt Ideal) ℓ)

/-- What the precondition says of the tables in memory. -/
theorem sched_ideal (h : Pre_Kernel8Ideal m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def tables : pre0.Contents (Elt Ideal) := fun k => m (((0 : Dev nD) : Thread nD τ).loc (pre0.ref k))

/-- The launch's blocks are inside its arrays. -/
def adm (h : Pre_Kernel8Ideal m) : (pcfg0 (F := Ideal)).Adm := ⟨tables m, ok_of (tables m)
  (fun i => by
    have S := (sched_ideal m h 0).hE (i 0).val (i 0).isLt
    rwa [num_of _ _ (i 0).isLt] at S)
  (fun i => by
    have S := (sched_ideal m h 0).hV (i 0).val (i 0).isLt
    rwa [num_of _ _ (i 0).isLt] at S)⟩

/-- Every device's tables are the ones read. -/
theorem tables_eq (c : Dev nD) (k : Fin 4) : m ((c : Thread nD τ).loc (pre0.ref k)) = tables m k := by
  rw [show c = 0 from Subsingleton.elim _ _]; rfl

end Ideals

/-- The idealized program's frame. -/
theorem frame_ideal : quiescent_Kernel8Ideal (hKernel8Ideal := Cert.Kernel8Ideal.Gen.facts) (hPre_visits := Cert.Pre_visits.Gen.facts) :=
  fun m g h => (θ_run _ _ _).mono (fun r hr => ⟨fun c => (hr.1 c).2, hr.2⟩) (Cert.FfnAt1.run (adm m h) m (sched_ideal m h 0) g (fun c k => tables_eq m c k))

section Words
open Cert.Kernel8 Cert.Kernel8.Gen Cert.FfnWAt1

variable (m : (ℓ : Loc nD τ sig) → Buf (Elt Bits) ℓ)

/-- What the precondition says of the tables in memory. -/
theorem sched_word (h : Pre_Kernel8 m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def wtables : pre0.Contents (Elt Bits) := fun k => m (((0 : Dev nD) : Thread nD τ).loc (pre0.ref k))

/-- The launch's blocks are inside its arrays. -/
def wadm (h : Pre_Kernel8 m) : (pcfg0 (F := Bits)).Adm := ⟨wtables m, Cert.FfnWAt1.ok_of (wtables m)
  (fun i => by
    have S := (sched_word m h 0).hE (i 0).val (i 0).isLt
    rwa [num_of _ _ (i 0).isLt] at S)
  (fun i => by
    have S := (sched_word m h 0).hV (i 0).val (i 0).isLt
    rwa [num_of _ _ (i 0).isLt] at S)⟩

/-- Every device's tables are the ones read. -/
theorem wtables_eq (c : Dev nD) (k : Fin 4) : m ((c : Thread nD τ).loc (pre0.ref k)) = wtables m k := by
  rw [show c = 0 from Subsingleton.elim _ _]; rfl

end Words

/-- The program's frame. -/
theorem frame_word : quiescent_Kernel8 (hKernel8 := Cert.Kernel8.Gen.facts) (hPre_visits := Cert.Pre_visits.Gen.facts) :=
  fun m g h => Cert.FfnWAt1.run (wadm m h) m g (fun c k => wtables_eq m c k)

section Reference
open Cert.Reference8Ideal Cert.Reference8Ideal.Gen Cert.Reference8Ideal.Read
open Cert.Ffn (layIn layOut)

variable (A0 : (⟨S131072x512, .i32⟩ : BufTy).Contents (Elt Ideal)) (T0 T1 T2 T3 : (⟨S127, .i32⟩ : BufTy).Contents (Elt Ideal))
  (A5 A6 : (⟨S4x64x1024x256, .f32⟩ : BufTy).Contents (Elt Ideal)) (A7 : (⟨S4x64x256x1024, .f32⟩ : BufTy).Contents (Elt Ideal))

/-- The layer's gate matrices are the first layer's of the shifted array, -/
theorem v28_eq : val_main_v28 A5 = Cert.Reference5Ideal.Read.val_main_v28 (F := Ideal) (layIn 1 A5) := by
  funext i
  rw [val_main_v28_apply, val_main_v27_apply, Cert.Reference5Ideal.Read.val_main_v28_apply, Cert.Reference5Ideal.Read.val_main_v27_apply]
  refine congrArg A5 (funext fun a => Fin.ext ?_)
  match a with
  | ⟨0, _⟩ => rfl
  | ⟨1, _⟩ => rfl
  | ⟨2, _⟩ => rfl
  | ⟨3, _⟩ => rfl

/-- so are its second matrices, -/
theorem v31_eq : val_main_v31 A6 = Cert.Reference5Ideal.Read.val_main_v31 (F := Ideal) (layIn 1 A6) := by
  funext i
  rw [val_main_v31_apply, val_main_v30_apply, Cert.Reference5Ideal.Read.val_main_v31_apply, Cert.Reference5Ideal.Read.val_main_v30_apply]
  refine congrArg A6 (funext fun a => Fin.ext ?_)
  match a with
  | ⟨0, _⟩ => rfl
  | ⟨1, _⟩ => rfl
  | ⟨2, _⟩ => rfl
  | ⟨3, _⟩ => rfl

/-- and its last. -/
theorem v39_eq : val_main_v39 A7 = Cert.Reference5Ideal.Read.val_main_v39 (F := Ideal) (layOut 1 A7) := by
  funext i
  rw [val_main_v39_apply, val_main_v38_apply, Cert.Reference5Ideal.Read.val_main_v39_apply, Cert.Reference5Ideal.Read.val_main_v38_apply]
  refine congrArg A7 (funext fun a => Fin.ext ?_)
  match a with
  | ⟨0, _⟩ => rfl
  | ⟨1, _⟩ => rfl
  | ⟨2, _⟩ => rfl
  | ⟨3, _⟩ => rfl

/-- The gate product, -/
theorem v29_eq : val_main_v29 A0 A5 = Cert.Reference5Ideal.Read.val_main_v29 (F := Ideal) A0 (layIn 1 A5) := by
  unfold val_main_v29 Cert.Reference5Ideal.Read.val_main_v29
  rw [v28_eq]
  rfl

/-- the second product, -/
theorem v32_eq : val_main_v32 A0 A6 = Cert.Reference5Ideal.Read.val_main_v32 (F := Ideal) A0 (layIn 1 A6) := by
  unfold val_main_v32 Cert.Reference5Ideal.Read.val_main_v32
  rw [v31_eq]
  rfl

/-- the gate after its sigmoid, -/
theorem v33_eq : val_main_v33 A0 A5 = Cert.Reference5Ideal.Read.val_main_v33 (F := Ideal) A0 (layIn 1 A5) := by
  unfold val_main_v33 val_main_call2_v5 val_main_call2_v3 val_main_call2_v1 val_main_call2_v0
    Cert.Reference5Ideal.Read.val_main_v33 Cert.Reference5Ideal.Read.val_main_call2_v5 Cert.Reference5Ideal.Read.val_main_call2_v3 Cert.Reference5Ideal.Read.val_main_call2_v1 Cert.Reference5Ideal.Read.val_main_call2_v0
  rw [v29_eq]
  rfl

/-- the hidden rows of the chosen experts, -/
theorem v37_eq : val_main_v37 A0 T0 T1 T2 T3 A5 A6 = Cert.Reference5Ideal.Read.val_main_v37 (F := Ideal) A0 T0 T1 T2 T3 (layIn 1 A5) (layIn 1 A6) := by
  unfold val_main_v37 val_main_v34 Cert.Reference5Ideal.Read.val_main_v37 Cert.Reference5Ideal.Read.val_main_v34
  rw [v33_eq, v32_eq]
  rfl

/-- and the result are the first layer's of the shifted arrays. -/
theorem v42_eq : val_main_v42 A0 T0 T1 T2 T3 A5 A6 A7
    = Cert.Reference5Ideal.Read.val_main_v42 (F := Ideal) A0 T0 T1 T2 T3 (layIn 1 A5) (layIn 1 A6) (layOut 1 A7) := by
  unfold val_main_v42 val_main_v41 val_main_v40 Cert.Reference5Ideal.Read.val_main_v42 Cert.Reference5Ideal.Read.val_main_v41 Cert.Reference5Ideal.Read.val_main_v40
  rw [v37_eq, v39_eq]
  rfl

end Reference

/-- The reference's frame. -/
theorem reference_frame : quiescent_Reference8Ideal (hReference8Ideal := Cert.Reference8Ideal.Gen.facts) := fun m g _ =>
  (θ_run _ _ _).mono (fun r h => ⟨fun c => (h c).2, Idealize.ShloMosaic.sem_eq_zero_of_no_sems rfl r.2⟩)
    (Cert.Reference8Ideal.Value.run (F := Ideal) m g)

/-- The same from tables that are a schedule. -/
theorem reference_frame_pre : quiescent_Reference8Ideal_pre_visits (hReference8Ideal := Cert.Reference8Ideal.Gen.facts)
    (hPre_visits := Cert.Pre_visits.Gen.facts) := fun m g _ => reference_frame m g trivial

/-- The rewrites the idealization made, each proved. -/
theorem preserves : preserves_Kernel8_Kernel8Ideal := ⟨IdealRules.bf16_pair.packStatement _, IdealRules.bf16_pair.statement _ _⟩

/-- From equal arguments the two programs end with equal results. -/
theorem algebraic : algebraic_Kernel8Ideal_Reference8Ideal (hKernel8Ideal := Cert.Kernel8Ideal.Gen.facts)
    (hReference8Ideal := Cert.Reference8Ideal.Gen.facts) (hPre_visits := Cert.Pre_visits.Gen.facts) := by
  intro m g m' g' h hargs
  refine ⟨fun c => Cert.FfnAt1.resOf (adm m h) m c, (θ_run _ _ _).mono (fun r hr c => hr.1 c) (Cert.FfnAt1.run (adm m h) m (sched_ideal m h 0) g (fun c k => tables_eq m c k)), ?_⟩
  refine (θ_run _ _ _).mono (fun r hr c => ?_) (Cert.Reference8Ideal.Value.run (F := Ideal) m' g')
  obtain ⟨h0, hr⟩ := hr c
  obtain ⟨a0, a1, a2, a3, a4, a5, a6, a7⟩ := hargs c
  refine ⟨h0.trans ?_, hr⟩
  rw [Cert.Reference8Ideal.Read.val_main_v42_eq, a0, a1, a2, a3, a4, a5, a6, a7, v42_eq]
  have S := sched_ideal m h c
  have hc : c = 0 := Subsingleton.elim _ _
  refine funext fun (z : Cert.Reference8Ideal.S262144x512.Idx) => ?_
  have z0 : (z 0).val < 262144 := (z 0).isLt
  have z1 : (z 1).val < 512 := (z 1).isLt
  obtain ⟨t, ht, hcov⟩ := S.cover ((z 0).val / 2) (by omega)
  have he := Cert.Ffn.expertOf_eq S ((z 0).val / 2) t ht hcov
  have hlt := S.hE t ht
  refine (Cert.FfnRef.out_eq _ _ _ _ S z ⟨(z 0).val / 2, by omega⟩ ⟨_, hlt⟩ ⟨(z 0).val % 2 * 512 + (z 1).val, by omega⟩ rfl he rfl).trans ?_
  subst hc
  exact (Cert.Ffn.res_row _ _ _ _ _ _ _ _ z ⟨(z 0).val / 2, by omega⟩ ⟨_, hlt⟩ ⟨(z 0).val % 2 * 512 + (z 1).val, by omega⟩ rfl he rfl).symm

end Cert.FfnClaimsAt1

end
-- ==== Proof.At2I.lean ====
/- The experts' launch at the third layer: from a memory whose tables are a schedule, the arguments end unchanged and the result is each row by its expert's weights of that layer. -/
module

public import proofs.«01_k».proof.Defs
public import proofs.«01_k».proof.Proof.Gen.Kernel9Ideal
public import proofs.«01_k».proof.Proof.Gen.Kernel9Ideal.Launch
public import proofs.«01_k».proof.Proof.Gen.Kernel9Ideal.Skeleton
public import proofs.«01_k».proof.Proof.FfnH
public import proofs.«01_k».proof.Proof.Layer

@[expose] public section

set_option maxRecDepth 16384
set_option Elab.async false

noncomputable section

namespace Cert.FfnAt2

open Cert.Kernel9Ideal Cert.Kernel9Ideal.Gen
open Cert.Ffn (at1 at2 Sched num num_of loAt hiAt rowsOf wIn wOut W0 W1 res goodAt good_step Vis gen at1_num layIn layOut)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Ideal) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Ideal) = Cert.Kernel5Ideal.defs₀ (F := Ideal) := by
  unfold defs₀ Cert.Kernel5Ideal.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Ideal)) (i : grid0.Coords) : cc0_transform_0 k0_off1_inb numel1_S1 pf i = ![(at1 i (pf 1)).toNat, 0] := Cert.Ffn.map0 pf i
/-- The second window's block is the expert's. -/
theorem map1 (pf : pre0.Contents (Elt Ideal)) (i : grid0.Coords) : cc0_transform_1 k0_off1_inb numel1_S1 pf i = ![2, (at1 i (pf 0)).toNat, 0, 0] :=
  congrArg (fun v : BitVec 32 => ![2, v.toNat, 0, 0]) (Cert.Ffn.at_eq (pf 0) i (k0_off1_inb i) numel1_S1)
/-- The third window's block is the expert's. -/
theorem map2 (pf : pre0.Contents (Elt Ideal)) (i : grid0.Coords) : cc0_transform_2 k0_off1_inb numel1_S1 pf i = ![2, (at1 i (pf 0)).toNat, 0, 0] :=
  congrArg (fun v : BitVec 32 => ![2, v.toNat, 0, 0]) (Cert.Ffn.at_eq (pf 0) i (k0_off1_inb i) numel1_S1)
/-- The fourth window's block is the expert's. -/
theorem map3 (pf : pre0.Contents (Elt Ideal)) (i : grid0.Coords) : cc0_transform_3 k0_off1_inb numel1_S1 pf i = ![2, (at1 i (pf 0)).toNat, 0, 0] :=
  congrArg (fun v : BitVec 32 => ![2, v.toNat, 0, 0]) (Cert.Ffn.at_eq (pf 0) i (k0_off1_inb i) numel1_S1)
/-- The output's block is the visit's tile. -/
theorem map4 (pf : pre0.Contents (Elt Ideal)) (i : grid0.Coords) : cc0_transform_4 k0_off1_inb numel1_S1 pf i = ![(at1 i (pf 1)).toNat, 0] := Cert.Ffn.map4 pf i

/-- The side condition of the pipeline, from the tables' ranges. -/
theorem ok_of (pf : pre0.Contents (Elt Ideal)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (2 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (2 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (2 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

/-! ## The pipeline -/

section
variable (a : (pcfg0 (F := Ideal)).Adm)

/-- The schedule of the tables a pipeline runs at. -/
abbrev sE : ℕ → ℕ := num (a.1 (0 : Fin 4))
/-- The tiles of the visits. -/
abbrev sV : ℕ → ℕ := num (a.1 (1 : Fin 4))
/-- The visits' first rows in the tile. -/
abbrev sL : ℕ → ℕ := num (a.1 (2 : Fin 4))
/-- The visits' last rows in the tile, plus one. -/
abbrev sH : ℕ → ℕ := num (a.1 (3 : Fin 4))

/-- The launch with its tables fixed. -/
abbrev cfgA : Pipeline.Cfg sig Λ₀ := cfg0 (F := Ideal) a

/-- The block the rows' window takes at a visit. -/
theorem index0 (t : Fin grid0.N) : ((cfgA a).win (0 : Fin 5)).index t = ![sV a t.val, 0] :=
  (map0 a.1 (grid0.coords t)).trans (congrArg (fun n => ![n, 0]) (at1_num _ t))
/-- The block the gate matrix's window takes. -/
theorem index1 (t : Fin grid0.N) : ((cfgA a).win (1 : Fin 5)).index t = ![2, sE a t.val, 0, 0] :=
  (map1 a.1 (grid0.coords t)).trans (congrArg (fun n => ![2, n, 0, 0]) (at1_num _ t))
/-- The block the second matrix's window takes. -/
theorem index2 (t : Fin grid0.N) : ((cfgA a).win (2 : Fin 5)).index t = ![2, sE a t.val, 0, 0] :=
  (map2 a.1 (grid0.coords t)).trans (congrArg (fun n => ![2, n, 0, 0]) (at1_num _ t))
/-- The block the last matrix's window takes. -/
theorem index3 (t : Fin grid0.N) : ((cfgA a).win (3 : Fin 5)).index t = ![2, sE a t.val, 0, 0] :=
  (map3 a.1 (grid0.coords t)).trans (congrArg (fun n => ![2, n, 0, 0]) (at1_num _ t))
/-- The block the output's window takes. -/
theorem index4 (t : Fin grid0.N) : ((cfgA a).win (4 : Fin 5)).index t = ![sV a t.val, 0] :=
  (map4 a.1 (grid0.coords t)).trans (congrArg (fun n => ![n, 0]) (at1_num _ t))

variable (S : Sched (sE a) (sV a) (sL a) (sH a)) (m : (ℓ : Loc nD τ sig) → Buf (Elt Ideal) ℓ) (c : Dev nD)

/-- A window's block at a point, read off its array at launch. -/
def iblk (w : Fin (cfgA a).W) (t : Fin (cfgA a).N) : (((cfgA a).win w).xblock ((cfgA a).grid.coords t)).Idx → Elt Ideal ((cfgA a).win w).elt :=
  (((cfgA a).win w).blk t).view.read (Elt Ideal) (m (((cfgA a).win w).arr.view.loc (c : Thread nD τ)))

include S
/-- The rows' block as a function of the tile. -/
theorem blk0 (t : Fin grid0.N) : (iblk a m c (0 : Fin 5) t : S2048x512.Idx → BitVec 32) = rowsOf (m ((c : Thread nD τ).loc main_arg0)) (sV a t.val) := by
  have hv := S.hV t.val t.isLt
  funext j
  have hj0 : (j 0).val < 2048 := (j 0).isLt
  show (m ((c : Thread nD τ).loc main_arg0) : S131072x512.Idx → BitVec 32) ((((cfgA a).win (0 : Fin 5)).rect t).emb j) = _
  refine congrArg _ (funext fun b => Fin.ext ?_)
  refine (Pipeline.Window.rect_emb_val ((cfgA a).win (0 : Fin 5)) t j b rfl).trans ?_
  rw [index0]
  match b with
  | ⟨0, _⟩ => show sV a t.val * 2048 + (j 0).val = (sV a t.val * 2048 + (j 0).val) % 131072; rw [Nat.mod_eq_of_lt (by omega)]
  | ⟨1, _⟩ => show 0 * 512 + (j 1).val = (j 1).val; omega
/-- The gate matrix's block as a function of the expert. -/
theorem blk1 (t : Fin grid0.N) : (iblk a m c (1 : Fin 5) t : S1x1x1024x256.Idx → EReal) = wIn (layIn 2 (m ((c : Thread nD τ).loc main_arg5))) (sE a t.val) := by
  have hv := S.hE t.val t.isLt
  funext j
  have hj0 : (j 0).val < 1 := (j 0).isLt
  have hj1 : (j 1).val < 1 := (j 1).isLt
  show (m ((c : Thread nD τ).loc main_arg5) : S4x64x1024x256.Idx → EReal) ((((cfgA a).win (1 : Fin 5)).rect t).emb j) =
    (m ((c : Thread nD τ).loc main_arg5) : S4x64x1024x256.Idx → EReal) (ix4 2 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (1 : Fin 5)) t j b rfl).trans ?_
  rw [index1]
  match b with
  | ⟨0, _⟩ => show 2 * 1 + (j 0).val = 2; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The second matrix's block as a function of the expert. -/
theorem blk2 (t : Fin grid0.N) : (iblk a m c (2 : Fin 5) t : S1x1x1024x256.Idx → EReal) = wIn (layIn 2 (m ((c : Thread nD τ).loc main_arg6))) (sE a t.val) := by
  have hv := S.hE t.val t.isLt
  funext j
  have hj0 : (j 0).val < 1 := (j 0).isLt
  have hj1 : (j 1).val < 1 := (j 1).isLt
  show (m ((c : Thread nD τ).loc main_arg6) : S4x64x1024x256.Idx → EReal) ((((cfgA a).win (2 : Fin 5)).rect t).emb j) =
    (m ((c : Thread nD τ).loc main_arg6) : S4x64x1024x256.Idx → EReal) (ix4 2 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (2 : Fin 5)) t j b rfl).trans ?_
  rw [index2]
  match b with
  | ⟨0, _⟩ => show 2 * 1 + (j 0).val = 2; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The last matrix's block as a function of the expert. -/
theorem blk3 (t : Fin grid0.N) : (iblk a m c (3 : Fin 5) t : S1x1x256x1024.Idx → EReal) = wOut (layOut 2 (m ((c : Thread nD τ).loc main_arg7))) (sE a t.val) := by
  have hv := S.hE t.val t.isLt
  funext j
  have hj0 : (j 0).val < 1 := (j 0).isLt
  have hj1 : (j 1).val < 1 := (j 1).isLt
  show (m ((c : Thread nD τ).loc main_arg7) : S4x64x256x1024.Idx → EReal) ((((cfgA a).win (3 : Fin 5)).rect t).emb j) =
    (m ((c : Thread nD τ).loc main_arg7) : S4x64x256x1024.Idx → EReal) (ix4 2 (⟨sE a t.val % 64, Nat.mod_lt _ (by decide)⟩ : Fin 64) (j 2 : Fin 256) (j 3 : Fin 1024))
  refine congrArg _ (funext fun b => Fin.ext ?_)
  refine (Pipeline.Window.rect_emb_val ((cfgA a).win (3 : Fin 5)) t j b rfl).trans ?_
  rw [index3]
  match b with
  | ⟨0, _⟩ => show 2 * 1 + (j 0).val = 2; omega
  | ⟨1, _⟩ => show sE a t.val * 1 + (j 1).val = sE a t.val % 64; rw [Nat.mod_eq_of_lt hv]; omega
  | ⟨2, _⟩ => show 0 * 256 + (j 2).val = (j 2).val; omega
  | ⟨3, _⟩ => show 0 * 1024 + (j 3).val = (j 3).val; omega

/-- Where the output's block sits in its array. -/
theorem emb4 (t : Fin grid0.N) (y : S4096x512.Idx) : ((((cfgA a).win (4 : Fin 5)).rect t).emb y : S262144x512.Idx)
    = ix2 ⟨(sV a t.val * 4096 + (y 0).val) % 262144, Nat.mod_lt _ (by decide)⟩ (y 1 : Fin 512) := by
  have hv := S.hV t.val t.isLt
  have hj0 : (y 0).val < 4096 := (y 0).isLt
  refine (funext fun b => Fin.ext ?_)
  refine (Pipeline.Window.rect_emb_val ((cfgA a).win (4 : Fin 5)) t y b rfl).trans ?_
  rw [index4]
  match b with
  | ⟨0, _⟩ => show sV a t.val * 4096 + (y 0).val = (sV a t.val * 4096 + (y 0).val) % 262144; rw [Nat.mod_eq_of_lt (by omega)]
  | ⟨1, _⟩ => show 0 * 512 + (y 1).val = (y 1).val; omega
omit S

/-- A tile's block is written back when the next visit is of another tile, or at the last; -/
theorem flush_true (t : Fin grid0.N) (h : ((cfgA a).win (4 : Fin 5)).flush t = true) : t.val = 126 ∨ (t.val + 1 < 127 ∧ sV a (t.val + 1) ≠ sV a t.val) := by
  have ht : t.val < 127 := t.isLt
  unfold Pipeline.Window.flush at h
  rw [Bool.and_eq_true, Bool.or_eq_true, decide_eq_true_eq, decide_eq_true_eq] at h
  rcases h.2 with e | ⟨hN, e⟩
  · left; have : t.val + 1 = 127 := e; omega
  · right
    refine ⟨hN, fun q => e ?_⟩
    rw [index4, index4 a t]
    show ![sV a (t.val + 1), 0] = _
    rw [q]
/-- otherwise the next visit goes on with it. -/
theorem flush_false (t : Fin grid0.N) (h : ((cfgA a).win (4 : Fin 5)).flush t = false) : t.val + 1 < 127 ∧ sV a (t.val + 1) = sV a t.val := by
  have ht : t.val < 127 := t.isLt
  by_contra q
  refine absurd h (by
    rw [Bool.not_eq_false]
    unfold Pipeline.Window.flush
    rw [Bool.and_eq_true, Bool.or_eq_true, decide_eq_true_eq, decide_eq_true_eq]
    refine ⟨rfl, ?_⟩
    by_cases hN : t.val + 1 < 127
    · right
      refine ⟨hN, fun e => q ⟨hN, ?_⟩⟩
      rw [index4, index4 a t] at e
      exact congrFun e 0
    · left
      show t.val + 1 = 127
      omega)

end

section
variable (pf : pre0.Contents (Elt Ideal))

/-- The schedule of the tables: the visits' experts, -/
abbrev qE : ℕ → ℕ := num (pf (0 : Fin 4))
/-- their tiles, -/
abbrev qV : ℕ → ℕ := num (pf (1 : Fin 4))
/-- their first rows, -/
abbrev qL : ℕ → ℕ := num (pf (2 : Fin 4))
/-- and their last, plus one. -/
abbrev qH : ℕ → ℕ := num (pf (3 : Fin 4))

variable (x : S131072x512.Idx → BitVec 32) (wg wu : S4x64x1024x256.Idx → EReal) (wd : S4x64x256x1024.Idx → EReal)

/-- What the body keeps between points: the last visit's weights, and the tables. -/
def Kept (c : Dev nD) (n : ℕ) : sProp R5 :=
  iprop(∃ s0 s1, ⌜n ≠ 0 → (s0 : S1024x512.Idx → EReal) = W0 wg wu (qE pf (n - 1)) ∧ (s1 : S256x1024.Idx → EReal) = W1 wd (qE pf (n - 1))⌝
    ∗ (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

variable (S : Sched (qE pf) (qV pf) (qL pf) (qH pf))

set_option maxHeartbeats 4000000 in
include S in
/-- The body at a point, from any buffers that hold the blocks of its windows. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y : S4096x512.Idx → EReal) :
    iprop(Kept pf wg wu wd c t.val ∗ O
        ∗ owns (c : Thread nD τ) m0 fullShare (rowsOf x (qV pf t.val))
        ∗ owns (c : Thread nD τ) m1 fullShare (wIn wg (qE pf t.val))
        ∗ owns (c : Thread nD τ) m2 fullShare (wIn wu (qE pf t.val))
        ∗ owns (c : Thread nD τ) m3 fullShare (wOut wd (qE pf t.val))
        ∗ owns (c : Thread nD τ) m4 fullShare Y)
      ⊢ wp frame (wpE (defs₀ (F := Ideal)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf wg wu wd c (t.val + 1) ∗ O
          ∗ owns (c : Thread nD τ) m0 fullShare (rowsOf x (qV pf t.val))
          ∗ owns (c : Thread nD τ) m1 fullShare (wIn wg (qE pf t.val))
          ∗ owns (c : Thread nD τ) m2 fullShare (wIn wu (qE pf t.val))
          ∗ owns (c : Thread nD τ) m3 fullShare (wOut wd (qE pf t.val))
          ∗ ∃ X, ⌜Vis (qL pf t.val) (qH pf t.val) (gen (rowsOf x (qV pf t.val)) (W0 wg wu (qE pf t.val)) (W1 wd (qE pf t.val))) Y X⌝
            ∗ owns (c : Thread nD τ) m4 fullShare X) := by
  rw [defs_eq]
  exact Cert.Ffn.visit pf x wg wu wd S c t m0 h0 m1 h1 m2 h2 m3 h3 m4 h4 O Y

end

section
variable (a : (pcfg0 (F := Ideal)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Ideal) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (x : S131072x512.Idx → BitVec 32) (wg wu : S4x64x1024x256.Idx → EReal) (wd : S4x64x256x1024.Idx → EReal)

/-- What the body keeps between points, at the launch's tables. -/
abbrev Phi (c : Dev nD) (n : ℕ) : sProp R5 := Kept a.1 wg wu wd c n

variable (S : Sched (sE a) (sV a) (sL a) (sH a))

set_option maxHeartbeats 4000000 in
include S in
/-- The body at a point, from the blocks its windows hold there. -/
theorem sound (c : Dev nD) (t : Fin (cfgA a).N) (O : sProp R5) (Y : S4096x512.Idx → EReal) :
    iprop(Phi a wg wu wd c t.val ∗ O
        ∗ owns (c : Thread nD τ) (ms0 a t) fullShare (rowsOf x (sV a t.val))
        ∗ owns (c : Thread nD τ) (ms1 a t) fullShare (wIn wg (sE a t.val))
        ∗ owns (c : Thread nD τ) (ms2 a t) fullShare (wIn wu (sE a t.val))
        ∗ owns (c : Thread nD τ) (ms3 a t) fullShare (wOut wd (sE a t.val))
        ∗ owns (c : Thread nD τ) (ms4 a t) fullShare Y)
      ⊢ wp frame (wpE (defs₀ (F := Ideal)) Variants.none c none) Set.univ (bodyAt a t) fun _ =>
        iprop(Phi a wg wu wd c (t.val + 1) ∗ O
          ∗ owns (c : Thread nD τ) (ms0 a t) fullShare (rowsOf x (sV a t.val))
          ∗ owns (c : Thread nD τ) (ms1 a t) fullShare (wIn wg (sE a t.val))
          ∗ owns (c : Thread nD τ) (ms2 a t) fullShare (wIn wu (sE a t.val))
          ∗ owns (c : Thread nD τ) (ms3 a t) fullShare (wOut wd (sE a t.val))
          ∗ ∃ X, ⌜Vis (sL a t.val) (sH a t.val) (gen (rowsOf x (sV a t.val)) (W0 wg wu (sE a t.val)) (W1 wd (sE a t.val))) Y X⌝
            ∗ owns (c : Thread nD τ) (ms4 a t) fullShare X) :=
  visit a.1 x wg wu wd S c t (ms0 a t) (hs0 a t) (ms1 a t) (hs1 a t) (ms2 a t) (hs2 a t) (ms3 a t) (hs3 a t) (ms4 a t) (hs4 a t) O Y

end

section
variable (a : (pcfg0 (F := Ideal)).Adm) (m : (ℓ : Loc nD τ sig) → Buf (Elt Ideal) ℓ)

/-- The result of a launch memory, on a core. -/
abbrev resOf (c : Dev nD) : S262144x512.Idx → EReal :=
  res (sE a) (sV a) (sL a) (sH a) (m ((c : Thread nD τ).loc main_arg0)) (layIn 2 (m ((c : Thread nD τ).loc main_arg5))) (layIn 2 (m ((c : Thread nD τ).loc main_arg6))) (layOut 2 (m ((c : Thread nD τ).loc main_arg7)))
/-- A buffer's first rows are the result's. -/
abbrev goodOf (c : Dev nD) (k h : ℕ) (X : S4096x512.Idx → EReal) : Prop :=
  goodAt (sE a) (sV a) (sL a) (sH a) (m ((c : Thread nD τ).loc main_arg0)) (layIn 2 (m ((c : Thread nD τ).loc main_arg5))) (layIn 2 (m ((c : Thread nD τ).loc main_arg6))) (layOut 2 (m ((c : Thread nD τ).loc main_arg7))) k h X

/-- The pipeline's proof data: inputs are left as found; the output's buffer, its rows done so far being the result's, has
    the visit's rows done too. -/
def rdats (_ : Fin 1) (c : Dev nD) : RDat τ (Elt Ideal) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => goodOf a m c (sV a t.val) (loAt (sL a) (sH a) t.val) Y → goodOf a m c (sV a t.val) (hiAt (sL a) (sH a) t.val) X
  Φ n := Phi a (layIn 2 (m ((c : Thread nD τ).loc main_arg5))) (layIn 2 (m ((c : Thread nD τ).loc main_arg6))) (layOut 2 (m ((c : Thread nD τ).loc main_arg7))) c n.val
  q _ := fullShare
  owed _ := 0

variable (S : Sched (sE a) (sV a) (sL a) (sH a))

/-- The rows' buffer holds the tile's rows. -/
theorem found0 (c : Dev nD) (t : Fin (cfgA a).N) (Y) (h : (rdats a m 0 c).Finds (0 : Fin 5) t Y) : Y = iblk a m c (0 : Fin 5) t := by
  obtain ⟨d, e⟩ := RDat.finds_in_eq_fetched (rdats a m 0 c) (0 : Fin 5) rfl (fun _ _ _ => rfl) (fun _ _ _ h => h) t Y h
  exact e.trans (by unfold RDat.fetched RDat.blockOf iblk; rfl)

/-- The gate matrix's buffer holds the expert's. -/
theorem found1 (c : Dev nD) (t : Fin (cfgA a).N) (Y) (h : (rdats a m 0 c).Finds (1 : Fin 5) t Y) : Y = iblk a m c (1 : Fin 5) t := by
  obtain ⟨d, e⟩ := RDat.finds_in_eq_fetched (rdats a m 0 c) (1 : Fin 5) rfl (fun _ _ _ => rfl) (fun _ _ _ h => h) t Y h
  exact e.trans (by unfold RDat.fetched RDat.blockOf iblk; rfl)

/-- The second matrix's buffer holds the expert's. -/
theorem found2 (c : Dev nD) (t : Fin (cfgA a).N) (Y) (h : (rdats a m 0 c).Finds (2 : Fin 5) t Y) : Y = iblk a m c (2 : Fin 5) t := by
  obtain ⟨d, e⟩ := RDat.finds_in_eq_fetched (rdats a m 0 c) (2 : Fin 5) rfl (fun _ _ _ => rfl) (fun _ _ _ h => h) t Y h
  exact e.trans (by unfold RDat.fetched RDat.blockOf iblk; rfl)

/-- The last matrix's buffer holds the expert's. -/
theorem found3 (c : Dev nD) (t : Fin (cfgA a).N) (Y) (h : (rdats a m 0 c).Finds (3 : Fin 5) t Y) : Y = iblk a m c (3 : Fin 5) t := by
  obtain ⟨d, e⟩ := RDat.finds_in_eq_fetched (rdats a m 0 c) (3 : Fin 5) rfl (fun _ _ _ => rfl) (fun _ _ _ h => h) t Y h
  exact e.trans (by unfold RDat.fetched RDat.blockOf iblk; rfl)

set_option maxHeartbeats 4000000 in
include S in
/-- The library's body obligation. -/
theorem obligation (c : Dev nD) : RDat.BodyObligation (rdats a m 0 c) (defs₀ (F := Ideal)) Variants.none () Set.univ := fun t Y hY => by
  have e0 := (found0 a m c t _ (hY (0 : Fin 5))).trans (blk0 a S m c t)
  have e1 := (found1 a m c t _ (hY (1 : Fin 5))).trans (blk1 a S m c t)
  have e2 := (found2 a m c t _ (hY (2 : Fin 5))).trans (blk2 a S m c t)
  have e3 := (found3 a m c t _ (hY (3 : Fin 5))).trans (blk3 a S m c t)
  rw [bigSep_W0, e0, e1, e2, e3]
  have hs := sound a (m ((c : Thread nD τ).loc main_arg0)) (layIn 2 (m ((c : Thread nD τ).loc main_arg5))) (layIn 2 (m ((c : Thread nD τ).loc main_arg6))) (layOut 2 (m ((c : Thread nD τ).loc main_arg7))) S c t
    ((rdats a m 0 c).owesAt () t.castSucc) (Y (4 : Fin 5))
  refine BIBase.Entails.trans ?_ (hs.trans (wp_mono frame _ Set.univ fun r => ?_))
  · exact .rfl
  · rw [bigSep_W0, show (rdats a m 0 c).Φ t.succ = Phi a (layIn 2 (m ((c : Thread nD τ).loc main_arg5))) (layIn 2 (m ((c : Thread nD τ).loc main_arg6))) (layOut 2 (m ((c : Thread nD τ).loc main_arg7))) c (t.val + 1) from rfl,
      show (rdats a m 0 c).owesAt () t.succ = (rdats a m 0 c).owesAt () t.castSucc from rfl]
    iintro ⟨HP, HO, H0, H1, H2, H3, %X, %hX, H4⟩
    isplitl [HP]; · iexact HP
    isplitl [HO]; · iexact HO
    isplitl [H0]
    · iexists _; isplitr; swap
      · iexact H0
      · ipureintro; exact e0.symm
    isplitl [H1]
    · iexists _; isplitr; swap
      · iexact H1
      · ipureintro; exact e1.symm
    isplitl [H2]
    · iexists _; isplitr; swap
      · iexact H2
      · ipureintro; exact e2.symm
    isplitl [H3]
    · iexists _; isplitr; swap
      · iexact H3
      · ipureintro; exact e3.symm
    iexists X; isplitr; swap
    · iexact H4
    · ipureintro
      exact fun hg => good_step _ _ _ _ S t.val t.isLt _ _ hg hX

end

section
variable (a : (pcfg0 (F := Ideal)).Adm) (m : (ℓ : Loc nD τ sig) → Buf (Elt Ideal) ℓ) (S : Sched (sE a) (sV a) (sL a) (sH a))

include S
/-- What the body finds in the output's buffer: its rows below the visit's are the result's. -/
theorem found4 (c : Dev nD) : ∀ (n : ℕ) (hn : n < 127) (Y : S4096x512.Idx → EReal), (rdats a m 0 c).Finds (4 : Fin 5) (⟨n, hn⟩ : Fin grid0.N) Y →
    goodOf a m c (sV a n) (loAt (sL a) (sH a) n) Y
  | 0, hn, Y, _ => fun y hy => by
    rw [S.lo_zero.1] at hy
    exact absurd hy (Nat.not_lt_zero _)
  | n + 1, hn, Y, h => by
    rcases S.step n hn with ⟨eV, eL⟩ | ⟨eV, eL, eH⟩
    · have hp := ((rdats a m 0 c).finds_of_pos (w := (4 : Fin 5)) (t := (⟨n + 1, hn⟩ : Fin grid0.N)) rfl (Nat.succ_ne_zero n) Y).mp h
      rcases hp with hf | ⟨Y', hY', hA⟩
      · rcases flush_true a ⟨n, Nat.lt_of_succ_lt hn⟩ hf with e | ⟨-, e⟩
        · have e' : n = 126 := e
          omega
        · exact absurd eV e
      · have hg := found4 c n (Nat.lt_of_succ_lt hn) Y' hY'
        have hX : goodOf a m c (sV a n) (hiAt (sL a) (sH a) n) Y := hA hg
        rw [eV, eL]
        exact hX
    · intro y hy
      rw [eL] at hy
      exact absurd hy (Nat.not_lt_zero _)

/-- What the body leaves there. -/
theorem left4 (c : Dev nD) (t : Fin grid0.N) (X : S4096x512.Idx → EReal) (h : (rdats a m 0 c).Leaves (4 : Fin 5) t X) :
    goodOf a m c (sV a t.val) (hiAt (sL a) (sH a) t.val) X := by
  obtain ⟨Y, hY, hA⟩ := h
  exact hA (found4 a m S c t.val t.isLt Y hY)

/-- What the result's array may hold before a point: the tiles behind are the result's. -/
theorem arr_good (c : Dev nD) : ∀ (n : ℕ) (hn : n ≤ 127) (G : S262144x512.Idx → EReal), (rdats a m 0 c).ArrAt (4 : Fin 5) n G →
    ∀ z : S262144x512.Idx, (z 0).val / 4096 < (if n < 127 then sV a n else 64) → G z = resOf a m c z
  | 0, hn, G, _, z, hz => by
    rw [if_pos (by decide), S.lo_zero.2] at hz
    exact absurd hz (Nat.not_lt_zero _)
  | n + 1, hn, G, h, z, hz => by
    have hlt : n < 127 := hn
    have hz0 : (z 0).val < 262144 := (z 0).isLt
    unfold RDat.ArrAt at h
    dsimp only at h
    rw [dif_pos (show n < (cfgA a).N from hlt)] at h
    by_cases hf : ((cfgA a).win (4 : Fin 5)).flush (⟨n, hlt⟩ : Fin grid0.N) = true
    · rw [if_pos hf] at h
      obtain ⟨G₀, X, hG₀, hX, rfl⟩ := h
      have hgX := left4 a m S c ⟨n, hlt⟩ X hX
      have hend : hiAt (sL a) (sH a) n = 2048 ∧ (if n + 1 < 127 then sV a (n + 1) else 64) = sV a n + 1 := by
        rcases flush_true a ⟨n, hlt⟩ hf with e | ⟨e1, e2⟩
        · have e' : n = 126 := e
          subst e'
          exact ⟨S.at_end.2, by rw [if_neg (by decide), S.at_end.1]⟩
        · rw [if_pos e1]
          rcases S.step n e1 with ⟨eV, -⟩ | ⟨eV, -, eH⟩
          · exact absurd eV e2
          · exact ⟨eH, eV⟩
      rw [hend.2] at hz
      have hv := S.hV n hlt
      by_cases hk : (z 0).val / 4096 = sV a n
      · have hb : (z 0).val - sV a n * 4096 < 4096 := by omega
        have hzz : z = ((((cfgA a).win (4 : Fin 5)).rect (⟨n, hlt⟩ : Fin grid0.N)).emb (ix2 (⟨(z 0).val - sV a n * 4096, hb⟩ : Fin 4096) (z 1 : Fin 512)) : S262144x512.Idx) := by
          rw [emb4 a S]
          funext b
          match b with
          | ⟨0, _⟩ =>
            refine Fin.ext ?_
            show (z 0).val = (sV a n * 4096 + ((z 0).val - sV a n * 4096)) % 262144
            rw [Nat.mod_eq_of_lt (by omega)]
            omega
          | ⟨1, _⟩ => rfl
        have hw := View.write_emb_of_mem (Val := Elt Ideal) (v := (((cfgA a).win (4 : Fin 5)).blk (⟨n, hlt⟩ : Fin grid0.N)).view) G₀ (((cfgA a).win (4 : Fin 5)).cut ((cfgA a).grid.coords (⟨n, hlt⟩ : Fin grid0.N)) X) (M := Finset.univ)
          (x := (ix2 (⟨(z 0).val - sV a n * 4096, hb⟩ : Fin 4096) (z 1 : Fin 512) : S4096x512.Idx)) (Finset.mem_univ _)
        have hg := hgX (ix2 (⟨(z 0).val - sV a n * 4096, hb⟩ : Fin 4096) (z 1 : Fin 512)) (by
          show ((z 0).val - sV a n * 4096) / 2 < hiAt (sL a) (sH a) n
          rw [hend.1]
          omega)
        have hg' := hg.trans (congrArg (resOf a m c) (emb4 a S (⟨n, hlt⟩ : Fin grid0.N) (ix2 (⟨(z 0).val - sV a n * 4096, hb⟩ : Fin 4096) (z 1 : Fin 512))).symm)
        refine (congrArg _ hzz).trans (hw.trans (Eq.trans ?_ (hg'.trans (congrArg (resOf a m c) hzz.symm))))
        rfl
      · have hold := arr_good c n (Nat.le_of_lt hlt) G₀ hG₀ z (by rw [if_pos hlt]; omega)
        refine Eq.trans ?_ hold
        refine View.write_of_not_mem (Val := Elt Ideal) (v := (((cfgA a).win (4 : Fin 5)).blk (⟨n, hlt⟩ : Fin grid0.N)).view) G₀ _ Finset.univ ?_
        intro hmem
        obtain ⟨y, -, hy⟩ := Finset.mem_map.mp hmem
        have hy' : ((((cfgA a).win (4 : Fin 5)).rect (⟨n, hlt⟩ : Fin grid0.N)).emb y : S262144x512.Idx) = z := hy
        rw [emb4 a S] at hy'
        have h0 := congrArg (fun q : S262144x512.Idx => (q 0).val) hy'
        have hy0 : ((y : S4096x512.Idx) 0).val < 4096 := ((y : S4096x512.Idx) 0).isLt
        have h1 : (sV a n * 4096 + ((y : S4096x512.Idx) 0).val) % 262144 = (z 0).val := h0
        rw [Nat.mod_eq_of_lt (by omega)] at h1
        omega
    · rw [if_neg hf] at h
      rw [Bool.not_eq_true] at hf
      obtain ⟨e1, e2⟩ := flush_false a ⟨n, hlt⟩ hf
      rw [if_pos e1] at hz
      refine arr_good c n (Nat.le_of_lt hlt) G h z ?_
      rw [if_pos hlt]
      exact e2 ▸ hz

/-- At the end the array is the result. -/
theorem arr_end (c : Dev nD) (G : S262144x512.Idx → EReal) (h : (rdats a m 0 c).ArrAt (4 : Fin 5) 127 G) : G = resOf a m c :=
  funext fun z => arr_good a m S c 127 le_rfl G h z (by
    have hz0 : (z 0).val < 262144 := (z 0).isLt
    rw [if_neg (by decide)]
    omega)
omit S

/-! ## The launch -/

/-- The list of launches with their tables fixed. -/
abbrev pcsA : Fin 1 → Pipeline.Cfg sig Λ₀ := Pipeline.pin (pcfgs (F := Ideal)) fun _ => a

/-- The launch's element. -/
def u5 : UR sig nD τ :=
  initOf (Pipeline.cells (pcsA a) ((launch0 (F := Ideal)).cellOf_inj fun _ => a))
    (Pipeline.launchToks (pcsA a) ((launch0 (F := Ideal)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Ideal)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Before the first point nothing is known of the weights kept. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a (layIn 2 (m ((c : Thread nD τ).loc main_arg5))) (layIn 2 (m ((c : Thread nD τ).loc main_arg6))) (layOut 2 (m ((c : Thread nD τ).loc main_arg7))) c 0 from rfl]
  unfold Phi Kept
  iintro ⟨-, ⟨HT0, HT1, HT2, HT3⟩, ⟨%a0, HS0⟩, ⟨%a1, HS1⟩⟩
  iexists a0, a1
  isplitr
  · ipureintro
    exact fun h => absurd rfl h
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a (layIn 2 (m ((c : Thread nD τ).loc main_arg5))) (layIn 2 (m ((c : Thread nD τ).loc main_arg6))) (layOut 2 (m ((c : Thread nD τ).loc main_arg7))) c (cfgA a).N from rfl, Pipeline.ownSems0_none]
  unfold Phi Kept
  iintro ⟨%a0, %a1, -, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
include S in
/-- The run: the arguments end unchanged, the result is each row by its expert's weights, every counter is zero. -/
theorem run (ρ : Dev nD → PrngReg) (hp : ∀ (c : Dev nD) (k : Fin 4), m ((c : Thread nD τ).loc (pre0.ref k)) = a.1 k) :
    θ_run (defs (F := Ideal)) (onTc (τ := τ) (main (F := Ideal))) ⟨m, fun _ => 0, ρ⟩ (fun r => (∀ c : Dev nD,
      (r.2.mem ((c.tc : Thread nD τ).loc main_v0) : S262144x512.Idx → EReal) = resOf a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Ideal)) (fun _ => a) (rdats a m) () ((launch0 (F := Ideal)).cellOf_inj fun _ => a) (0 : Fin 1)
    (launch0 (F := Ideal)).win.to₀ (Pipeline.OwnSemFacts.none _) (launch0 (F := Ideal)).pre EP5 defs₀ Variants.none m ρ main
    (hbody := fun c => obligation a m S c) (hne := (launch0 (F := Ideal)).block_pos)
    (harr := (launch0 (F := Ideal)).arr_whole) (hstage := (launch0 (F := Ideal)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Ideal)).win.arr_inj) (launch0 (F := Ideal)).arr_whole
      (fun w hw => (rdats a m 0 c).q_eq_shareOf_of_share_full (launch0 (F := Ideal)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨arr_end a m S c _ (hw (4 : Fin 5)), i0, (ht 0).trans (hp c 0).symm, (ht 1).trans (hp c 1).symm, (ht 2).trans (hp c 2).symm, (ht 3).trans (hp c 3).symm, i1, i2, i3⟩, hz⟩)

end

end Cert.FfnAt2
-- ==== Proof.At2W.lean ====
/- The experts' launch at the third layer on the machine's words: from tables in range the arguments end unchanged. -/
module

public import proofs.«01_k».proof.Defs
public import proofs.«01_k».proof.Proof.Gen.Kernel9
public import proofs.«01_k».proof.Proof.Gen.Kernel9.Launch
public import proofs.«01_k».proof.Proof.Gen.Kernel9.Skeleton
public import proofs.«01_k».proof.Proof.WordB

@[expose] public section

set_option maxRecDepth 16384
set_option Elab.async false

noncomputable section

namespace Cert.FfnWAt2

open Cert.Kernel9 Cert.Kernel9.Gen
open Cert.FfnW (at1)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Bits) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Bits) = Cert.Kernel5.defs₀ (F := Bits) := by
  unfold defs₀ Cert.Kernel5.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Bits)) (i : grid0.Coords) : cc0_transform_0 k0_off1_inb numel1_S1 pf i = ![(at1 i (pf 1)).toNat, 0] := Cert.FfnW.map0 pf i
/-- The second window's block is the expert's. -/
theorem map1 (pf : pre0.Contents (Elt Bits)) (i : grid0.Coords) : cc0_transform_1 k0_off1_inb numel1_S1 pf i = ![2, (at1 i (pf 0)).toNat, 0, 0] :=
  congrArg (fun v : BitVec 32 => ![2, v.toNat, 0, 0]) (Cert.FfnW.at_eq (pf 0) i (k0_off1_inb i) numel1_S1)
/-- The third window's block is the expert's. -/
theorem map2 (pf : pre0.Contents (Elt Bits)) (i : grid0.Coords) : cc0_transform_2 k0_off1_inb numel1_S1 pf i = ![2, (at1 i (pf 0)).toNat, 0, 0] :=
  congrArg (fun v : BitVec 32 => ![2, v.toNat, 0, 0]) (Cert.FfnW.at_eq (pf 0) i (k0_off1_inb i) numel1_S1)
/-- The fourth window's block is the expert's. -/
theorem map3 (pf : pre0.Contents (Elt Bits)) (i : grid0.Coords) : cc0_transform_3 k0_off1_inb numel1_S1 pf i = ![2, (at1 i (pf 0)).toNat, 0, 0] :=
  congrArg (fun v : BitVec 32 => ![2, v.toNat, 0, 0]) (Cert.FfnW.at_eq (pf 0) i (k0_off1_inb i) numel1_S1)
/-- The output's block is the visit's tile. -/
theorem map4 (pf : pre0.Contents (Elt Bits)) (i : grid0.Coords) : cc0_transform_4 k0_off1_inb numel1_S1 pf i = ![(at1 i (pf 1)).toNat, 0] := Cert.FfnW.map4 pf i

/-- The side condition of the pipeline, from the tables' ranges. -/
theorem ok_of (pf : pre0.Contents (Elt Bits)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (2 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (2 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (2 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

section
variable (pf : pre0.Contents (Elt Bits))

/-- What the body keeps between points: its scratches at some contents, and the tables. -/
def Kept (c : Dev nD) : sProp R5 :=
  iprop(∃ s0 s1, (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

set_option maxHeartbeats 4000000 in
/-- The body at a point, from any buffers. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Kept pf c ∗ O
        ∗ owns (c : Thread nD τ) m0 fullShare Y0 ∗ owns (c : Thread nD τ) m1 fullShare Y1
        ∗ owns (c : Thread nD τ) m2 fullShare Y2 ∗ owns (c : Thread nD τ) m3 fullShare Y3
        ∗ owns (c : Thread nD τ) m4 fullShare Y)
      ⊢ wp frame (wpE (defs₀ (F := Bits)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf c ∗ O
          ∗ owns (c : Thread nD τ) m0 fullShare Y0 ∗ owns (c : Thread nD τ) m1 fullShare Y1
          ∗ owns (c : Thread nD τ) m2 fullShare Y2 ∗ owns (c : Thread nD τ) m3 fullShare Y3
          ∗ ∃ X, owns (c : Thread nD τ) m4 fullShare X) := by
  rw [defs_eq]
  exact Cert.FfnW.visit pf c t m0 h0 m1 h1 m2 h2 m3 h3 m4 h4 O Y0 Y1 Y2 Y3 Y

end

section
/-- The launch with its tables fixed. -/
abbrev cfgA (a : (pcfg0 (F := Bits)).Adm) : Pipeline.Cfg sig Λ₀ := cfg0 (F := Bits) a

variable (a : (pcfg0 (F := Bits)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Bits) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (m : (ℓ : Loc nD τ sig) → Buf (Elt Bits) ℓ)

/-- What the body keeps between points, at the launch's tables. -/
abbrev Phi (c : Dev nD) : sProp R5 := Kept a.1 c

/-- The pipeline's proof data: the inputs' buffers are left as found, of the output's nothing is said. -/
def rdats (_ : Fin 1) (c : Dev nD) : RDat τ (Elt Bits) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ _ => True
  Φ n := Phi a c
  q _ := fullShare
  owed _ := 0

set_option maxHeartbeats 4000000 in
/-- The body at a point. -/
theorem sound (c : Dev nD) (t : Fin (cfgA a).N) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Phi a c ∗ O
        ∗ owns (c : Thread nD τ) (ms0 a t) fullShare Y0 ∗ owns (c : Thread nD τ) (ms1 a t) fullShare Y1
        ∗ owns (c : Thread nD τ) (ms2 a t) fullShare Y2 ∗ owns (c : Thread nD τ) (ms3 a t) fullShare Y3
        ∗ owns (c : Thread nD τ) (ms4 a t) fullShare Y)
      ⊢ wp frame (wpE (defs₀ (F := Bits)) Variants.none c none) Set.univ (bodyAt a t) fun _ =>
        iprop(Phi a c ∗ O
          ∗ owns (c : Thread nD τ) (ms0 a t) fullShare Y0 ∗ owns (c : Thread nD τ) (ms1 a t) fullShare Y1
          ∗ owns (c : Thread nD τ) (ms2 a t) fullShare Y2 ∗ owns (c : Thread nD τ) (ms3 a t) fullShare Y3
          ∗ ∃ X, owns (c : Thread nD τ) (ms4 a t) fullShare X) :=
  visit a.1 c t (ms0 a t) (hs0 a t) (ms1 a t) (hs1 a t) (ms2 a t) (hs2 a t) (ms3 a t) (hs3 a t) (ms4 a t) (hs4 a t) O Y0 Y1 Y2 Y3 Y

set_option maxHeartbeats 4000000 in
/-- The library's body obligation. -/
theorem obligation (c : Dev nD) : RDat.BodyObligation (rdats a m 0 c) (defs₀ (F := Bits)) Variants.none () Set.univ := fun t Y hY => by
  rw [bigSep_W0]
  have hs := sound a c t ((rdats a m 0 c).owesAt () t.castSucc) (Y (0 : Fin 5)) (Y (1 : Fin 5)) (Y (2 : Fin 5)) (Y (3 : Fin 5)) (Y (4 : Fin 5))
  refine BIBase.Entails.trans ?_ (hs.trans (wp_mono frame _ Set.univ fun r => ?_))
  · exact .rfl
  · rw [bigSep_W0, show (rdats a m 0 c).Φ t.succ = Phi a c from rfl,
      show (rdats a m 0 c).owesAt () t.succ = (rdats a m 0 c).owesAt () t.castSucc from rfl]
    iintro ⟨HP, HO, H0, H1, H2, H3, %X, H4⟩
    isplitl [HP]; · iexact HP
    isplitl [HO]; · iexact HO
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists X; isplitr; swap
    · iexact H4
    · ipureintro
      trivial

/-! ## The launch -/

/-- The list of launches with their tables fixed. -/
abbrev pcsA : Fin 1 → Pipeline.Cfg sig Λ₀ := Pipeline.pin (pcfgs (F := Bits)) fun _ => a

/-- The launch's element. -/
def u5 : UR sig nD τ :=
  initOf (Pipeline.cells (pcsA a) ((launch0 (F := Bits)).cellOf_inj fun _ => a))
    (Pipeline.launchToks (pcsA a) ((launch0 (F := Bits)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Bits)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- What the first point is given. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a c from rfl]
  unfold Phi Kept
  iintro ⟨-, ⟨HT0, HT1, HT2, HT3⟩, ⟨%a0, HS0⟩, ⟨%a1, HS1⟩⟩
  iexists a0, a1
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a c from rfl, Pipeline.ownSems0_none]
  unfold Phi Kept
  iintro ⟨%a0, %a1, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
/-- The run: the arguments end unchanged, every counter is zero. -/
theorem run (ρ : Dev nD → PrngReg) (hp : ∀ (c : Dev nD) (k : Fin 4), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Bits)) (fun _ => a) (rdats a m) () ((launch0 (F := Bits)).cellOf_inj fun _ => a) (0 : Fin 1)
    (launch0 (F := Bits)).win.to₀ (Pipeline.OwnSemFacts.none _) (launch0 (F := Bits)).pre EP5 defs₀ Variants.none m ρ main
    (hbody := fun c => obligation a m c) (hne := (launch0 (F := Bits)).block_pos)
    (harr := (launch0 (F := Bits)).arr_whole) (hstage := (launch0 (F := Bits)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Bits)).win.arr_inj) (launch0 (F := Bits)).arr_whole
      (fun w hw => (rdats a m 0 c).q_eq_shareOf_of_share_full (launch0 (F := Bits)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨i0, (ht 0).trans (hp c 0).symm, (ht 1).trans (hp c 1).symm, (ht 2).trans (hp c 2).symm, (ht 3).trans (hp c 3).symm, i1, i2, i3⟩, hz⟩)

end

end Cert.FfnWAt2
-- ==== Proof.At2C.lean ====
/- The claims about the experts' call at the third layer: its runs from tables that are a schedule, and its result equal to the reference's. -/
module

public import proofs.«01_k».proof.Proof.At2I
public import proofs.«01_k».proof.Proof.FfnK
public import proofs.«01_k».proof.Proof.At2W
public import proofs.«01_k».proof.Proof.Gen.Reference9Ideal.Run
public import proofs.«01_k».proof.Proof.Gen.Reference9Ideal.Read
public import proofs.«01_k».proof.Proof.Gen.Pre_visits
public import Idealize.ShloMosaic.Lib.Bf16Pair

@[expose] public section

set_option maxRecDepth 16384
set_option Elab.async false

noncomputable section

namespace Cert.FfnClaimsAt2

open Idealize.ShloMosaic Idealize.ShloMosaic.TcCoe Idealize.SL.Sem
open Cert.Ffn (Sched num num_of sched_of_pre)

attribute [local instance] Cert.Pre_visits.Gen.facts

section Ideals
open Cert.Kernel9Ideal Cert.Kernel9Ideal.Gen Cert.FfnAt2

variable (m : (ℓ : Loc nD τ sig) → Buf (Elt Ideal) ℓ)

/-- What the precondition says of the tables in memory. -/
theorem sched_ideal (h : Pre_Kernel9Ideal m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def tables : pre0.Contents (Elt Ideal) := fun k => m (((0 : Dev nD) : Thread nD τ).loc (pre0.ref k))

/-- The launch's blocks are inside its arrays. -/
def adm (h : Pre_Kernel9Ideal m) : (pcfg0 (F := Ideal)).Adm := ⟨tables m, ok_of (tables m)
  (fun i => by
    have S := (sched_ideal m h 0).hE (i 0).val (i 0).isLt
    rwa [num_of _ _ (i 0).isLt] at S)
  (fun i => by
    have S := (sched_ideal m h 0).hV (i 0).val (i 0).isLt
    rwa [num_of _ _ (i 0).isLt] at S)⟩

/-- Every device's tables are the ones read. -/
theorem tables_eq (c : Dev nD) (k : Fin 4) : m ((c : Thread nD τ).loc (pre0.ref k)) = tables m k := by
  rw [show c = 0 from Subsingleton.elim _ _]; rfl

end Ideals

/-- The idealized program's frame. -/
theorem frame_ideal : quiescent_Kernel9Ideal (hKernel9Ideal := Cert.Kernel9Ideal.Gen.facts) (hPre_visits := Cert.Pre_visits.Gen.facts) :=
  fun m g h => (θ_run _ _ _).mono (fun r hr => ⟨fun c => (hr.1 c).2, hr.2⟩) (Cert.FfnAt2.run (adm m h) m (sched_ideal m h 0) g (fun c k => tables_eq m c k))

section Words
open Cert.Kernel9 Cert.Kernel9.Gen Cert.FfnWAt2

variable (m : (ℓ : Loc nD τ sig) → Buf (Elt Bits) ℓ)

/-- What the precondition says of the tables in memory. -/
theorem sched_word (h : Pre_Kernel9 m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def wtables : pre0.Contents (Elt Bits) := fun k => m (((0 : Dev nD) : Thread nD τ).loc (pre0.ref k))

/-- The launch's blocks are inside its arrays. -/
def wadm (h : Pre_Kernel9 m) : (pcfg0 (F := Bits)).Adm := ⟨wtables m, Cert.FfnWAt2.ok_of (wtables m)
  (fun i => by
    have S := (sched_word m h 0).hE (i 0).val (i 0).isLt
    rwa [num_of _ _ (i 0).isLt] at S)
  (fun i => by
    have S := (sched_word m h 0).hV (i 0).val (i 0).isLt
    rwa [num_of _ _ (i 0).isLt] at S)⟩

/-- Every device's tables are the ones read. -/
theorem wtables_eq (c : Dev nD) (k : Fin 4) : m ((c : Thread nD τ).loc (pre0.ref k)) = wtables m k := by
  rw [show c = 0 from Subsingleton.elim _ _]; rfl

end Words

/-- The program's frame. -/
theorem frame_word : quiescent_Kernel9 (hKernel9 := Cert.Kernel9.Gen.facts) (hPre_visits := Cert.Pre_visits.Gen.facts) :=
  fun m g h => Cert.FfnWAt2.run (wadm m h) m g (fun c k => wtables_eq m c k)

section Reference
open Cert.Reference9Ideal Cert.Reference9Ideal.Gen Cert.Reference9Ideal.Read
open Cert.Ffn (layIn layOut)

variable (A0 : (⟨S131072x512, .i32⟩ : BufTy).Contents (Elt Ideal)) (T0 T1 T2 T3 : (⟨S127, .i32⟩ : BufTy).Contents (Elt Ideal))
  (A5 A6 : (⟨S4x64x1024x256, .f32⟩ : BufTy).Contents (Elt Ideal)) (A7 : (⟨S4x64x256x1024, .f32⟩ : BufTy).Contents (Elt Ideal))

/-- The layer's gate matrices are the first layer's of the shifted array, -/
theorem v28_eq : val_main_v28 A5 = Cert.Reference5Ideal.Read.val_main_v28 (F := Ideal) (layIn 2 A5) := by
  funext i
  rw [val_main_v28_apply, val_main_v27_apply, Cert.Reference5Ideal.Read.val_main_v28_apply, Cert.Reference5Ideal.Read.val_main_v27_apply]
  refine congrArg A5 (funext fun a => Fin.ext ?_)
  match a with
  | ⟨0, _⟩ => rfl
  | ⟨1, _⟩ => rfl
  | ⟨2, _⟩ => rfl
  | ⟨3, _⟩ => rfl

/-- so are its second matrices, -/
theorem v31_eq : val_main_v31 A6 = Cert.Reference5Ideal.Read.val_main_v31 (F := Ideal) (layIn 2 A6) := by
  funext i
  rw [val_main_v31_apply, val_main_v30_apply, Cert.Reference5Ideal.Read.val_main_v31_apply, Cert.Reference5Ideal.Read.val_main_v30_apply]
  refine congrArg A6 (funext fun a => Fin.ext ?_)
  match a with
  | ⟨0, _⟩ => rfl
  | ⟨1, _⟩ => rfl
  | ⟨2, _⟩ => rfl
  | ⟨3, _⟩ => rfl

/-- and its last. -/
theorem v39_eq : val_main_v39 A7 = Cert.Reference5Ideal.Read.val_main_v39 (F := Ideal) (layOut 2 A7) := by
  funext i
  rw [val_main_v39_apply, val_main_v38_apply, Cert.Reference5Ideal.Read.val_main_v39_apply, Cert.Reference5Ideal.Read.val_main_v38_apply]
  refine congrArg A7 (funext fun a => Fin.ext ?_)
  match a with
  | ⟨0, _⟩ => rfl
  | ⟨1, _⟩ => rfl
  | ⟨2, _⟩ => rfl
  | ⟨3, _⟩ => rfl

/-- The gate product, -/
theorem v29_eq : val_main_v29 A0 A5 = Cert.Reference5Ideal.Read.val_main_v29 (F := Ideal) A0 (layIn 2 A5) := by
  unfold val_main_v29 Cert.Reference5Ideal.Read.val_main_v29
  rw [v28_eq]
  rfl

/-- the second product, -/
theorem v32_eq : val_main_v32 A0 A6 = Cert.Reference5Ideal.Read.val_main_v32 (F := Ideal) A0 (layIn 2 A6) := by
  unfold val_main_v32 Cert.Reference5Ideal.Read.val_main_v32
  rw [v31_eq]
  rfl

/-- the gate after its sigmoid, -/
theorem v33_eq : val_main_v33 A0 A5 = Cert.Reference5Ideal.Read.val_main_v33 (F := Ideal) A0 (layIn 2 A5) := by
  unfold val_main_v33 val_main_call2_v5 val_main_call2_v3 val_main_call2_v1 val_main_call2_v0
    Cert.Reference5Ideal.Read.val_main_v33 Cert.Reference5Ideal.Read.val_main_call2_v5 Cert.Reference5Ideal.Read.val_main_call2_v3 Cert.Reference5Ideal.Read.val_main_call2_v1 Cert.Reference5Ideal.Read.val_main_call2_v0
  rw [v29_eq]
  rfl

/-- the hidden rows of the chosen experts, -/
theorem v37_eq : val_main_v37 A0 T0 T1 T2 T3 A5 A6 = Cert.Reference5Ideal.Read.val_main_v37 (F := Ideal) A0 T0 T1 T2 T3 (layIn 2 A5) (layIn 2 A6) := by
  unfold val_main_v37 val_main_v34 Cert.Reference5Ideal.Read.val_main_v37 Cert.Reference5Ideal.Read.val_main_v34
  rw [v33_eq, v32_eq]
  rfl

/-- and the result are the first layer's of the shifted arrays. -/
theorem v42_eq : val_main_v42 A0 T0 T1 T2 T3 A5 A6 A7
    = Cert.Reference5Ideal.Read.val_main_v42 (F := Ideal) A0 T0 T1 T2 T3 (layIn 2 A5) (layIn 2 A6) (layOut 2 A7) := by
  unfold val_main_v42 val_main_v41 val_main_v40 Cert.Reference5Ideal.Read.val_main_v42 Cert.Reference5Ideal.Read.val_main_v41 Cert.Reference5Ideal.Read.val_main_v40
  rw [v37_eq, v39_eq]
  rfl

end Reference

/-- The reference's frame. -/
theorem reference_frame : quiescent_Reference9Ideal (hReference9Ideal := Cert.Reference9Ideal.Gen.facts) := fun m g _ =>
  (θ_run _ _ _).mono (fun r h => ⟨fun c => (h c).2, Idealize.ShloMosaic.sem_eq_zero_of_no_sems rfl r.2⟩)
    (Cert.Reference9Ideal.Value.run (F := Ideal) m g)

/-- The same from tables that are a schedule. -/
theorem reference_frame_pre : quiescent_Reference9Ideal_pre_visits (hReference9Ideal := Cert.Reference9Ideal.Gen.facts)
    (hPre_visits := Cert.Pre_visits.Gen.facts) := fun m g _ => reference_frame m g trivial

/-- The rewrites the idealization made, each proved. -/
theorem preserves : preserves_Kernel9_Kernel9Ideal := ⟨IdealRules.bf16_pair.packStatement _, IdealRules.bf16_pair.statement _ _⟩

/-- From equal arguments the two programs end with equal results. -/
theorem algebraic : algebraic_Kernel9Ideal_Reference9Ideal (hKernel9Ideal := Cert.Kernel9Ideal.Gen.facts)
    (hReference9Ideal := Cert.Reference9Ideal.Gen.facts) (hPre_visits := Cert.Pre_visits.Gen.facts) := by
  intro m g m' g' h hargs
  refine ⟨fun c => Cert.FfnAt2.resOf (adm m h) m c, (θ_run _ _ _).mono (fun r hr c => hr.1 c) (Cert.FfnAt2.run (adm m h) m (sched_ideal m h 0) g (fun c k => tables_eq m c k)), ?_⟩
  refine (θ_run _ _ _).mono (fun r hr c => ?_) (Cert.Reference9Ideal.Value.run (F := Ideal) m' g')
  obtain ⟨h0, hr⟩ := hr c
  obtain ⟨a0, a1, a2, a3, a4, a5, a6, a7⟩ := hargs c
  refine ⟨h0.trans ?_, hr⟩
  rw [Cert.Reference9Ideal.Read.val_main_v42_eq, a0, a1, a2, a3, a4, a5, a6, a7, v42_eq]
  have S := sched_ideal m h c
  have hc : c = 0 := Subsingleton.elim _ _
  refine funext fun (z : Cert.Reference9Ideal.S262144x512.Idx) => ?_
  have z0 : (z 0).val < 262144 := (z 0).isLt
  have z1 : (z 1).val < 512 := (z 1).isLt
  obtain ⟨t, ht, hcov⟩ := S.cover ((z 0).val / 2) (by omega)
  have he := Cert.Ffn.expertOf_eq S ((z 0).val / 2) t ht hcov
  have hlt := S.hE t ht
  refine (Cert.FfnRef.out_eq _ _ _ _ S z ⟨(z 0).val / 2, by omega⟩ ⟨_, hlt⟩ ⟨(z 0).val % 2 * 512 + (z 1).val, by omega⟩ rfl he rfl).trans ?_
  subst hc
  exact (Cert.Ffn.res_row _ _ _ _ _ _ _ _ z ⟨(z 0).val / 2, by omega⟩ ⟨_, hlt⟩ ⟨(z 0).val % 2 * 512 + (z 1).val, by omega⟩ rfl he rfl).symm

end Cert.FfnClaimsAt2

end
-- ==== Proof.At3I.lean ====
/- The experts' launch at the fourth layer: from a memory whose tables are a schedule, the arguments end unchanged and the result is each row by its expert's weights of that layer. -/
module

public import proofs.«01_k».proof.Defs
public import proofs.«01_k».proof.Proof.Gen.Kernel10Ideal
public import proofs.«01_k».proof.Proof.Gen.Kernel10Ideal.Launch
public import proofs.«01_k».proof.Proof.Gen.Kernel10Ideal.Skeleton
public import proofs.«01_k».proof.Proof.FfnH
public import proofs.«01_k».proof.Proof.Layer

@[expose] public section

set_option maxRecDepth 16384
set_option Elab.async false

noncomputable section

namespace Cert.FfnAt3

open Cert.Kernel10Ideal Cert.Kernel10Ideal.Gen
open Cert.Ffn (at1 at2 Sched num num_of loAt hiAt rowsOf wIn wOut W0 W1 res goodAt good_step Vis gen at1_num layIn layOut)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Ideal) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Ideal) = Cert.Kernel5Ideal.defs₀ (F := Ideal) := by
  unfold defs₀ Cert.Kernel5Ideal.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Ideal)) (i : grid0.Coords) : cc0_transform_0 k0_off1_inb numel1_S1 pf i = ![(at1 i (pf 1)).toNat, 0] := Cert.Ffn.map0 pf i
/-- The second window's block is the expert's. -/
theorem map1 (pf : pre0.Contents (Elt Ideal)) (i : grid0.Coords) : cc0_transform_1 k0_off1_inb numel1_S1 pf i = ![3, (at1 i (pf 0)).toNat, 0, 0] :=
  congrArg (fun v : BitVec 32 => ![3, v.toNat, 0, 0]) (Cert.Ffn.at_eq (pf 0) i (k0_off1_inb i) numel1_S1)
/-- The third window's block is the expert's. -/
theorem map2 (pf : pre0.Contents (Elt Ideal)) (i : grid0.Coords) : cc0_transform_2 k0_off1_inb numel1_S1 pf i = ![3, (at1 i (pf 0)).toNat, 0, 0] :=
  congrArg (fun v : BitVec 32 => ![3, v.toNat, 0, 0]) (Cert.Ffn.at_eq (pf 0) i (k0_off1_inb i) numel1_S1)
/-- The fourth window's block is the expert's. -/
theorem map3 (pf : pre0.Contents (Elt Ideal)) (i : grid0.Coords) : cc0_transform_3 k0_off1_inb numel1_S1 pf i = ![3, (at1 i (pf 0)).toNat, 0, 0] :=
  congrArg (fun v : BitVec 32 => ![3, v.toNat, 0, 0]) (Cert.Ffn.at_eq (pf 0) i (k0_off1_inb i) numel1_S1)
/-- The output's block is the visit's tile. -/
theorem map4 (pf : pre0.Contents (Elt Ideal)) (i : grid0.Coords) : cc0_transform_4 k0_off1_inb numel1_S1 pf i = ![(at1 i (pf 1)).toNat, 0] := Cert.Ffn.map4 pf i

/-- The side condition of the pipeline, from the tables' ranges. -/
theorem ok_of (pf : pre0.Contents (Elt Ideal)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (3 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (3 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (3 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

/-! ## The pipeline -/

section
variable (a : (pcfg0 (F := Ideal)).Adm)

/-- The schedule of the tables a pipeline runs at. -/
abbrev sE : ℕ → ℕ := num (a.1 (0 : Fin 4))
/-- The tiles of the visits. -/
abbrev sV : ℕ → ℕ := num (a.1 (1 : Fin 4))
/-- The visits' first rows in the tile. -/
abbrev sL : ℕ → ℕ := num (a.1 (2 : Fin 4))
/-- The visits' last rows in the tile, plus one. -/
abbrev sH : ℕ → ℕ := num (a.1 (3 : Fin 4))

/-- The launch with its tables fixed. -/
abbrev cfgA : Pipeline.Cfg sig Λ₀ := cfg0 (F := Ideal) a

/-- The block the rows' window takes at a visit. -/
theorem index0 (t : Fin grid0.N) : ((cfgA a).win (0 : Fin 5)).index t = ![sV a t.val, 0] :=
  (map0 a.1 (grid0.coords t)).trans (congrArg (fun n => ![n, 0]) (at1_num _ t))
/-- The block the gate matrix's window takes. -/
theorem index1 (t : Fin grid0.N) : ((cfgA a).win (1 : Fin 5)).index t = ![3, sE a t.val, 0, 0] :=
  (map1 a.1 (grid0.coords t)).trans (congrArg (fun n => ![3, n, 0, 0]) (at1_num _ t))
/-- The block the second matrix's window takes. -/
theorem index2 (t : Fin grid0.N) : ((cfgA a).win (2 : Fin 5)).index t = ![3, sE a t.val, 0, 0] :=
  (map2 a.1 (grid0.coords t)).trans (congrArg (fun n => ![3, n, 0, 0]) (at1_num _ t))
/-- The block the last matrix's window takes. -/
theorem index3 (t : Fin grid0.N) : ((cfgA a).win (3 : Fin 5)).index t = ![3, sE a t.val, 0, 0] :=
  (map3 a.1 (grid0.coords t)).trans (congrArg (fun n => ![3, n, 0, 0]) (at1_num _ t))
/-- The block the output's window takes. -/
theorem index4 (t : Fin grid0.N) : ((cfgA a).win (4 : Fin 5)).index t = ![sV a t.val, 0] :=
  (map4 a.1 (grid0.coords t)).trans (congrArg (fun n => ![n, 0]) (at1_num _ t))

variable (S : Sched (sE a) (sV a) (sL a) (sH a)) (m : (ℓ : Loc nD τ sig) → Buf (Elt Ideal) ℓ) (c : Dev nD)

/-- A window's block at a point, read off its array at launch. -/
def iblk (w : Fin (cfgA a).W) (t : Fin (cfgA a).N) : (((cfgA a).win w).xblock ((cfgA a).grid.coords t)).Idx → Elt Ideal ((cfgA a).win w).elt :=
  (((cfgA a).win w).blk t).view.read (Elt Ideal) (m (((cfgA a).win w).arr.view.loc (c : Thread nD τ)))

include S
/-- The rows' block as a function of the tile. -/
theorem blk0 (t : Fin grid0.N) : (iblk a m c (0 : Fin 5) t : S2048x512.Idx → BitVec 32) = rowsOf (m ((c : Thread nD τ).loc main_arg0)) (sV a t.val) := by
  have hv := S.hV t.val t.isLt
  funext j
  have hj0 : (j 0).val < 2048 := (j 0).isLt
  show (m ((c : Thread nD τ).loc main_arg0) : S131072x512.Idx → BitVec 32) ((((cfgA a).win (0 : Fin 5)).rect t).emb j) = _
  refine congrArg _ (funext fun b => Fin.ext ?_)
  refine (Pipeline.Window.rect_emb_val ((cfgA a).win (0 : Fin 5)) t j b rfl).trans ?_
  rw [index0]
  match b with
  | ⟨0, _⟩ => show sV a t.val * 2048 + (j 0).val = (sV a t.val * 2048 + (j 0).val) % 131072; rw [Nat.mod_eq_of_lt (by omega)]
  | ⟨1, _⟩ => show 0 * 512 + (j 1).val = (j 1).val; omega
/-- The gate matrix's block as a function of the expert. -/
theorem blk1 (t : Fin grid0.N) : (iblk a m c (1 : Fin 5) t : S1x1x1024x256.Idx → EReal) = wIn (layIn 3 (m ((c : Thread nD τ).loc main_arg5))) (sE a t.val) := by
  have hv := S.hE t.val t.isLt
  funext j
  have hj0 : (j 0).val < 1 := (j 0).isLt
  have hj1 : (j 1).val < 1 := (j 1).isLt
  show (m ((c : Thread nD τ).loc main_arg5) : S4x64x1024x256.Idx → EReal) ((((cfgA a).win (1 : Fin 5)).rect t).emb j) =
    (m ((c : Thread nD τ).loc main_arg5) : S4x64x1024x256.Idx → EReal) (ix4 3 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (1 : Fin 5)) t j b rfl).trans ?_
  rw [index1]
  match b with
  | ⟨0, _⟩ => show 3 * 1 + (j 0).val = 3; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The second matrix's block as a function of the expert. -/
theorem blk2 (t : Fin grid0.N) : (iblk a m c (2 : Fin 5) t : S1x1x1024x256.Idx → EReal) = wIn (layIn 3 (m ((c : Thread nD τ).loc main_arg6))) (sE a t.val) := by
  have hv := S.hE t.val t.isLt
  funext j
  have hj0 : (j 0).val < 1 := (j 0).isLt
  have hj1 : (j 1).val < 1 := (j 1).isLt
  show (m ((c : Thread nD τ).loc main_arg6) : S4x64x1024x256.Idx → EReal) ((((cfgA a).win (2 : Fin 5)).rect t).emb j) =
    (m ((c : Thread nD τ).loc main_arg6) : S4x64x1024x256.Idx → EReal) (ix4 3 (⟨sE a t.val % 64, Nat.mod_lt _ (by decide)⟩ : Fin 64) (j 2 : Fin 1024) (j 3 : Fin 256))
  refine congrArg _ (funext fun b => Fin.ext ?_)
  refine (Pipeline.Window.rect_emb_val ((cfgA a).win (2 : Fin 5)) t j b rfl).trans ?_
  rw [index2]
  match b with
  | ⟨0, _⟩ => show 3 * 1 + (j 0).val = 3; omega
  | ⟨1, _⟩ => show sE a t.val * 1 + (j 1).val = sE a t.val % 64; rw [Nat.mod_eq_of_lt hv]; omega
  | ⟨2, _⟩ => show 0 * 1024 + (j 2).val = (j 2).val; omega
  | ⟨3, _⟩ => show 0 * 256 + (j 3).val = (j 3).val; omega
/-- The last matrix's block as a function of the expert. -/
theorem blk3 (t : Fin grid0.N) : (iblk a m c (3 : Fin 5) t : S1x1x256x1024.Idx → EReal) = wOut (layOut 3 (m ((c : Thread nD τ).loc main_arg7))) (sE a t.val) := by
  have hv := S.hE t.val t.isLt
  funext j
  have hj0 : (j 0).val < 1 := (j 0).isLt
  have hj1 : (j 1).val < 1 := (j 1).isLt
  show (m ((c : Thread nD τ).loc main_arg7) : S4x64x256x1024.Idx → EReal) ((((cfgA a).win (3 : Fin 5)).rect t).emb j) =
    (m ((c : Thread nD τ).loc main_arg7) : S4x64x256x1024.Idx → EReal) (ix4 3 (⟨sE a t.val % 64, Nat.mod_lt _ (by decide)⟩ : Fin 64) (j 2 : Fin 256) (j 3 : Fin 1024))
  refine congrArg _ (funext fun b => Fin.ext ?_)
  refine (Pipeline.Window.rect_emb_val ((cfgA a).win (3 : Fin 5)) t j b rfl).trans ?_
  rw [index3]
  match b with
  | ⟨0, _⟩ => show 3 * 1 + (j 0).val = 3; omega
  | ⟨1, _⟩ => show sE a t.val * 1 + (j 1).val = sE a t.val % 64; rw [Nat.mod_eq_of_lt hv]; omega
  | ⟨2, _⟩ => show 0 * 256 + (j 2).val = (j 2).val; omega
  | ⟨3, _⟩ => show 0 * 1024 + (j 3).val = (j 3).val; omega

/-- Where the output's block sits in its array. -/
theorem emb4 (t : Fin grid0.N) (y : S4096x512.Idx) : ((((cfgA a).win (4 : Fin 5)).rect t).emb y : S262144x512.Idx)
    = ix2 ⟨(sV a t.val * 4096 + (y 0).val) % 262144, Nat.mod_lt _ (by decide)⟩ (y 1 : Fin 512) := by
  have hv := S.hV t.val t.isLt
  have hj0 : (y 0).val < 4096 := (y 0).isLt
  refine (funext fun b => Fin.ext ?_)
  refine (Pipeline.Window.rect_emb_val ((cfgA a).win (4 : Fin 5)) t y b rfl).trans ?_
  rw [index4]
  match b with
  | ⟨0, _⟩ => show sV a t.val * 4096 + (y 0).val = (sV a t.val * 4096 + (y 0).val) % 262144; rw [Nat.mod_eq_of_lt (by omega)]
  | ⟨1, _⟩ => show 0 * 512 + (y 1).val = (y 1).val; omega
omit S

/-- A tile's block is written back when the next visit is of another tile, or at the last; -/
theorem flush_true (t : Fin grid0.N) (h : ((cfgA a).win (4 : Fin 5)).flush t = true) : t.val = 126 ∨ (t.val + 1 < 127 ∧ sV a (t.val + 1) ≠ sV a t.val) := by
  have ht : t.val < 127 := t.isLt
  unfold Pipeline.Window.flush at h
  rw [Bool.and_eq_true, Bool.or_eq_true, decide_eq_true_eq, decide_eq_true_eq] at h
  rcases h.2 with e | ⟨hN, e⟩
  · left; have : t.val + 1 = 127 := e; omega
  · right
    refine ⟨hN, fun q => e ?_⟩
    rw [index4, index4 a t]
    show ![sV a (t.val + 1), 0] = _
    rw [q]
/-- otherwise the next visit goes on with it. -/
theorem flush_false (t : Fin grid0.N) (h : ((cfgA a).win (4 : Fin 5)).flush t = false) : t.val + 1 < 127 ∧ sV a (t.val + 1) = sV a t.val := by
  have ht : t.val < 127 := t.isLt
  by_contra q
  refine absurd h (by
    rw [Bool.not_eq_false]
    unfold Pipeline.Window.flush
    rw [Bool.and_eq_true, Bool.or_eq_true, decide_eq_true_eq, decide_eq_true_eq]
    refine ⟨rfl, ?_⟩
    by_cases hN : t.val + 1 < 127
    · right
      refine ⟨hN, fun e => q ⟨hN, ?_⟩⟩
      rw [index4, index4 a t] at e
      exact congrFun e 0
    · left
      show t.val + 1 = 127
      omega)

end

section
variable (pf : pre0.Contents (Elt Ideal))

/-- The schedule of the tables: the visits' experts, -/
abbrev qE : ℕ → ℕ := num (pf (0 : Fin 4))
/-- their tiles, -/
abbrev qV : ℕ → ℕ := num (pf (1 : Fin 4))
/-- their first rows, -/
abbrev qL : ℕ → ℕ := num (pf (2 : Fin 4))
/-- and their last, plus one. -/
abbrev qH : ℕ → ℕ := num (pf (3 : Fin 4))

variable (x : S131072x512.Idx → BitVec 32) (wg wu : S4x64x1024x256.Idx → EReal) (wd : S4x64x256x1024.Idx → EReal)

/-- What the body keeps between points: the last visit's weights, and the tables. -/
def Kept (c : Dev nD) (n : ℕ) : sProp R5 :=
  iprop(∃ s0 s1, ⌜n ≠ 0 → (s0 : S1024x512.Idx → EReal) = W0 wg wu (qE pf (n - 1)) ∧ (s1 : S256x1024.Idx → EReal) = W1 wd (qE pf (n - 1))⌝
    ∗ (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

variable (S : Sched (qE pf) (qV pf) (qL pf) (qH pf))

set_option maxHeartbeats 4000000 in
include S in
/-- The body at a point, from any buffers that hold the blocks of its windows. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y : S4096x512.Idx → EReal) :
    iprop(Kept pf wg wu wd c t.val ∗ O
        ∗ owns (c : Thread nD τ) m0 fullShare (rowsOf x (qV pf t.val))
        ∗ owns (c : Thread nD τ) m1 fullShare (wIn wg (qE pf t.val))
        ∗ owns (c : Thread nD τ) m2 fullShare (wIn wu (qE pf t.val))
        ∗ owns (c : Thread nD τ) m3 fullShare (wOut wd (qE pf t.val))
        ∗ owns (c : Thread nD τ) m4 fullShare Y)
      ⊢ wp frame (wpE (defs₀ (F := Ideal)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf wg wu wd c (t.val + 1) ∗ O
          ∗ owns (c : Thread nD τ) m0 fullShare (rowsOf x (qV pf t.val))
          ∗ owns (c : Thread nD τ) m1 fullShare (wIn wg (qE pf t.val))
          ∗ owns (c : Thread nD τ) m2 fullShare (wIn wu (qE pf t.val))
          ∗ owns (c : Thread nD τ) m3 fullShare (wOut wd (qE pf t.val))
          ∗ ∃ X, ⌜Vis (qL pf t.val) (qH pf t.val) (gen (rowsOf x (qV pf t.val)) (W0 wg wu (qE pf t.val)) (W1 wd (qE pf t.val))) Y X⌝
            ∗ owns (c : Thread nD τ) m4 fullShare X) := by
  rw [defs_eq]
  exact Cert.Ffn.visit pf x wg wu wd S c t m0 h0 m1 h1 m2 h2 m3 h3 m4 h4 O Y

end

section
variable (a : (pcfg0 (F := Ideal)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Ideal) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (x : S131072x512.Idx → BitVec 32) (wg wu : S4x64x1024x256.Idx → EReal) (wd : S4x64x256x1024.Idx → EReal)

/-- What the body keeps between points, at the launch's tables. -/
abbrev Phi (c : Dev nD) (n : ℕ) : sProp R5 := Kept a.1 wg wu wd c n

variable (S : Sched (sE a) (sV a) (sL a) (sH a))

set_option maxHeartbeats 4000000 in
include S in
/-- The body at a point, from the blocks its windows hold there. -/
theorem sound (c : Dev nD) (t : Fin (cfgA a).N) (O : sProp R5) (Y : S4096x512.Idx → EReal) :
    iprop(Phi a wg wu wd c t.val ∗ O
        ∗ owns (c : Thread nD τ) (ms0 a t) fullShare (rowsOf x (sV a t.val))
        ∗ owns (c : Thread nD τ) (ms1 a t) fullShare (wIn wg (sE a t.val))
        ∗ owns (c : Thread nD τ) (ms2 a t) fullShare (wIn wu (sE a t.val))
        ∗ owns (c : Thread nD τ) (ms3 a t) fullShare (wOut wd (sE a t.val))
        ∗ owns (c : Thread nD τ) (ms4 a t) fullShare Y)
      ⊢ wp frame (wpE (defs₀ (F := Ideal)) Variants.none c none) Set.univ (bodyAt a t) fun _ =>
        iprop(Phi a wg wu wd c (t.val + 1) ∗ O
          ∗ owns (c : Thread nD τ) (ms0 a t) fullShare (rowsOf x (sV a t.val))
          ∗ owns (c : Thread nD τ) (ms1 a t) fullShare (wIn wg (sE a t.val))
          ∗ owns (c : Thread nD τ) (ms2 a t) fullShare (wIn wu (sE a t.val))
          ∗ owns (c : Thread nD τ) (ms3 a t) fullShare (wOut wd (sE a t.val))
          ∗ ∃ X, ⌜Vis (sL a t.val) (sH a t.val) (gen (rowsOf x (sV a t.val)) (W0 wg wu (sE a t.val)) (W1 wd (sE a t.val))) Y X⌝
            ∗ owns (c : Thread nD τ) (ms4 a t) fullShare X) :=
  visit a.1 x wg wu wd S c t (ms0 a t) (hs0 a t) (ms1 a t) (hs1 a t) (ms2 a t) (hs2 a t) (ms3 a t) (hs3 a t) (ms4 a t) (hs4 a t) O Y

end

section
variable (a : (pcfg0 (F := Ideal)).Adm) (m : (ℓ : Loc nD τ sig) → Buf (Elt Ideal) ℓ)

/-- The result of a launch memory, on a core. -/
abbrev resOf (c : Dev nD) : S262144x512.Idx → EReal :=
  res (sE a) (sV a) (sL a) (sH a) (m ((c : Thread nD τ).loc main_arg0)) (layIn 3 (m ((c : Thread nD τ).loc main_arg5))) (layIn 3 (m ((c : Thread nD τ).loc main_arg6))) (layOut 3 (m ((c : Thread nD τ).loc main_arg7)))
/-- A buffer's first rows are the result's. -/
abbrev goodOf (c : Dev nD) (k h : ℕ) (X : S4096x512.Idx → EReal) : Prop :=
  goodAt (sE a) (sV a) (sL a) (sH a) (m ((c : Thread nD τ).loc main_arg0)) (layIn 3 (m ((c : Thread nD τ).loc main_arg5))) (layIn 3 (m ((c : Thread nD τ).loc main_arg6))) (layOut 3 (m ((c : Thread nD τ).loc main_arg7))) k h X

/-- The pipeline's proof data: inputs are left as found; the output's buffer, its rows done so far being the result's, has
    the visit's rows done too. -/
def rdats (_ : Fin 1) (c : Dev nD) : RDat τ (Elt Ideal) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => goodOf a m c (sV a t.val) (loAt (sL a) (sH a) t.val) Y → goodOf a m c (sV a t.val) (hiAt (sL a) (sH a) t.val) X
  Φ n := Phi a (layIn 3 (m ((c : Thread nD τ).loc main_arg5))) (layIn 3 (m ((c : Thread nD τ).loc main_arg6))) (layOut 3 (m ((c : Thread nD τ).loc main_arg7))) c n.val
  q _ := fullShare
  owed _ := 0

variable (S : Sched (sE a) (sV a) (sL a) (sH a))

/-- The rows' buffer holds the tile's rows. -/
theorem found0 (c : Dev nD) (t : Fin (cfgA a).N) (Y) (h : (rdats a m 0 c).Finds (0 : Fin 5) t Y) : Y = iblk a m c (0 : Fin 5) t := by
  obtain ⟨d, e⟩ := RDat.finds_in_eq_fetched (rdats a m 0 c) (0 : Fin 5) rfl (fun _ _ _ => rfl) (fun _ _ _ h => h) t Y h
  exact e.trans (by unfold RDat.fetched RDat.blockOf iblk; rfl)

/-- The gate matrix's buffer holds the expert's. -/
theorem found1 (c : Dev nD) (t : Fin (cfgA a).N) (Y) (h : (rdats a m 0 c).Finds (1 : Fin 5) t Y) : Y = iblk a m c (1 : Fin 5) t := by
  obtain ⟨d, e⟩ := RDat.finds_in_eq_fetched (rdats a m 0 c) (1 : Fin 5) rfl (fun _ _ _ => rfl) (fun _ _ _ h => h) t Y h
  exact e.trans (by unfold RDat.fetched RDat.blockOf iblk; rfl)

/-- The second matrix's buffer holds the expert's. -/
theorem found2 (c : Dev nD) (t : Fin (cfgA a).N) (Y) (h : (rdats a m 0 c).Finds (2 : Fin 5) t Y) : Y = iblk a m c (2 : Fin 5) t := by
  obtain ⟨d, e⟩ := RDat.finds_in_eq_fetched (rdats a m 0 c) (2 : Fin 5) rfl (fun _ _ _ => rfl) (fun _ _ _ h => h) t Y h
  exact e.trans (by unfold RDat.fetched RDat.blockOf iblk; rfl)

/-- The last matrix's buffer holds the expert's. -/
theorem found3 (c : Dev nD) (t : Fin (cfgA a).N) (Y) (h : (rdats a m 0 c).Finds (3 : Fin 5) t Y) : Y = iblk a m c (3 : Fin 5) t := by
  obtain ⟨d, e⟩ := RDat.finds_in_eq_fetched (rdats a m 0 c) (3 : Fin 5) rfl (fun _ _ _ => rfl) (fun _ _ _ h => h) t Y h
  exact e.trans (by unfold RDat.fetched RDat.blockOf iblk; rfl)

set_option maxHeartbeats 4000000 in
include S in
/-- The library's body obligation. -/
theorem obligation (c : Dev nD) : RDat.BodyObligation (rdats a m 0 c) (defs₀ (F := Ideal)) Variants.none () Set.univ := fun t Y hY => by
  have e0 := (found0 a m c t _ (hY (0 : Fin 5))).trans (blk0 a S m c t)
  have e1 := (found1 a m c t _ (hY (1 : Fin 5))).trans (blk1 a S m c t)
  have e2 := (found2 a m c t _ (hY (2 : Fin 5))).trans (blk2 a S m c t)
  have e3 := (found3 a m c t _ (hY (3 : Fin 5))).trans (blk3 a S m c t)
  rw [bigSep_W0, e0, e1, e2, e3]
  have hs := sound a (m ((c : Thread nD τ).loc main_arg0)) (layIn 3 (m ((c : Thread nD τ).loc main_arg5))) (layIn 3 (m ((c : Thread nD τ).loc main_arg6))) (layOut 3 (m ((c : Thread nD τ).loc main_arg7))) S c t
    ((rdats a m 0 c).owesAt () t.castSucc) (Y (4 : Fin 5))
  refine BIBase.Entails.trans ?_ (hs.trans (wp_mono frame _ Set.univ fun r => ?_))
  · exact .rfl
  · rw [bigSep_W0, show (rdats a m 0 c).Φ t.succ = Phi a (layIn 3 (m ((c : Thread nD τ).loc main_arg5))) (layIn 3 (m ((c : Thread nD τ).loc main_arg6))) (layOut 3 (m ((c : Thread nD τ).loc main_arg7))) c (t.val + 1) from rfl,
      show (rdats a m 0 c).owesAt () t.succ = (rdats a m 0 c).owesAt () t.castSucc from rfl]
    iintro ⟨HP, HO, H0, H1, H2, H3, %X, %hX, H4⟩
    isplitl [HP]; · iexact HP
    isplitl [HO]; · iexact HO
    isplitl [H0]
    · iexists _; isplitr; swap
      · iexact H0
      · ipureintro; exact e0.symm
    isplitl [H1]
    · iexists _; isplitr; swap
      · iexact H1
      · ipureintro; exact e1.symm
    isplitl [H2]
    · iexists _; isplitr; swap
      · iexact H2
      · ipureintro; exact e2.symm
    isplitl [H3]
    · iexists _; isplitr; swap
      · iexact H3
      · ipureintro; exact e3.symm
    iexists X; isplitr; swap
    · iexact H4
    · ipureintro
      exact fun hg => good_step _ _ _ _ S t.val t.isLt _ _ hg hX

end

section
variable (a : (pcfg0 (F := Ideal)).Adm) (m : (ℓ : Loc nD τ sig) → Buf (Elt Ideal) ℓ) (S : Sched (sE a) (sV a) (sL a) (sH a))

include S
/-- What the body finds in the output's buffer: its rows below the visit's are the result's. -/
theorem found4 (c : Dev nD) : ∀ (n : ℕ) (hn : n < 127) (Y : S4096x512.Idx → EReal), (rdats a m 0 c).Finds (4 : Fin 5) (⟨n, hn⟩ : Fin grid0.N) Y →
    goodOf a m c (sV a n) (loAt (sL a) (sH a) n) Y
  | 0, hn, Y, _ => fun y hy => by
    rw [S.lo_zero.1] at hy
    exact absurd hy (Nat.not_lt_zero _)
  | n + 1, hn, Y, h => by
    rcases S.step n hn with ⟨eV, eL⟩ | ⟨eV, eL, eH⟩
    · have hp := ((rdats a m 0 c).finds_of_pos (w := (4 : Fin 5)) (t := (⟨n + 1, hn⟩ : Fin grid0.N)) rfl (Nat.succ_ne_zero n) Y).mp h
      rcases hp with hf | ⟨Y', hY', hA⟩
      · rcases flush_true a ⟨n, Nat.lt_of_succ_lt hn⟩ hf with e | ⟨-, e⟩
        · have e' : n = 126 := e
          omega
        · exact absurd eV e
      · have hg := found4 c n (Nat.lt_of_succ_lt hn) Y' hY'
        have hX : goodOf a m c (sV a n) (hiAt (sL a) (sH a) n) Y := hA hg
        rw [eV, eL]
        exact hX
    · intro y hy
      rw [eL] at hy
      exact absurd hy (Nat.not_lt_zero _)

/-- What the body leaves there. -/
theorem left4 (c : Dev nD) (t : Fin grid0.N) (X : S4096x512.Idx → EReal) (h : (rdats a m 0 c).Leaves (4 : Fin 5) t X) :
    goodOf a m c (sV a t.val) (hiAt (sL a) (sH a) t.val) X := by
  obtain ⟨Y, hY, hA⟩ := h
  exact hA (found4 a m S c t.val t.isLt Y hY)

/-- What the result's array may hold before a point: the tiles behind are the result's. -/
theorem arr_good (c : Dev nD) : ∀ (n : ℕ) (hn : n ≤ 127) (G : S262144x512.Idx → EReal), (rdats a m 0 c).ArrAt (4 : Fin 5) n G →
    ∀ z : S262144x512.Idx, (z 0).val / 4096 < (if n < 127 then sV a n else 64) → G z = resOf a m c z
  | 0, hn, G, _, z, hz => by
    rw [if_pos (by decide), S.lo_zero.2] at hz
    exact absurd hz (Nat.not_lt_zero _)
  | n + 1, hn, G, h, z, hz => by
    have hlt : n < 127 := hn
    have hz0 : (z 0).val < 262144 := (z 0).isLt
    unfold RDat.ArrAt at h
    dsimp only at h
    rw [dif_pos (show n < (cfgA a).N from hlt)] at h
    by_cases hf : ((cfgA a).win (4 : Fin 5)).flush (⟨n, hlt⟩ : Fin grid0.N) = true
    · rw [if_pos hf] at h
      obtain ⟨G₀, X, hG₀, hX, rfl⟩ := h
      have hgX := left4 a m S c ⟨n, hlt⟩ X hX
      have hend : hiAt (sL a) (sH a) n = 2048 ∧ (if n + 1 < 127 then sV a (n + 1) else 64) = sV a n + 1 := by
        rcases flush_true a ⟨n, hlt⟩ hf with e | ⟨e1, e2⟩
        · have e' : n = 126 := e
          subst e'
          exact ⟨S.at_end.2, by rw [if_neg (by decide), S.at_end.1]⟩
        · rw [if_pos e1]
          rcases S.step n e1 with ⟨eV, -⟩ | ⟨eV, -, eH⟩
          · exact absurd eV e2
          · exact ⟨eH, eV⟩
      rw [hend.2] at hz
      have hv := S.hV n hlt
      by_cases hk : (z 0).val / 4096 = sV a n
      · have hb : (z 0).val - sV a n * 4096 < 4096 := by omega
        have hzz : z = ((((cfgA a).win (4 : Fin 5)).rect (⟨n, hlt⟩ : Fin grid0.N)).emb (ix2 (⟨(z 0).val - sV a n * 4096, hb⟩ : Fin 4096) (z 1 : Fin 512)) : S262144x512.Idx) := by
          rw [emb4 a S]
          funext b
          match b with
          | ⟨0, _⟩ =>
            refine Fin.ext ?_
            show (z 0).val = (sV a n * 4096 + ((z 0).val - sV a n * 4096)) % 262144
            rw [Nat.mod_eq_of_lt (by omega)]
            omega
          | ⟨1, _⟩ => rfl
        have hw := View.write_emb_of_mem (Val := Elt Ideal) (v := (((cfgA a).win (4 : Fin 5)).blk (⟨n, hlt⟩ : Fin grid0.N)).view) G₀ (((cfgA a).win (4 : Fin 5)).cut ((cfgA a).grid.coords (⟨n, hlt⟩ : Fin grid0.N)) X) (M := Finset.univ)
          (x := (ix2 (⟨(z 0).val - sV a n * 4096, hb⟩ : Fin 4096) (z 1 : Fin 512) : S4096x512.Idx)) (Finset.mem_univ _)
        have hg := hgX (ix2 (⟨(z 0).val - sV a n * 4096, hb⟩ : Fin 4096) (z 1 : Fin 512)) (by
          show ((z 0).val - sV a n * 4096) / 2 < hiAt (sL a) (sH a) n
          rw [hend.1]
          omega)
        have hg' := hg.trans (congrArg (resOf a m c) (emb4 a S (⟨n, hlt⟩ : Fin grid0.N) (ix2 (⟨(z 0).val - sV a n * 4096, hb⟩ : Fin 4096) (z 1 : Fin 512))).symm)
        refine (congrArg _ hzz).trans (hw.trans (Eq.trans ?_ (hg'.trans (congrArg (resOf a m c) hzz.symm))))
        rfl
      · have hold := arr_good c n (Nat.le_of_lt hlt) G₀ hG₀ z (by rw [if_pos hlt]; omega)
        refine Eq.trans ?_ hold
        refine View.write_of_not_mem (Val := Elt Ideal) (v := (((cfgA a).win (4 : Fin 5)).blk (⟨n, hlt⟩ : Fin grid0.N)).view) G₀ _ Finset.univ ?_
        intro hmem
        obtain ⟨y, -, hy⟩ := Finset.mem_map.mp hmem
        have hy' : ((((cfgA a).win (4 : Fin 5)).rect (⟨n, hlt⟩ : Fin grid0.N)).emb y : S262144x512.Idx) = z := hy
        rw [emb4 a S] at hy'
        have h0 := congrArg (fun q : S262144x512.Idx => (q 0).val) hy'
        have hy0 : ((y : S4096x512.Idx) 0).val < 4096 := ((y : S4096x512.Idx) 0).isLt
        have h1 : (sV a n * 4096 + ((y : S4096x512.Idx) 0).val) % 262144 = (z 0).val := h0
        rw [Nat.mod_eq_of_lt (by omega)] at h1
        omega
    · rw [if_neg hf] at h
      rw [Bool.not_eq_true] at hf
      obtain ⟨e1, e2⟩ := flush_false a ⟨n, hlt⟩ hf
      rw [if_pos e1] at hz
      refine arr_good c n (Nat.le_of_lt hlt) G h z ?_
      rw [if_pos hlt]
      exact e2 ▸ hz

/-- At the end the array is the result. -/
theorem arr_end (c : Dev nD) (G : S262144x512.Idx → EReal) (h : (rdats a m 0 c).ArrAt (4 : Fin 5) 127 G) : G = resOf a m c :=
  funext fun z => arr_good a m S c 127 le_rfl G h z (by
    have hz0 : (z 0).val < 262144 := (z 0).isLt
    rw [if_neg (by decide)]
    omega)
omit S

/-! ## The launch -/

/-- The list of launches with their tables fixed. -/
abbrev pcsA : Fin 1 → Pipeline.Cfg sig Λ₀ := Pipeline.pin (pcfgs (F := Ideal)) fun _ => a

/-- The launch's element. -/
def u5 : UR sig nD τ :=
  initOf (Pipeline.cells (pcsA a) ((launch0 (F := Ideal)).cellOf_inj fun _ => a))
    (Pipeline.launchToks (pcsA a) ((launch0 (F := Ideal)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Ideal)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- Before the first point nothing is known of the weights kept. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a (layIn 3 (m ((c : Thread nD τ).loc main_arg5))) (layIn 3 (m ((c : Thread nD τ).loc main_arg6))) (layOut 3 (m ((c : Thread nD τ).loc main_arg7))) c 0 from rfl]
  unfold Phi Kept
  iintro ⟨-, ⟨HT0, HT1, HT2, HT3⟩, ⟨%a0, HS0⟩, ⟨%a1, HS1⟩⟩
  iexists a0, a1
  isplitr
  · ipureintro
    exact fun h => absurd rfl h
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a (layIn 3 (m ((c : Thread nD τ).loc main_arg5))) (layIn 3 (m ((c : Thread nD τ).loc main_arg6))) (layOut 3 (m ((c : Thread nD τ).loc main_arg7))) c (cfgA a).N from rfl, Pipeline.ownSems0_none]
  unfold Phi Kept
  iintro ⟨%a0, %a1, -, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
include S in
/-- The run: the arguments end unchanged, the result is each row by its expert's weights, every counter is zero. -/
theorem run (ρ : Dev nD → PrngReg) (hp : ∀ (c : Dev nD) (k : Fin 4), m ((c : Thread nD τ).loc (pre0.ref k)) = a.1 k) :
    θ_run (defs (F := Ideal)) (onTc (τ := τ) (main (F := Ideal))) ⟨m, fun _ => 0, ρ⟩ (fun r => (∀ c : Dev nD,
      (r.2.mem ((c.tc : Thread nD τ).loc main_v0) : S262144x512.Idx → EReal) = resOf a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Ideal)) (fun _ => a) (rdats a m) () ((launch0 (F := Ideal)).cellOf_inj fun _ => a) (0 : Fin 1)
    (launch0 (F := Ideal)).win.to₀ (Pipeline.OwnSemFacts.none _) (launch0 (F := Ideal)).pre EP5 defs₀ Variants.none m ρ main
    (hbody := fun c => obligation a m S c) (hne := (launch0 (F := Ideal)).block_pos)
    (harr := (launch0 (F := Ideal)).arr_whole) (hstage := (launch0 (F := Ideal)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Ideal)).win.arr_inj) (launch0 (F := Ideal)).arr_whole
      (fun w hw => (rdats a m 0 c).q_eq_shareOf_of_share_full (launch0 (F := Ideal)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨arr_end a m S c _ (hw (4 : Fin 5)), i0, (ht 0).trans (hp c 0).symm, (ht 1).trans (hp c 1).symm, (ht 2).trans (hp c 2).symm, (ht 3).trans (hp c 3).symm, i1, i2, i3⟩, hz⟩)

end

end Cert.FfnAt3
-- ==== Proof.At3W.lean ====
/- The experts' launch at the fourth layer on the machine's words: from tables in range the arguments end unchanged. -/
module

public import proofs.«01_k».proof.Defs
public import proofs.«01_k».proof.Proof.Gen.Kernel10
public import proofs.«01_k».proof.Proof.Gen.Kernel10.Launch
public import proofs.«01_k».proof.Proof.Gen.Kernel10.Skeleton
public import proofs.«01_k».proof.Proof.WordB

@[expose] public section

set_option maxRecDepth 16384
set_option Elab.async false

noncomputable section

namespace Cert.FfnWAt3

open Cert.Kernel10 Cert.Kernel10.Gen
open Cert.FfnW (at1)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-- The machine's resources. -/
abbrev R5 := MT nD τ sig Unit (Elt Bits) ℕ (UR sig nD τ) ℕ
/-- The pipeline library's resource algebra inside the kernel's. -/
abbrev EP5 : Emb (UR sig nD τ) R5 := emb₁
/-- The table of experts in its scalar memory. -/
abbrev tb0 : Memref sig .tc .smem S127 .i32 := Memref.whole main_arg1
/-- The table of tiles. -/
abbrev tb1 : Memref sig .tc .smem S127 .i32 := Memref.whole main_arg2
/-- The table of the rows' beginnings. -/
abbrev tb2 : Memref sig .tc .smem S127 .i32 := Memref.whole main_arg3
/-- The table of the rows' ends. -/
abbrev tb3 : Memref sig .tc .smem S127 .i32 := Memref.whole main_arg4
/-- The scratch that keeps the expert's first two matrices, side by side. -/
abbrev sc0 : Memref sig .tc .vmem S1024x512 .bf16 := Memref.whole cc0_scratch0
/-- The scratch that keeps the expert's last matrix. -/
abbrev sc1 : Memref sig .tc .vmem S256x1024 .bf16 := Memref.whole cc0_scratch1

/-- The table of bodies is the first layer's. -/
theorem defs_eq : defs₀ (F := Bits) = Cert.Kernel5.defs₀ (F := Bits) := by
  unfold defs₀ Cert.Kernel5.defs₀
  refine congrArg Defs.onTc ?_
  funext l x
  match l, x with
  | 0, (t, s) => rfl
  | ⟨_ + 1, h⟩, _ => exact absurd h (Nat.not_lt.2 (Nat.le_add_left _ _))

/-- The first window's block is the visit's tile. -/
theorem map0 (pf : pre0.Contents (Elt Bits)) (i : grid0.Coords) : cc0_transform_0 k0_off1_inb numel1_S1 pf i = ![(at1 i (pf 1)).toNat, 0] := Cert.FfnW.map0 pf i
/-- The second window's block is the expert's. -/
theorem map1 (pf : pre0.Contents (Elt Bits)) (i : grid0.Coords) : cc0_transform_1 k0_off1_inb numel1_S1 pf i = ![3, (at1 i (pf 0)).toNat, 0, 0] :=
  congrArg (fun v : BitVec 32 => ![3, v.toNat, 0, 0]) (Cert.FfnW.at_eq (pf 0) i (k0_off1_inb i) numel1_S1)
/-- The third window's block is the expert's. -/
theorem map2 (pf : pre0.Contents (Elt Bits)) (i : grid0.Coords) : cc0_transform_2 k0_off1_inb numel1_S1 pf i = ![3, (at1 i (pf 0)).toNat, 0, 0] :=
  congrArg (fun v : BitVec 32 => ![3, v.toNat, 0, 0]) (Cert.FfnW.at_eq (pf 0) i (k0_off1_inb i) numel1_S1)
/-- The fourth window's block is the expert's. -/
theorem map3 (pf : pre0.Contents (Elt Bits)) (i : grid0.Coords) : cc0_transform_3 k0_off1_inb numel1_S1 pf i = ![3, (at1 i (pf 0)).toNat, 0, 0] :=
  congrArg (fun v : BitVec 32 => ![3, v.toNat, 0, 0]) (Cert.FfnW.at_eq (pf 0) i (k0_off1_inb i) numel1_S1)
/-- The output's block is the visit's tile. -/
theorem map4 (pf : pre0.Contents (Elt Bits)) (i : grid0.Coords) : cc0_transform_4 k0_off1_inb numel1_S1 pf i = ![(at1 i (pf 1)).toNat, 0] := Cert.FfnW.map4 pf i

/-- The side condition of the pipeline, from the tables' ranges. -/
theorem ok_of (pf : pre0.Contents (Elt Bits)) (hE : ∀ i : grid0.Coords, (at1 i (pf 0)).toNat < 64) (hV : ∀ i : grid0.Coords, (at1 i (pf 1)).toNat < 64) : ok0 pf := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inr (Affine.block_words_dvd (s := S262144x512) (p := EltTy.packing .bf16) (by decide) (by decide))⟩⟩
  · have h := hV i
    rw [map0]
    match a with
    | ⟨0, _⟩ => show ((at1 i (pf 1)).toNat + 1) * 2048 ≤ 131072; omega
    | ⟨1, _⟩ => show (0 + 1) * 512 ≤ 512; omega
  · have h := hE i
    rw [map1]
    match a with
    | ⟨0, _⟩ => show (3 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map2]
    match a with
    | ⟨0, _⟩ => show (3 + 1) * 1 ≤ 4; omega
    | ⟨1, _⟩ => show ((at1 i (pf 0)).toNat + 1) * 1 ≤ 64; omega
    | ⟨2, _⟩ => show (0 + 1) * 1024 ≤ 1024; omega
    | ⟨3, _⟩ => show (0 + 1) * 256 ≤ 256; omega
  · have h := hE i
    rw [map3]
    match a with
    | ⟨0, _⟩ => show (3 + 1) * 1 ≤ 4; omega
    | ⟨1, _⟩ => show ((at1 i (pf 0)).toNat + 1) * 1 ≤ 64; omega
    | ⟨2, _⟩ => show (0 + 1) * 256 ≤ 256; omega
    | ⟨3, _⟩ => show (0 + 1) * 1024 ≤ 1024; omega
  · have h := hV i
    rw [map4]
    match a with
    | ⟨0, _⟩ => show ((at1 i (pf 1)).toNat + 1) * 4096 ≤ 262144; omega
    | ⟨1, _⟩ => show (0 + 1) * 512 ≤ 512; omega

section
variable (pf : pre0.Contents (Elt Bits))

/-- What the body keeps between points: its scratches at some contents, and the tables. -/
def Kept (c : Dev nD) : sProp R5 :=
  iprop(∃ s0 s1, (sc0.view.loc (c : Thread nD τ) ↦{fullShare} s0) ∗ (sc1.view.loc (c : Thread nD τ) ↦{fullShare} s1)
    ∗ (tb0.view.loc (c : Thread nD τ) ↦{fullShare.right} pf (0 : Fin 4)) ∗ (tb1.view.loc (c : Thread nD τ) ↦{fullShare.right} pf (1 : Fin 4))
    ∗ (tb2.view.loc (c : Thread nD τ) ↦{fullShare.right} pf (2 : Fin 4)) ∗ (tb3.view.loc (c : Thread nD τ) ↦{fullShare.right} pf (3 : Fin 4)))

set_option maxHeartbeats 4000000 in
/-- The body at a point, from any buffers. -/
theorem visit (c : Dev nD) (t : Fin grid0.N) (m0 : Memref sig .tc .vmem S2048x512 .i32) (h0 : m0.IsWhole)
    (m1 : Memref sig .tc .vmem S1x1x1024x256 .f32) (h1 : m1.IsWhole) (m2 : Memref sig .tc .vmem S1x1x1024x256 .f32) (h2 : m2.IsWhole)
    (m3 : Memref sig .tc .vmem S1x1x256x1024 .f32) (h3 : m3.IsWhole) (m4 : Memref sig .tc .vmem S4096x512 .bf16) (h4 : m4.IsWhole) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Kept pf c ∗ O
        ∗ owns (c : Thread nD τ) m0 fullShare Y0 ∗ owns (c : Thread nD τ) m1 fullShare Y1
        ∗ owns (c : Thread nD τ) m2 fullShare Y2 ∗ owns (c : Thread nD τ) m3 fullShare Y3
        ∗ owns (c : Thread nD τ) m4 fullShare Y)
      ⊢ wp frame (wpE (defs₀ (F := Bits)) Variants.none c none) Set.univ
        (cc0_ffn (grid0.coords t) tb0 (Memref.isWhole_whole _) tb1 (Memref.isWhole_whole _) tb2 (Memref.isWhole_whole _) tb3 (Memref.isWhole_whole _)
          m0 h0 m1 h1 m2 h2 m3 h3 m4 h4 sc0 (Memref.isWhole_whole _) sc1 (Memref.isWhole_whole _)) fun _ =>
        iprop(Kept pf c ∗ O
          ∗ owns (c : Thread nD τ) m0 fullShare Y0 ∗ owns (c : Thread nD τ) m1 fullShare Y1
          ∗ owns (c : Thread nD τ) m2 fullShare Y2 ∗ owns (c : Thread nD τ) m3 fullShare Y3
          ∗ ∃ X, owns (c : Thread nD τ) m4 fullShare X) := by
  rw [defs_eq]
  exact Cert.FfnW.visit pf c t m0 h0 m1 h1 m2 h2 m3 h3 m4 h4 O Y0 Y1 Y2 Y3 Y

end

section
/-- The launch with its tables fixed. -/
abbrev cfgA (a : (pcfg0 (F := Bits)).Adm) : Pipeline.Cfg sig Λ₀ := cfg0 (F := Bits) a

variable (a : (pcfg0 (F := Bits)).Adm)

/-- A point's coordinates. -/
abbrev crd (t : Fin (cfgA a).N) : grid0.Coords := grid0.coords t
/-- The rows' buffer at a visit. -/
abbrev ms0 (t : Fin (cfgA a).N) : Memref sig .tc .vmem S2048x512 .i32 := spec0_0.stage ((cfgA a).slots t (0 : Fin 5))
/-- The gate matrix's buffer at a visit. -/
abbrev ms1 (t : Fin (cfgA a).N) : Memref sig .tc .vmem S1x1x1024x256 .f32 := spec0_1.stage ((cfgA a).slots t (1 : Fin 5))
/-- The second matrix's buffer at a visit. -/
abbrev ms2 (t : Fin (cfgA a).N) : Memref sig .tc .vmem S1x1x1024x256 .f32 := spec0_2.stage ((cfgA a).slots t (2 : Fin 5))
/-- The last matrix's buffer at a visit. -/
abbrev ms3 (t : Fin (cfgA a).N) : Memref sig .tc .vmem S1x1x256x1024 .f32 := spec0_3.stage ((cfgA a).slots t (3 : Fin 5))
/-- The output's buffer at a visit. -/
abbrev ms4 (t : Fin (cfgA a).N) : Memref sig .tc .vmem S4096x512 .bf16 := spec0_4.stage ((cfgA a).slots t (4 : Fin 5))
/-- The rows' buffer is whole. -/
abbrev hs0 (t : Fin (cfgA a).N) : (ms0 a t).IsWhole := hstage0_0 (((cfgA a).slots t (0 : Fin 5)).cast nbuf0_0)
/-- The gate matrix's buffer is whole. -/
abbrev hs1 (t : Fin (cfgA a).N) : (ms1 a t).IsWhole := hstage0_1 (((cfgA a).slots t (1 : Fin 5)).cast nbuf0_1)
/-- The second matrix's buffer is whole. -/
abbrev hs2 (t : Fin (cfgA a).N) : (ms2 a t).IsWhole := hstage0_2 (((cfgA a).slots t (2 : Fin 5)).cast nbuf0_2)
/-- The last matrix's buffer is whole. -/
abbrev hs3 (t : Fin (cfgA a).N) : (ms3 a t).IsWhole := hstage0_3 (((cfgA a).slots t (3 : Fin 5)).cast nbuf0_3)
/-- The output's buffer is whole. -/
abbrev hs4 (t : Fin (cfgA a).N) : (ms4 a t).IsWhole := hstage0_4 (((cfgA a).slots t (4 : Fin 5)).cast nbuf0_4)

/-- The body at a point, as the pipeline calls it. -/
abbrev bodyAt (t : Fin (cfgA a).N) : Prog (TpuEff nD τ sig (Elt Bits) Λ₀ .tc) PUnit :=
  cc0_ffn (crd a t) tb0 (Memref.isWhole_whole _) tb1 (Memref.isWhole_whole _) tb2 (Memref.isWhole_whole _) tb3 (Memref.isWhole_whole _) (ms0 a t) (hs0 a t) (ms1 a t) (hs1 a t) (ms2 a t) (hs2 a t) (ms3 a t) (hs3 a t) (ms4 a t) (hs4 a t) sc0 (Memref.isWhole_whole _) sc1 (Memref.isWhole_whole _)

variable (m : (ℓ : Loc nD τ sig) → Buf (Elt Bits) ℓ)

/-- What the body keeps between points, at the launch's tables. -/
abbrev Phi (c : Dev nD) : sProp R5 := Kept a.1 c

/-- The pipeline's proof data: the inputs' buffers are left as found, of the output's nothing is said. -/
def rdats (_ : Fin 1) (c : Dev nD) : RDat τ (Elt Bits) Unit ℕ (UR sig nD τ) ℕ (cfgA a) c where
  A w := m (((cfgA a).win w).arr.view.loc (c : Thread nD τ))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ _ => True
  Φ n := Phi a c
  q _ := fullShare
  owed _ := 0

set_option maxHeartbeats 4000000 in
/-- The body at a point. -/
theorem sound (c : Dev nD) (t : Fin (cfgA a).N) (O : sProp R5) (Y0 : S2048x512.Idx → Elt Bits .i32) (Y1 Y2 : S1x1x1024x256.Idx → Elt Bits .f32) (Y3 : S1x1x256x1024.Idx → Elt Bits .f32) (Y : S4096x512.Idx → Elt Bits .bf16) :
    iprop(Phi a c ∗ O
        ∗ owns (c : Thread nD τ) (ms0 a t) fullShare Y0 ∗ owns (c : Thread nD τ) (ms1 a t) fullShare Y1
        ∗ owns (c : Thread nD τ) (ms2 a t) fullShare Y2 ∗ owns (c : Thread nD τ) (ms3 a t) fullShare Y3
        ∗ owns (c : Thread nD τ) (ms4 a t) fullShare Y)
      ⊢ wp frame (wpE (defs₀ (F := Bits)) Variants.none c none) Set.univ (bodyAt a t) fun _ =>
        iprop(Phi a c ∗ O
          ∗ owns (c : Thread nD τ) (ms0 a t) fullShare Y0 ∗ owns (c : Thread nD τ) (ms1 a t) fullShare Y1
          ∗ owns (c : Thread nD τ) (ms2 a t) fullShare Y2 ∗ owns (c : Thread nD τ) (ms3 a t) fullShare Y3
          ∗ ∃ X, owns (c : Thread nD τ) (ms4 a t) fullShare X) :=
  visit a.1 c t (ms0 a t) (hs0 a t) (ms1 a t) (hs1 a t) (ms2 a t) (hs2 a t) (ms3 a t) (hs3 a t) (ms4 a t) (hs4 a t) O Y0 Y1 Y2 Y3 Y

set_option maxHeartbeats 4000000 in
/-- The library's body obligation. -/
theorem obligation (c : Dev nD) : RDat.BodyObligation (rdats a m 0 c) (defs₀ (F := Bits)) Variants.none () Set.univ := fun t Y hY => by
  rw [bigSep_W0]
  have hs := sound a c t ((rdats a m 0 c).owesAt () t.castSucc) (Y (0 : Fin 5)) (Y (1 : Fin 5)) (Y (2 : Fin 5)) (Y (3 : Fin 5)) (Y (4 : Fin 5))
  refine BIBase.Entails.trans ?_ (hs.trans (wp_mono frame _ Set.univ fun r => ?_))
  · exact .rfl
  · rw [bigSep_W0, show (rdats a m 0 c).Φ t.succ = Phi a c from rfl,
      show (rdats a m 0 c).owesAt () t.succ = (rdats a m 0 c).owesAt () t.castSucc from rfl]
    iintro ⟨HP, HO, H0, H1, H2, H3, %X, H4⟩
    isplitl [HP]; · iexact HP
    isplitl [HO]; · iexact HO
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists X; isplitr; swap
    · iexact H4
    · ipureintro
      trivial

/-! ## The launch -/

/-- The list of launches with their tables fixed. -/
abbrev pcsA : Fin 1 → Pipeline.Cfg sig Λ₀ := Pipeline.pin (pcfgs (F := Bits)) fun _ => a

/-- The launch's element. -/
def u5 : UR sig nD τ :=
  initOf (Pipeline.cells (pcsA a) ((launch0 (F := Bits)).cellOf_inj fun _ => a))
    (Pipeline.launchToks (pcsA a) ((launch0 (F := Bits)).cellOf_inj fun _ => a))

/-- Every window holds its buffers whole. -/
theorem share5 (c : Dev nD) (w : Fin (cfgA a).W) : (rdats a m 0 c).share w = fullShare := by unfold RDat.share; split <;> rfl

/-- The tables, one by one. -/
theorem tables_eq (c : Dev nD) (q : Fin 4 → PosShare TreeShare) (v : pre0.Contents (Elt Bits)) :
    (Pipeline.prefHeld (Ix := Unit) (Name := ℕ) (U := UR sig nD τ) (Lvl := ℕ) pre0 c q v : sProp R5)
      = iprop((((c : Thread nD τ).loc main_arg1) ↦{q 0} v 0) ∗ (((c : Thread nD τ).loc main_arg2) ↦{q 1} v 1) ∗ (((c : Thread nD τ).loc main_arg3) ↦{q 2} v 2) ∗ (((c : Thread nD τ).loc main_arg4) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- What the first point is given. -/
theorem phi_start (c : Dev nD) :
    iprop(BI.emp ∗ Pipeline.prefHeld pre0 c (fun _ => fullShare.right) a.1 ∗ Pipeline.scopedRest spec0 c) ⊢ (rdats a m 0 c).Φ 0 := by
  rw [tables_eq, scopedRest0_eq, show (rdats a m 0 c).Φ 0 = Phi a c from rfl]
  unfold Phi Kept
  iintro ⟨-, ⟨HT0, HT1, HT2, HT3⟩, ⟨%a0, HS0⟩, ⟨%a1, HS1⟩⟩
  iexists a0, a1
  isplitl [HS0]; · iexact HS0
  isplitl [HS1]; · iexact HS1
  isplitl [HT0]; · iexact HT0
  isplitl [HT1]; · iexact HT1
  isplitl [HT2]; · iexact HT2
  iexact HT3

/-- After the last the kept buffers are given back. -/
theorem phi_stop (c : Dev nD) : (rdats a m 0 c).Φ (Fin.last (cfgA a).N)
    ⊢ iprop(BI.emp ∗ Pipeline.ownSems0 (fun k : PEmpty => k.elim) c ∗ Pipeline.scopedRest spec0 c) := by
  rw [scopedRest0_eq, show (rdats a m 0 c).Φ (Fin.last (cfgA a).N) = Phi a c from rfl, Pipeline.ownSems0_none]
  unfold Phi Kept
  iintro ⟨%a0, %a1, HS0, HS1, -, -, -, -⟩
  isplitr; · iempintro
  isplitr; · iempintro
  isplitl [HS0]
  · iexists a0; iexact HS0
  iexists a1; iexact HS1

set_option backward.isDefEq.respectTransparency.types false in
set_option maxHeartbeats 4000000 in
/-- The run: the arguments end unchanged, every counter is zero. -/
theorem run (ρ : Dev nD → PrngReg) (hp : ∀ (c : Dev nD) (k : Fin 4), m ((c : Thread nD τ).loc (pre0.ref k)) = a.1 k) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_region_pf_quiescent (pcfgs (F := Bits)) (fun _ => a) (rdats a m) () ((launch0 (F := Bits)).cellOf_inj fun _ => a) (0 : Fin 1)
    (launch0 (F := Bits)).win.to₀ (Pipeline.OwnSemFacts.none _) (launch0 (F := Bits)).pre EP5 defs₀ Variants.none m ρ main
    (hbody := fun c => obligation a m c) (hne := (launch0 (F := Bits)).block_pos)
    (harr := (launch0 (F := Bits)).arr_whole) (hstage := (launch0 (F := Bits)).stage_whole) (howed := fun _ _ => rfl)
    (G := fun _ => BI.emp) (u₀ := u5 a)
    (hu₀ := by
      have h0 : (ownU (u5 a) : sProp R5) ⊢ BI.own (EP5 (u5 a)) := .rfl
      iintro Hu
      ihave H := h0 $$ Hu
      imodintro
      isplitl [H]
      · iexact H
      rw [BI.bigSep_emp_const]
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => (rdats a m 0 c).arrays_split_shared (Pipeline.SharedIn.of_injective (launch0 (F := Bits)).win.arr_inj) (launch0 (F := Bits)).arr_whole
      (fun w hw => (rdats a m 0 c).q_eq_shareOf_of_share_full (launch0 (F := Bits)).win.arr_inj (share5 a m c) w hw) _ _ (fun _ => rfl))
    (hpf := hp)
    (X := fun _ => iprop(emp)) (Y := fun _ => iprop(emp)) (Z := fun _ => iprop(emp))
    (hX := fun c => by rw [unscopedRestP0_eq]; iintro -; imodintro; isplitr <;> iempintro)
    (hin := phi_start a m)
    (hout := phi_stop a m)
    (QY := fun _ _ => True)
    (hY := fun c s' => by
      iintro ⟨-, -, HSI⟩; imodintro
      isplitr; · ipureintro; trivial
      iexact HSI)
    (hQ := fun s h hz => ⟨fun c => by
      obtain ⟨hw, ht, -⟩ := h c
      have i0 := hw (0 : Fin 5)
      have i1 := hw (1 : Fin 5)
      have i2 := hw (2 : Fin 5)
      have i3 := hw (3 : Fin 5)
      rw [(rdats a m 0 c).ArrAt_in (0 : Fin 5) rfl] at i0
      rw [(rdats a m 0 c).ArrAt_in (1 : Fin 5) rfl] at i1
      rw [(rdats a m 0 c).ArrAt_in (2 : Fin 5) rfl] at i2
      rw [(rdats a m 0 c).ArrAt_in (3 : Fin 5) rfl] at i3
      exact ⟨i0, (ht 0).trans (hp c 0).symm, (ht 1).trans (hp c 1).symm, (ht 2).trans (hp c 2).symm, (ht 3).trans (hp c 3).symm, i1, i2, i3⟩, hz⟩)

end

end Cert.FfnWAt3
-- ==== Proof.At3C.lean ====
/- The claims about the experts' call at the fourth layer: its runs from tables that are a schedule, and its result equal to the reference's. -/
module

public import proofs.«01_k».proof.Proof.At3I
public import proofs.«01_k».proof.Proof.FfnK
public import proofs.«01_k».proof.Proof.At3W
public import proofs.«01_k».proof.Proof.Gen.Reference10Ideal.Run
public import proofs.«01_k».proof.Proof.Gen.Reference10Ideal.Read
public import proofs.«01_k».proof.Proof.Gen.Pre_visits
public import Idealize.ShloMosaic.Lib.Bf16Pair

@[expose] public section

set_option maxRecDepth 16384
set_option Elab.async false

noncomputable section

namespace Cert.FfnClaimsAt3

open Idealize.ShloMosaic Idealize.ShloMosaic.TcCoe Idealize.SL.Sem
open Cert.Ffn (Sched num num_of sched_of_pre)

attribute [local instance] Cert.Pre_visits.Gen.facts

section Ideals
open Cert.Kernel10Ideal Cert.Kernel10Ideal.Gen Cert.FfnAt3

variable (m : (ℓ : Loc nD τ sig) → Buf (Elt Ideal) ℓ)

/-- What the precondition says of the tables in memory. -/
theorem sched_ideal (h : Pre_Kernel10Ideal m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def tables : pre0.Contents (Elt Ideal) := fun k => m (((0 : Dev nD) : Thread nD τ).loc (pre0.ref k))

/-- The launch's blocks are inside its arrays. -/
def adm (h : Pre_Kernel10Ideal m) : (pcfg0 (F := Ideal)).Adm := ⟨tables m, ok_of (tables m)
  (fun i => by
    have S := (sched_ideal m h 0).hE (i 0).val (i 0).isLt
    rwa [num_of _ _ (i 0).isLt] at S)
  (fun i => by
    have S := (sched_ideal m h 0).hV (i 0).val (i 0).isLt
    rwa [num_of _ _ (i 0).isLt] at S)⟩

/-- Every device's tables are the ones read. -/
theorem tables_eq (c : Dev nD) (k : Fin 4) : m ((c : Thread nD τ).loc (pre0.ref k)) = tables m k := by
  rw [show c = 0 from Subsingleton.elim _ _]; rfl

end Ideals

/-- The idealized program's frame. -/
theorem frame_ideal : quiescent_Kernel10Ideal (hKernel10Ideal := Cert.Kernel10Ideal.Gen.facts) (hPre_visits := Cert.Pre_visits.Gen.facts) :=
  fun m g h => (θ_run _ _ _).mono (fun r hr => ⟨fun c => (hr.1 c).2, hr.2⟩) (Cert.FfnAt3.run (adm m h) m (sched_ideal m h 0) g (fun c k => tables_eq m c k))

section Words
open Cert.Kernel10 Cert.Kernel10.Gen Cert.FfnWAt3

variable (m : (ℓ : Loc nD τ sig) → Buf (Elt Bits) ℓ)

/-- What the precondition says of the tables in memory. -/
theorem sched_word (h : Pre_Kernel10 m) (c : Dev nD) : Sched (num (m ((c : Thread nD τ).loc main_arg1))) (num (m ((c : Thread nD τ).loc main_arg2)))
    (num (m ((c : Thread nD τ).loc main_arg3))) (num (m ((c : Thread nD τ).loc main_arg4))) :=
  sched_of_pre _ _ _ _ _ _ _ _ (h c)

/-- The tables as the launch reads them. -/
def wtables : pre0.Contents (Elt Bits) := fun k => m (((0 : Dev nD) : Thread nD τ).loc (pre0.ref k))

/-- The launch's blocks are inside its arrays. -/
def wadm (h : Pre_Kernel10 m) : (pcfg0 (F := Bits)).Adm := ⟨wtables m, Cert.FfnWAt3.ok_of (wtables m)
  (fun i => by
    have S := (sched_word m h 0).hE (i 0).val (i 0).isLt
    rwa [num_of _ _ (i 0).isLt] at S)
  (fun i => by
    have S := (sched_word m h 0).hV (i 0).val (i 0).isLt
    rwa [num_of _ _ (i 0).isLt] at S)⟩

/-- Every device's tables are the ones read. -/
theorem wtables_eq (c : Dev nD) (k : Fin 4) : m ((c : Thread nD τ).loc (pre0.ref k)) = wtables m k := by
  rw [show c = 0 from Subsingleton.elim _ _]; rfl

end Words

/-- The program's frame. -/
theorem frame_word : quiescent_Kernel10 (hKernel10 := Cert.Kernel10.Gen.facts) (hPre_visits := Cert.Pre_visits.Gen.facts) :=
  fun m g h => Cert.FfnWAt3.run (wadm m h) m g (fun c k => wtables_eq m c k)

section Reference
open Cert.Reference10Ideal Cert.Reference10Ideal.Gen Cert.Reference10Ideal.Read
open Cert.Ffn (layIn layOut)

variable (A0 : (⟨S131072x512, .i32⟩ : BufTy).Contents (Elt Ideal)) (T0 T1 T2 T3 : (⟨S127, .i32⟩ : BufTy).Contents (Elt Ideal))
  (A5 A6 : (⟨S4x64x1024x256, .f32⟩ : BufTy).Contents (Elt Ideal)) (A7 : (⟨S4x64x256x1024, .f32⟩ : BufTy).Contents (Elt Ideal))

/-- The layer's gate matrices are the first layer's of the shifted array, -/
theorem v28_eq : val_main_v28 A5 = Cert.Reference5Ideal.Read.val_main_v28 (F := Ideal) (layIn 3 A5) := by
  funext i
  rw [val_main_v28_apply, val_main_v27_apply, Cert.Reference5Ideal.Read.val_main_v28_apply, Cert.Reference5Ideal.Read.val_main_v27_apply]
  refine congrArg A5 (funext fun a => Fin.ext ?_)
  match a with
  | ⟨0, _⟩ => rfl
  | ⟨1, _⟩ => rfl
  | ⟨2, _⟩ => rfl
  | ⟨3, _⟩ => rfl

/-- so are its second matrices, -/
theorem v31_eq : val_main_v31 A6 = Cert.Reference5Ideal.Read.val_main_v31 (F := Ideal) (layIn 3 A6) := by
  funext i
  rw [val_main_v31_apply, val_main_v30_apply, Cert.Reference5Ideal.Read.val_main_v31_apply, Cert.Reference5Ideal.Read.val_main_v30_apply]
  refine congrArg A6 (funext fun a => Fin.ext ?_)
  match a with
  | ⟨0, _⟩ => rfl
  | ⟨1, _⟩ => rfl
  | ⟨2, _⟩ => rfl
  | ⟨3, _⟩ => rfl

/-- and its last. -/
theorem v39_eq : val_main_v39 A7 = Cert.Reference5Ideal.Read.val_main_v39 (F := Ideal) (layOut 3 A7) := by
  funext i
  rw [val_main_v39_apply, val_main_v38_apply, Cert.Reference5Ideal.Read.val_main_v39_apply, Cert.Reference5Ideal.Read.val_main_v38_apply]
  refine congrArg A7 (funext fun a => Fin.ext ?_)
  match a with
  | ⟨0, _⟩ => rfl
  | ⟨1, _⟩ => rfl
  | ⟨2, _⟩ => rfl
  | ⟨3, _⟩ => rfl

/-- The gate product, -/
theorem v29_eq : val_main_v29 A0 A5 = Cert.Reference5Ideal.Read.val_main_v29 (F := Ideal) A0 (layIn 3 A5) := by
  unfold val_main_v29 Cert.Reference5Ideal.Read.val_main_v29
  rw [v28_eq]
  rfl

/-- the second product, -/
theorem v32_eq : val_main_v32 A0 A6 = Cert.Reference5Ideal.Read.val_main_v32 (F := Ideal) A0 (layIn 3 A6) := by
  unfold val_main_v32 Cert.Reference5Ideal.Read.val_main_v32
  rw [v31_eq]
  rfl

/-- the gate after its sigmoid, -/
theorem v33_eq : val_main_v33 A0 A5 = Cert.Reference5Ideal.Read.val_main_v33 (F := Ideal) A0 (layIn 3 A5) := by
  unfold val_main_v33 val_main_call2_v5 val_main_call2_v3 val_main_call2_v1 val_main_call2_v0
    Cert.Reference5Ideal.Read.val_main_v33 Cert.Reference5Ideal.Read.val_main_call2_v5 Cert.Reference5Ideal.Read.val_main_call2_v3 Cert.Reference5Ideal.Read.val_main_call2_v1 Cert.Reference5Ideal.Read.val_main_call2_v0
  rw [v29_eq]
  rfl

/-- the hidden rows of the chosen experts, -/
theorem v37_eq : val_main_v37 A0 T0 T1 T2 T3 A5 A6 = Cert.Reference5Ideal.Read.val_main_v37 (F := Ideal) A0 T0 T1 T2 T3 (layIn 3 A5) (layIn 3 A6) := by
  unfold val_main_v37 val_main_v34 Cert.Reference5Ideal.Read.val_main_v37 Cert.Reference5Ideal.Read.val_main_v34
  rw [v33_eq, v32_eq]
  rfl

/-- and the result are the first layer's of the shifted arrays. -/
theorem v42_eq : val_main_v42 A0 T0 T1 T2 T3 A5 A6 A7
    = Cert.Reference5Ideal.Read.val_main_v42 (F := Ideal) A0 T0 T1 T2 T3 (layIn 3 A5) (layIn 3 A6) (layOut 3 A7) := by
  unfold val_main_v42 val_main_v41 val_main_v40 Cert.Reference5Ideal.Read.val_main_v42 Cert.Reference5Ideal.Read.val_main_v41 Cert.Reference5Ideal.Read.val_main_v40
  rw [v37_eq, v39_eq]
  rfl

end Reference

/-- The reference's frame. -/
theorem reference_frame : quiescent_Reference10Ideal (hReference10Ideal := Cert.Reference10Ideal.Gen.facts) := fun m g _ =>
  (θ_run _ _ _).mono (fun r h => ⟨fun c => (h c).2, Idealize.ShloMosaic.sem_eq_zero_of_no_sems rfl r.2⟩)
    (Cert.Reference10Ideal.Value.run (F := Ideal) m g)

/-- The same from tables that are a schedule. -/
theorem reference_frame_pre : quiescent_Reference10Ideal_pre_visits (hReference10Ideal := Cert.Reference10Ideal.Gen.facts)
    (hPre_visits := Cert.Pre_visits.Gen.facts) := fun m g _ => reference_frame m g trivial

/-- The rewrites the idealization made, each proved. -/
theorem preserves : preserves_Kernel10_Kernel10Ideal := ⟨IdealRules.bf16_pair.packStatement _, IdealRules.bf16_pair.statement _ _⟩

/-- From equal arguments the two programs end with equal results. -/
theorem algebraic : algebraic_Kernel10Ideal_Reference10Ideal (hKernel10Ideal := Cert.Kernel10Ideal.Gen.facts)
    (hReference10Ideal := Cert.Reference10Ideal.Gen.facts) (hPre_visits := Cert.Pre_visits.Gen.facts) := by
  intro m g m' g' h hargs
  refine ⟨fun c => Cert.FfnAt3.resOf (adm m h) m c, (θ_run _ _ _).mono (fun r hr c => hr.1 c) (Cert.FfnAt3.run (adm m h) m (sched_ideal m h 0) g (fun c k => tables_eq m c k)), ?_⟩
  refine (θ_run _ _ _).mono (fun r hr c => ?_) (Cert.Reference10Ideal.Value.run (F := Ideal) m' g')
  obtain ⟨h0, hr⟩ := hr c
  obtain ⟨a0, a1, a2, a3, a4, a5, a6, a7⟩ := hargs c
  refine ⟨h0.trans ?_, hr⟩
  rw [Cert.Reference10Ideal.Read.val_main_v42_eq, a0, a1, a2, a3, a4, a5, a6, a7, v42_eq]
  have S := sched_ideal m h c
  have hc : c = 0 := Subsingleton.elim _ _
  refine funext fun (z : Cert.Reference10Ideal.S262144x512.Idx) => ?_
  have z0 : (z 0).val < 262144 := (z 0).isLt
  have z1 : (z 1).val < 512 := (z 1).isLt
  obtain ⟨t, ht, hcov⟩ := S.cover ((z 0).val / 2) (by omega)
  have he := Cert.Ffn.expertOf_eq S ((z 0).val / 2) t ht hcov
  have hlt := S.hE t ht
  refine (Cert.FfnRef.out_eq _ _ _ _ S z ⟨(z 0).val / 2, by omega⟩ ⟨_, hlt⟩ ⟨(z 0).val % 2 * 512 + (z 1).val, by omega⟩ rfl he rfl).trans ?_
  subst hc
  exact (Cert.Ffn.res_row _ _ _ _ _ _ _ _ z ⟨(z 0).val / 2, by omega⟩ ⟨_, hlt⟩ ⟨(z 0).val % 2 * 512 + (z 1).val, by omega⟩ rfl he rfl).symm

end Cert.FfnClaimsAt3

end
-- ==== Proof.MergeAt1.lean ====
/- The merge gates' projection: a window of the rows of one weight that begins at row 7184, at the second layer. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Merge
public import proofs.«01_k».proof.Proof.Gen.Reference11Ideal.Read

@[expose] public section

set_option maxRecDepth 16384

noncomputable section

namespace Cert.MergeAt1

open Idealize.ShloMosaic Idealize.ShloMosaic.TcCoe Idealize.SL.Sem
open Idealize.ShloMosaic.Pipeline (Dat)

/-- One number of the second layer's input projection. -/
def proj (x : (⟨2, ![16384, 1024]⟩ : Shape).Idx → EReal) (w : (⟨3, ![4, 1024, 9232]⟩ : Shape).Idx → EReal)
    (n : Fin 16384) (j : Fin 9232) : EReal := ∑ k : Fin 1024, x (ix2 n k) * w (ix3 1 k j)

section Reference
open Cert.Reference11Ideal Cert.Reference11Ideal.Gen Cert.Reference11Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 2048) :
    val_main_v4 A0 A1 (ix2 n j) = proj A0 A1 n ⟨7184 + j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel11Ideal Cert.Kernel11Ideal.Gen

/-- One block of the result at an index. -/
theorem block_eq (X0 : Vec Ideal S2048x1024 .bf16) (X1 : Vec Ideal S1x1024x1024 .f32) (r : Fin 2048) (j : Fin 1024) :
    out0_2 X0 X1 (ix2 r j) = ∑ k : Fin 1024, X0 (ix2 r k) * X1 (ix3 0 j k) :=
  Cert.Merge.block_eq X0 X1 r j

variable (m : (ℓ : Loc nD τ sig) → Buf (Elt Ideal) ℓ) (c : Dev nD)

/-- Where each window stands at a point of the grid: two column tiles to a row tile. -/
theorem idx_facts : ∀ t : Fin cfg0.N,
    (win0_0.index t (0 : Fin 2) = t.val / 2 ∧ win0_0.index t (1 : Fin 2) = 0)
    ∧ (win0_1.index t (0 : Fin 3) = 1 ∧ win0_1.index t (1 : Fin 3) = 7184 + (t.val % 2) * 1024 ∧ win0_1.index t (2 : Fin 3) = 0)
    ∧ (win0_2.index t (0 : Fin 2) = t.val / 2 ∧ win0_2.index t (1 : Fin 2) = t.val % 2) :=
  (by decide +kernel : ∀ t : Fin grid0.N, _)

/-- Every block of the result is written back. -/
theorem flushes : ∀ t : Fin cfg0.N, (cfg0.win 2).flush t = true := (by decide +kernel : ∀ t : Fin grid0.N, _)

/-- There are 16 points. -/
theorem t_lt (t : Fin cfg0.N) : t.val < 16 := t.isLt

/-- The array row of a block's row. -/
def row (t : Fin cfg0.N) (r : Fin 2048) : Fin 16384 := ⟨t.val / 2 * 2048 + r.val, by have := t_lt t; omega⟩
/-- The array column of a block's column. -/
def col (t : Fin cfg0.N) (j : Fin 1024) : Fin 2048 := ⟨t.val % 2 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Merge.blk0 m c t r k

/-- The weight's block. -/
theorem blk1 (t : Fin cfg0.N) (j k : Fin 1024) :
    iblk m c 1 t (ix3 0 j k) = (m ((c : Thread nD τ).loc main_arg1) : S4x1024x9232.Idx → EReal)
      (ix3 1 k (⟨7184 + (col t j).val, by have := (col t j).isLt; omega⟩ : Fin 9232)) := by
  show (V m c main_v1 : S4x9232x1024.Idx → EReal) ((win0_1.rect t).emb (ix3 0 j k)) = _
  rw [v1_eq]
  obtain ⟨e0, e1, e2⟩ := (idx_facts t).2.1
  have he : (win0_1.rect t).emb (ix3 0 j k)
      = (ix3 1 (⟨7184 + (col t j).val, by have := (col t j).isLt; omega⟩ : Fin 9232) k : S4x9232x1024.Idx) := by
    refine funext fun a => Fin.ext ?_
    refine (Pipeline.Window.rect_emb_val_off win0_1 t (ix3 0 j k) a).trans ?_
    match a with
    | ⟨0, _⟩ => exact (congrArg (fun z => z + 0) e0).trans rfl
    | ⟨1, _⟩ => exact (congrArg (fun z => z + j.val) e1).trans (by show 7184 + t.val % 2 * 1024 + j.val = 7184 + (t.val % 2 * 1024 + j.val); omega)
    | ⟨2, _⟩ => exact (congrArg (fun z => z + k.val) e2).trans (by show 0 + k.val = k.val; omega)
  rw [he]
  exact transpose_apply _ _ _ _ _ fun a => by match a with | ⟨0, _⟩ => rfl | ⟨1, _⟩ => rfl | ⟨2, _⟩ => rfl

/-- The result, as one array. -/
def res : S16384x2048.Idx → EReal := fun i =>
  proj (m ((c : Thread nD τ).loc main_arg0)) (m ((c : Thread nD τ).loc main_arg1)) (i 0)
    ⟨7184 + (i 1).val, by have : (i 1).val < 2048 := (i 1).isLt; omega⟩

/-- The array index of a block's index. -/
theorem emb2 (t : Fin cfg0.N) (r : Fin 2048) (j : Fin 1024) : (win0_2.rect t).emb (ix2 r j) = (ix2 (row t r) (col t j) : S16384x2048.Idx) :=
  Cert.Merge.emb2 t r j

/-- Every index of the result is some block's. -/
theorem split (i : S16384x2048.Idx) : ∃ (t : Fin cfg0.N) (r : Fin 2048) (j : Fin 1024), i = ix2 (row t r) (col t j) :=
  Cert.Merge.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x2048.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference11Ideal (hReference11Ideal := Cert.Reference11Ideal.Gen.facts) := fun m g _ =>
  (θ_run _ _ _).mono (fun r h => ⟨fun c => (h c).2, Idealize.ShloMosaic.sem_eq_zero_of_no_sems rfl r.2⟩)
    (Cert.Reference11Ideal.Value.run (F := Ideal) m g)

open Cert.Kernel11Ideal Cert.Kernel11Ideal.Gen in
/-- From equal arguments the two programs end with equal results. -/
theorem algebraic : algebraic_Kernel11Ideal_Reference11Ideal (hKernel11Ideal := Cert.Kernel11Ideal.Gen.facts)
    (hReference11Ideal := Cert.Reference11Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference11Ideal.Value.run (F := Ideal) m' g')
  obtain ⟨h0, hr⟩ := h c
  obtain ⟨a0, a1⟩ := hargs c
  refine ⟨h0.trans ?_, hr⟩
  rw [Cert.Reference11Ideal.Read.val_main_v4_eq, a0, a1]
  refine funext fun (i : Cert.Reference11Ideal.S16384x2048.Idx) => ?_
  have hi : i = ix2 (i 0 : Fin 16384) (i 1 : Fin 2048) := funext fun a => by match a with | ⟨0, _⟩ => rfl | ⟨1, _⟩ => rfl
  rw [hi]
  exact ref_eq ..

end Cert.MergeAt1

end
-- ==== Proof.InprojAt1.lean ====
/- The first 7168 columns of the input projection: the branches' gates and values, and the memory's q, k, v and o, at the second layer. -/
module

public import proofs.«01_k».proof.Proof.MergeAt1
public import proofs.«01_k».proof.Proof.Inproj
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read

@[expose] public section

set_option maxRecDepth 16384

noncomputable section

namespace Cert.InprojAt1

open Idealize.ShloMosaic Idealize.ShloMosaic.TcCoe Idealize.SL.Sem
open Idealize.ShloMosaic.Pipeline (Dat)

open Cert.MergeAt1 (proj)

section Reference
open Cert.Reference12Ideal Cert.Reference12Ideal.Gen Cert.Reference12Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt1.whole_eq A0 A1 n j

/-- The reference's result at an index. -/
theorem ref_eq (n : Fin 16384) (j : Fin 7168) :
    val_main_v4 A0 A1 (ix2 n j) = proj A0 A1 n ⟨j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel12Ideal Cert.Kernel12Ideal.Gen

/-- One block of the result at an index. -/
theorem block_eq (c : Dev nD) (i : grid0.Coords) (a2 : Memref sig .tc .vmem S2048x1024 .bf16) (h2 : a2.IsWhole)
    (a3 : Memref sig .tc .vmem S1x1024x1024 .f32) (h3 : a3.IsWhole) (a4 : Memref sig .tc .vmem S2048x1024 .bf16) (h4 : a4.IsWhole)
    (X0 : Vec Ideal S2048x1024 .bf16) (X1 : Vec Ideal S1x1024x1024 .f32) (r : Fin 2048) (j : Fin 1024) :
    out0_A_2 c i a2 h2 a3 h3 a4 h4 X0 X1 (ix2 r j) = ∑ k : Fin 1024, X0 (ix2 r k) * X1 (ix3 0 j k) :=
  Cert.Inproj.block_eq c i a2 h2 a3 h3 a4 h4 X0 X1 r j

variable (m : (ℓ : Loc nD τ sig) → Buf (Elt Ideal) ℓ) (c : Dev nD)

/-- Where each window stands at a point of the grid: 7 column tiles to a row tile. -/
theorem idx_facts : ∀ t : Fin cfg0.N,
    (win0_0.index t (0 : Fin 2) = t.val / 7 ∧ win0_0.index t (1 : Fin 2) = 0)
    ∧ (win0_1.index t (0 : Fin 3) = 1 ∧ win0_1.index t (1 : Fin 3) = 0 + t.val % 7 ∧ win0_1.index t (2 : Fin 3) = 0)
    ∧ (win0_2.index t (0 : Fin 2) = t.val / 7 ∧ win0_2.index t (1 : Fin 2) = t.val % 7) :=
  (by decide +kernel : ∀ t : Fin grid0.N, _)

/-- Every block of the result is written back. -/
theorem flushes : ∀ t : Fin cfg0.N, (cfg0.win 2).flush t = true := (by decide +kernel : ∀ t : Fin grid0.N, _)

/-- There are 56 points. -/
theorem t_lt (t : Fin cfg0.N) : t.val < 56 := t.isLt

/-- The array row of a block's row. -/
def row (t : Fin cfg0.N) (r : Fin 2048) : Fin 16384 := ⟨t.val / 7 * 2048 + r.val, by have := t_lt t; omega⟩
/-- The array column of a block's column. -/
def col (t : Fin cfg0.N) (j : Fin 1024) : Fin 7168 := ⟨t.val % 7 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Inproj.blk0 m c t r k

/-- The weight's block: no point's block is cut by the array's end. -/
theorem blk1 (t : Fin cfg0.N) (j : Fin 1024) (k : Fin 1024) :
    X0_1 m c t (ix3 0 j k) = (m ((c : Thread nD τ).loc main_arg1) : S4x1024x9232.Idx → EReal)
      (ix3 1 k (⟨(col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x1024x1024.Idx) a).val, ((cfg0.win 1).moved_iff _ _).mp (moved0_1 t (ix3 0 j k)) a⟩)
      = (ix3 1 (⟨(col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 1024 + j.val) e1).trans (by show (0 + t.val % 7) * 1024 + j.val = t.val % 7 * 1024 + j.val; omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x7168.Idx → EReal := fun i =>
  proj (m ((c : Thread nD τ).loc main_arg0)) (m ((c : Thread nD τ).loc main_arg1)) (i 0)
    ⟨(i 1).val, by have : (i 1).val < 7168 := (i 1).isLt; omega⟩

/-- The array index of a block's index. -/
theorem emb2 (t : Fin cfg0.N) (r : Fin 2048) (j : Fin 1024) : (win0_2.rect t).emb (ix2 r j) = (ix2 (row t r) (col t j) : S16384x7168.Idx) :=
  Cert.Inproj.emb2 t r j

/-- Every index of the result is some block's. -/
theorem split (i : S16384x7168.Idx) : ∃ (t : Fin cfg0.N) (r : Fin 2048) (j : Fin 1024), i = ix2 (row t r) (col t j) :=
  Cert.Inproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x7168.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference12Ideal (hReference12Ideal := Cert.Reference12Ideal.Gen.facts) := fun m g _ =>
  (θ_run _ _ _).mono (fun r h => ⟨fun c => (h c).2, Idealize.ShloMosaic.sem_eq_zero_of_no_sems rfl r.2⟩)
    (Cert.Reference12Ideal.Value.run (F := Ideal) m g)

open Cert.Kernel12Ideal Cert.Kernel12Ideal.Gen in
/-- From equal arguments the two programs end with equal results. -/
theorem algebraic : algebraic_Kernel12Ideal_Reference12Ideal (hKernel12Ideal := Cert.Kernel12Ideal.Gen.facts)
    (hReference12Ideal := Cert.Reference12Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference12Ideal.Value.run (F := Ideal) m' g')
  obtain ⟨h0, hr⟩ := h c
  obtain ⟨a0, a1⟩ := hargs c
  refine ⟨h0.trans ?_, hr⟩
  rw [Cert.Reference12Ideal.Read.val_main_v4_eq, a0, a1]
  refine funext fun (i : Cert.Reference12Ideal.S16384x7168.Idx) => ?_
  have hi : i = ix2 (i 0 : Fin 16384) (i 1 : Fin 7168) := funext fun a => by match a with | ⟨0, _⟩ => rfl | ⟨1, _⟩ => rfl
  rw [hi]
  exact ref_eq ..

end Cert.InprojAt1

end
-- ==== Proof.GateprojAt1.lean ====
/- The 128 columns from 7168 on: the memory's input and forget gates, and the columns beside them, at the second layer. -/
module

public import proofs.«01_k».proof.Proof.MergeAt1
public import proofs.«01_k».proof.Proof.Gateproj
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read

@[expose] public section

set_option maxRecDepth 16384

noncomputable section

namespace Cert.GateprojAt1

open Idealize.ShloMosaic Idealize.ShloMosaic.TcCoe Idealize.SL.Sem
open Idealize.ShloMosaic.Pipeline (Dat)

open Cert.MergeAt1 (proj)

section Reference
open Cert.Reference13Ideal Cert.Reference13Ideal.Gen Cert.Reference13Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt1.whole_eq A0 A1 n j

/-- The reference's result at an index. -/
theorem ref_eq (n : Fin 16384) (j : Fin 128) :
    val_main_v3 A0 A1 (ix2 n j) = proj A0 A1 n ⟨7168 + j.val, by have := j.isLt; omega⟩ := by
  rw [← whole_eq, val_main_v3_apply]
  show val_main_v2 A0 A1 _ = _
  exact congrArg _ (funext fun a => by match a with | ⟨0, _⟩ => rfl | ⟨1, _⟩ => rfl)

end Reference

section Program
open Cert.Kernel13Ideal Cert.Kernel13Ideal.Gen

/-- One block of the result at an index. -/
theorem block_eq (c : Dev nD) (i : grid0.Coords) (a2 : Memref sig .tc .vmem S2048x1024 .bf16) (h2 : a2.IsWhole)
    (a3 : Memref sig .tc .vmem S1x128x1024 .f32) (h3 : a3.IsWhole) (a4 : Memref sig .tc .vmem S2048x128 .f32) (h4 : a4.IsWhole)
    (X0 : Vec Ideal S2048x1024 .bf16) (X1 : Vec Ideal S1x128x1024 .f32) (r : Fin 2048) (j : Fin 128) :
    out0_A_2 c i a2 h2 a3 h3 a4 h4 X0 X1 (ix2 r j) = ∑ k : Fin 1024, X0 (ix2 r k) * X1 (ix3 0 j k) :=
  Cert.Gateproj.block_eq c i a2 h2 a3 h3 a4 h4 X0 X1 r j

variable (m : (ℓ : Loc nD τ sig) → Buf (Elt Ideal) ℓ) (c : Dev nD)

/-- Where each window stands at a point of the grid: 1 column tile to a row tile. -/
theorem idx_facts : ∀ t : Fin cfg0.N,
    (win0_0.index t (0 : Fin 2) = t.val / 1 ∧ win0_0.index t (1 : Fin 2) = 0)
    ∧ (win0_1.index t (0 : Fin 3) = 1 ∧ win0_1.index t (1 : Fin 3) = 56 + t.val % 1 ∧ win0_1.index t (2 : Fin 3) = 0)
    ∧ (win0_2.index t (0 : Fin 2) = t.val / 1 ∧ win0_2.index t (1 : Fin 2) = t.val % 1) :=
  (by decide +kernel : ∀ t : Fin grid0.N, _)

/-- Every block of the result is written back. -/
theorem flushes : ∀ t : Fin cfg0.N, (cfg0.win 2).flush t = true := (by decide +kernel : ∀ t : Fin grid0.N, _)

/-- There are 8 points. -/
theorem t_lt (t : Fin cfg0.N) : t.val < 8 := t.isLt

/-- The array row of a block's row. -/
def row (t : Fin cfg0.N) (r : Fin 2048) : Fin 16384 := ⟨t.val / 1 * 2048 + r.val, by have := t_lt t; omega⟩
/-- The array column of a block's column. -/
def col (t : Fin cfg0.N) (j : Fin 128) : Fin 128 := ⟨t.val % 1 * 128 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Gateproj.blk0 m c t r k

/-- The weight's block: no point's block is cut by the array's end. -/
theorem blk1 (t : Fin cfg0.N) (j : Fin 128) (k : Fin 1024) :
    X0_1 m c t (ix3 0 j k) = (m ((c : Thread nD τ).loc main_arg1) : S4x1024x9232.Idx → EReal)
      (ix3 1 k (⟨7168 + (col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x128x1024.Idx) a).val, ((cfg0.win 1).moved_iff _ _).mp (moved0_1 t (ix3 0 j k)) a⟩)
      = (ix3 1 (⟨7168 + (col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 128 + j.val) e1).trans (by show (56 + t.val % 1) * 128 + j.val = 7168 + (t.val % 1 * 128 + j.val); omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x128.Idx → EReal := fun i =>
  proj (m ((c : Thread nD τ).loc main_arg0)) (m ((c : Thread nD τ).loc main_arg1)) (i 0)
    ⟨7168 + (i 1).val, by have : (i 1).val < 128 := (i 1).isLt; omega⟩

/-- The array index of a block's index. -/
theorem emb2 (t : Fin cfg0.N) (r : Fin 2048) (j : Fin 128) : (win0_2.rect t).emb (ix2 r j) = (ix2 (row t r) (col t j) : S16384x128.Idx) :=
  Cert.Gateproj.emb2 t r j

/-- Every index of the result is some block's. -/
theorem split (i : S16384x128.Idx) : ∃ (t : Fin cfg0.N) (r : Fin 2048) (j : Fin 128), i = ix2 (row t r) (col t j) :=
  Cert.Gateproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x128.Idx) => ?_
    have hy : y = ix2 (y 0 : Fin 2048) (y 1 : Fin 128) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x128.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference13Ideal (hReference13Ideal := Cert.Reference13Ideal.Gen.facts) := fun m g _ =>
  (θ_run _ _ _).mono (fun r h => ⟨fun c => (h c).2, Idealize.ShloMosaic.sem_eq_zero_of_no_sems rfl r.2⟩)
    (Cert.Reference13Ideal.Value.run (F := Ideal) m g)

open Cert.Kernel13Ideal Cert.Kernel13Ideal.Gen in
/-- From equal arguments the two programs end with equal results. -/
theorem algebraic : algebraic_Kernel13Ideal_Reference13Ideal (hKernel13Ideal := Cert.Kernel13Ideal.Gen.facts)
    (hReference13Ideal := Cert.Reference13Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference13Ideal.Value.run (F := Ideal) m' g')
  obtain ⟨h0, hr⟩ := h c
  obtain ⟨a0, a1⟩ := hargs c
  refine ⟨h0.trans ?_, hr⟩
  rw [Cert.Reference13Ideal.Read.val_main_v3_eq, a0, a1]
  refine funext fun (i : Cert.Reference13Ideal.S16384x128.Idx) => ?_
  have hi : i = ix2 (i 0 : Fin 16384) (i 1 : Fin 128) := funext fun a => by match a with | ⟨0, _⟩ => rfl | ⟨1, _⟩ => rfl
  rw [hi]
  exact ref_eq ..

end Cert.GateprojAt1

end
-- ==== Proof.MergeAt2.lean ====
/- The merge gates' projection: a window of the rows of one weight that begins at row 7184, at the third layer. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Merge
public import proofs.«01_k».proof.Proof.Gen.Reference14Ideal.Read

@[expose] public section

set_option maxRecDepth 16384

noncomputable section

namespace Cert.MergeAt2

open Idealize.ShloMosaic Idealize.ShloMosaic.TcCoe Idealize.SL.Sem
open Idealize.ShloMosaic.Pipeline (Dat)

/-- One number of the third layer's input projection. -/
def proj (x : (⟨2, ![16384, 1024]⟩ : Shape).Idx → EReal) (w : (⟨3, ![4, 1024, 9232]⟩ : Shape).Idx → EReal)
    (n : Fin 16384) (j : Fin 9232) : EReal := ∑ k : Fin 1024, x (ix2 n k) * w (ix3 2 k j)

section Reference
open Cert.Reference14Ideal Cert.Reference14Ideal.Gen Cert.Reference14Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 2048) :
    val_main_v4 A0 A1 (ix2 n j) = proj A0 A1 n ⟨7184 + j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel14Ideal Cert.Kernel14Ideal.Gen

/-- One block of the result at an index. -/
theorem block_eq (X0 : Vec Ideal S2048x1024 .bf16) (X1 : Vec Ideal S1x1024x1024 .f32) (r : Fin 2048) (j : Fin 1024) :
    out0_2 X0 X1 (ix2 r j) = ∑ k : Fin 1024, X0 (ix2 r k) * X1 (ix3 0 j k) :=
  Cert.Merge.block_eq X0 X1 r j

variable (m : (ℓ : Loc nD τ sig) → Buf (Elt Ideal) ℓ) (c : Dev nD)

/-- Where each window stands at a point of the grid: two column tiles to a row tile. -/
theorem idx_facts : ∀ t : Fin cfg0.N,
    (win0_0.index t (0 : Fin 2) = t.val / 2 ∧ win0_0.index t (1 : Fin 2) = 0)
    ∧ (win0_1.index t (0 : Fin 3) = 2 ∧ win0_1.index t (1 : Fin 3) = 7184 + (t.val % 2) * 1024 ∧ win0_1.index t (2 : Fin 3) = 0)
    ∧ (win0_2.index t (0 : Fin 2) = t.val / 2 ∧ win0_2.index t (1 : Fin 2) = t.val % 2) :=
  (by decide +kernel : ∀ t : Fin grid0.N, _)

/-- Every block of the result is written back. -/
theorem flushes : ∀ t : Fin cfg0.N, (cfg0.win 2).flush t = true := (by decide +kernel : ∀ t : Fin grid0.N, _)

/-- There are 16 points. -/
theorem t_lt (t : Fin cfg0.N) : t.val < 16 := t.isLt

/-- The array row of a block's row. -/
def row (t : Fin cfg0.N) (r : Fin 2048) : Fin 16384 := ⟨t.val / 2 * 2048 + r.val, by have := t_lt t; omega⟩
/-- The array column of a block's column. -/
def col (t : Fin cfg0.N) (j : Fin 1024) : Fin 2048 := ⟨t.val % 2 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Merge.blk0 m c t r k

/-- The weight's block. -/
theorem blk1 (t : Fin cfg0.N) (j k : Fin 1024) :
    iblk m c 1 t (ix3 0 j k) = (m ((c : Thread nD τ).loc main_arg1) : S4x1024x9232.Idx → EReal)
      (ix3 2 k (⟨7184 + (col t j).val, by have := (col t j).isLt; omega⟩ : Fin 9232)) := by
  show (V m c main_v1 : S4x9232x1024.Idx → EReal) ((win0_1.rect t).emb (ix3 0 j k)) = _
  rw [v1_eq]
  obtain ⟨e0, e1, e2⟩ := (idx_facts t).2.1
  have he : (win0_1.rect t).emb (ix3 0 j k)
      = (ix3 2 (⟨7184 + (col t j).val, by have := (col t j).isLt; omega⟩ : Fin 9232) k : S4x9232x1024.Idx) := by
    refine funext fun a => Fin.ext ?_
    refine (Pipeline.Window.rect_emb_val_off win0_1 t (ix3 0 j k) a).trans ?_
    match a with
    | ⟨0, _⟩ => exact (congrArg (fun z => z + 0) e0).trans rfl
    | ⟨1, _⟩ => exact (congrArg (fun z => z + j.val) e1).trans (by show 7184 + t.val % 2 * 1024 + j.val = 7184 + (t.val % 2 * 1024 + j.val); omega)
    | ⟨2, _⟩ => exact (congrArg (fun z => z + k.val) e2).trans (by show 0 + k.val = k.val; omega)
  rw [he]
  exact transpose_apply _ _ _ _ _ fun a => by match a with | ⟨0, _⟩ => rfl | ⟨1, _⟩ => rfl | ⟨2, _⟩ => rfl

/-- The result, as one array. -/
def res : S16384x2048.Idx → EReal := fun i =>
  proj (m ((c : Thread nD τ).loc main_arg0)) (m ((c : Thread nD τ).loc main_arg1)) (i 0)
    ⟨7184 + (i 1).val, by have : (i 1).val < 2048 := (i 1).isLt; omega⟩

/-- The array index of a block's index. -/
theorem emb2 (t : Fin cfg0.N) (r : Fin 2048) (j : Fin 1024) : (win0_2.rect t).emb (ix2 r j) = (ix2 (row t r) (col t j) : S16384x2048.Idx) :=
  Cert.Merge.emb2 t r j

/-- Every index of the result is some block's. -/
theorem split (i : S16384x2048.Idx) : ∃ (t : Fin cfg0.N) (r : Fin 2048) (j : Fin 1024), i = ix2 (row t r) (col t j) :=
  Cert.Merge.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x2048.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference14Ideal (hReference14Ideal := Cert.Reference14Ideal.Gen.facts) := fun m g _ =>
  (θ_run _ _ _).mono (fun r h => ⟨fun c => (h c).2, Idealize.ShloMosaic.sem_eq_zero_of_no_sems rfl r.2⟩)
    (Cert.Reference14Ideal.Value.run (F := Ideal) m g)

open Cert.Kernel14Ideal Cert.Kernel14Ideal.Gen in
/-- From equal arguments the two programs end with equal results. -/
theorem algebraic : algebraic_Kernel14Ideal_Reference14Ideal (hKernel14Ideal := Cert.Kernel14Ideal.Gen.facts)
    (hReference14Ideal := Cert.Reference14Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference14Ideal.Value.run (F := Ideal) m' g')
  obtain ⟨h0, hr⟩ := h c
  obtain ⟨a0, a1⟩ := hargs c
  refine ⟨h0.trans ?_, hr⟩
  rw [Cert.Reference14Ideal.Read.val_main_v4_eq, a0, a1]
  refine funext fun (i : Cert.Reference14Ideal.S16384x2048.Idx) => ?_
  have hi : i = ix2 (i 0 : Fin 16384) (i 1 : Fin 2048) := funext fun a => by match a with | ⟨0, _⟩ => rfl | ⟨1, _⟩ => rfl
  rw [hi]
  exact ref_eq ..

end Cert.MergeAt2

end
-- ==== Proof.InprojAt2.lean ====
/- The first 7168 columns of the input projection: the branches' gates and values, and the memory's q, k, v and o, at the third layer. -/
module

public import proofs.«01_k».proof.Proof.MergeAt2
public import proofs.«01_k».proof.Proof.Inproj
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read

@[expose] public section

set_option maxRecDepth 16384

noncomputable section

namespace Cert.InprojAt2

open Idealize.ShloMosaic Idealize.ShloMosaic.TcCoe Idealize.SL.Sem
open Idealize.ShloMosaic.Pipeline (Dat)

open Cert.MergeAt2 (proj)

section Reference
open Cert.Reference15Ideal Cert.Reference15Ideal.Gen Cert.Reference15Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt2.whole_eq A0 A1 n j

/-- The reference's result at an index. -/
theorem ref_eq (n : Fin 16384) (j : Fin 7168) :
    val_main_v4 A0 A1 (ix2 n j) = proj A0 A1 n ⟨j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel15Ideal Cert.Kernel15Ideal.Gen

/-- One block of the result at an index. -/
theorem block_eq (c : Dev nD) (i : grid0.Coords) (a2 : Memref sig .tc .vmem S2048x1024 .bf16) (h2 : a2.IsWhole)
    (a3 : Memref sig .tc .vmem S1x1024x1024 .f32) (h3 : a3.IsWhole) (a4 : Memref sig .tc .vmem S2048x1024 .bf16) (h4 : a4.IsWhole)
    (X0 : Vec Ideal S2048x1024 .bf16) (X1 : Vec Ideal S1x1024x1024 .f32) (r : Fin 2048) (j : Fin 1024) :
    out0_A_2 c i a2 h2 a3 h3 a4 h4 X0 X1 (ix2 r j) = ∑ k : Fin 1024, X0 (ix2 r k) * X1 (ix3 0 j k) :=
  Cert.Inproj.block_eq c i a2 h2 a3 h3 a4 h4 X0 X1 r j

variable (m : (ℓ : Loc nD τ sig) → Buf (Elt Ideal) ℓ) (c : Dev nD)

/-- Where each window stands at a point of the grid: 7 column tiles to a row tile. -/
theorem idx_facts : ∀ t : Fin cfg0.N,
    (win0_0.index t (0 : Fin 2) = t.val / 7 ∧ win0_0.index t (1 : Fin 2) = 0)
    ∧ (win0_1.index t (0 : Fin 3) = 2 ∧ win0_1.index t (1 : Fin 3) = 0 + t.val % 7 ∧ win0_1.index t (2 : Fin 3) = 0)
    ∧ (win0_2.index t (0 : Fin 2) = t.val / 7 ∧ win0_2.index t (1 : Fin 2) = t.val % 7) :=
  (by decide +kernel : ∀ t : Fin grid0.N, _)

/-- Every block of the result is written back. -/
theorem flushes : ∀ t : Fin cfg0.N, (cfg0.win 2).flush t = true := (by decide +kernel : ∀ t : Fin grid0.N, _)

/-- There are 56 points. -/
theorem t_lt (t : Fin cfg0.N) : t.val < 56 := t.isLt

/-- The array row of a block's row. -/
def row (t : Fin cfg0.N) (r : Fin 2048) : Fin 16384 := ⟨t.val / 7 * 2048 + r.val, by have := t_lt t; omega⟩
/-- The array column of a block's column. -/
def col (t : Fin cfg0.N) (j : Fin 1024) : Fin 7168 := ⟨t.val % 7 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Inproj.blk0 m c t r k

/-- The weight's block: no point's block is cut by the array's end. -/
theorem blk1 (t : Fin cfg0.N) (j : Fin 1024) (k : Fin 1024) :
    X0_1 m c t (ix3 0 j k) = (m ((c : Thread nD τ).loc main_arg1) : S4x1024x9232.Idx → EReal)
      (ix3 2 k (⟨(col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x1024x1024.Idx) a).val, ((cfg0.win 1).moved_iff _ _).mp (moved0_1 t (ix3 0 j k)) a⟩)
      = (ix3 2 (⟨(col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 1024 + j.val) e1).trans (by show (0 + t.val % 7) * 1024 + j.val = t.val % 7 * 1024 + j.val; omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x7168.Idx → EReal := fun i =>
  proj (m ((c : Thread nD τ).loc main_arg0)) (m ((c : Thread nD τ).loc main_arg1)) (i 0)
    ⟨(i 1).val, by have : (i 1).val < 7168 := (i 1).isLt; omega⟩

/-- The array index of a block's index. -/
theorem emb2 (t : Fin cfg0.N) (r : Fin 2048) (j : Fin 1024) : (win0_2.rect t).emb (ix2 r j) = (ix2 (row t r) (col t j) : S16384x7168.Idx) :=
  Cert.Inproj.emb2 t r j

/-- Every index of the result is some block's. -/
theorem split (i : S16384x7168.Idx) : ∃ (t : Fin cfg0.N) (r : Fin 2048) (j : Fin 1024), i = ix2 (row t r) (col t j) :=
  Cert.Inproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x7168.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference15Ideal (hReference15Ideal := Cert.Reference15Ideal.Gen.facts) := fun m g _ =>
  (θ_run _ _ _).mono (fun r h => ⟨fun c => (h c).2, Idealize.ShloMosaic.sem_eq_zero_of_no_sems rfl r.2⟩)
    (Cert.Reference15Ideal.Value.run (F := Ideal) m g)

open Cert.Kernel15Ideal Cert.Kernel15Ideal.Gen in
/-- From equal arguments the two programs end with equal results. -/
theorem algebraic : algebraic_Kernel15Ideal_Reference15Ideal (hKernel15Ideal := Cert.Kernel15Ideal.Gen.facts)
    (hReference15Ideal := Cert.Reference15Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference15Ideal.Value.run (F := Ideal) m' g')
  obtain ⟨h0, hr⟩ := h c
  obtain ⟨a0, a1⟩ := hargs c
  refine ⟨h0.trans ?_, hr⟩
  rw [Cert.Reference15Ideal.Read.val_main_v4_eq, a0, a1]
  refine funext fun (i : Cert.Reference15Ideal.S16384x7168.Idx) => ?_
  have hi : i = ix2 (i 0 : Fin 16384) (i 1 : Fin 7168) := funext fun a => by match a with | ⟨0, _⟩ => rfl | ⟨1, _⟩ => rfl
  rw [hi]
  exact ref_eq ..

end Cert.InprojAt2

end
-- ==== Proof.GateprojAt2.lean ====
/- The 128 columns from 7168 on: the memory's input and forget gates, and the columns beside them, at the third layer. -/
module

public import proofs.«01_k».proof.Proof.MergeAt2
public import proofs.«01_k».proof.Proof.Gateproj
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read

@[expose] public section

set_option maxRecDepth 16384

noncomputable section

namespace Cert.GateprojAt2

open Idealize.ShloMosaic Idealize.ShloMosaic.TcCoe Idealize.SL.Sem
open Idealize.ShloMosaic.Pipeline (Dat)

open Cert.MergeAt2 (proj)

section Reference
open Cert.Reference16Ideal Cert.Reference16Ideal.Gen Cert.Reference16Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt2.whole_eq A0 A1 n j

/-- The reference's result at an index. -/
theorem ref_eq (n : Fin 16384) (j : Fin 128) :
    val_main_v3 A0 A1 (ix2 n j) = proj A0 A1 n ⟨7168 + j.val, by have := j.isLt; omega⟩ := by
  rw [← whole_eq, val_main_v3_apply]
  show val_main_v2 A0 A1 _ = _
  exact congrArg _ (funext fun a => by match a with | ⟨0, _⟩ => rfl | ⟨1, _⟩ => rfl)

end Reference

section Program
open Cert.Kernel16Ideal Cert.Kernel16Ideal.Gen

/-- One block of the result at an index. -/
theorem block_eq (c : Dev nD) (i : grid0.Coords) (a2 : Memref sig .tc .vmem S2048x1024 .bf16) (h2 : a2.IsWhole)
    (a3 : Memref sig .tc .vmem S1x128x1024 .f32) (h3 : a3.IsWhole) (a4 : Memref sig .tc .vmem S2048x128 .f32) (h4 : a4.IsWhole)
    (X0 : Vec Ideal S2048x1024 .bf16) (X1 : Vec Ideal S1x128x1024 .f32) (r : Fin 2048) (j : Fin 128) :
    out0_A_2 c i a2 h2 a3 h3 a4 h4 X0 X1 (ix2 r j) = ∑ k : Fin 1024, X0 (ix2 r k) * X1 (ix3 0 j k) :=
  Cert.Gateproj.block_eq c i a2 h2 a3 h3 a4 h4 X0 X1 r j

variable (m : (ℓ : Loc nD τ sig) → Buf (Elt Ideal) ℓ) (c : Dev nD)

/-- Where each window stands at a point of the grid: 1 column tile to a row tile. -/
theorem idx_facts : ∀ t : Fin cfg0.N,
    (win0_0.index t (0 : Fin 2) = t.val / 1 ∧ win0_0.index t (1 : Fin 2) = 0)
    ∧ (win0_1.index t (0 : Fin 3) = 2 ∧ win0_1.index t (1 : Fin 3) = 56 + t.val % 1 ∧ win0_1.index t (2 : Fin 3) = 0)
    ∧ (win0_2.index t (0 : Fin 2) = t.val / 1 ∧ win0_2.index t (1 : Fin 2) = t.val % 1) :=
  (by decide +kernel : ∀ t : Fin grid0.N, _)

/-- Every block of the result is written back. -/
theorem flushes : ∀ t : Fin cfg0.N, (cfg0.win 2).flush t = true := (by decide +kernel : ∀ t : Fin grid0.N, _)

/-- There are 8 points. -/
theorem t_lt (t : Fin cfg0.N) : t.val < 8 := t.isLt

/-- The array row of a block's row. -/
def row (t : Fin cfg0.N) (r : Fin 2048) : Fin 16384 := ⟨t.val / 1 * 2048 + r.val, by have := t_lt t; omega⟩
/-- The array column of a block's column. -/
def col (t : Fin cfg0.N) (j : Fin 128) : Fin 128 := ⟨t.val % 1 * 128 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Gateproj.blk0 m c t r k

/-- The weight's block: no point's block is cut by the array's end. -/
theorem blk1 (t : Fin cfg0.N) (j : Fin 128) (k : Fin 1024) :
    X0_1 m c t (ix3 0 j k) = (m ((c : Thread nD τ).loc main_arg1) : S4x1024x9232.Idx → EReal)
      (ix3 2 k (⟨7168 + (col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x128x1024.Idx) a).val, ((cfg0.win 1).moved_iff _ _).mp (moved0_1 t (ix3 0 j k)) a⟩)
      = (ix3 2 (⟨7168 + (col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 128 + j.val) e1).trans (by show (56 + t.val % 1) * 128 + j.val = 7168 + (t.val % 1 * 128 + j.val); omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x128.Idx → EReal := fun i =>
  proj (m ((c : Thread nD τ).loc main_arg0)) (m ((c : Thread nD τ).loc main_arg1)) (i 0)
    ⟨7168 + (i 1).val, by have : (i 1).val < 128 := (i 1).isLt; omega⟩

/-- The array index of a block's index. -/
theorem emb2 (t : Fin cfg0.N) (r : Fin 2048) (j : Fin 128) : (win0_2.rect t).emb (ix2 r j) = (ix2 (row t r) (col t j) : S16384x128.Idx) :=
  Cert.Gateproj.emb2 t r j

/-- Every index of the result is some block's. -/
theorem split (i : S16384x128.Idx) : ∃ (t : Fin cfg0.N) (r : Fin 2048) (j : Fin 128), i = ix2 (row t r) (col t j) :=
  Cert.Gateproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x128.Idx) => ?_
    have hy : y = ix2 (y 0 : Fin 2048) (y 1 : Fin 128) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x128.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference16Ideal (hReference16Ideal := Cert.Reference16Ideal.Gen.facts) := fun m g _ =>
  (θ_run _ _ _).mono (fun r h => ⟨fun c => (h c).2, Idealize.ShloMosaic.sem_eq_zero_of_no_sems rfl r.2⟩)
    (Cert.Reference16Ideal.Value.run (F := Ideal) m g)

open Cert.Kernel16Ideal Cert.Kernel16Ideal.Gen in
/-- From equal arguments the two programs end with equal results. -/
theorem algebraic : algebraic_Kernel16Ideal_Reference16Ideal (hKernel16Ideal := Cert.Kernel16Ideal.Gen.facts)
    (hReference16Ideal := Cert.Reference16Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference16Ideal.Value.run (F := Ideal) m' g')
  obtain ⟨h0, hr⟩ := h c
  obtain ⟨a0, a1⟩ := hargs c
  refine ⟨h0.trans ?_, hr⟩
  rw [Cert.Reference16Ideal.Read.val_main_v3_eq, a0, a1]
  refine funext fun (i : Cert.Reference16Ideal.S16384x128.Idx) => ?_
  have hi : i = ix2 (i 0 : Fin 16384) (i 1 : Fin 128) := funext fun a => by match a with | ⟨0, _⟩ => rfl | ⟨1, _⟩ => rfl
  rw [hi]
  exact ref_eq ..

end Cert.GateprojAt2

end
-- ==== Proof.MergeAt3.lean ====
/- The merge gates' projection: a window of the rows of one weight that begins at row 7184, at the fourth layer. -/
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.Merge
public import proofs.«01_k».proof.Proof.Gen.Reference17Ideal.Read

@[expose] public section

set_option maxRecDepth 16384

noncomputable section

namespace Cert.MergeAt3

open Idealize.ShloMosaic Idealize.ShloMosaic.TcCoe Idealize.SL.Sem
open Idealize.ShloMosaic.Pipeline (Dat)

/-- One number of the fourth layer's input projection. -/
def proj (x : (⟨2, ![16384, 1024]⟩ : Shape).Idx → EReal) (w : (⟨3, ![4, 1024, 9232]⟩ : Shape).Idx → EReal)
    (n : Fin 16384) (j : Fin 9232) : EReal := ∑ k : Fin 1024, x (ix2 n k) * w (ix3 3 k j)

section Reference
open Cert.Reference17Ideal Cert.Reference17Ideal.Gen Cert.Reference17Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j := by
  rw [val_main_v2_apply]
  refine Finset.sum_congr rfl fun k _ => ?_
  rw [val_main_v1_apply, val_main_v0_apply]
  refine congrArg₂ (· * ·) (congrArg A0 ?_) (congrArg A1 ?_)
  · exact funext fun a => by match a with | ⟨0, _⟩ => rfl | ⟨1, _⟩ => rfl
  · refine funext fun a => Fin.ext ?_
    have hk := k.isLt
    have hj := j.isLt
    match a with
    | ⟨0, _⟩ => rfl
    | ⟨1, _⟩ => show (k.val * 9232 + j.val) / 9232 % 1024 = k.val; omega
    | ⟨2, _⟩ => show (k.val * 9232 + j.val) % 9232 = j.val; omega

/-- The reference's result at an index. -/
theorem ref_eq (n : Fin 16384) (j : Fin 2048) :
    val_main_v4 A0 A1 (ix2 n j) = proj A0 A1 n ⟨7184 + j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel17Ideal Cert.Kernel17Ideal.Gen

/-- One block of the result at an index. -/
theorem block_eq (X0 : Vec Ideal S2048x1024 .bf16) (X1 : Vec Ideal S1x1024x1024 .f32) (r : Fin 2048) (j : Fin 1024) :
    out0_2 X0 X1 (ix2 r j) = ∑ k : Fin 1024, X0 (ix2 r k) * X1 (ix3 0 j k) :=
  Cert.Merge.block_eq X0 X1 r j

variable (m : (ℓ : Loc nD τ sig) → Buf (Elt Ideal) ℓ) (c : Dev nD)

/-- Where each window stands at a point of the grid: two column tiles to a row tile. -/
theorem idx_facts : ∀ t : Fin cfg0.N,
    (win0_0.index t (0 : Fin 2) = t.val / 2 ∧ win0_0.index t (1 : Fin 2) = 0)
    ∧ (win0_1.index t (0 : Fin 3) = 3 ∧ win0_1.index t (1 : Fin 3) = 7184 + (t.val % 2) * 1024 ∧ win0_1.index t (2 : Fin 3) = 0)
    ∧ (win0_2.index t (0 : Fin 2) = t.val / 2 ∧ win0_2.index t (1 : Fin 2) = t.val % 2) :=
  (by decide +kernel : ∀ t : Fin grid0.N, _)

/-- Every block of the result is written back. -/
theorem flushes : ∀ t : Fin cfg0.N, (cfg0.win 2).flush t = true := (by decide +kernel : ∀ t : Fin grid0.N, _)

/-- There are 16 points. -/
theorem t_lt (t : Fin cfg0.N) : t.val < 16 := t.isLt

/-- The array row of a block's row. -/
def row (t : Fin cfg0.N) (r : Fin 2048) : Fin 16384 := ⟨t.val / 2 * 2048 + r.val, by have := t_lt t; omega⟩
/-- The array column of a block's column. -/
def col (t : Fin cfg0.N) (j : Fin 1024) : Fin 2048 := ⟨t.val % 2 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Merge.blk0 m c t r k

/-- The weight's block. -/
theorem blk1 (t : Fin cfg0.N) (j k : Fin 1024) :
    iblk m c 1 t (ix3 0 j k) = (m ((c : Thread nD τ).loc main_arg1) : S4x1024x9232.Idx → EReal)
      (ix3 3 k (⟨7184 + (col t j).val, by have := (col t j).isLt; omega⟩ : Fin 9232)) := by
  show (V m c main_v1 : S4x9232x1024.Idx → EReal) ((win0_1.rect t).emb (ix3 0 j k)) = _
  rw [v1_eq]
  obtain ⟨e0, e1, e2⟩ := (idx_facts t).2.1
  have he : (win0_1.rect t).emb (ix3 0 j k)
      = (ix3 3 (⟨7184 + (col t j).val, by have := (col t j).isLt; omega⟩ : Fin 9232) k : S4x9232x1024.Idx) := by
    refine funext fun a => Fin.ext ?_
    refine (Pipeline.Window.rect_emb_val_off win0_1 t (ix3 0 j k) a).trans ?_
    match a with
    | ⟨0, _⟩ => exact (congrArg (fun z => z + 0) e0).trans rfl
    | ⟨1, _⟩ => exact (congrArg (fun z => z + j.val) e1).trans (by show 7184 + t.val % 2 * 1024 + j.val = 7184 + (t.val % 2 * 1024 + j.val); omega)
    | ⟨2, _⟩ => exact (congrArg (fun z => z + k.val) e2).trans (by show 0 + k.val = k.val; omega)
  rw [he]
  exact transpose_apply _ _ _ _ _ fun a => by match a with | ⟨0, _⟩ => rfl | ⟨1, _⟩ => rfl | ⟨2, _⟩ => rfl

/-- The result, as one array. -/
def res : S16384x2048.Idx → EReal := fun i =>
  proj (m ((c : Thread nD τ).loc main_arg0)) (m ((c : Thread nD τ).loc main_arg1)) (i 0)
    ⟨7184 + (i 1).val, by have : (i 1).val < 2048 := (i 1).isLt; omega⟩

/-- The array index of a block's index. -/
theorem emb2 (t : Fin cfg0.N) (r : Fin 2048) (j : Fin 1024) : (win0_2.rect t).emb (ix2 r j) = (ix2 (row t r) (col t j) : S16384x2048.Idx) :=
  Cert.Merge.emb2 t r j

/-- Every index of the result is some block's. -/
theorem split (i : S16384x2048.Idx) : ∃ (t : Fin cfg0.N) (r : Fin 2048) (j : Fin 1024), i = ix2 (row t r) (col t j) :=
  Cert.Merge.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x2048.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference17Ideal (hReference17Ideal := Cert.Reference17Ideal.Gen.facts) := fun m g _ =>
  (θ_run _ _ _).mono (fun r h => ⟨fun c => (h c).2, Idealize.ShloMosaic.sem_eq_zero_of_no_sems rfl r.2⟩)
    (Cert.Reference17Ideal.Value.run (F := Ideal) m g)

open Cert.Kernel17Ideal Cert.Kernel17Ideal.Gen in
/-- From equal arguments the two programs end with equal results. -/
theorem algebraic : algebraic_Kernel17Ideal_Reference17Ideal (hKernel17Ideal := Cert.Kernel17Ideal.Gen.facts)
    (hReference17Ideal := Cert.Reference17Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference17Ideal.Value.run (F := Ideal) m' g')
  obtain ⟨h0, hr⟩ := h c
  obtain ⟨a0, a1⟩ := hargs c
  refine ⟨h0.trans ?_, hr⟩
  rw [Cert.Reference17Ideal.Read.val_main_v4_eq, a0, a1]
  refine funext fun (i : Cert.Reference17Ideal.S16384x2048.Idx) => ?_
  have hi : i = ix2 (i 0 : Fin 16384) (i 1 : Fin 2048) := funext fun a => by match a with | ⟨0, _⟩ => rfl | ⟨1, _⟩ => rfl
  rw [hi]
  exact ref_eq ..

end Cert.MergeAt3

end
-- ==== Proof.InprojAt3.lean ====
/- The first 7168 columns of the input projection: the branches' gates and values, and the memory's q, k, v and o, at the fourth layer. -/
module

public import proofs.«01_k».proof.Proof.MergeAt3
public import proofs.«01_k».proof.Proof.Inproj
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read

@[expose] public section

set_option maxRecDepth 16384

noncomputable section

namespace Cert.InprojAt3

open Idealize.ShloMosaic Idealize.ShloMosaic.TcCoe Idealize.SL.Sem
open Idealize.ShloMosaic.Pipeline (Dat)

open Cert.MergeAt3 (proj)

section Reference
open Cert.Reference18Ideal Cert.Reference18Ideal.Gen Cert.Reference18Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt3.whole_eq A0 A1 n j

/-- The reference's result at an index. -/
theorem ref_eq (n : Fin 16384) (j : Fin 7168) :
    val_main_v4 A0 A1 (ix2 n j) = proj A0 A1 n ⟨j.val, by have := j.isLt; omega⟩ := by
  rw [← whole_eq, val_main_v4_apply, val_main_v3_apply]
  show val_main_v2 A0 A1 _ = _
  exact congrArg _ (funext fun a => by match a with | ⟨0, _⟩ => rfl | ⟨1, _⟩ => rfl)

end Reference

section Program
open Cert.Kernel18Ideal Cert.Kernel18Ideal.Gen

/-- One block of the result at an index. -/
theorem block_eq (c : Dev nD) (i : grid0.Coords) (a2 : Memref sig .tc .vmem S2048x1024 .bf16) (h2 : a2.IsWhole)
    (a3 : Memref sig .tc .vmem S1x1024x1024 .f32) (h3 : a3.IsWhole) (a4 : Memref sig .tc .vmem S2048x1024 .bf16) (h4 : a4.IsWhole)
    (X0 : Vec Ideal S2048x1024 .bf16) (X1 : Vec Ideal S1x1024x1024 .f32) (r : Fin 2048) (j : Fin 1024) :
    out0_A_2 c i a2 h2 a3 h3 a4 h4 X0 X1 (ix2 r j) = ∑ k : Fin 1024, X0 (ix2 r k) * X1 (ix3 0 j k) :=
  Cert.Inproj.block_eq c i a2 h2 a3 h3 a4 h4 X0 X1 r j

variable (m : (ℓ : Loc nD τ sig) → Buf (Elt Ideal) ℓ) (c : Dev nD)

/-- Where each window stands at a point of the grid: 7 column tiles to a row tile. -/
theorem idx_facts : ∀ t : Fin cfg0.N,
    (win0_0.index t (0 : Fin 2) = t.val / 7 ∧ win0_0.index t (1 : Fin 2) = 0)
    ∧ (win0_1.index t (0 : Fin 3) = 3 ∧ win0_1.index t (1 : Fin 3) = 0 + t.val % 7 ∧ win0_1.index t (2 : Fin 3) = 0)
    ∧ (win0_2.index t (0 : Fin 2) = t.val / 7 ∧ win0_2.index t (1 : Fin 2) = t.val % 7) :=
  (by decide +kernel : ∀ t : Fin grid0.N, _)

/-- Every block of the result is written back. -/
theorem flushes : ∀ t : Fin cfg0.N, (cfg0.win 2).flush t = true := (by decide +kernel : ∀ t : Fin grid0.N, _)

/-- There are 56 points. -/
theorem t_lt (t : Fin cfg0.N) : t.val < 56 := t.isLt

/-- The array row of a block's row. -/
def row (t : Fin cfg0.N) (r : Fin 2048) : Fin 16384 := ⟨t.val / 7 * 2048 + r.val, by have := t_lt t; omega⟩
/-- The array column of a block's column. -/
def col (t : Fin cfg0.N) (j : Fin 1024) : Fin 7168 := ⟨t.val % 7 * 1024 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Inproj.blk0 m c t r k

/-- The weight's block: no point's block is cut by the array's end. -/
theorem blk1 (t : Fin cfg0.N) (j : Fin 1024) (k : Fin 1024) :
    X0_1 m c t (ix3 0 j k) = (m ((c : Thread nD τ).loc main_arg1) : S4x1024x9232.Idx → EReal)
      (ix3 3 k (⟨(col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x1024x1024.Idx) a).val, ((cfg0.win 1).moved_iff _ _).mp (moved0_1 t (ix3 0 j k)) a⟩)
      = (ix3 3 (⟨(col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 1024 + j.val) e1).trans (by show (0 + t.val % 7) * 1024 + j.val = t.val % 7 * 1024 + j.val; omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x7168.Idx → EReal := fun i =>
  proj (m ((c : Thread nD τ).loc main_arg0)) (m ((c : Thread nD τ).loc main_arg1)) (i 0)
    ⟨(i 1).val, by have : (i 1).val < 7168 := (i 1).isLt; omega⟩

/-- The array index of a block's index. -/
theorem emb2 (t : Fin cfg0.N) (r : Fin 2048) (j : Fin 1024) : (win0_2.rect t).emb (ix2 r j) = (ix2 (row t r) (col t j) : S16384x7168.Idx) :=
  Cert.Inproj.emb2 t r j

/-- Every index of the result is some block's. -/
theorem split (i : S16384x7168.Idx) : ∃ (t : Fin cfg0.N) (r : Fin 2048) (j : Fin 1024), i = ix2 (row t r) (col t j) :=
  Cert.Inproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x1024.Idx) => ?_
    have hy : y = ix2 (y 0 : Fin 2048) (y 1 : Fin 1024) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x7168.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference18Ideal (hReference18Ideal := Cert.Reference18Ideal.Gen.facts) := fun m g _ =>
  (θ_run _ _ _).mono (fun r h => ⟨fun c => (h c).2, Idealize.ShloMosaic.sem_eq_zero_of_no_sems rfl r.2⟩)
    (Cert.Reference18Ideal.Value.run (F := Ideal) m g)

open Cert.Kernel18Ideal Cert.Kernel18Ideal.Gen in
/-- From equal arguments the two programs end with equal results. -/
theorem algebraic : algebraic_Kernel18Ideal_Reference18Ideal (hKernel18Ideal := Cert.Kernel18Ideal.Gen.facts)
    (hReference18Ideal := Cert.Reference18Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference18Ideal.Value.run (F := Ideal) m' g')
  obtain ⟨h0, hr⟩ := h c
  obtain ⟨a0, a1⟩ := hargs c
  refine ⟨h0.trans ?_, hr⟩
  rw [Cert.Reference18Ideal.Read.val_main_v4_eq, a0, a1]
  refine funext fun (i : Cert.Reference18Ideal.S16384x7168.Idx) => ?_
  have hi : i = ix2 (i 0 : Fin 16384) (i 1 : Fin 7168) := funext fun a => by match a with | ⟨0, _⟩ => rfl | ⟨1, _⟩ => rfl
  rw [hi]
  exact ref_eq ..

end Cert.InprojAt3

end
-- ==== Proof.GateprojAt3.lean ====
/- The 128 columns from 7168 on: the memory's input and forget gates, and the columns beside them, at the fourth layer. -/
module

public import proofs.«01_k».proof.Proof.MergeAt3
public import proofs.«01_k».proof.Proof.Gateproj
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read

@[expose] public section

set_option maxRecDepth 16384

noncomputable section

namespace Cert.GateprojAt3

open Idealize.ShloMosaic Idealize.ShloMosaic.TcCoe Idealize.SL.Sem
open Idealize.ShloMosaic.Pipeline (Dat)

open Cert.MergeAt3 (proj)

section Reference
open Cert.Reference19Ideal Cert.Reference19Ideal.Gen Cert.Reference19Ideal.Read

variable (A0 : (⟨S16384x1024, .f32⟩ : BufTy).Contents (Elt Ideal)) (A1 : (⟨S4x1024x9232, .f32⟩ : BufTy).Contents (Elt Ideal))

/-- The reference's whole projection at an index. -/
theorem whole_eq (n : Fin 16384) (j : Fin 9232) : val_main_v2 A0 A1 (ix2 n j) = proj A0 A1 n j :=
  Cert.MergeAt3.whole_eq A0 A1 n j

/-- The reference's result at an index. -/
theorem ref_eq (n : Fin 16384) (j : Fin 128) :
    val_main_v3 A0 A1 (ix2 n j) = proj A0 A1 n ⟨7168 + j.val, by have := j.isLt; omega⟩ := by
  rw [← whole_eq, val_main_v3_apply]
  show val_main_v2 A0 A1 _ = _
  exact congrArg _ (funext fun a => by match a with | ⟨0, _⟩ => rfl | ⟨1, _⟩ => rfl)

end Reference

section Program
open Cert.Kernel19Ideal Cert.Kernel19Ideal.Gen

/-- One block of the result at an index. -/
theorem block_eq (c : Dev nD) (i : grid0.Coords) (a2 : Memref sig .tc .vmem S2048x1024 .bf16) (h2 : a2.IsWhole)
    (a3 : Memref sig .tc .vmem S1x128x1024 .f32) (h3 : a3.IsWhole) (a4 : Memref sig .tc .vmem S2048x128 .f32) (h4 : a4.IsWhole)
    (X0 : Vec Ideal S2048x1024 .bf16) (X1 : Vec Ideal S1x128x1024 .f32) (r : Fin 2048) (j : Fin 128) :
    out0_A_2 c i a2 h2 a3 h3 a4 h4 X0 X1 (ix2 r j) = ∑ k : Fin 1024, X0 (ix2 r k) * X1 (ix3 0 j k) :=
  Cert.Gateproj.block_eq c i a2 h2 a3 h3 a4 h4 X0 X1 r j

variable (m : (ℓ : Loc nD τ sig) → Buf (Elt Ideal) ℓ) (c : Dev nD)

/-- Where each window stands at a point of the grid: 1 column tile to a row tile. -/
theorem idx_facts : ∀ t : Fin cfg0.N,
    (win0_0.index t (0 : Fin 2) = t.val / 1 ∧ win0_0.index t (1 : Fin 2) = 0)
    ∧ (win0_1.index t (0 : Fin 3) = 3 ∧ win0_1.index t (1 : Fin 3) = 56 + t.val % 1 ∧ win0_1.index t (2 : Fin 3) = 0)
    ∧ (win0_2.index t (0 : Fin 2) = t.val / 1 ∧ win0_2.index t (1 : Fin 2) = t.val % 1) :=
  (by decide +kernel : ∀ t : Fin grid0.N, _)

/-- Every block of the result is written back. -/
theorem flushes : ∀ t : Fin cfg0.N, (cfg0.win 2).flush t = true := (by decide +kernel : ∀ t : Fin grid0.N, _)

/-- There are 8 points. -/
theorem t_lt (t : Fin cfg0.N) : t.val < 8 := t.isLt

/-- The array row of a block's row. -/
def row (t : Fin cfg0.N) (r : Fin 2048) : Fin 16384 := ⟨t.val / 1 * 2048 + r.val, by have := t_lt t; omega⟩
/-- The array column of a block's column. -/
def col (t : Fin cfg0.N) (j : Fin 128) : Fin 128 := ⟨t.val % 1 * 128 + j.val, by have := t_lt t; omega⟩

/-- The weight with its last two axes exchanged. -/
theorem v1_eq : (V m c main_v1 : S4x9232x1024.Idx → EReal)
    = transpose S4x9232x1024 [0, 2, 1] (m ((c : Thread nD τ).loc main_arg1) : S4x1024x9232.Idx → EReal) transposes_S4x1024x9232_S4x9232x1024_0_2_1 := rfl

/-- The input's block. -/
theorem blk0 (t : Fin cfg0.N) (r : Fin 2048) (k : Fin 1024) :
    iblk m c 0 t (ix2 r k) = (m ((c : Thread nD τ).loc main_arg0) : S16384x1024.Idx → EReal) (ix2 (row t r) k) :=
  Cert.Gateproj.blk0 m c t r k

/-- The weight's block: no point's block is cut by the array's end. -/
theorem blk1 (t : Fin cfg0.N) (j : Fin 128) (k : Fin 1024) :
    X0_1 m c t (ix3 0 j k) = (m ((c : Thread nD τ).loc main_arg1) : S4x1024x9232.Idx → EReal)
      (ix3 3 k (⟨7168 + (col t j).val, by have := (col t j).isLt; omega⟩ : Fin 9232)) := by
  unfold X0_1 Pipeline.Window.fill
  rw [dif_pos (moved0_1 t (ix3 0 j k))]
  show (V m c main_v1 : S4x9232x1024.Idx → EReal) ((win0_1.rect t).emb _) = _
  rw [v1_eq]
  obtain ⟨e0, e1, e2⟩ := (idx_facts t).2.1
  have he : (win0_1.rect t).emb (fun a => ⟨((ix3 0 j k : S1x128x1024.Idx) a).val, ((cfg0.win 1).moved_iff _ _).mp (moved0_1 t (ix3 0 j k)) a⟩)
      = (ix3 3 (⟨7168 + (col t j).val, by have := (col t j).isLt; omega⟩ : Fin 9232) k : S4x9232x1024.Idx) := by
    refine funext fun a => Fin.ext ?_
    refine (Pipeline.Window.rect_emb_val win0_1 t _ a rfl).trans ?_
    match a with
    | ⟨0, _⟩ => exact (congrArg (fun z => z * 1 + 0) e0).trans rfl
    | ⟨1, _⟩ => exact (congrArg (fun z => z * 128 + j.val) e1).trans (by show (56 + t.val % 1) * 128 + j.val = 7168 + (t.val % 1 * 128 + j.val); omega)
    | ⟨2, _⟩ => exact (congrArg (fun z => z * 1024 + k.val) e2).trans (by show 0 * 1024 + k.val = k.val; omega)
  rw [he]
  exact transpose_apply _ _ _ _ _ fun a => by match a with | ⟨0, _⟩ => rfl | ⟨1, _⟩ => rfl | ⟨2, _⟩ => rfl

/-- The result, as one array. -/
def res : S16384x128.Idx → EReal := fun i =>
  proj (m ((c : Thread nD τ).loc main_arg0)) (m ((c : Thread nD τ).loc main_arg1)) (i 0)
    ⟨7168 + (i 1).val, by have : (i 1).val < 128 := (i 1).isLt; omega⟩

/-- The array index of a block's index. -/
theorem emb2 (t : Fin cfg0.N) (r : Fin 2048) (j : Fin 128) : (win0_2.rect t).emb (ix2 r j) = (ix2 (row t r) (col t j) : S16384x128.Idx) :=
  Cert.Gateproj.emb2 t r j

/-- Every index of the result is some block's. -/
theorem split (i : S16384x128.Idx) : ∃ (t : Fin cfg0.N) (r : Fin 2048) (j : Fin 128), i = ix2 (row t r) (col t j) :=
  Cert.Gateproj.split i

/-- The result after the run. -/
theorem arr2 : (dats m 0 c).arrAt 2 cfg0.N = res m c := by
  refine Dat.arrAt_eq_of_cover (dats m 0 c) 2 _ (fun t _ => ?_) (fun i => ?_)
  · show (cfg0.win 2).cut (grid0.coords t) ((dats m 0 c).after 2 t) = _
    rw [after0_2]
    unfold outsAt0
    refine funext fun (y : S2048x128.Idx) => ?_
    have hy : y = ix2 (y 0 : Fin 2048) (y 1 : Fin 128) := funext fun a => by match a with | ⟨0, _⟩ => rfl | ⟨1, _⟩ => rfl
    rw [hy]
    refine (block_eq _ _ _ _ _ _ _ _ _ _ (y 0) (y 1)).trans (Eq.trans ?_ (congrArg (res m c) (emb2 t (y 0) (y 1)).symm))
    exact Finset.sum_congr rfl fun k _ => congrArg₂ (fun a b : EReal => a * b) (blk0 m c t (y 0) k) (blk1 m c t (y 1) k)
  · obtain ⟨t, r, j, rfl⟩ := split i
    refine ⟨t, flushes t, ?_⟩
    show (ix2 (row t r) (col t j) : S16384x128.Idx) ∈ ((View.whole main_v2).slice (win0_2.rect t)).set
    rw [← emb2]
    exact ((View.whole main_v2).slice (win0_2.rect t)).emb_mem_set (ix2 r j)

end Program

/-- The reference's run, counters included. -/
theorem reference_frame : quiescent_Reference19Ideal (hReference19Ideal := Cert.Reference19Ideal.Gen.facts) := fun m g _ =>
  (θ_run _ _ _).mono (fun r h => ⟨fun c => (h c).2, Idealize.ShloMosaic.sem_eq_zero_of_no_sems rfl r.2⟩)
    (Cert.Reference19Ideal.Value.run (F := Ideal) m g)

open Cert.Kernel19Ideal Cert.Kernel19Ideal.Gen in
/-- From equal arguments the two programs end with equal results. -/
theorem algebraic : algebraic_Kernel19Ideal_Reference19Ideal (hKernel19Ideal := Cert.Kernel19Ideal.Gen.facts)
    (hReference19Ideal := Cert.Reference19Ideal.Gen.facts) := by
  intro m g m' g' _ hargs
  refine ⟨fun c => res m c, (θ_run _ _ _).mono (fun r h c => ⟨((h c).1 2).trans (arr2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m g), ?_⟩
  refine (θ_run _ _ _).mono (fun r h c => ?_) (Cert.Reference19Ideal.Value.run (F := Ideal) m' g')
  obtain ⟨h0, hr⟩ := h c
  obtain ⟨a0, a1⟩ := hargs c
  refine ⟨h0.trans ?_, hr⟩
  rw [Cert.Reference19Ideal.Read.val_main_v3_eq, a0, a1]
  refine funext fun (i : Cert.Reference19Ideal.S16384x128.Idx) => ?_
  have hi : i = ix2 (i 0 : Fin 16384) (i 1 : Fin 128) := funext fun a => by match a with | ⟨0, _⟩ => rfl | ⟨1, _⟩ => rfl
  rw [hi]
  exact ref_eq ..

end Cert.GateprojAt3

end
-- ==== Proof.CombineAt1.lean ====
/- The combine call at the second layer: only the embedding's block differs from the first layer's. -/
module

public import proofs.«01_k».proof.Proof.Same
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read

@[expose] public section

set_option maxRecDepth 16384

noncomputable section

namespace Cert.CombineAt1

open Idealize.ShloMosaic Idealize.ShloMosaic.TcCoe Idealize.SL.Sem
open Idealize.ShloMosaic.Pipeline (Dat)
open Cert.Blocks (layP tok)

section Program
open Cert.Kernel20Ideal Cert.Kernel20Ideal.Gen

variable (m : (ℓ : Loc nD τ sig) → Buf (Elt Ideal) ℓ) (c : Dev nD)

/-- Where the embedding's window stands at a point. -/
theorem idx3 : ∀ t : Fin cfg0.N, win0_3.index t (0 : Fin 3) = 1 ∧ win0_3.index t (1 : Fin 3) = t.val ∧ win0_3.index t (2 : Fin 3) = 0 :=
  (by decide +kernel : ∀ t : Fin grid0.N, _)

/-- The embedding's block is the second layer's rows of tile `t`. -/
theorem blk3 (t : Fin cfg0.N) (r : Fin 512) (k : Fin 256) :
    iblk m c 3 t (ix3 0 r k) = layP 1 (m ((c : Thread nD τ).loc main_arg3)) (ix3 0 (tok t r) k) := by
  show V m c main_arg3 ((win0_3.rect t).emb (ix3 0 r k)) = (m ((c : Thread nD τ).loc main_arg3) : S4x16384x256.Idx → EReal) (ix3 1 (tok t r) k)
  rw [V_main_arg3]
  obtain ⟨e0, e1, e2⟩ := idx3 t
  refine congrArg _ (funext fun a => Fin.ext ?_)
  refine (Pipeline.Window.rect_emb_val win0_3 t (ix3 0 r k) a rfl).trans ?_
  match a with
  | ⟨0, _⟩ => exact (congrArg (fun z => z * 1 + 0) e0).trans rfl
  | ⟨1, _⟩ => exact congrArg (· * 512 + r.val) e1
  | ⟨2, _⟩ => exact (congrArg (· * 256 + k.val) e2).trans (by simp)

section
variable (X0 : Vec Ideal S8x512x512 .i32) (X1 : Vec Ideal S512x1024 .f32) (X2 : Vec Ideal S512x128 .f32) (X3 : Vec Ideal S1x512x256 .f32)
  (X4 X5 : Vec Ideal S1024x256 .bf16) (X6 : Vec Ideal S256x1024 .bf16) (X7 : Vec Ideal S1024x1024 .bf16) (X8 : Vec Ideal S256x1024 .bf16)
  (X9 X10 : Vec Ideal S1x1024 .f32)

/-- The first result's block is the first layer's, of the same blocks. -/
theorem out11 : out0_11 X0 X1 X2 X3 X4 X5 X6 X7 X8 X9 X10 = Cert.KernelIdeal.Gen.out0_11 (F := Ideal) X0 X1 X2 X3 X4 X5 X6 X7 X8 X9 X10 := rfl
/-- So is the second's. -/
theorem out12 : out0_12 X0 X1 X2 X3 X4 X5 X6 X7 X8 X9 X10 = Cert.KernelIdeal.Gen.out0_12 (F := Ideal) X0 X1 X2 X3 X4 X5 X6 X7 X8 X9 X10 := rfl

end

/-- The numbers the two results hold, as one array. -/
def res : S16384x1024.Idx → EReal := Blocks.resWith m c (layP 1 (m ((c : Thread nD τ).loc main_arg3)))

/-- What row `r` of tile `t` comes to, at result 0. -/
theorem row11 (t : Fin cfg0.N) (r : Fin 512) (d : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out11 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out11_eq _ _ _ _ _ _ _ _ _ _ _ _ _).trans (Blocks.row_gen m c (layP 1 (m ((c : Thread nD τ).loc main_arg3))) _ t r d fun k => blk3 m c t r k))

/-- Result 0 after the run. -/
theorem arr11 : (dats m 0 c).arrAt 11 cfg0.N = res m c := by
  refine Dat.arrAt_eq_of_cover (dats m 0 c) 11 _ (fun t _ => ?_) (fun i => ?_)
  · show (cfg0.win 11).cut (grid0.coords t) ((dats m 0 c).after 11 t) = _
    rw [after0_11]
    refine funext fun (y : S512x1024.Idx) => ?_
    have hy : y = ix2 (y 0 : Fin 512) (y 1 : Fin 1024) := funext fun a => by match a with | ⟨0, _⟩ => rfl | ⟨1, _⟩ => rfl
    rw [hy]
    exact (row11 m c t (y 0) (y 1)).trans (congrArg (res m c) (Blocks.emb11 t (y 0) (y 1)).symm)
  · obtain ⟨t, r, d, rfl⟩ := Blocks.split i
    refine ⟨t, (Blocks.flushes t).1, ?_⟩
    show (ix2 (tok t r) d : S16384x1024.Idx) ∈ ((View.whole main_v8_0).slice (win0_11.rect t)).set
    rw [← Blocks.emb11 t r d]
    exact ((View.whole main_v8_0).slice (win0_11.rect t)).emb_mem_set (ix2 r d)

/-- What row `r` of tile `t` comes to, at result 1. -/
theorem row12 (t : Fin cfg0.N) (r : Fin 512) (d : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out12 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out12_eq _ _ _ _ _ _ _ _ _ _ _ _ _).trans (Blocks.row_gen m c (layP 1 (m ((c : Thread nD τ).loc main_arg3))) _ t r d fun k => blk3 m c t r k))

/-- Result 1 after the run. -/
theorem arr12 : (dats m 0 c).arrAt 12 cfg0.N = res m c := by
  refine Dat.arrAt_eq_of_cover (dats m 0 c) 12 _ (fun t _ => ?_) (fun i => ?_)
  · show (cfg0.win 12).cut (grid0.coords t) ((dats m 0 c).after 12 t) = _
    rw [after0_12]
    refine funext fun (y : S512x1024.Idx) => ?_
    have hy : y = ix2 (y 0 : Fin 512) (y 1 : Fin 1024) := funext fun a => by match a with | ⟨0, _⟩ => rfl | ⟨1, _⟩ => rfl
    rw [hy]
    exact (row12 m c t (y 0) (y 1)).trans (congrArg (res m c) (Blocks.emb12 t (y 0) (y 1)).symm)
  · obtain ⟨t, r, d, rfl⟩ := Blocks.split i
    refine ⟨t, (Blocks.flushes t).2, ?_⟩
    show (ix2 (tok t r) d : S16384x1024.Idx) ∈ ((View.whole main_v8_1).slice (win0_12.rect t)).set
    rw [← Blocks.emb12 t r d]
    exact ((View.whole main_v8_1).slice (win0_12.rect t)).emb_mem_set (ix2 r d)

end Program

section Reference
open Cert.Reference20Ideal Cert.Reference20Ideal.Gen Cert.Reference20Ideal.Read

variable (A0 : (⟨S131072x512, .i32⟩ : BufTy).Contents (Elt Ideal)) (A1 : (⟨S16384x1024, .f32⟩ : BufTy).Contents (Elt Ideal))
  (A2 : (⟨S16384x128, .f32⟩ : BufTy).Contents (Elt Ideal)) (A3 : (⟨S4x16384x256, .f32⟩ : BufTy).Contents (Elt Ideal))
  (A4 A5 : (⟨S1024x256, .f32⟩ : BufTy).Contents (Elt Ideal)) (A6 : (⟨S256x1024, .f32⟩ : BufTy).Contents (Elt Ideal))
  (A7 : (⟨S1024x1024, .f32⟩ : BufTy).Contents (Elt Ideal)) (A8 : (⟨S256x1024, .f32⟩ : BufTy).Contents (Elt Ideal))
  (A9 A10 : (⟨S1024, .f32⟩ : BufTy).Contents (Elt Ideal))

/-- The reference's slice of the embedding. -/
theorem v23_eq : val_main_v23 A3 = Cert.ReferenceIdeal.Read.val_main_v23 (F := Ideal) (layP 1 A3) := by
  funext i
  rw [val_main_v23_apply, val_main_v22_apply, Cert.ReferenceIdeal.Read.val_main_v23_apply, Cert.ReferenceIdeal.Read.val_main_v22_apply]
  refine congrArg A3 (funext fun a => Fin.ext ?_)
  match a with
  | ⟨0, _⟩ => rfl
  | ⟨1, _⟩ => rfl
  | ⟨2, _⟩ => rfl

/-- What the norm is taken of. -/
theorem v30_eq : val_main_v30 A0 A1 A2 A3 A4 A5 A6 A7 A8 = Cert.ReferenceIdeal.Read.val_main_v30 (F := Ideal) A0 A1 A2 (layP 1 A3) A4 A5 A6 A7 A8 := by
  unfold val_main_v30 val_main_v25 val_main_v24 Cert.ReferenceIdeal.Read.val_main_v30 Cert.ReferenceIdeal.Read.val_main_v25 Cert.ReferenceIdeal.Read.val_main_v24
  rw [v23_eq]
  rfl

/-- The reference's result, from the first layer's. -/
theorem ref_eq (n : Fin 16384) (d : Fin 1024) : val_main_v54 A0 A1 A2 A3 A4 A5 A6 A7 A8 A9 A10 (ix2 n d)
    = RefRow.rout A0 A1 A2 (layP 1 A3) A4 A5 A6 A7 A8 A9 A10 n d := by
  refine Eq.trans (congrFun ?_ (ix2 n d)) (RefRow.out_eq A0 A1 A2 (layP 1 A3) A4 A5 A6 A7 A8 A9 A10 n d)
  unfold val_main_v54 val_main_v51 val_main_v48 val_main_v47 val_main_v46 val_main_v45 val_main_v43 val_main_v42 val_main_v41 val_main_v39 val_main_v38 val_main_v37 val_main_v36 val_main_v35 val_main_v34 val_main_v32 val_main_v31
  rw [v30_eq]
  rfl

end Reference

/-- The reference's run, counters included. -/
theorem reference_frame : quiescent_Reference20Ideal (hReference20Ideal := Cert.Reference20Ideal.Gen.facts) := fun m g _ =>
  (θ_run _ _ _).mono (fun r h => ⟨fun c => (h c).2.2, Idealize.ShloMosaic.sem_eq_zero_of_no_sems rfl r.2⟩)
    (Cert.Reference20Ideal.Value.run (F := Ideal) m g)

open Cert.Kernel20Ideal Cert.Kernel20Ideal.Gen in
/-- From equal arguments the two programs end with equal results. -/
theorem algebraic : algebraic_Kernel20Ideal_Reference20Ideal (hKernel20Ideal := Cert.Kernel20Ideal.Gen.facts)
    (hReference20Ideal := Cert.Reference20Ideal.Gen.facts) := by
  intro m g m' g' _ hargs
  refine ⟨fun c => res m c, fun c => res m c, (θ_run _ _ _).mono (fun r h c => ⟨((h c).1 11).trans (arr11 m c), ((h c).1 12).trans (arr12 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m g), ?_⟩
  refine (θ_run _ _ _).mono (fun r h c => ?_) (Cert.Reference20Ideal.Value.run (F := Ideal) m' g')
  obtain ⟨h0, h1, hr⟩ := h c
  obtain ⟨a0, a1, a2, a3, a4, a5, a6, a7, a8, a9, a10⟩ := hargs c
  have e0 : Cert.Reference20Ideal.Value.res_main_v54 (F := Ideal) m' c = res m c := by
    rw [Cert.Reference20Ideal.Read.val_main_v54_eq, a0, a1, a2, a3, a4, a5, a6, a7, a8, a9, a10]
    refine funext fun (i : Cert.Reference20Ideal.S16384x1024.Idx) => ?_
    have hi : i = ix2 (i 0 : Fin 16384) (i 1 : Fin 1024) := funext fun a => by match a with | ⟨0, _⟩ => rfl | ⟨1, _⟩ => rfl
    rw [hi]
    exact ref_eq ..
  have e1 : (Cert.Reference20Ideal.Value.res_main_v55 (F := Ideal) m' c : Cert.Reference20Ideal.S16384x1024.Idx → EReal)
      = Cert.Reference20Ideal.Value.res_main_v54 (F := Ideal) m' c := by
    rw [Cert.Reference20Ideal.Read.val_main_v54_eq, Cert.Reference20Ideal.Read.val_main_v55_eq]
    exact funext fun i => Cert.Reference20Ideal.Read.val_main_v55_apply ..
  exact ⟨h0.trans e0, h1.trans (e1.trans e0), hr⟩

end Cert.CombineAt1

end
-- ==== Proof.CombineAt2.lean ====
/- The combine call at the third layer: only the embedding's block differs from the first layer's. -/
module

public import proofs.«01_k».proof.Proof.Same
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read

@[expose] public section

set_option maxRecDepth 16384

noncomputable section

namespace Cert.CombineAt2

open Idealize.ShloMosaic Idealize.ShloMosaic.TcCoe Idealize.SL.Sem
open Idealize.ShloMosaic.Pipeline (Dat)
open Cert.Blocks (layP tok)

section Program
open Cert.Kernel21Ideal Cert.Kernel21Ideal.Gen

variable (m : (ℓ : Loc nD τ sig) → Buf (Elt Ideal) ℓ) (c : Dev nD)

/-- Where the embedding's window stands at a point. -/
theorem idx3 : ∀ t : Fin cfg0.N, win0_3.index t (0 : Fin 3) = 2 ∧ win0_3.index t (1 : Fin 3) = t.val ∧ win0_3.index t (2 : Fin 3) = 0 :=
  (by decide +kernel : ∀ t : Fin grid0.N, _)

/-- The embedding's block is the third layer's rows of tile `t`. -/
theorem blk3 (t : Fin cfg0.N) (r : Fin 512) (k : Fin 256) :
    iblk m c 3 t (ix3 0 r k) = layP 2 (m ((c : Thread nD τ).loc main_arg3)) (ix3 0 (tok t r) k) := by
  show V m c main_arg3 ((win0_3.rect t).emb (ix3 0 r k)) = (m ((c : Thread nD τ).loc main_arg3) : S4x16384x256.Idx → EReal) (ix3 2 (tok t r) k)
  rw [V_main_arg3]
  obtain ⟨e0, e1, e2⟩ := idx3 t
  refine congrArg _ (funext fun a => Fin.ext ?_)
  refine (Pipeline.Window.rect_emb_val win0_3 t (ix3 0 r k) a rfl).trans ?_
  match a with
  | ⟨0, _⟩ => exact (congrArg (fun z => z * 1 + 0) e0).trans rfl
  | ⟨1, _⟩ => exact congrArg (· * 512 + r.val) e1
  | ⟨2, _⟩ => exact (congrArg (· * 256 + k.val) e2).trans (by simp)

section
variable (X0 : Vec Ideal S8x512x512 .i32) (X1 : Vec Ideal S512x1024 .f32) (X2 : Vec Ideal S512x128 .f32) (X3 : Vec Ideal S1x512x256 .f32)
  (X4 X5 : Vec Ideal S1024x256 .bf16) (X6 : Vec Ideal S256x1024 .bf16) (X7 : Vec Ideal S1024x1024 .bf16) (X8 : Vec Ideal S256x1024 .bf16)
  (X9 X10 : Vec Ideal S1x1024 .f32)

/-- The first result's block is the first layer's, of the same blocks. -/
theorem out11 : out0_11 X0 X1 X2 X3 X4 X5 X6 X7 X8 X9 X10 = Cert.KernelIdeal.Gen.out0_11 (F := Ideal) X0 X1 X2 X3 X4 X5 X6 X7 X8 X9 X10 := rfl
/-- So is the second's. -/
theorem out12 : out0_12 X0 X1 X2 X3 X4 X5 X6 X7 X8 X9 X10 = Cert.KernelIdeal.Gen.out0_12 (F := Ideal) X0 X1 X2 X3 X4 X5 X6 X7 X8 X9 X10 := rfl

end

/-- The numbers the two results hold, as one array. -/
def res : S16384x1024.Idx → EReal := Blocks.resWith m c (layP 2 (m ((c : Thread nD τ).loc main_arg3)))

/-- What row `r` of tile `t` comes to, at result 0. -/
theorem row11 (t : Fin cfg0.N) (r : Fin 512) (d : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out11 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out11_eq _ _ _ _ _ _ _ _ _ _ _ _ _).trans (Blocks.row_gen m c (layP 2 (m ((c : Thread nD τ).loc main_arg3))) _ t r d fun k => blk3 m c t r k))

/-- Result 0 after the run. -/
theorem arr11 : (dats m 0 c).arrAt 11 cfg0.N = res m c := by
  refine Dat.arrAt_eq_of_cover (dats m 0 c) 11 _ (fun t _ => ?_) (fun i => ?_)
  · show (cfg0.win 11).cut (grid0.coords t) ((dats m 0 c).after 11 t) = _
    rw [after0_11]
    refine funext fun (y : S512x1024.Idx) => ?_
    have hy : y = ix2 (y 0 : Fin 512) (y 1 : Fin 1024) := funext fun a => by match a with | ⟨0, _⟩ => rfl | ⟨1, _⟩ => rfl
    rw [hy]
    exact (row11 m c t (y 0) (y 1)).trans (congrArg (res m c) (Blocks.emb11 t (y 0) (y 1)).symm)
  · obtain ⟨t, r, d, rfl⟩ := Blocks.split i
    refine ⟨t, (Blocks.flushes t).1, ?_⟩
    show (ix2 (tok t r) d : S16384x1024.Idx) ∈ ((View.whole main_v8_0).slice (win0_11.rect t)).set
    rw [← Blocks.emb11 t r d]
    exact ((View.whole main_v8_0).slice (win0_11.rect t)).emb_mem_set (ix2 r d)

/-- What row `r` of tile `t` comes to, at result 1. -/
theorem row12 (t : Fin cfg0.N) (r : Fin 512) (d : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out12 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out12_eq _ _ _ _ _ _ _ _ _ _ _ _ _).trans (Blocks.row_gen m c (layP 2 (m ((c : Thread nD τ).loc main_arg3))) _ t r d fun k => blk3 m c t r k))

/-- Result 1 after the run. -/
theorem arr12 : (dats m 0 c).arrAt 12 cfg0.N = res m c := by
  refine Dat.arrAt_eq_of_cover (dats m 0 c) 12 _ (fun t _ => ?_) (fun i => ?_)
  · show (cfg0.win 12).cut (grid0.coords t) ((dats m 0 c).after 12 t) = _
    rw [after0_12]
    refine funext fun (y : S512x1024.Idx) => ?_
    have hy : y = ix2 (y 0 : Fin 512) (y 1 : Fin 1024) := funext fun a => by match a with | ⟨0, _⟩ => rfl | ⟨1, _⟩ => rfl
    rw [hy]
    exact (row12 m c t (y 0) (y 1)).trans (congrArg (res m c) (Blocks.emb12 t (y 0) (y 1)).symm)
  · obtain ⟨t, r, d, rfl⟩ := Blocks.split i
    refine ⟨t, (Blocks.flushes t).2, ?_⟩
    show (ix2 (tok t r) d : S16384x1024.Idx) ∈ ((View.whole main_v8_1).slice (win0_12.rect t)).set
    rw [← Blocks.emb12 t r d]
    exact ((View.whole main_v8_1).slice (win0_12.rect t)).emb_mem_set (ix2 r d)

end Program

section Reference
open Cert.Reference21Ideal Cert.Reference21Ideal.Gen Cert.Reference21Ideal.Read

variable (A0 : (⟨S131072x512, .i32⟩ : BufTy).Contents (Elt Ideal)) (A1 : (⟨S16384x1024, .f32⟩ : BufTy).Contents (Elt Ideal))
  (A2 : (⟨S16384x128, .f32⟩ : BufTy).Contents (Elt Ideal)) (A3 : (⟨S4x16384x256, .f32⟩ : BufTy).Contents (Elt Ideal))
  (A4 A5 : (⟨S1024x256, .f32⟩ : BufTy).Contents (Elt Ideal)) (A6 : (⟨S256x1024, .f32⟩ : BufTy).Contents (Elt Ideal))
  (A7 : (⟨S1024x1024, .f32⟩ : BufTy).Contents (Elt Ideal)) (A8 : (⟨S256x1024, .f32⟩ : BufTy).Contents (Elt Ideal))
  (A9 A10 : (⟨S1024, .f32⟩ : BufTy).Contents (Elt Ideal))

/-- The reference's slice of the embedding. -/
theorem v23_eq : val_main_v23 A3 = Cert.ReferenceIdeal.Read.val_main_v23 (F := Ideal) (layP 2 A3) := by
  funext i
  rw [val_main_v23_apply, val_main_v22_apply, Cert.ReferenceIdeal.Read.val_main_v23_apply, Cert.ReferenceIdeal.Read.val_main_v22_apply]
  refine congrArg A3 (funext fun a => Fin.ext ?_)
  match a with
  | ⟨0, _⟩ => rfl
  | ⟨1, _⟩ => rfl
  | ⟨2, _⟩ => rfl

/-- What the norm is taken of. -/
theorem v30_eq : val_main_v30 A0 A1 A2 A3 A4 A5 A6 A7 A8 = Cert.ReferenceIdeal.Read.val_main_v30 (F := Ideal) A0 A1 A2 (layP 2 A3) A4 A5 A6 A7 A8 := by
  unfold val_main_v30 val_main_v25 val_main_v24 Cert.ReferenceIdeal.Read.val_main_v30 Cert.ReferenceIdeal.Read.val_main_v25 Cert.ReferenceIdeal.Read.val_main_v24
  rw [v23_eq]
  rfl

/-- The reference's result, from the first layer's. -/
theorem ref_eq (n : Fin 16384) (d : Fin 1024) : val_main_v54 A0 A1 A2 A3 A4 A5 A6 A7 A8 A9 A10 (ix2 n d)
    = RefRow.rout A0 A1 A2 (layP 2 A3) A4 A5 A6 A7 A8 A9 A10 n d := by
  refine Eq.trans (congrFun ?_ (ix2 n d)) (RefRow.out_eq A0 A1 A2 (layP 2 A3) A4 A5 A6 A7 A8 A9 A10 n d)
  unfold val_main_v54 val_main_v51 val_main_v48 val_main_v47 val_main_v46 val_main_v45 val_main_v43 val_main_v42 val_main_v41 val_main_v39 val_main_v38 val_main_v37 val_main_v36 val_main_v35 val_main_v34 val_main_v32 val_main_v31
  rw [v30_eq]
  rfl

end Reference

/-- The reference's run, counters included. -/
theorem reference_frame : quiescent_Reference21Ideal (hReference21Ideal := Cert.Reference21Ideal.Gen.facts) := fun m g _ =>
  (θ_run _ _ _).mono (fun r h => ⟨fun c => (h c).2.2, Idealize.ShloMosaic.sem_eq_zero_of_no_sems rfl r.2⟩)
    (Cert.Reference21Ideal.Value.run (F := Ideal) m g)

open Cert.Kernel21Ideal Cert.Kernel21Ideal.Gen in
/-- From equal arguments the two programs end with equal results. -/
theorem algebraic : algebraic_Kernel21Ideal_Reference21Ideal (hKernel21Ideal := Cert.Kernel21Ideal.Gen.facts)
    (hReference21Ideal := Cert.Reference21Ideal.Gen.facts) := by
  intro m g m' g' _ hargs
  refine ⟨fun c => res m c, fun c => res m c, (θ_run _ _ _).mono (fun r h c => ⟨((h c).1 11).trans (arr11 m c), ((h c).1 12).trans (arr12 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m g), ?_⟩
  refine (θ_run _ _ _).mono (fun r h c => ?_) (Cert.Reference21Ideal.Value.run (F := Ideal) m' g')
  obtain ⟨h0, h1, hr⟩ := h c
  obtain ⟨a0, a1, a2, a3, a4, a5, a6, a7, a8, a9, a10⟩ := hargs c
  have e0 : Cert.Reference21Ideal.Value.res_main_v54 (F := Ideal) m' c = res m c := by
    rw [Cert.Reference21Ideal.Read.val_main_v54_eq, a0, a1, a2, a3, a4, a5, a6, a7, a8, a9, a10]
    refine funext fun (i : Cert.Reference21Ideal.S16384x1024.Idx) => ?_
    have hi : i = ix2 (i 0 : Fin 16384) (i 1 : Fin 1024) := funext fun a => by match a with | ⟨0, _⟩ => rfl | ⟨1, _⟩ => rfl
    rw [hi]
    exact ref_eq ..
  have e1 : (Cert.Reference21Ideal.Value.res_main_v55 (F := Ideal) m' c : Cert.Reference21Ideal.S16384x1024.Idx → EReal)
      = Cert.Reference21Ideal.Value.res_main_v54 (F := Ideal) m' c := by
    rw [Cert.Reference21Ideal.Read.val_main_v54_eq, Cert.Reference21Ideal.Read.val_main_v55_eq]
    exact funext fun i => Cert.Reference21Ideal.Read.val_main_v55_apply ..
  exact ⟨h0.trans e0, h1.trans (e1.trans e0), hr⟩

end Cert.CombineAt2

end
-- ==== Proof.CombineAt3.lean ====
/- The combine call at the fourth layer: only the embedding's block differs from the first layer's. -/
module

public import proofs.«01_k».proof.Proof.Same
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read

@[expose] public section

set_option maxRecDepth 16384

noncomputable section

namespace Cert.CombineAt3

open Idealize.ShloMosaic Idealize.ShloMosaic.TcCoe Idealize.SL.Sem
open Idealize.ShloMosaic.Pipeline (Dat)
open Cert.Blocks (layP tok)

section Program
open Cert.Kernel22Ideal Cert.Kernel22Ideal.Gen

variable (m : (ℓ : Loc nD τ sig) → Buf (Elt Ideal) ℓ) (c : Dev nD)

/-- Where the embedding's window stands at a point. -/
theorem idx3 : ∀ t : Fin cfg0.N, win0_3.index t (0 : Fin 3) = 3 ∧ win0_3.index t (1 : Fin 3) = t.val ∧ win0_3.index t (2 : Fin 3) = 0 :=
  (by decide +kernel : ∀ t : Fin grid0.N, _)

/-- The embedding's block is the fourth layer's rows of tile `t`. -/
theorem blk3 (t : Fin cfg0.N) (r : Fin 512) (k : Fin 256) :
    iblk m c 3 t (ix3 0 r k) = layP 3 (m ((c : Thread nD τ).loc main_arg3)) (ix3 0 (tok t r) k) := by
  show V m c main_arg3 ((win0_3.rect t).emb (ix3 0 r k)) = (m ((c : Thread nD τ).loc main_arg3) : S4x16384x256.Idx → EReal) (ix3 3 (tok t r) k)
  rw [V_main_arg3]
  obtain ⟨e0, e1, e2⟩ := idx3 t
  refine congrArg _ (funext fun a => Fin.ext ?_)
  refine (Pipeline.Window.rect_emb_val win0_3 t (ix3 0 r k) a rfl).trans ?_
  match a with
  | ⟨0, _⟩ => exact (congrArg (fun z => z * 1 + 0) e0).trans rfl
  | ⟨1, _⟩ => exact congrArg (· * 512 + r.val) e1
  | ⟨2, _⟩ => exact (congrArg (· * 256 + k.val) e2).trans (by simp)

section
variable (X0 : Vec Ideal S8x512x512 .i32) (X1 : Vec Ideal S512x1024 .f32) (X2 : Vec Ideal S512x128 .f32) (X3 : Vec Ideal S1x512x256 .f32)
  (X4 X5 : Vec Ideal S1024x256 .bf16) (X6 : Vec Ideal S256x1024 .bf16) (X7 : Vec Ideal S1024x1024 .bf16) (X8 : Vec Ideal S256x1024 .bf16)
  (X9 X10 : Vec Ideal S1x1024 .f32)

/-- The first result's block is the first layer's, of the same blocks. -/
theorem out11 : out0_11 X0 X1 X2 X3 X4 X5 X6 X7 X8 X9 X10 = Cert.KernelIdeal.Gen.out0_11 (F := Ideal) X0 X1 X2 X3 X4 X5 X6 X7 X8 X9 X10 := rfl
/-- So is the second's. -/
theorem out12 : out0_12 X0 X1 X2 X3 X4 X5 X6 X7 X8 X9 X10 = Cert.KernelIdeal.Gen.out0_12 (F := Ideal) X0 X1 X2 X3 X4 X5 X6 X7 X8 X9 X10 := rfl

end

/-- The numbers the two results hold, as one array. -/
def res : S16384x1024.Idx → EReal := Blocks.resWith m c (layP 3 (m ((c : Thread nD τ).loc main_arg3)))

/-- What row `r` of tile `t` comes to, at result 0. -/
theorem row11 (t : Fin cfg0.N) (r : Fin 512) (d : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out11 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out11_eq _ _ _ _ _ _ _ _ _ _ _ _ _).trans (Blocks.row_gen m c (layP 3 (m ((c : Thread nD τ).loc main_arg3))) _ t r d fun k => blk3 m c t r k))

/-- Result 0 after the run. -/
theorem arr11 : (dats m 0 c).arrAt 11 cfg0.N = res m c := by
  refine Dat.arrAt_eq_of_cover (dats m 0 c) 11 _ (fun t _ => ?_) (fun i => ?_)
  · show (cfg0.win 11).cut (grid0.coords t) ((dats m 0 c).after 11 t) = _
    rw [after0_11]
    refine funext fun (y : S512x1024.Idx) => ?_
    have hy : y = ix2 (y 0 : Fin 512) (y 1 : Fin 1024) := funext fun a => by match a with | ⟨0, _⟩ => rfl | ⟨1, _⟩ => rfl
    rw [hy]
    exact (row11 m c t (y 0) (y 1)).trans (congrArg (res m c) (Blocks.emb11 t (y 0) (y 1)).symm)
  · obtain ⟨t, r, d, rfl⟩ := Blocks.split i
    refine ⟨t, (Blocks.flushes t).1, ?_⟩
    show (ix2 (tok t r) d : S16384x1024.Idx) ∈ ((View.whole main_v8_0).slice (win0_11.rect t)).set
    rw [← Blocks.emb11 t r d]
    exact ((View.whole main_v8_0).slice (win0_11.rect t)).emb_mem_set (ix2 r d)

/-- What row `r` of tile `t` comes to, at result 1. -/
theorem row12 (t : Fin cfg0.N) (r : Fin 512) (d : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = res m c (ix2 (tok t r) d) :=
  (congrFun (out12 (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans
    ((BlockRow.out12_eq _ _ _ _ _ _ _ _ _ _ _ _ _).trans (Blocks.row_gen m c (layP 3 (m ((c : Thread nD τ).loc main_arg3))) _ t r d fun k => blk3 m c t r k))

/-- Result 1 after the run. -/
theorem arr12 : (dats m 0 c).arrAt 12 cfg0.N = res m c := by
  refine Dat.arrAt_eq_of_cover (dats m 0 c) 12 _ (fun t _ => ?_) (fun i => ?_)
  · show (cfg0.win 12).cut (grid0.coords t) ((dats m 0 c).after 12 t) = _
    rw [after0_12]
    refine funext fun (y : S512x1024.Idx) => ?_
    have hy : y = ix2 (y 0 : Fin 512) (y 1 : Fin 1024) := funext fun a => by match a with | ⟨0, _⟩ => rfl | ⟨1, _⟩ => rfl
    rw [hy]
    exact (row12 m c t (y 0) (y 1)).trans (congrArg (res m c) (Blocks.emb12 t (y 0) (y 1)).symm)
  · obtain ⟨t, r, d, rfl⟩ := Blocks.split i
    refine ⟨t, (Blocks.flushes t).2, ?_⟩
    show (ix2 (tok t r) d : S16384x1024.Idx) ∈ ((View.whole main_v8_1).slice (win0_12.rect t)).set
    rw [← Blocks.emb12 t r d]
    exact ((View.whole main_v8_1).slice (win0_12.rect t)).emb_mem_set (ix2 r d)

end Program

section Reference
open Cert.Reference22Ideal Cert.Reference22Ideal.Gen Cert.Reference22Ideal.Read

variable (A0 : (⟨S131072x512, .i32⟩ : BufTy).Contents (Elt Ideal)) (A1 : (⟨S16384x1024, .f32⟩ : BufTy).Contents (Elt Ideal))
  (A2 : (⟨S16384x128, .f32⟩ : BufTy).Contents (Elt Ideal)) (A3 : (⟨S4x16384x256, .f32⟩ : BufTy).Contents (Elt Ideal))
  (A4 A5 : (⟨S1024x256, .f32⟩ : BufTy).Contents (Elt Ideal)) (A6 : (⟨S256x1024, .f32⟩ : BufTy).Contents (Elt Ideal))
  (A7 : (⟨S1024x1024, .f32⟩ : BufTy).Contents (Elt Ideal)) (A8 : (⟨S256x1024, .f32⟩ : BufTy).Contents (Elt Ideal))
  (A9 A10 : (⟨S1024, .f32⟩ : BufTy).Contents (Elt Ideal))

/-- The reference's slice of the embedding. -/
theorem v23_eq : val_main_v23 A3 = Cert.ReferenceIdeal.Read.val_main_v23 (F := Ideal) (layP 3 A3) := by
  funext i
  rw [val_main_v23_apply, val_main_v22_apply, Cert.ReferenceIdeal.Read.val_main_v23_apply, Cert.ReferenceIdeal.Read.val_main_v22_apply]
  refine congrArg A3 (funext fun a => Fin.ext ?_)
  match a with
  | ⟨0, _⟩ => rfl
  | ⟨1, _⟩ => rfl
  | ⟨2, _⟩ => rfl

/-- What the norm is taken of. -/
theorem v30_eq : val_main_v30 A0 A1 A2 A3 A4 A5 A6 A7 A8 = Cert.ReferenceIdeal.Read.val_main_v30 (F := Ideal) A0 A1 A2 (layP 3 A3) A4 A5 A6 A7 A8 := by
  unfold val_main_v30 val_main_v25 val_main_v24 Cert.ReferenceIdeal.Read.val_main_v30 Cert.ReferenceIdeal.Read.val_main_v25 Cert.ReferenceIdeal.Read.val_main_v24
  rw [v23_eq]
  rfl

/-- The reference's result, from the first layer's. -/
theorem ref_eq (n : Fin 16384) (d : Fin 1024) : val_main_v54 A0 A1 A2 A3 A4 A5 A6 A7 A8 A9 A10 (ix2 n d)
    = RefRow.rout A0 A1 A2 (layP 3 A3) A4 A5 A6 A7 A8 A9 A10 n d := by
  refine Eq.trans (congrFun ?_ (ix2 n d)) (RefRow.out_eq A0 A1 A2 (layP 3 A3) A4 A5 A6 A7 A8 A9 A10 n d)
  unfold val_main_v54 val_main_v51 val_main_v48 val_main_v47 val_main_v46 val_main_v45 val_main_v43 val_main_v42 val_main_v41 val_main_v39 val_main_v38 val_main_v37 val_main_v36 val_main_v35 val_main_v34 val_main_v32 val_main_v31
  rw [v30_eq]
  rfl

end Reference

/-- The reference's run, counters included. -/
theorem reference_frame : quiescent_Reference22Ideal (hReference22Ideal := Cert.Reference22Ideal.Gen.facts) := fun m g _ =>
  (θ_run _ _ _).mono (fun r h => ⟨fun c => (h c).2.2, Idealize.ShloMosaic.sem_eq_zero_of_no_sems rfl r.2⟩)
    (Cert.Reference22Ideal.Value.run (F := Ideal) m g)

open Cert.Kernel22Ideal Cert.Kernel22Ideal.Gen in
/-- From equal arguments the two programs end with equal results. -/
theorem algebraic : algebraic_Kernel22Ideal_Reference22Ideal (hKernel22Ideal := Cert.Kernel22Ideal.Gen.facts)
    (hReference22Ideal := Cert.Reference22Ideal.Gen.facts) := by
  intro m g m' g' _ hargs
  refine ⟨fun c => res m c, fun c => res m c, (θ_run _ _ _).mono (fun r h c => ⟨((h c).1 11).trans (arr11 m c), ((h c).1 12).trans (arr12 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m g), ?_⟩
  refine (θ_run _ _ _).mono (fun r h c => ?_) (Cert.Reference22Ideal.Value.run (F := Ideal) m' g')
  obtain ⟨h0, h1, hr⟩ := h c
  obtain ⟨a0, a1, a2, a3, a4, a5, a6, a7, a8, a9, a10⟩ := hargs c
  have e0 : Cert.Reference22Ideal.Value.res_main_v54 (F := Ideal) m' c = res m c := by
    rw [Cert.Reference22Ideal.Read.val_main_v54_eq, a0, a1, a2, a3, a4, a5, a6, a7, a8, a9, a10]
    refine funext fun (i : Cert.Reference22Ideal.S16384x1024.Idx) => ?_
    have hi : i = ix2 (i 0 : Fin 16384) (i 1 : Fin 1024) := funext fun a => by match a with | ⟨0, _⟩ => rfl | ⟨1, _⟩ => rfl
    rw [hi]
    exact ref_eq ..
  have e1 : (Cert.Reference22Ideal.Value.res_main_v55 (F := Ideal) m' c : Cert.Reference22Ideal.S16384x1024.Idx → EReal)
      = Cert.Reference22Ideal.Value.res_main_v54 (F := Ideal) m' c := by
    rw [Cert.Reference22Ideal.Read.val_main_v54_eq, Cert.Reference22Ideal.Read.val_main_v55_eq]
    exact funext fun i => Cert.Reference22Ideal.Read.val_main_v55_apply ..
  exact ⟨h0.trans e0, h1.trans (e1.trans e0), hr⟩

end Cert.CombineAt3

end
-- ==== Proof.lean ====
/- The claim: the frames of the programs and of the references, and equal results at the ideal values. -/
module

public import proofs.«01_k».proof.Defs
public import proofs.«01_k».proof.Proof.Gen.Kernel.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Pre_visits
public import proofs.«01_k».proof.Proof.Same
public import proofs.«01_k».proof.Proof.Merge
public import proofs.«01_k».proof.Proof.Inproj
public import proofs.«01_k».proof.Proof.Gateproj
public import proofs.«01_k».proof.Proof.FfnL
public import proofs.«01_k».proof.Proof.At1C
public import proofs.«01_k».proof.Proof.At2C
public import proofs.«01_k».proof.Proof.At3C
public import proofs.«01_k».proof.Proof.MergeAt1
public import proofs.«01_k».proof.Proof.InprojAt1
public import proofs.«01_k».proof.Proof.GateprojAt1
public import proofs.«01_k».proof.Proof.MergeAt2
public import proofs.«01_k».proof.Proof.InprojAt2
public import proofs.«01_k».proof.Proof.GateprojAt2
public import proofs.«01_k».proof.Proof.MergeAt3
public import proofs.«01_k».proof.Proof.InprojAt3
public import proofs.«01_k».proof.Proof.GateprojAt3
public import proofs.«01_k».proof.Proof.CombineAt1
public import proofs.«01_k».proof.Proof.CombineAt2
public import proofs.«01_k».proof.Proof.CombineAt3
public import Idealize.ShloMosaic.Adequacy
public import Idealize.ShloMosaic.Init

@[expose] public section

noncomputable section

namespace Cert.Proof

open Idealize.ShloMosaic Idealize.SL.Sem

/-- The certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Kernel7.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_visits.Gen.facts, fun m g _ => Cert.Kernel.Gen.frame m g, fun m g _ => Cert.KernelIdeal.Gen.frame m g, Same.reference_frame,
  fun m g _ => Cert.Kernel2.Gen.frame m g, fun m g _ => Cert.Kernel2Ideal.Gen.frame m g, Merge.reference_frame,
  fun m g _ => Cert.Kernel3.Gen.frame m g, fun m g _ => Cert.Kernel3Ideal.Gen.frame m g, Inproj.reference_frame,
  fun m g _ => Cert.Kernel4.Gen.frame m g, fun m g _ => Cert.Kernel4Ideal.Gen.frame m g, Gateproj.reference_frame,
  FfnClaims.frame_word, FfnClaims.frame_ideal, FfnClaims.reference_frame, FfnClaims.reference_frame_pre,
  fun m g _ => Cert.Kernel6.Gen.frame m g, fun m g _ => Cert.Kernel6Ideal.Gen.frame m g, fun m g _ => Cert.Kernel7.Gen.frame m g,
  FfnClaimsAt1.frame_word, FfnClaimsAt1.frame_ideal, FfnClaimsAt1.reference_frame, FfnClaimsAt1.reference_frame_pre,
  FfnClaimsAt2.frame_word, FfnClaimsAt2.frame_ideal, FfnClaimsAt2.reference_frame, FfnClaimsAt2.reference_frame_pre,
  FfnClaimsAt3.frame_word, FfnClaimsAt3.frame_ideal, FfnClaimsAt3.reference_frame, FfnClaimsAt3.reference_frame_pre,
  fun m g _ => Cert.Kernel11.Gen.frame m g, fun m g _ => Cert.Kernel11Ideal.Gen.frame m g, MergeAt1.reference_frame,
  fun m g _ => Cert.Kernel12.Gen.frame m g, fun m g _ => Cert.Kernel12Ideal.Gen.frame m g, InprojAt1.reference_frame,
  fun m g _ => Cert.Kernel13.Gen.frame m g, fun m g _ => Cert.Kernel13Ideal.Gen.frame m g, GateprojAt1.reference_frame,
  fun m g _ => Cert.Kernel14.Gen.frame m g, fun m g _ => Cert.Kernel14Ideal.Gen.frame m g, MergeAt2.reference_frame,
  fun m g _ => Cert.Kernel15.Gen.frame m g, fun m g _ => Cert.Kernel15Ideal.Gen.frame m g, InprojAt2.reference_frame,
  fun m g _ => Cert.Kernel16.Gen.frame m g, fun m g _ => Cert.Kernel16Ideal.Gen.frame m g, GateprojAt2.reference_frame,
  fun m g _ => Cert.Kernel17.Gen.frame m g, fun m g _ => Cert.Kernel17Ideal.Gen.frame m g, MergeAt3.reference_frame,
  fun m g _ => Cert.Kernel18.Gen.frame m g, fun m g _ => Cert.Kernel18Ideal.Gen.frame m g, InprojAt3.reference_frame,
  fun m g _ => Cert.Kernel19.Gen.frame m g, fun m g _ => Cert.Kernel19Ideal.Gen.frame m g, GateprojAt3.reference_frame,
  fun m g _ => Cert.Kernel20.Gen.frame m g, fun m g _ => Cert.Kernel20Ideal.Gen.frame m g, CombineAt1.reference_frame,
  fun m g _ => Cert.Kernel21.Gen.frame m g, fun m g _ => Cert.Kernel21Ideal.Gen.frame m g, CombineAt2.reference_frame,
  fun m g _ => Cert.Kernel22.Gen.frame m g, fun m g _ => Cert.Kernel22Ideal.Gen.frame m g, CombineAt3.reference_frame,
  trivial, Same.algebraic, trivial, Merge.algebraic, trivial, Inproj.algebraic, trivial, Gateproj.algebraic,
  FfnClaims.preserves, FfnClaims.algebraic, trivial, FfnClaimsAt1.preserves, FfnClaimsAt1.algebraic, FfnClaimsAt2.preserves, FfnClaimsAt2.algebraic, FfnClaimsAt3.preserves, FfnClaimsAt3.algebraic,
  trivial, MergeAt1.algebraic, trivial, InprojAt1.algebraic, trivial, GateprojAt1.algebraic, trivial, MergeAt2.algebraic, trivial, InprojAt2.algebraic, trivial, GateprojAt2.algebraic, trivial, MergeAt3.algebraic, trivial, InprojAt3.algebraic, trivial, GateprojAt3.algebraic, trivial, CombineAt1.algebraic, trivial, CombineAt2.algebraic, trivial, CombineAt3.algebraic⟩

end Cert.Proof

end
